-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v18)) (v2 : (c : Dev Cert.KernelIdeal.nD) → Buf (Elt Ideal) ((c.tc : Thread Cert.KernelIdeal.nD Cert.KernelIdeal.τ).loc Cert.KernelIdeal.main_v21)) (v3 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_v10_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_v55) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def preserves_Kernel3_Kernel3Ideal : Prop :=
  True

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v12)) (v1 : (c : Dev Cert.Kernel3Ideal.nD) → Buf (Elt Ideal) ((c.tc : Thread Cert.Kernel3Ideal.nD Cert.Kernel3Ideal.τ).loc Cert.Kernel3Ideal.main_v16)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12) = v0 c
          ∧ r.2.mem ((c.tc : Thread Cert.Kernel3Ideal.nD Cert.Kernel3Ideal.τ).loc Cert.Kernel3Ideal.main_v16) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_v4) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v10)) (v1 : (c : Dev Cert.Kernel4Ideal.nD) → Buf (Elt Ideal) ((c.tc : Thread Cert.Kernel4Ideal.nD Cert.Kernel4Ideal.τ).loc Cert.Kernel4Ideal.main_v14)) (v2 : (c : Dev Cert.Kernel4Ideal.nD) → Buf (Elt Ideal) ((c.tc : Thread Cert.Kernel4Ideal.nD Cert.Kernel4Ideal.τ).loc Cert.Kernel4Ideal.main_v15)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10) = v0 c
          ∧ r.2.mem ((c.tc : Thread Cert.Kernel4Ideal.nD Cert.Kernel4Ideal.τ).loc Cert.Kernel4Ideal.main_v14) = v1 c
          ∧ r.2.mem ((c.tc : Thread Cert.Kernel4Ideal.nD Cert.Kernel4Ideal.τ).loc Cert.Kernel4Ideal.main_v15) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_v2) = v1 c
          ∧ r.2.mem ((c.tc : Thread Cert.Reference4Ideal.nD Cert.Reference4Ideal.τ).loc Cert.Reference4Ideal.main_v4) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v9)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v13)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v13) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v13)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v13) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v10)) (v1 : (c : Dev Cert.Kernel14Ideal.nD) → Buf (Elt Ideal) ((c.tc : Thread Cert.Kernel14Ideal.nD Cert.Kernel14Ideal.τ).loc Cert.Kernel14Ideal.main_v13)) (v2 : (c : Dev Cert.Kernel14Ideal.nD) → Buf (Elt Ideal) ((c.tc : Thread Cert.Kernel14Ideal.nD Cert.Kernel14Ideal.τ).loc Cert.Kernel14Ideal.main_v16)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v10) = v0 c
          ∧ r.2.mem ((c.tc : Thread Cert.Kernel14Ideal.nD Cert.Kernel14Ideal.τ).loc Cert.Kernel14Ideal.main_v13) = v1 c
          ∧ r.2.mem ((c.tc : Thread Cert.Kernel14Ideal.nD Cert.Kernel14Ideal.τ).loc Cert.Kernel14Ideal.main_v16) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_v2) = v1 c
          ∧ r.2.mem ((c.tc : Thread Cert.Reference14Ideal.nD Cert.Reference14Ideal.τ).loc Cert.Reference14Ideal.main_v3) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v0) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v3) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v0) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v2) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v1) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v2) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v2) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v2) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v1) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v3) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v1) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v3) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v1) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v2) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v0) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v2) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v1) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)) →
    ∃ (v0 : (c : Dev Cert.Kernel28Ideal.nD) → Buf (Elt Ideal) ((c.tc : Thread Cert.Kernel28Ideal.nD Cert.Kernel28Ideal.τ).loc Cert.Kernel28Ideal.main_v2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v2) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v2) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v2) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v12) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v5)) (v1 : (c : Dev Cert.Kernel30Ideal.nD) → Buf (Elt Ideal) ((c.tc : Thread Cert.Kernel30Ideal.nD Cert.Kernel30Ideal.τ).loc Cert.Kernel30Ideal.main_v6)) (v2 : (c : Dev Cert.Kernel30Ideal.nD) → Buf (Elt Ideal) ((c.tc : Thread Cert.Kernel30Ideal.nD Cert.Kernel30Ideal.τ).loc Cert.Kernel30Ideal.main_v7)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v5) = v0 c
          ∧ r.2.mem ((c.tc : Thread Cert.Kernel30Ideal.nD Cert.Kernel30Ideal.τ).loc Cert.Kernel30Ideal.main_v6) = v1 c
          ∧ r.2.mem ((c.tc : Thread Cert.Kernel30Ideal.nD Cert.Kernel30Ideal.τ).loc Cert.Kernel30Ideal.main_v7) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v23) = v0 c
          ∧ r.2.mem ((c.tc : Thread Cert.Reference30Ideal.nD Cert.Reference30Ideal.τ).loc Cert.Reference30Ideal.main_v4) = v1 c
          ∧ r.2.mem ((c.tc : Thread Cert.Reference30Ideal.nD Cert.Reference30Ideal.τ).loc Cert.Reference30Ideal.main_v10) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v10)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v10) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v23) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v2)) (v1 : (c : Dev Cert.Kernel32Ideal.nD) → Buf (Elt Ideal) ((c.tc : Thread Cert.Kernel32Ideal.nD Cert.Kernel32Ideal.τ).loc Cert.Kernel32Ideal.main_v0_0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v2) = v0 c
          ∧ r.2.mem ((c.tc : Thread Cert.Kernel32Ideal.nD Cert.Kernel32Ideal.τ).loc Cert.Kernel32Ideal.main_v0_0) = v1 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v8) = v0 c
          ∧ r.2.mem ((c.tc : Thread Cert.Reference32Ideal.nD Cert.Reference32Ideal.τ).loc Cert.Reference32Ideal.main_v14) = v1 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)) →
    ∃ (v0 : (c : Dev Cert.Kernel33Ideal.nD) → Buf (Elt Ideal) ((c.tc : Thread Cert.Kernel33Ideal.nD Cert.Kernel33Ideal.τ).loc Cert.Kernel33Ideal.main_v3)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v3) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v32) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)) →
    ∃ (v0 : (c : Dev Cert.Kernel34Ideal.nD) → Buf (Elt Ideal) ((c.tc : Thread Cert.Kernel34Ideal.nD Cert.Kernel34Ideal.τ).loc Cert.Kernel34Ideal.main_v4)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v4) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v16) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)) (v2 : (c : Dev Cert.Kernel35Ideal.nD) → Buf (Elt Ideal) ((c.tc : Thread Cert.Kernel35Ideal.nD Cert.Kernel35Ideal.τ).loc Cert.Kernel35Ideal.main_v0_2)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_v0_2) = v2 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v23) = v0 c
          ∧ r.2.mem ((c.tc : Thread Cert.Reference35Ideal.nD Cert.Reference35Ideal.τ).loc Cert.Reference35Ideal.main_v4) = v1 c
          ∧ r.2.mem ((c.tc : Thread Cert.Reference35Ideal.nD Cert.Reference35Ideal.τ).loc Cert.Reference35Ideal.main_v10) = v2 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v5)) (v1 : (c : Dev Cert.Kernel36Ideal.nD) → Buf (Elt Ideal) ((c.tc : Thread Cert.Kernel36Ideal.nD Cert.Kernel36Ideal.τ).loc Cert.Kernel36Ideal.main_v6)) (v2 : (c : Dev Cert.Kernel36Ideal.nD) → Buf (Elt Ideal) ((c.tc : Thread Cert.Kernel36Ideal.nD Cert.Kernel36Ideal.τ).loc Cert.Kernel36Ideal.main_v7)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v5) = v0 c
          ∧ r.2.mem ((c.tc : Thread Cert.Kernel36Ideal.nD Cert.Kernel36Ideal.τ).loc Cert.Kernel36Ideal.main_v6) = v1 c
          ∧ r.2.mem ((c.tc : Thread Cert.Kernel36Ideal.nD Cert.Kernel36Ideal.τ).loc Cert.Kernel36Ideal.main_v7) = v2 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v23) = v0 c
          ∧ r.2.mem ((c.tc : Thread Cert.Reference36Ideal.nD Cert.Reference36Ideal.τ).loc Cert.Reference36Ideal.main_v4) = v1 c
          ∧ r.2.mem ((c.tc : Thread Cert.Reference36Ideal.nD Cert.Reference36Ideal.τ).loc Cert.Reference36Ideal.main_v10) = v2 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ preserves_Kernel3_Kernel3Ideal
    ∧ algebraic_Kernel3Ideal_Reference3Ideal_pre_finite (hKernel3Ideal := hKernel3Ideal) (hReference3Ideal := hReference3Ideal) (hPre_finite := hPre_finite)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
-- ==== Pre_finite.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩

class Facts : Prop where
  bcast_S_S8192x2816 : S_.BroadcastsInDim S8192x2816 (![] : Fin 0 → Fin S8192x2816.rank)
  bcast_S_S2816x1024 : S_.BroadcastsInDim S2816x1024 (![] : Fin 0 → Fin S2816x1024.rank)
  bcast_S_S8192x1024 : S_.BroadcastsInDim S8192x1024 (![] : Fin 0 → Fin S8192x1024.rank)

variable [Facts]

def fn {F : FTy → Type} [FloatOps F] (main_arg0 : FVec F S8192x2816 .f32) (main_arg1 : FVec F S8192x2816 .f32) (main_arg2 : FVec F S2816x1024 .f32) (main_arg3 : FVec F S8192x1024 .f32) : IVec S8192x2816 1 × IVec S2816x1024 1 × IVec S8192x1024 1 :=
  let main_v0 : FVec F S8192x2816 .f32 := Host.absf main_arg1
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_v3 : FVec F S2816x1024 .f32 := Host.absf main_arg2
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S8192x1024 .f32 := Host.absf main_arg3
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  (main_v2, main_v5, main_v8)
-- ==== Kernel.lean ====
abbrev S8192x1024 : Shape := ⟨2, ![8192, 1024]⟩
abbrev S3x1024 : Shape := ⟨2, ![3, 1024]⟩
abbrev S8192x4x256 : Shape := ⟨3, ![8192, 4, 256]⟩
abbrev S8192x4x1x256 : Shape := ⟨4, ![8192, 4, 1, 256]⟩
abbrev S8192x4x3x256 : Shape := ⟨4, ![8192, 4, 3, 256]⟩
abbrev S8192x3072 : Shape := ⟨2, ![8192, 3072]⟩
abbrev S512x768 : Shape := ⟨2, ![512, 768]⟩
abbrev S8x768 : Shape := ⟨2, ![8, 768]⟩
abbrev S512x256 : Shape := ⟨2, ![512, 256]⟩
abbrev S8x256 : Shape := ⟨2, ![8, 256]⟩
abbrev S3x256 : Shape := ⟨2, ![3, 256]⟩
abbrev S520x256 : Shape := ⟨2, ![520, 256]⟩
abbrev S1x256 : Shape := ⟨2, ![1, 256]⟩
abbrev S256 : Shape := ⟨1, ![256]⟩

abbrev nBuf : Space → Nat
  | .hbm => 28
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S3x1024, .f32⟩
  | .hbm, ⟨4, _⟩ => ⟨S8192x1024, .f32⟩
  | .hbm, ⟨5, _⟩ => ⟨S8192x4x256, .f32⟩
  | .hbm, ⟨6, _⟩ => ⟨S8192x4x256, .f32⟩
  | .hbm, ⟨7, _⟩ => ⟨S8192x4x256, .f32⟩
  | .hbm, ⟨8, _⟩ => ⟨S8192x4x1x256, .f32⟩
  | .hbm, ⟨9, _⟩ => ⟨S8192x4x1x256, .f32⟩
  | .hbm, ⟨10, _⟩ => ⟨S8192x4x1x256, .f32⟩
  | .hbm, ⟨11, _⟩ => ⟨S8192x4x3x256, .f32⟩
  | .hbm, ⟨12, _⟩ => ⟨S8192x3072, .f32⟩
  | .hbm, ⟨13, _⟩ => ⟨S8192x3072, .bf16⟩
  | .hbm, ⟨14, _⟩ => ⟨S8192x1024, .bf16⟩
  | .hbm, ⟨15, _⟩ => ⟨S8192x3072, .bf16⟩
  | .hbm, ⟨16, _⟩ => ⟨S3x1024, .f32⟩
  | .hbm, ⟨17, _⟩ => ⟨S8192x3072, .f32⟩
  | .hbm, ⟨18, _⟩ => ⟨S8192x4x3x256, .f32⟩
  | .hbm, ⟨19, _⟩ => ⟨S8192x4x1x256, .f32⟩
  | .hbm, ⟨20, _⟩ => ⟨S8192x4x256, .f32⟩
  | .hbm, ⟨21, _⟩ => ⟨S8192x1024, .f32⟩
  | .hbm, ⟨22, _⟩ => ⟨S8192x4x1x256, .f32⟩
  | .hbm, ⟨23, _⟩ => ⟨S8192x4x256, .f32⟩
  | .hbm, ⟨24, _⟩ => ⟨S8192x1024, .f32⟩
  | .hbm, ⟨25, _⟩ => ⟨S8192x4x1x256, .f32⟩
  | .hbm, ⟨26, _⟩ => ⟨S8192x4x256, .f32⟩
  | .hbm, ⟨27, _⟩ => ⟨S8192x1024, .f32⟩
  | .local _ .vmem, ⟨0, _⟩ => ⟨S512x768, .bf16⟩
  | .local _ .vmem, ⟨1, _⟩ => ⟨S512x768, .bf16⟩
  | .local _ .vmem, ⟨2, _⟩ => ⟨S8x768, .bf16⟩
  | .local _ .vmem, ⟨3, _⟩ => ⟨S8x768, .bf16⟩
  | .local _ .vmem, ⟨4, _⟩ => ⟨S8x768, .bf16⟩
  | .local _ .vmem, ⟨5, _⟩ => ⟨S8x768, .bf16⟩
  | .local _ .vmem, ⟨6, _⟩ => ⟨S512x256, .bf16⟩
  | .local _ .vmem, ⟨7, _⟩ => ⟨S512x256, .bf16⟩
  | .local _ .vmem, ⟨8, _⟩ => ⟨S8x256, .bf16⟩
  | .local _ .vmem, ⟨9, _⟩ => ⟨S8x256, .bf16⟩
  | .local _ .vmem, ⟨10, _⟩ => ⟨S3x256, .f32⟩
  | .local _ .vmem, ⟨11, _⟩ => ⟨S3x256, .f32⟩
  | .local _ .vmem, ⟨12, _⟩ => ⟨S512x768, .bf16⟩
  | .local _ .vmem, ⟨13, _⟩ => ⟨S512x768, .bf16⟩
  | .local _ .vmem, ⟨14, _⟩ => ⟨S3x256, .f32⟩
  | .local _ .vmem, ⟨15, _⟩ => ⟨S3x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c0_i32_19 : BitVec 32 := 0#32
  let v86 : BitVec 1 := Scalar.cmpi .eq arg1 c0_i32_19
  let v87 : BitVec 32 := Scalar.extui v86
  let c0_i32_20 : BitVec 32 := 0#32
  let v88 : BitVec 1 := Scalar.cmpi .ne v87 c0_i32_20
  v88

def k0_cond2 (i : grid0.Coords) : BitVec 1 :=
  let arg1 : BitVec 32 := BitVec.ofNat 32 (i 1).val
  let c0_i32_21 : BitVec 32 := 0#32
  let v89 : BitVec 1 := Scalar.cmpi .sgt arg1 c0_i32_21
  let v90 : BitVec 32 := Scalar.extui v89
  let c0_i32_22 : BitVec 32 := 0#32
  let v91 : BitVec 1 := Scalar.cmpi .ne v90 c0_i32_22
  v91

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S3x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S8192x1024 : Shape := ⟨2, ![8192, 1024]⟩
abbrev S3x1024 : Shape := ⟨2, ![3, 1024]⟩
abbrev S_ : Shape := ⟨0, ![]⟩
abbrev S2x1024 : Shape := ⟨2, ![2, 1024]⟩
abbrev S8194x1024 : Shape := ⟨2, ![8194, 1024]⟩
abbrev S1x1024 : Shape := ⟨2, ![1, 1024]⟩
abbrev S1024 : Shape := ⟨1, ![1024]⟩

abbrev nBuf : Space → Nat
  | .hbm => 81
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S3x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S2x1024, .f32⟩
  | .hbm, ⟨8, _⟩ => ⟨S8194x1024, .f32⟩
  | .hbm, ⟨9, _⟩ => ⟨S_, .f32⟩
  | .hbm, ⟨10, _⟩ => ⟨S2x1024, .f32⟩
  | .hbm, ⟨11, _⟩ => ⟨S8192x1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S_, .f32⟩
  | .hbm, ⟨44, _⟩ => ⟨S3x1024, .f32⟩
  | .hbm, ⟨45, _⟩ => ⟨S_, .f32⟩
  | .hbm, ⟨46, _⟩ => ⟨S8194x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S_, .f32⟩
  | .hbm, ⟨57, _⟩ => ⟨S3x1024, .f32⟩
  | .hbm, ⟨58, _⟩ => ⟨S3x1024, .f32⟩
  | .hbm, ⟨59, _⟩ => ⟨S_, .f32⟩
  | .hbm, ⟨60, _⟩ => ⟨S8194x1024, .f32⟩
  | .hbm, ⟨61, _⟩ => ⟨S8194x1024, .f32⟩
  | .hbm, ⟨62, _⟩ => ⟨S8192x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S_, .f32⟩
  | .hbm, ⟨72, _⟩ => ⟨S3x1024, .f32⟩
  | .hbm, ⟨73, _⟩ => ⟨S3x1024, .f32⟩
  | .hbm, ⟨74, _⟩ => ⟨S_, .f32⟩
  | .hbm, ⟨75, _⟩ => ⟨S8194x1024, .f32⟩
  | .hbm, ⟨76, _⟩ => ⟨S8194x1024, .f32⟩
  | .hbm, ⟨77, _⟩ => ⟨S2x1024, .f32⟩
  | .hbm, ⟨78, _⟩ => ⟨S8192x1024, .f32⟩
  | .hbm, ⟨79, _⟩ => ⟨S8192x1024, .f32⟩
  | .hbm, ⟨80, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_1 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_2 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_9 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_10 : Ref sig .tc := ⟨.hbm, 68, rfl⟩
abbrev main_v52 : Ref sig .tc := ⟨.hbm, 69, rfl⟩
abbrev main_v53 : Ref sig .tc := ⟨.hbm, 70, rfl⟩
abbrev main_cst_11 : Ref sig .tc := ⟨.hbm, 71, rfl⟩
abbrev main_v54 : Ref sig .tc := ⟨.hbm, 72, rfl⟩
abbrev main_v55 : Ref sig .tc := ⟨.hbm, 73, rfl⟩
abbrev main_cst_12 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩

abbrev nD : Nat := 1
abbrev τ : Topo := Topo.v7x

variable {F : FTy → Type} [FloatOps F]
-- ==== Kernel2.lean ====
abbrev S8192x1024 : Shape := ⟨2, ![8192, 1024]⟩
abbrev S8192x16 : Shape := ⟨2, ![8192, 16]⟩
abbrev S36 : Shape := ⟨1, ![36]⟩
abbrev S_ : Shape := ⟨0, ![]⟩
abbrev S8192x8x128 : Shape := ⟨3, ![8192, 8, 128]⟩
abbrev S8192x8x2 : Shape := ⟨3, ![8192, 8, 2]⟩
abbrev S8192x8x1 : Shape := ⟨3, ![8192, 8, 1]⟩
abbrev S8192x16x64 : Shape := ⟨3, ![8192, 16, 64]⟩
abbrev S16x8192x8192 : Shape := ⟨3, ![16, 8192, 8192]⟩
abbrev S16x8192 : Shape := ⟨2, ![16, 8192]⟩
abbrev S16x8192x1 : Shape := ⟨3, ![16, 8192, 1]⟩
abbrev S16x1x8192 : Shape := ⟨3, ![16, 1, 8192]⟩
abbrev S16x8192x64 : Shape := ⟨3, ![16, 8192, 64]⟩
abbrev S8x2x8192 : Shape := ⟨3, ![8, 2, 8192]⟩
abbrev S8x6x8192 : Shape := ⟨3, ![8, 6, 8192]⟩
abbrev S8x8x8192 : Shape := ⟨3, ![8, 8, 8192]⟩
abbrev S1024x128 : Shape := ⟨2, ![1024, 128]⟩
abbrev S1 : Shape := ⟨1, ![1]⟩
abbrev S1x8x1024 : Shape := ⟨3, ![1, 8, 1024]⟩
abbrev S8192x128 : Shape := ⟨2, ![8192, 128]⟩
abbrev S1x8x8192 : Shape := ⟨3, ![1, 8, 8192]⟩
abbrev S128x8192 : Shape := ⟨2, ![128, 8192]⟩
abbrev S8x8192 : Shape := ⟨2, ![8, 8192]⟩
abbrev S2x1024x128 : Shape := ⟨3, ![2, 1024, 128]⟩
abbrev S2x1024x1 : Shape := ⟨3, ![2, 1024, 1]⟩
abbrev S128x1024 : Shape := ⟨2, ![128, 1024]⟩
abbrev S1024x1024 : Shape := ⟨2, ![1024, 1024]⟩
abbrev S1x1x1024 : Shape := ⟨3, ![1, 1, 1024]⟩
abbrev S1x1024 : Shape := ⟨2, ![1, 1024]⟩
abbrev S1x1024x128 : Shape := ⟨3, ![1, 1024, 128]⟩
abbrev S1x1024x1 : Shape := ⟨3, ![1, 1024, 1]⟩
abbrev S1024x1 : Shape := ⟨2, ![1024, 1]⟩
abbrev S1024 : Shape := ⟨1, ![1024]⟩

abbrev nBuf : Space → Nat
  | .hbm => 189
  | .vmem => 31
  | .smem => 2
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S8192x16, .f32⟩
  | 4 => ⟨S8192x1024, .f32⟩
  | 5 => ⟨S_, .f32⟩
  | 6 => ⟨S8192x1024, .f32⟩
  | 7 => ⟨S8192x1024, .f32⟩
  | 8 => ⟨S8192x1024, .bf16⟩
  | 9 => ⟨S8192x1024, .bf16⟩
  | 10 => ⟨S8192x1024, .bf16⟩
  | 11 => ⟨S8192x1024, .bf16⟩
  | 12 => ⟨S8192x16, .bf16⟩
  | 13 => ⟨S8192x16, .f32⟩
  | 14 => ⟨S8192x16, .f32⟩
  | 15 => ⟨S8192x16, .bf16⟩
  | 16 => ⟨S8192x16, .f32⟩
  | 17 => ⟨S8192x16, .f32⟩
  | 18 => ⟨S8192x16, .f32⟩
  | 19 => ⟨S8192x16, .bf16⟩
  | 20 => ⟨S8192x16, .f32⟩
  | 21 => ⟨S8192x8x128, .i32⟩
  | 22 => ⟨S_, .i32⟩
  | 23 => ⟨S8192x8x128, .i32⟩
  | 24 => ⟨S8192x8x128, .i1⟩
  | 25 => ⟨S_, .i32⟩
  | 26 => ⟨S8192x8x128, .i32⟩
  | 27 => ⟨S8192x8x128, .i1⟩
  | 28 => ⟨S_, .i32⟩
  | 29 => ⟨S8192x8x128, .i32⟩
  | 30 => ⟨S8192x8x128, .i1⟩
  | 31 => ⟨S8192x8x128, .i1⟩
  | 32 => ⟨S_, .f32⟩
  | 33 => ⟨S8192x8x128, .f32⟩
  | 34 => ⟨S_, .f32⟩
  | 35 => ⟨S8192x8x128, .f32⟩
  | 36 => ⟨S8192x8x128, .f32⟩
  | 37 => ⟨S_, .i32⟩
  | 38 => ⟨S8192x8x128, .i32⟩
  | 39 => ⟨S8192x8x128, .i1⟩
  | 40 => ⟨S8192x8x2, .f32⟩
  | 41 => ⟨S8192x8x1, .f32⟩
  | 42 => ⟨S8192x8x1, .f32⟩
  | 43 => ⟨S_, .i32⟩
  | 44 => ⟨S8192x8x128, .i32⟩
  | 45 => ⟨S8192x8x128, .i1⟩
  | 46 => ⟨S8192x8x2, .f32⟩
  | 47 => ⟨S8192x8x1, .f32⟩
  | 48 => ⟨S8192x8x1, .f32⟩
  | 49 => ⟨S_, .i32⟩
  | 50 => ⟨S8192x8x128, .i32⟩
  | 51 => ⟨S8192x8x128, .i1⟩
  | 52 => ⟨S8192x8x2, .f32⟩
  | 53 => ⟨S8192x8x1, .f32⟩
  | 54 => ⟨S8192x8x1, .f32⟩
  | 55 => ⟨S8192x8x128, .f32⟩
  | 56 => ⟨S_, .f32⟩
  | 57 => ⟨S8192x8x128, .f32⟩
  | 58 => ⟨S8192x8x128, .f32⟩
  | 59 => ⟨S8192x8x128, .f32⟩
  | 60 => ⟨S8192x8x128, .f32⟩
  | 61 => ⟨S8192x8x128, .f32⟩
  | 62 => ⟨S8192x8x128, .f32⟩
  | 63 => ⟨S8192x1024, .f32⟩
  | 64 => ⟨S8192x8x128, .f32⟩
  | 65 => ⟨S8192x8x128, .f32⟩
  | 66 => ⟨S8192x8x128, .bf16⟩
  | 67 => ⟨S8192x1024, .bf16⟩
  | 68 => ⟨S8192x1024, .f32⟩
  | 69 => ⟨S8192x8x128, .f32⟩
  | 70 => ⟨S8192x8x128, .f32⟩
  | 71 => ⟨S8192x8x128, .bf16⟩
  | 72 => ⟨S8192x1024, .bf16⟩
  | 73 => ⟨S_, .i32⟩
  | 74 => ⟨S8192x8x128, .i32⟩
  | 75 => ⟨S8192x8x128, .i1⟩
  | 76 => ⟨S_, .i32⟩
  | 77 => ⟨S8192x8x128, .i32⟩
  | 78 => ⟨S8192x8x128, .i1⟩
  | 79 => ⟨S_, .i32⟩
  | 80 => ⟨S8192x8x128, .i32⟩
  | 81 => ⟨S8192x8x128, .i1⟩
  | 82 => ⟨S8192x8x128, .i1⟩
  | 83 => ⟨S_, .f32⟩
  | 84 => ⟨S8192x8x128, .f32⟩
  | 85 => ⟨S_, .f32⟩
  | 86 => ⟨S8192x8x128, .f32⟩
  | 87 => ⟨S8192x8x128, .f32⟩
  | 88 => ⟨S_, .i32⟩
  | 89 => ⟨S8192x8x128, .i32⟩
  | 90 => ⟨S8192x8x128, .i1⟩
  | 91 => ⟨S8192x8x2, .f32⟩
  | 92 => ⟨S8192x8x1, .f32⟩
  | 93 => ⟨S8192x8x1, .f32⟩
  | 94 => ⟨S_, .i32⟩
  | 95 => ⟨S8192x8x128, .i32⟩
  | 96 => ⟨S8192x8x128, .i1⟩
  | 97 => ⟨S8192x8x2, .f32⟩
  | 98 => ⟨S8192x8x1, .f32⟩
  | 99 => ⟨S8192x8x1, .f32⟩
  | 100 => ⟨S_, .i32⟩
  | 101 => ⟨S8192x8x128, .i32⟩
  | 102 => ⟨S8192x8x128, .i1⟩
  | 103 => ⟨S8192x8x2, .f32⟩
  | 104 => ⟨S8192x8x1, .f32⟩
  | 105 => ⟨S8192x8x1, .f32⟩
  | 106 => ⟨S8192x8x128, .f32⟩
  | 107 => ⟨S_, .f32⟩
  | 108 => ⟨S8192x8x128, .f32⟩
  | 109 => ⟨S8192x8x128, .f32⟩
  | 110 => ⟨S8192x8x128, .f32⟩
  | 111 => ⟨S8192x8x128, .f32⟩
  | 112 => ⟨S8192x8x128, .f32⟩
  | 113 => ⟨S8192x8x128, .f32⟩
  | 114 => ⟨S8192x1024, .f32⟩
  | 115 => ⟨S8192x8x128, .f32⟩
  | 116 => ⟨S8192x8x128, .f32⟩
  | 117 => ⟨S8192x8x128, .bf16⟩
  | 118 => ⟨S8192x1024, .bf16⟩
  | 119 => ⟨S8192x1024, .f32⟩
  | 120 => ⟨S8192x8x128, .f32⟩
  | 121 => ⟨S8192x8x128, .f32⟩
  | 122 => ⟨S8192x8x128, .bf16⟩
  | 123 => ⟨S8192x1024, .bf16⟩
  | 124 => ⟨S8192x16x64, .f32⟩
  | 125 => ⟨S8192x16x64, .f32⟩
  | 126 => ⟨S16x8192x8192, .f32⟩
  | 127 => ⟨S_, .f32⟩
  | _ => ⟨S8192x1024, .f32⟩

abbrev hbmTy0_1 (i : Nat) : BufTy := match i % 128 with
  | 0 => ⟨S16x8192x8192, .f32⟩
  | 1 => ⟨S16x8192x8192, .f32⟩
  | 2 => ⟨S16x8192, .f32⟩
  | 3 => ⟨S16x8192x1, .f32⟩
  | 4 => ⟨S16x8192x8192, .f32⟩
  | 5 => ⟨S16x8192x8192, .f32⟩
  | 6 => ⟨S16x1x8192, .f32⟩
  | 7 => ⟨S16x8192x8192, .f32⟩
  | 8 => ⟨S16x8192x8192, .f32⟩
  | 9 => ⟨S16x8192x8192, .i32⟩
  | 10 => ⟨S16x8192x8192, .i32⟩
  | 11 => ⟨S16x8192x8192, .i1⟩
  | 12 => ⟨S_, .f32⟩
  | 13 => ⟨S16x8192x8192, .f32⟩
  | 14 => ⟨S16x8192x8192, .f32⟩
  | 15 => ⟨S_, .f32⟩
  | 16 => ⟨S16x8192, .f32⟩
  | 17 => ⟨S16x8192x1, .f32⟩
  | 18 => ⟨S16x8192x8192, .f32⟩
  | 19 => ⟨S16x8192x8192, .f32⟩
  | 20 => ⟨S16x8192x8192, .f32⟩
  | 21 => ⟨S_, .f32⟩
  | 22 => ⟨S16x8192, .f32⟩
  | 23 => ⟨S16x8192, .f32⟩
  | 24 => ⟨S16x8192, .f32⟩
  | 25 => ⟨S16x8192, .f32⟩
  | 26 => ⟨S16x8192, .f32⟩
  | 27 => ⟨S16x8192x1, .f32⟩
  | 28 => ⟨S16x8192x8192, .f32⟩
  | 29 => ⟨S16x8192x8192, .f32⟩
  | 30 => ⟨S8192x16x64, .f32⟩
  | 31 => ⟨S16x8192x64, .f32⟩
  | 32 => ⟨S8192x16x64, .f32⟩
  | 33 => ⟨S16x8192x64, .f32⟩
  | 34 => ⟨S16x8192x64, .f32⟩
  | 35 => ⟨S_, .f32⟩
  | 36 => ⟨S16x8192, .f32⟩
  | 37 => ⟨S8x2x8192, .f32⟩
  | 38 => ⟨S_, .f32⟩
  | 39 => ⟨S8x6x8192, .f32⟩
  | 40 => ⟨S8x8x8192, .f32⟩
  | 41 => ⟨S8x2x8192, .f32⟩
  | 42 => ⟨S_, .f32⟩
  | 43 => ⟨S8x6x8192, .f32⟩
  | 44 => ⟨S8x8x8192, .f32⟩
  | 45 => ⟨S8192x1024, .bf16⟩
  | 46 => ⟨S8192x1024, .bf16⟩
  | 47 => ⟨S8192x1024, .bf16⟩
  | 48 => ⟨S8192x1024, .f32⟩
  | 49 => ⟨S8x8x8192, .f32⟩
  | 50 => ⟨S8x2x8192, .f32⟩
  | 51 => ⟨S16x8192, .f32⟩
  | 52 => ⟨S8192x16, .f32⟩
  | 53 => ⟨S8192x16, .f32⟩
  | 54 => ⟨S8192x16, .f32⟩
  | 55 => ⟨S8192x1024, .f32⟩
  | 56 => ⟨S_, .f32⟩
  | 57 => ⟨S8192x1024, .f32⟩
  | 58 => ⟨S8192x1024, .f32⟩
  | 59 => ⟨S8192x1024, .f32⟩
  | 60 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S1x8x1024, .f32⟩
  | .local _ .vmem, ⟨11, _⟩ => ⟨S1x8x1024, .f32⟩
  | .local _ .vmem, ⟨12, _⟩ => ⟨S1x8x1024, .f32⟩
  | .local _ .vmem, ⟨13, _⟩ => ⟨S1x8x1024, .f32⟩
  | .local _ .vmem, ⟨14, _⟩ => ⟨S1024x128, .bf16⟩
  | .local _ .vmem, ⟨15, _⟩ => ⟨S1024x128, .bf16⟩
  | .local _ .vmem, ⟨16, _⟩ => ⟨S8192x128, .bf16⟩
  | .local _ .vmem, ⟨17, _⟩ => ⟨S8192x128, .bf16⟩
  | .local _ .vmem, ⟨18, _⟩ => ⟨S1024x128, .bf16⟩
  | .local _ .vmem, ⟨19, _⟩ => ⟨S1024x128, .bf16⟩
  | .local _ .vmem, ⟨20, _⟩ => ⟨S1024x128, .bf16⟩
  | .local _ .vmem, ⟨21, _⟩ => ⟨S1024x128, .bf16⟩
  | .local _ .vmem, ⟨22, _⟩ => ⟨S1024x128, .f32⟩
  | .local _ .vmem, ⟨23, _⟩ => ⟨S1024x128, .f32⟩
  | .local _ .vmem, ⟨24, _⟩ => ⟨S1x8x8192, .f32⟩
  | .local _ .vmem, ⟨25, _⟩ => ⟨S1x8x8192, .f32⟩
  | .local _ .vmem, ⟨26, _⟩ => ⟨S128x8192, .f32⟩
  | .local _ .vmem, ⟨27, _⟩ => ⟨S8x8192, .f32⟩
  | .local _ .vmem, ⟨28, _⟩ => ⟨S2x1024x128, .f32⟩
  | .local _ .vmem, ⟨29, _⟩ => ⟨S2x1024x128, .f32⟩
  | .local _ .vmem, ⟨30, _⟩ => ⟨S2x1024x1, .f32⟩
  | .local _ .smem, ⟨0, _⟩ => ⟨S36, .i32⟩
  | .local _ .smem, ⟨1, _⟩ => ⟨S36, .i32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_c_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_9 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_c_10 : Ref sig .tc := ⟨.hbm, 73, rfl⟩
abbrev main_v58 : Ref sig .tc := ⟨.hbm, 74, rfl⟩
abbrev main_v59 : Ref sig .tc := ⟨.hbm, 75, rfl⟩
abbrev main_c_11 : Ref sig .tc := ⟨.hbm, 76, rfl⟩
abbrev main_v60 : Ref sig .tc := ⟨.hbm, 77, rfl⟩
abbrev main_v61 : Ref sig .tc := ⟨.hbm, 78, rfl⟩
abbrev main_c_12 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_13 : Ref sig .tc := ⟨.hbm, 83, rfl⟩
abbrev main_v65 : Ref sig .tc := ⟨.hbm, 84, rfl⟩
abbrev main_cst_14 : Ref sig .tc := ⟨.hbm, 85, rfl⟩
abbrev main_v66 : Ref sig .tc := ⟨.hbm, 86, rfl⟩
abbrev main_v67 : Ref sig .tc := ⟨.hbm, 87, rfl⟩
abbrev main_c_15 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_c_16 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_c_17 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_18 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_cst_19 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_cst_20 : Ref sig .tc := ⟨.hbm, 140, rfl⟩
abbrev main_v115 : Ref sig .tc := ⟨.hbm, 141, rfl⟩
abbrev main_v116 : Ref sig .tc := ⟨.hbm, 142, rfl⟩
abbrev main_cst_21 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_cst_22 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_cst_23 : Ref sig .tc := ⟨.hbm, 163, rfl⟩
abbrev main_v135 : Ref sig .tc := ⟨.hbm, 164, rfl⟩
abbrev main_v136 : Ref sig .tc := ⟨.hbm, 165, rfl⟩
abbrev main_cst_24 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_cst_25 : Ref sig .tc := ⟨.hbm, 170, rfl⟩
abbrev main_v140 : Ref sig .tc := ⟨.hbm, 171, rfl⟩
abbrev main_v141 : Ref sig .tc := ⟨.hbm, 172, rfl⟩
abbrev main_v142_0 : Ref sig .tc := ⟨.hbm, 173, rfl⟩
abbrev main_v142_1 : Ref sig .tc := ⟨.hbm, 174, rfl⟩
abbrev main_v142_2 : Ref sig .tc := ⟨.hbm, 175, rfl⟩
abbrev main_v142_3 : Ref sig .tc := ⟨.hbm, 176, rfl⟩
abbrev main_v142_4 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_cst_26 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 36], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c1024_i32 : BitVec 32 := 1024#32
  let v41 : BitVec 32 := Scalar.muli v1 c1024_i32
  v41
def k0_cond2 (v1 : BitVec 32) (v3 : BitVec 32) : BitVec 1 :=
  let v7 : BitVec 1 := Scalar.cmpi .eq v1 v3
  let v8 : BitVec 32 := Scalar.extui v7
  let c0_i32_1 : BitVec 32 := 0#32
  let v9 : BitVec 1 := Scalar.cmpi .ne v8 c0_i32_1
  v9

def k0_off2 (v1 : BitVec 32) : Fin 2 → Nat :=
  let c0_58 : Index := 0#32
  let c1024_i32 : BitVec 32 := 1024#32
  let v41 : BitVec 32 := Scalar.muli v1 c1024_i32
  let v42 : BitVec 32 := v41
  let v94 : Index := Scalar.indexCast v42
  ![0, v94.toNat]
def k0_off3 (v1 : BitVec 32) : Fin 2 → Nat :=
  let c0_64 : Index := 0#32
  let c1024_i32 : BitVec 32 := 1024#32
  let v41 : BitVec 32 := Scalar.muli v1 c1024_i32
  let v42 : BitVec 32 := v41
  let v106 : Index := Scalar.indexCast v42
  ![0, v106.toNat]
def k0_off4 (v1 : BitVec 32) : Fin 2 → Nat :=
  let c1_110 : Index := 1#32
  let c1024_i32 : BitVec 32 := 1024#32
  let v41 : BitVec 32 := Scalar.muli v1 c1024_i32
  let v42 : BitVec 32 := v41
  let v178 : Index := Scalar.indexCast v42
  ![1, v178.toNat]
def k0_mult2 (v1 : BitVec 32) : BitVec 32 :=
  let c1024_i32 : BitVec 32 := 1024#32
  let v29 : BitVec 32 := Scalar.muli v1 c1024_i32
  v29
def k0_cond3 (v1 : BitVec 32) (v3 : BitVec 32) : BitVec 1 :=
  let v10 : BitVec 1 := Scalar.cmpi .sgt v1 v3
  let v11 : BitVec 32 := Scalar.extui v10
  let c0_i32_2 : BitVec 32 := 0#32
  let v12 : BitVec 1 := Scalar.cmpi .ne v11 c0_i32_2
  v12

def k0_off5 (v1 : BitVec 32) : Fin 2 → Nat :=
  let c0_45 : Index := 0#32
  let c1024_i32 : BitVec 32 := 1024#32
  let v29 : BitVec 32 := Scalar.muli v1 c1024_i32
  let v30 : BitVec 32 := v29
  let v77 : Index := Scalar.indexCast v30
  ![0, v77.toNat]
def k0_off6 (v1 : BitVec 32) : Fin 2 → Nat :=
  let c0_51 : Index := 0#32
  let c1024_i32 : BitVec 32 := 1024#32
  let v29 : BitVec 32 := Scalar.muli v1 c1024_i32
  let v30 : BitVec 32 := v29
  let v89 : Index := Scalar.indexCast v30
  ![0, v89.toNat]
def k0_off7 (v1 : BitVec 32) : Fin 2 → Nat :=
  let c1_96 : Index := 1#32
  let c1024_i32 : BitVec 32 := 1024#32
  let v29 : BitVec 32 := Scalar.muli v1 c1024_i32
  let v30 : BitVec 32 := v29
  let v156 : Index := Scalar.indexCast v30
  ![1, v156.toNat]

def k0_chk1 (v1 : BitVec 32) (v3 : BitVec 32) : Prop :=
  (∀ (k0_h2 : k0_cond2 v1 v3 = 1#1), 1024 ∣ (k0_mult1 v1).toNat) ∧
  (∀ (k0_h2 : k0_cond2 v1 v3 = 1#1), ∀ a, (k0_off2 v1) a + S128x1024.size a ≤ S128x8192.size a) ∧
  (∀ (k0_h2 : k0_cond2 v1 v3 = 1#1), ∀ a, (k0_off3 v1) a + S1x1024.size a ≤ S8x8192.size a) ∧
  (∀ (k0_h2 : k0_cond2 v1 v3 = 1#1), ∀ a, (k0_off4 v1) a + S1x1024.size a ≤ S8x8192.size a) ∧
  (∀ (k0_h3 : k0_cond3 v1 v3 = 1#1), 1024 ∣ (k0_mult2 v1).toNat) ∧
  (∀ (k0_h3 : k0_cond3 v1 v3 = 1#1), ∀ a, (k0_off5 v1) a + S128x1024.size a ≤ S128x8192.size a) ∧
  (∀ (k0_h3 : k0_cond3 v1 v3 = 1#1), ∀ a, (k0_off6 v1) a + S1x1024.size a ≤ S8x8192.size a) ∧
  (∀ (k0_h3 : k0_cond3 v1 v3 = 1#1), ∀ a, (k0_off7 v1) a + S1x1024.size a ≤ S8x8192.size a)
theorem k0_mult1_dvd : ∀ (v1 : BitVec 32) (v3 : BitVec 32) (k0_hw1 : k0_chk1 v1 v3), ∀ (k0_h2 : k0_cond2 v1 v3 = 1#1), 1024 ∣ (k0_mult1 v1).toNat := fun v1 v3 k0_hw1 k0_h2 => k0_hw1.1 k0_h2
theorem k0_off2_inb : ∀ (v1 : BitVec 32) (v3 : BitVec 32) (k0_hw1 : k0_chk1 v1 v3), ∀ (k0_h2 : k0_cond2 v1 v3 = 1#1), ∀ a, (k0_off2 v1) a + S128x1024.size a ≤ S128x8192.size a := fun v1 v3 k0_hw1 k0_h2 => k0_hw1.2.1 k0_h2
theorem k0_off3_inb : ∀ (v1 : BitVec 32) (v3 : BitVec 32) (k0_hw1 : k0_chk1 v1 v3), ∀ (k0_h2 : k0_cond2 v1 v3 = 1#1), ∀ a, (k0_off3 v1) a + S1x1024.size a ≤ S8x8192.size a := fun v1 v3 k0_hw1 k0_h2 => k0_hw1.2.2.1 k0_h2
theorem k0_off4_inb : ∀ (v1 : BitVec 32) (v3 : BitVec 32) (k0_hw1 : k0_chk1 v1 v3), ∀ (k0_h2 : k0_cond2 v1 v3 = 1#1), ∀ a, (k0_off4 v1) a + S1x1024.size a ≤ S8x8192.size a := fun v1 v3 k0_hw1 k0_h2 => k0_hw1.2.2.2.1 k0_h2
theorem k0_mult2_dvd : ∀ (v1 : BitVec 32) (v3 : BitVec 32) (k0_hw1 : k0_chk1 v1 v3), ∀ (k0_h3 : k0_cond3 v1 v3 = 1#1), 1024 ∣ (k0_mult2 v1).toNat := fun v1 v3 k0_hw1 k0_h3 => k0_hw1.2.2.2.2.1 k0_h3
theorem k0_off5_inb : ∀ (v1 : BitVec 32) (v3 : BitVec 32) (k0_hw1 : k0_chk1 v1 v3), ∀ (k0_h3 : k0_cond3 v1 v3 = 1#1), ∀ a, (k0_off5 v1) a + S128x1024.size a ≤ S128x8192.size a := fun v1 v3 k0_hw1 k0_h3 => k0_hw1.2.2.2.2.2.1 k0_h3
theorem k0_off6_inb : ∀ (v1 : BitVec 32) (v3 : BitVec 32) (k0_hw1 : k0_chk1 v1 v3), ∀ (k0_h3 : k0_cond3 v1 v3 = 1#1), ∀ a, (k0_off6 v1) a + S1x1024.size a ≤ S8x8192.size a := fun v1 v3 k0_hw1 k0_h3 => k0_hw1.2.2.2.2.2.2.1 k0_h3
theorem k0_off7_inb : ∀ (v1 : BitVec 32) (v3 : BitVec 32) (k0_hw1 : k0_chk1 v1 v3), ∀ (k0_h3 : k0_cond3 v1 v3 = 1#1), ∀ a, (k0_off7 v1) a + S1x1024.size a ≤ S8x8192.size a := fun v1 v3 k0_hw1 k0_h3 => k0_hw1.2.2.2.2.2.2.2 k0_h3

def k0_cond5 (i : grid0.Coords) : BitVec 1 :=
  let arg1 : BitVec 32 := BitVec.ofNat 32 (i 1).val
  let c35_i32 : BitVec 32 := 35#32
  let v16 : BitVec 1 := Scalar.cmpi .eq arg1 c35_i32
  let v17 : BitVec 32 := Scalar.extui v16
  let c0_i32_4 : BitVec 32 := 0#32
  let v18 : BitVec 1 := Scalar.cmpi .ne v17 c0_i32_4
  v18

def k0_cond4 (v1 : BitVec 32) : BitVec 1 :=
  let c7_i32 : BitVec 32 := 7#32
  let v13 : BitVec 1 := Scalar.cmpi .eq v1 c7_i32
  let v14 : BitVec 32 := Scalar.extui v13
  let c0_i32_3 : BitVec 32 := 0#32
  let v15 : BitVec 1 := Scalar.cmpi .ne v14 c0_i32_3
  v15

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_5 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, c0_i32.toNat, v1.toNat]

def cc0_transform_6 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, c0_i32.toNat, v1.toNat]

def cc0_transform_7 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_10 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_11 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8192x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x8192 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Reference2Ideal.lean ====
abbrev S8192x1024 : Shape := ⟨2, ![8192, 1024]⟩
abbrev S8192x16 : Shape := ⟨2, ![8192, 16]⟩
abbrev S8192x16x64 : Shape := ⟨3, ![8192, 16, 64]⟩
abbrev S16x8192 : Shape := ⟨2, ![16, 8192]⟩
abbrev S16x8192x8192 : Shape := ⟨3, ![16, 8192, 8192]⟩
abbrev S_ : Shape := ⟨0, ![]⟩
abbrev S16x8192x1 : Shape := ⟨3, ![16, 8192, 1]⟩
abbrev S16x1x8192 : Shape := ⟨3, ![16, 1, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S16x64x8192 : Shape := ⟨3, ![16, 64, 8192]⟩
abbrev S16x8192x64 : Shape := ⟨3, ![16, 8192, 64]⟩

abbrev nBuf : Space → Nat
  | .hbm => 118
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x16, .f32⟩
  | .hbm, ⟨4, _⟩ => ⟨S8192x1024, .f32⟩
  | .hbm, ⟨5, _⟩ => ⟨S8192x16x64, .f32⟩
  | .hbm, ⟨6, _⟩ => ⟨S8192x16x64, .f32⟩
  | .hbm, ⟨7, _⟩ => ⟨S8192x16x64, .f32⟩
  | .hbm, ⟨8, _⟩ => ⟨S16x8192, .f32⟩
  | .hbm, ⟨9, _⟩ => ⟨S16x8192x8192, .f32⟩
  | .hbm, ⟨10, _⟩ => ⟨S_, .f32⟩
  | .hbm, ⟨11, _⟩ => ⟨S16x8192x8192, .f32⟩
  | .hbm, ⟨12, _⟩ => ⟨S16x8192x8192, .f32⟩
  | .hbm, ⟨13, _⟩ => ⟨S16x8192x1, .f32⟩
  | .hbm, ⟨14, _⟩ => ⟨S16x8192x8192, .f32⟩
  | .hbm, ⟨15, _⟩ => ⟨S16x8192x8192, .f32⟩
  | .hbm, ⟨16, _⟩ => ⟨S16x1x8192, .f32⟩
  | .hbm, ⟨17, _⟩ => ⟨S16x8192x8192, .f32⟩
  | .hbm, ⟨18, _⟩ => ⟨S16x8192x8192, .f32⟩
  | .hbm, ⟨19, _⟩ => ⟨S8192, .i32⟩
  | .hbm, ⟨20, _⟩ => ⟨S8192x1, .i32⟩
  | .hbm, ⟨21, _⟩ => ⟨S1x8192, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S_, .f32⟩
  | .hbm, ⟨26, _⟩ => ⟨S_, .f32⟩
  | .hbm, ⟨27, _⟩ => ⟨S16x8192x8192, .i1⟩
  | .hbm, ⟨28, _⟩ => ⟨S16x8192x8192, .f32⟩
  | .hbm, ⟨29, _⟩ => ⟨S16x8192x8192, .f32⟩
  | .hbm, ⟨30, _⟩ => ⟨S_, .f32⟩
  | .hbm, ⟨31, _⟩ => ⟨S16x8192x8192, .f32⟩
  | .hbm, ⟨32, _⟩ => ⟨S_, .f32⟩
  | .hbm, ⟨33, _⟩ => ⟨S16x8192, .f32⟩
  | .hbm, ⟨34, _⟩ => ⟨S16x8192x1, .f32⟩
  | .hbm, ⟨35, _⟩ => ⟨S16x8192x8192, .f32⟩
  | .hbm, ⟨36, _⟩ => ⟨S16x8192x8192, .i1⟩
  | .hbm, ⟨37, _⟩ => ⟨S16x8192x8192, .f32⟩
  | .hbm, ⟨38, _⟩ => ⟨S_, .f32⟩
  | .hbm, ⟨39, _⟩ => ⟨S16x8192, .f32⟩
  | .hbm, ⟨40, _⟩ => ⟨S_, .f32⟩
  | .hbm, ⟨41, _⟩ => ⟨S16x8192, .f32⟩
  | .hbm, ⟨42, _⟩ => ⟨S16x8192, .f32⟩
  | .hbm, ⟨43, _⟩ => ⟨S_, .f32⟩
  | .hbm, ⟨44, _⟩ => ⟨S16x8192, .f32⟩
  | .hbm, ⟨45, _⟩ => ⟨S16x8192, .i1⟩
  | .hbm, ⟨46, _⟩ => ⟨S_, .f32⟩
  | .hbm, ⟨47, _⟩ => ⟨S16x8192, .f32⟩
  | .hbm, ⟨48, _⟩ => ⟨S16x8192, .i1⟩
  | .hbm, ⟨49, _⟩ => ⟨S_, .f32⟩
  | .hbm, ⟨50, _⟩ => ⟨S16x8192, .f32⟩
  | .hbm, ⟨51, _⟩ => ⟨S_, .f32⟩
  | .hbm, ⟨52, _⟩ => ⟨S16x8192, .f32⟩
  | .hbm, ⟨53, _⟩ => ⟨S_, .f32⟩
  | .hbm, ⟨54, _⟩ => ⟨S16x8192, .f32⟩
  | .hbm, ⟨55, _⟩ => ⟨S16x8192, .f32⟩
  | .hbm, ⟨56, _⟩ => ⟨S16x8192, .f32⟩
  | .hbm, ⟨57, _⟩ => ⟨S16x8192x1, .f32⟩
  | .hbm, ⟨58, _⟩ => ⟨S16x8192x8192, .f32⟩
  | .hbm, ⟨59, _⟩ => ⟨S16x8192x8192, .f32⟩
  | .hbm, ⟨60, _⟩ => ⟨S16x8192x8192, .f32⟩
  | .hbm, ⟨61, _⟩ => ⟨S_, .f32⟩
  | .hbm, ⟨62, _⟩ => ⟨S16x8192, .f32⟩
  | .hbm, ⟨63, _⟩ => ⟨S16x8192x1, .f32⟩
  | .hbm, ⟨64, _⟩ => ⟨S16x8192x8192, .f32⟩
  | .hbm, ⟨65, _⟩ => ⟨S16x8192x8192, .f32⟩
  | .hbm, ⟨66, _⟩ => ⟨S16x8192x1, .f32⟩
  | .hbm, ⟨67, _⟩ => ⟨S_, .f32⟩
  | .hbm, ⟨68, _⟩ => ⟨S16x8192x1, .f32⟩
  | .hbm, ⟨69, _⟩ => ⟨S16x8192x1, .f32⟩
  | .hbm, ⟨70, _⟩ => ⟨S16x64x8192, .f32⟩
  | .hbm, ⟨71, _⟩ => ⟨S8192x16x64, .f32⟩
  | .hbm, ⟨72, _⟩ => ⟨S8192x1024, .f32⟩
  | .hbm, ⟨73, _⟩ => ⟨S8192x16x64, .f32⟩
  | .hbm, ⟨74, _⟩ => ⟨S16x64x8192, .f32⟩
  | .hbm, ⟨75, _⟩ => ⟨S16x8192x8192, .f32⟩
  | .hbm, ⟨76, _⟩ => ⟨S16x64x8192, .f32⟩
  | .hbm, ⟨77, _⟩ => ⟨S8192x16x64, .f32⟩
  | .hbm, ⟨78, _⟩ => ⟨S16x8192x8192, .f32⟩
  | .hbm, ⟨79, _⟩ => ⟨S16x8192x8192, .f32⟩
  | .hbm, ⟨80, _⟩ => ⟨S16x8192x8192, .f32⟩
  | .hbm, ⟨81, _⟩ => ⟨S_, .f32⟩
  | .hbm, ⟨82, _⟩ => ⟨S16x8192, .f32⟩
  | .hbm, ⟨83, _⟩ => ⟨S16x8192x1, .f32⟩
  | .hbm, ⟨84, _⟩ => ⟨S16x8192x1, .f32⟩
  | .hbm, ⟨85, _⟩ => ⟨S16x8192x8192, .f32⟩
  | .hbm, ⟨86, _⟩ => ⟨S16x8192x8192, .f32⟩
  | .hbm, ⟨87, _⟩ => ⟨S_, .f32⟩
  | .hbm, ⟨88, _⟩ => ⟨S16x8192, .f32⟩
  | .hbm, ⟨89, _⟩ => ⟨S16x8192x8192, .f32⟩
  | .hbm, ⟨90, _⟩ => ⟨S16x8192x8192, .f32⟩
  | .hbm, ⟨91, _⟩ => ⟨S16x8192x8192, .f32⟩
  | .hbm, ⟨92, _⟩ => ⟨S_, .f32⟩
  | .hbm, ⟨93, _⟩ => ⟨S16x8192x8192, .f32⟩
  | .hbm, ⟨94, _⟩ => ⟨S16x8192x8192, .f32⟩
  | .hbm, ⟨95, _⟩ => ⟨S16x8192x8192, .f32⟩
  | .hbm, ⟨96, _⟩ => ⟨S_, .f32⟩
  | .hbm, ⟨97, _⟩ => ⟨S16x8192, .f32⟩
  | .hbm, ⟨98, _⟩ => ⟨S16x1x8192, .f32⟩
  | .hbm, ⟨99, _⟩ => ⟨S_, .f32⟩
  | .hbm, ⟨100, _⟩ => ⟨S16x8192, .f32⟩
  | .hbm, ⟨101, _⟩ => ⟨S_, .f32⟩
  | .hbm, ⟨102, _⟩ => ⟨S16x8192, .f32⟩
  | .hbm, ⟨103, _⟩ => ⟨S16x8192x1, .f32⟩
  | .hbm, ⟨104, _⟩ => ⟨S_, .f32⟩
  | .hbm, ⟨105, _⟩ => ⟨S16x8192, .f32⟩
  | .hbm, ⟨106, _⟩ => ⟨S16x8192, .f32⟩
  | .hbm, ⟨107, _⟩ => ⟨S_, .f32⟩
  | .hbm, ⟨108, _⟩ => ⟨S16x8192x8192, .f32⟩
  | .hbm, ⟨109, _⟩ => ⟨S16x8192x8192, .f32⟩
  | .hbm, ⟨110, _⟩ => ⟨S16x8192x64, .f32⟩
  | .hbm, ⟨111, _⟩ => ⟨S8192x16x64, .f32⟩
  | .hbm, ⟨112, _⟩ => ⟨S16x8192x64, .f32⟩
  | .hbm, ⟨113, _⟩ => ⟨S8192x16x64, .f32⟩
  | .hbm, ⟨114, _⟩ => ⟨S8192x16, .f32⟩
  | .hbm, ⟨115, _⟩ => ⟨S8192x1024, .f32⟩
  | .hbm, ⟨116, _⟩ => ⟨S8192x1024, .f32⟩
  | .hbm, ⟨117, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_call0_v0 : Ref sig .tc := ⟨.hbm, 26, rfl⟩
abbrev main_v19_1 : Ref sig .tc := ⟨.hbm, 27, rfl⟩
abbrev main_call0_v2 : Ref sig .tc := ⟨.hbm, 28, rfl⟩
abbrev main_v19_0 : Ref sig .tc := ⟨.hbm, 29, rfl⟩
abbrev main_call0_cst : Ref sig .tc := ⟨.hbm, 30, rfl⟩
abbrev main_v19_2 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_12 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_call1_cst : Ref sig .tc := ⟨.hbm, 92, rfl⟩
abbrev main_call1_v0 : Ref sig .tc := ⟨.hbm, 93, rfl⟩
abbrev main_v68 : Ref sig .tc := ⟨.hbm, 94, rfl⟩
abbrev main_v69 : Ref sig .tc := ⟨.hbm, 95, rfl⟩
abbrev main_cst_13 : Ref sig .tc := ⟨.hbm, 96, rfl⟩
abbrev main_v70 : Ref sig .tc := ⟨.hbm, 97, rfl⟩
abbrev main_v71 : Ref sig .tc := ⟨.hbm, 98, rfl⟩
abbrev main_cst_14 : Ref sig .tc := ⟨.hbm, 99, rfl⟩
abbrev main_v72 : Ref sig .tc := ⟨.hbm, 100, rfl⟩
abbrev main_cst_15 : Ref sig .tc := ⟨.hbm, 101, rfl⟩
abbrev main_v73 : Ref sig .tc := ⟨.hbm, 102, rfl⟩
abbrev main_v74 : Ref sig .tc := ⟨.hbm, 103, rfl⟩
abbrev main_cst_16 : Ref sig .tc := ⟨.hbm, 104, rfl⟩
abbrev main_v75 : Ref sig .tc := ⟨.hbm, 105, rfl⟩
abbrev main_v76 : Ref sig .tc := ⟨.hbm, 106, rfl⟩
abbrev main_cst_17 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩

abbrev nD : Nat := 1
abbrev τ : Topo := Topo.v7x

variable {F : FTy → Type} [FloatOps F]
-- ==== Kernel3.lean ====
abbrev S8192x2816 : Shape := ⟨2, ![8192, 2816]⟩
abbrev S2816x1024 : Shape := ⟨2, ![2816, 1024]⟩
abbrev S8192x1024 : Shape := ⟨2, ![8192, 1024]⟩
abbrev S8192x2x1x1408 : Shape := ⟨4, ![8192, 2, 1, 1408]⟩
abbrev S8192x2x2x1408 : Shape := ⟨4, ![8192, 2, 2, 1408]⟩
abbrev S8192x5632 : Shape := ⟨2, ![8192, 5632]⟩
abbrev S512x1024 : Shape := ⟨2, ![512, 1024]⟩
abbrev S1408x1024 : Shape := ⟨2, ![1408, 1024]⟩
abbrev S512x2816 : Shape := ⟨2, ![512, 2816]⟩
abbrev S256x1024 : Shape := ⟨2, ![256, 1024]⟩
abbrev S256x1408 : Shape := ⟨2, ![256, 1408]⟩
abbrev S8192x2x1408 : Shape := ⟨3, ![8192, 2, 1408]⟩

abbrev nBuf : Space → Nat
  | .hbm => 21
  | .vmem => 8
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2816x1024, .f32⟩
  | .hbm, ⟨3, _⟩ => ⟨S8192x1024, .f32⟩
  | .hbm, ⟨4, _⟩ => ⟨S8192x1024, .bf16⟩
  | .hbm, ⟨5, _⟩ => ⟨S2816x1024, .bf16⟩
  | .hbm, ⟨6, _⟩ => ⟨S8192x2x1x1408, .f32⟩
  | .hbm, ⟨7, _⟩ => ⟨S8192x2x1x1408, .f32⟩
  | .hbm, ⟨8, _⟩ => ⟨S8192x2x2x1408, .f32⟩
  | .hbm, ⟨9, _⟩ => ⟨S8192x5632, .f32⟩
  | .hbm, ⟨10, _⟩ => ⟨S8192x5632, .bf16⟩
  | .hbm, ⟨11, _⟩ => ⟨S8192x5632, .bf16⟩
  | .hbm, ⟨12, _⟩ => ⟨S8192x2x2x1408, .bf16⟩
  | .hbm, ⟨13, _⟩ => ⟨S8192x2x1x1408, .bf16⟩
  | .hbm, ⟨14, _⟩ => ⟨S8192x2x1408, .bf16⟩
  | .hbm, ⟨15, _⟩ => ⟨S8192x2816, .bf16⟩
  | .hbm, ⟨16, _⟩ => ⟨S8192x2816, .f32⟩
  | .hbm, ⟨17, _⟩ => ⟨S8192x2x1x1408, .bf16⟩
  | .hbm, ⟨18, _⟩ => ⟨S8192x2x1408, .bf16⟩
  | .hbm, ⟨19, _⟩ => ⟨S8192x2816, .bf16⟩
  | .hbm, ⟨20, _⟩ => ⟨S8192x2816, .f32⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2816x1024, .f32⟩
  | .hbm, ⟨3, _⟩ => ⟨S8192x1024, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x1024, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩

abbrev nD : Nat := 1
abbrev τ : Topo := Topo.v7x

variable {F : FTy → Type} [FloatOps F]
-- ==== Kernel4.lean ====
abbrev S8192x1024 : Shape := ⟨2, ![8192, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S4x1x1024x1408 : Shape := ⟨4, ![4, 1, 1024, 1408]⟩
abbrev S8192x5632 : Shape := ⟨2, ![8192, 5632]⟩
abbrev S8192x2816 : Shape := ⟨2, ![8192, 2816]⟩
abbrev S512x1024 : Shape := ⟨2, ![512, 1024]⟩
abbrev S1x1x1024x1408 : Shape := ⟨4, ![1, 1, 1024, 1408]⟩
abbrev S512x2816 : Shape := ⟨2, ![512, 2816]⟩
abbrev S512x1408 : Shape := ⟨2, ![512, 1408]⟩
abbrev S1024x1408 : Shape := ⟨2, ![1024, 1408]⟩
abbrev S8192x2x2x1408 : Shape := ⟨4, ![8192, 2, 2, 1408]⟩
abbrev S8192x2x1x1408 : Shape := ⟨4, ![8192, 2, 1, 1408]⟩
abbrev S8192x2x1408 : Shape := ⟨3, ![8192, 2, 1408]⟩

abbrev nBuf : Space → Nat
  | .hbm => 19
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S1024x4x1408, .f32⟩
  | .hbm, ⟨3, _⟩ => ⟨S4x1024x1408, .f32⟩
  | .hbm, ⟨4, _⟩ => ⟨S4x1x1024x1408, .f32⟩
  | .hbm, ⟨5, _⟩ => ⟨S4x1x1024x1408, .bf16⟩
  | .hbm, ⟨6, _⟩ => ⟨S8192x1024, .bf16⟩
  | .hbm, ⟨7, _⟩ => ⟨S8192x5632, .bf16⟩
  | .hbm, ⟨8, _⟩ => ⟨S8192x2816, .bf16⟩
  | .hbm, ⟨9, _⟩ => ⟨S8192x2x2x1408, .bf16⟩
  | .hbm, ⟨10, _⟩ => ⟨S8192x2x1x1408, .bf16⟩
  | .hbm, ⟨11, _⟩ => ⟨S8192x2x1408, .bf16⟩
  | .hbm, ⟨12, _⟩ => ⟨S8192x2816, .bf16⟩
  | .hbm, ⟨13, _⟩ => ⟨S8192x2816, .f32⟩
  | .hbm, ⟨14, _⟩ => ⟨S8192x2x1x1408, .bf16⟩
  | .hbm, ⟨15, _⟩ => ⟨S8192x2x1408, .bf16⟩
  | .hbm, ⟨16, _⟩ => ⟨S8192x2816, .bf16⟩
  | .hbm, ⟨17, _⟩ => ⟨S8192x2816, .f32⟩
  | .hbm, ⟨18, _⟩ => ⟨S8192x2816, .f32⟩
  | .local _ .vmem, ⟨0, _⟩ => ⟨S512x1024, .bf16⟩
  | .local _ .vmem, ⟨1, _⟩ => ⟨S512x1024, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1x1x1024x1408, .bf16⟩
  | .local _ .vmem, ⟨5, _⟩ => ⟨S1x1x1024x1408, .bf16⟩
  | .local _ .vmem, ⟨6, _⟩ => ⟨S512x2816, .bf16⟩
  | .local _ .vmem, ⟨7, _⟩ => ⟨S512x2816, .bf16⟩
  | .local _ .vmem, ⟨8, _⟩ => ⟨S512x1408, .bf16⟩
  | .local _ .vmem, ⟨9, _⟩ => ⟨S512x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1408_i32 : BitVec 32 := 1408#32
  let v0 : BitVec 32 := Scalar.muli arg0 c1408_i32
  let c0_i32 : BitVec 32 := 0#32
  let v1 : BitVec 32 := Scalar.addi c0_i32 v0
  let c1408_i32_0 : BitVec 32 := 1408#32
  let v2 : BitVec 32 := Scalar.divsi v1 c1408_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c1408_i32_0 c0_i32_3
  let v9 : BitVec 32 := Scalar.extui v8
  let c0_i32_4 : BitVec 32 := 0#32
  let v10 : BitVec 1 := Scalar.cmpi .slt c1408_i32_0 c0_i32_4
  let v11 : BitVec 32 := Scalar.extui v10
  let v12 : BitVec 32 := Scalar.subi v9 v11
  let v13 : BitVec 1 := Scalar.cmpi .ne v7 v12
  let v14 : BitVec 32 := Scalar.remsi v1 c1408_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c1408_i32_6 : BitVec 32 := 1408#32
  let v19 : BitVec 32 := Scalar.muli arg0 c1408_i32_6
  let c0_i32_7 : BitVec 32 := 0#32
  let v20 : BitVec 32 := Scalar.addi c0_i32_7 v19
  let c1408_i32_8 : BitVec 32 := 1408#32
  let c0_i32_9 : BitVec 32 := 0#32
  let v21 : BitVec 1 := Scalar.cmpi .eq c1408_i32_8 c0_i32_9
  let c1_i32_10 : BitVec 32 := 1#32
  let v22 : BitVec 32 := Scalar.select v21 c1_i32_10 c1408_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c1408_i32_14 : BitVec 32 := 1408#32
  let v31 : BitVec 32 := Scalar.divsi v30 c1408_i32_14
  let c0_i32_15 : BitVec 32 := 0#32
  let v32 : BitVec 1 := Scalar.cmpi .sgt v30 c0_i32_15
  let v33 : BitVec 32 := Scalar.extui v32
  let c0_i32_16 : BitVec 32 := 0#32
  let v34 : BitVec 1 := Scalar.cmpi .slt v30 c0_i32_16
  let v35 : BitVec 32 := Scalar.extui v34
  let v36 : BitVec 32 := Scalar.subi v33 v35
  let c0_i32_17 : BitVec 32 := 0#32
  let v37 : BitVec 1 := Scalar.cmpi .sgt c1408_i32_14 c0_i32_17
  let v38 : BitVec 32 := Scalar.extui v37
  let c0_i32_18 : BitVec 32 := 0#32
  let v39 : BitVec 1 := Scalar.cmpi .slt c1408_i32_14 c0_i32_18
  let v40 : BitVec 32 := Scalar.extui v39
  let v41 : BitVec 32 := Scalar.subi v38 v40
  let v42 : BitVec 1 := Scalar.cmpi .ne v36 v41
  let v43 : BitVec 32 := Scalar.remsi v30 c1408_i32_14
  let c0_i32_19 : BitVec 32 := 0#32
  let v44 : BitVec 1 := Scalar.cmpi .ne v43 c0_i32_19
  let v45 : BitVec 1 := Scalar.andi v42 v44
  let c1_i32_20 : BitVec 32 := 1#32
  let v46 : BitVec 32 := Scalar.subi v31 c1_i32_20
  let v47 : BitVec 32 := Scalar.select v45 v46 v31
  let c0_i32_21 : BitVec 32 := 0#32
  let c0_i32_22 : BitVec 32 := 0#32
  let c0_i32_23 : BitVec 32 := 0#32
  ![v18.toNat, c0_i32_21.toNat, c0_i32_22.toNat, v47.toNat]

def cc0_transform_2 (i : grid0.Coords) : Fin 4 → Nat :=
  let arg0 : BitVec 32 := BitVec.ofNat 32 (i 0).val
  let arg1 : BitVec 32 := BitVec.ofNat 32 (i 1).val
  let c1408_i32 : BitVec 32 := 1408#32
  let v0 : BitVec 32 := Scalar.muli arg0 c1408_i32
  let c2816_i32 : BitVec 32 := 2816#32
  let v1 : BitVec 32 := Scalar.addi c2816_i32 v0
  let c1408_i32_0 : BitVec 32 := 1408#32
  let v2 : BitVec 32 := Scalar.divsi v1 c1408_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c1408_i32_0 c0_i32_2
  let v9 : BitVec 32 := Scalar.extui v8
  let c0_i32_3 : BitVec 32 := 0#32
  let v10 : BitVec 1 := Scalar.cmpi .slt c1408_i32_0 c0_i32_3
  let v11 : BitVec 32 := Scalar.extui v10
  let v12 : BitVec 32 := Scalar.subi v9 v11
  let v13 : BitVec 1 := Scalar.cmpi .ne v7 v12
  let v14 : BitVec 32 := Scalar.remsi v1 c1408_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1408_i32_5 : BitVec 32 := 1408#32
  let v19 : BitVec 32 := Scalar.muli arg0 c1408_i32_5
  let c2816_i32_6 : BitVec 32 := 2816#32
  let v20 : BitVec 32 := Scalar.addi c2816_i32_6 v19
  let c1408_i32_7 : BitVec 32 := 1408#32
  let c0_i32_8 : BitVec 32 := 0#32
  let v21 : BitVec 1 := Scalar.cmpi .eq c1408_i32_7 c0_i32_8
  let c1_i32_9 : BitVec 32 := 1#32
  let v22 : BitVec 32 := Scalar.select v21 c1_i32_9 c1408_i32_7
  let v23 : BitVec 32 := Scalar.remsi v20 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c1408_i32_13 : BitVec 32 := 1408#32
  let v31 : BitVec 32 := Scalar.divsi v30 c1408_i32_13
  let c0_i32_14 : BitVec 32 := 0#32
  let v32 : BitVec 1 := Scalar.cmpi .sgt v30 c0_i32_14
  let v33 : BitVec 32 := Scalar.extui v32
  let c0_i32_15 : BitVec 32 := 0#32
  let v34 : BitVec 1 := Scalar.cmpi .slt v30 c0_i32_15
  let v35 : BitVec 32 := Scalar.extui v34
  let v36 : BitVec 32 := Scalar.subi v33 v35
  let c0_i32_16 : BitVec 32 := 0#32
  let v37 : BitVec 1 := Scalar.cmpi .sgt c1408_i32_13 c0_i32_16
  let v38 : BitVec 32 := Scalar.extui v37
  let c0_i32_17 : BitVec 32 := 0#32
  let v39 : BitVec 1 := Scalar.cmpi .slt c1408_i32_13 c0_i32_17
  let v40 : BitVec 32 := Scalar.extui v39
  let v41 : BitVec 32 := Scalar.subi v38 v40
  let v42 : BitVec 1 := Scalar.cmpi .ne v36 v41
  let v43 : BitVec 32 := Scalar.remsi v30 c1408_i32_13
  let c0_i32_18 : BitVec 32 := 0#32
  let v44 : BitVec 1 := Scalar.cmpi .ne v43 c0_i32_18
  let v45 : BitVec 1 := Scalar.andi v42 v44
  let c1_i32_19 : BitVec 32 := 1#32
  let v46 : BitVec 32 := Scalar.subi v31 c1_i32_19
  let v47 : BitVec 32 := Scalar.select v45 v46 v31
  let c0_i32_20 : BitVec 32 := 0#32
  let c0_i32_21 : BitVec 32 := 0#32
  let c0_i32_22 : BitVec 32 := 0#32
  ![v18.toNat, c0_i32_20.toNat, c0_i32_21.toNat, v47.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩
abbrev main_v4 : Ref sig .tc := ⟨.hbm, 14, rfl⟩

abbrev nD : Nat := 1
abbrev τ : Topo := Topo.v7x

variable {F : FTy → Type} [FloatOps F]
-- ==== Kernel5.lean ====
abbrev S8192x1024 : Shape := ⟨2, ![8192, 1024]⟩
abbrev S8192x2816 : Shape := ⟨2, ![8192, 2816]⟩
abbrev S8192x2x1x1408 : Shape := ⟨4, ![8192, 2, 1, 1408]⟩
abbrev S8192x2x2x1408 : Shape := ⟨4, ![8192, 2, 2, 1408]⟩
abbrev S8192x5632 : Shape := ⟨2, ![8192, 5632]⟩
abbrev S4x1024x1408 : Shape := ⟨3, ![4, 1024, 1408]⟩
abbrev S1024x1024 : Shape := ⟨2, ![1024, 1024]⟩
abbrev S1024x1408 : Shape := ⟨2, ![1024, 1408]⟩
abbrev S1x1024x1408 : Shape := ⟨3, ![1, 1024, 1408]⟩
abbrev S1024x4x1408 : Shape := ⟨3, ![1024, 4, 1408]⟩
abbrev S1024x5632 : Shape := ⟨2, ![1024, 5632]⟩

abbrev nBuf : Space → Nat
  | .hbm => 13
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x2816, .f32⟩
  | .hbm, ⟨3, _⟩ => ⟨S8192x1024, .bf16⟩
  | .hbm, ⟨4, _⟩ => ⟨S8192x2x1x1408, .f32⟩
  | .hbm, ⟨5, _⟩ => ⟨S8192x2x1x1408, .f32⟩
  | .hbm, ⟨6, _⟩ => ⟨S8192x2x2x1408, .f32⟩
  | .hbm, ⟨7, _⟩ => ⟨S8192x5632, .f32⟩
  | .hbm, ⟨8, _⟩ => ⟨S8192x5632, .bf16⟩
  | .hbm, ⟨9, _⟩ => ⟨S4x1024x1408, .bf16⟩
  | .hbm, ⟨10, _⟩ => ⟨S1024x4x1408, .bf16⟩
  | .hbm, ⟨11, _⟩ => ⟨S1024x5632, .bf16⟩
  | .hbm, ⟨12, _⟩ => ⟨S1024x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.muli v9 c2_i32_3
  let c2_i32_4 : BitVec 32 := 2#32
  let v11 : BitVec 32 := Scalar.divsi arg1 c2_i32_4
  let c0_i32_5 : BitVec 32 := 0#32
  let v12 : BitVec 1 := Scalar.cmpi .sgt arg1 c0_i32_5
  let v13 : BitVec 32 := Scalar.extui v12
  let c0_i32_6 : BitVec 32 := 0#32
  let v14 : BitVec 1 := Scalar.cmpi .slt arg1 c0_i32_6
  let v15 : BitVec 32 := Scalar.extui v14
  let v16 : BitVec 32 := Scalar.subi v13 v15
  let c0_i32_7 : BitVec 32 := 0#32
  let v17 : BitVec 1 := Scalar.cmpi .sgt c2_i32_4 c0_i32_7
  let v18 : BitVec 32 := Scalar.extui v17
  let c0_i32_8 : BitVec 32 := 0#32
  let v19 : BitVec 1 := Scalar.cmpi .slt c2_i32_4 c0_i32_8
  let v20 : BitVec 32 := Scalar.extui v19
  let v21 : BitVec 32 := Scalar.subi v18 v20
  let v22 : BitVec 1 := Scalar.cmpi .ne v16 v21
  let v23 : BitVec 32 := Scalar.remsi arg1 c2_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let v28 : BitVec 32 := Scalar.addi v10 v27
  let c1408_i32 : BitVec 32 := 1408#32
  let v29 : BitVec 32 := Scalar.muli v28 c1408_i32
  let c1408_i32_11 : BitVec 32 := 1408#32
  let v30 : BitVec 32 := Scalar.divsi v29 c1408_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c0_i32_14 : BitVec 32 := 0#32
  let v36 : BitVec 1 := Scalar.cmpi .sgt c1408_i32_11 c0_i32_14
  let v37 : BitVec 32 := Scalar.extui v36
  let c0_i32_15 : BitVec 32 := 0#32
  let v38 : BitVec 1 := Scalar.cmpi .slt c1408_i32_11 c0_i32_15
  let v39 : BitVec 32 := Scalar.extui v38
  let v40 : BitVec 32 := Scalar.subi v37 v39
  let v41 : BitVec 1 := Scalar.cmpi .ne v35 v40
  let v42 : BitVec 32 := Scalar.remsi v29 c1408_i32_11
  let c0_i32_16 : BitVec 32 := 0#32
  let v43 : BitVec 1 := Scalar.cmpi .ne v42 c0_i32_16
  let v44 : BitVec 1 := Scalar.andi v41 v43
  let c1_i32_17 : BitVec 32 := 1#32
  let v45 : BitVec 32 := Scalar.subi v30 c1_i32_17
  let v46 : BitVec 32 := Scalar.select v44 v45 v30
  let c2_i32_18 : BitVec 32 := 2#32
  let c0_i32_19 : BitVec 32 := 0#32
  let v47 : BitVec 1 := Scalar.cmpi .eq c2_i32_18 c0_i32_19
  let c1_i32_20 : BitVec 32 := 1#32
  let v48 : BitVec 32 := Scalar.select v47 c1_i32_20 c2_i32_18
  let v49 : BitVec 32 := Scalar.remsi arg1 v48
  let c0_i32_21 : BitVec 32 := 0#32
  let v50 : BitVec 1 := Scalar.cmpi .ne v49 c0_i32_21
  let c0_i32_22 : BitVec 32 := 0#32
  let v51 : BitVec 1 := Scalar.cmpi .slt v49 c0_i32_22
  let c0_i32_23 : BitVec 32 := 0#32
  let v52 : BitVec 1 := Scalar.cmpi .slt v48 c0_i32_23
  let v53 : BitVec 1 := Scalar.xori v51 v52
  let v54 : BitVec 1 := Scalar.andi v53 v50
  let v55 : BitVec 32 := Scalar.addi v49 v48
  let v56 : BitVec 32 := Scalar.select v54 v55 v49
  let c2_i32_24 : BitVec 32 := 2#32
  let v57 : BitVec 32 := Scalar.muli v56 c2_i32_24
  let c2_i32_25 : BitVec 32 := 2#32
  let v58 : BitVec 32 := Scalar.divsi arg1 c2_i32_25
  let c0_i32_26 : BitVec 32 := 0#32
  let v59 : BitVec 1 := Scalar.cmpi .sgt arg1 c0_i32_26
  let v60 : BitVec 32 := Scalar.extui v59
  let c0_i32_27 : BitVec 32 := 0#32
  let v61 : BitVec 1 := Scalar.cmpi .slt arg1 c0_i32_27
  let v62 : BitVec 32 := Scalar.extui v61
  let v63 : BitVec 32 := Scalar.subi v60 v62
  let c0_i32_28 : BitVec 32 := 0#32
  let v64 : BitVec 1 := Scalar.cmpi .sgt c2_i32_25 c0_i32_28
  let v65 : BitVec 32 := Scalar.extui v64
  let c0_i32_29 : BitVec 32 := 0#32
  let v66 : BitVec 1 := Scalar.cmpi .slt c2_i32_25 c0_i32_29
  let v67 : BitVec 32 := Scalar.extui v66
  let v68 : BitVec 32 := Scalar.subi v65 v67
  let v69 : BitVec 1 := Scalar.cmpi .ne v63 v68
  let v70 : BitVec 32 := Scalar.remsi arg1 c2_i32_25
  let c0_i32_30 : BitVec 32 := 0#32
  let v71 : BitVec 1 := Scalar.cmpi .ne v70 c0_i32_30
  let v72 : BitVec 1 := Scalar.andi v69 v71
  let c1_i32_31 : BitVec 32 := 1#32
  let v73 : BitVec 32 := Scalar.subi v58 c1_i32_31
  let v74 : BitVec 32 := Scalar.select v72 v73 v58
  let v75 : BitVec 32 := Scalar.addi v57 v74
  let c1408_i32_32 : BitVec 32 := 1408#32
  let v76 : BitVec 32 := Scalar.muli v75 c1408_i32_32
  let c1408_i32_33 : BitVec 32 := 1408#32
  let c0_i32_34 : BitVec 32 := 0#32
  let v77 : BitVec 1 := Scalar.cmpi .eq c1408_i32_33 c0_i32_34
  let c1_i32_35 : BitVec 32 := 1#32
  let v78 : BitVec 32 := Scalar.select v77 c1_i32_35 c1408_i32_33
  let v79 : BitVec 32 := Scalar.remsi v76 v78
  let c0_i32_36 : BitVec 32 := 0#32
  let v80 : BitVec 1 := Scalar.cmpi .ne v79 c0_i32_36
  let c0_i32_37 : BitVec 32 := 0#32
  let v81 : BitVec 1 := Scalar.cmpi .slt v79 c0_i32_37
  let c0_i32_38 : BitVec 32 := 0#32
  let v82 : BitVec 1 := Scalar.cmpi .slt v78 c0_i32_38
  let v83 : BitVec 1 := Scalar.xori v81 v82
  let v84 : BitVec 1 := Scalar.andi v83 v80
  let v85 : BitVec 32 := Scalar.addi v79 v78
  let v86 : BitVec 32 := Scalar.select v84 v85 v79
  let c1408_i32_39 : BitVec 32 := 1408#32
  let v87 : BitVec 32 := Scalar.divsi v86 c1408_i32_39
  let c0_i32_40 : BitVec 32 := 0#32
  let v88 : BitVec 1 := Scalar.cmpi .sgt v86 c0_i32_40
  let v89 : BitVec 32 := Scalar.extui v88
  let c0_i32_41 : BitVec 32 := 0#32
  let v90 : BitVec 1 := Scalar.cmpi .slt v86 c0_i32_41
  let v91 : BitVec 32 := Scalar.extui v90
  let v92 : BitVec 32 := Scalar.subi v89 v91
  let c0_i32_42 : BitVec 32 := 0#32
  let v93 : BitVec 1 := Scalar.cmpi .sgt c1408_i32_39 c0_i32_42
  let v94 : BitVec 32 := Scalar.extui v93
  let c0_i32_43 : BitVec 32 := 0#32
  let v95 : BitVec 1 := Scalar.cmpi .slt c1408_i32_39 c0_i32_43
  let v96 : BitVec 32 := Scalar.extui v95
  let v97 : BitVec 32 := Scalar.subi v94 v96
  let v98 : BitVec 1 := Scalar.cmpi .ne v92 v97
  let v99 : BitVec 32 := Scalar.remsi v86 c1408_i32_39
  let c0_i32_44 : BitVec 32 := 0#32
  let v100 : BitVec 1 := Scalar.cmpi .ne v99 c0_i32_44
  let v101 : BitVec 1 := Scalar.andi v98 v100
  let c1_i32_45 : BitVec 32 := 1#32
  let v102 : BitVec 32 := Scalar.subi v87 c1_i32_45
  let v103 : BitVec 32 := Scalar.select v101 v102 v87
  let c0_i32_46 : BitVec 32 := 0#32
  ![v46.toNat, arg0.toNat, v103.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S8192x2816 : Shape := ⟨2, ![8192, 2816]⟩
abbrev S1024x8192 : Shape := ⟨2, ![1024, 8192]⟩
abbrev S8192x5632 : Shape := ⟨2, ![8192, 5632]⟩
abbrev S1024x5632 : Shape := ⟨2, ![1024, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x2816, .f32⟩
  | .hbm, ⟨3, _⟩ => ⟨S1024x8192, .f32⟩
  | .hbm, ⟨4, _⟩ => ⟨S8192x5632, .f32⟩
  | .hbm, ⟨5, _⟩ => ⟨S1024x5632, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel6.lean ====
abbrev S8192x2816 : Shape := ⟨2, ![8192, 2816]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S4x1x1024x1408 : Shape := ⟨4, ![4, 1, 1024, 1408]⟩
abbrev S8192x2x1x1408 : Shape := ⟨4, ![8192, 2, 1, 1408]⟩
abbrev S8192x2x2x1408 : Shape := ⟨4, ![8192, 2, 2, 1408]⟩
abbrev S8192x5632 : Shape := ⟨2, ![8192, 5632]⟩
abbrev S8192x1024 : Shape := ⟨2, ![8192, 1024]⟩
abbrev S1024x1408 : Shape := ⟨2, ![1024, 1408]⟩
abbrev S1x1x1024x1408 : Shape := ⟨4, ![1, 1, 1024, 1408]⟩
abbrev S1024x1024 : Shape := ⟨2, ![1024, 1024]⟩

abbrev nBuf : Space → Nat
  | .hbm => 13
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S1024x5632, .f32⟩
  | .hbm, ⟨3, _⟩ => ⟨S1024x4x1408, .f32⟩
  | .hbm, ⟨4, _⟩ => ⟨S4x1024x1408, .f32⟩
  | .hbm, ⟨5, _⟩ => ⟨S4x1x1024x1408, .f32⟩
  | .hbm, ⟨6, _⟩ => ⟨S4x1x1024x1408, .bf16⟩
  | .hbm, ⟨7, _⟩ => ⟨S8192x2x1x1408, .f32⟩
  | .hbm, ⟨8, _⟩ => ⟨S8192x2x1x1408, .f32⟩
  | .hbm, ⟨9, _⟩ => ⟨S8192x2x2x1408, .f32⟩
  | .hbm, ⟨10, _⟩ => ⟨S8192x5632, .f32⟩
  | .hbm, ⟨11, _⟩ => ⟨S8192x5632, .bf16⟩
  | .hbm, ⟨12, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1x1x1024x1408, .bf16⟩
  | .local _ .vmem, ⟨3, _⟩ => ⟨S1x1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg2 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.muli v9 c2_i32_3
  let c2_i32_4 : BitVec 32 := 2#32
  let v11 : BitVec 32 := Scalar.divsi arg2 c2_i32_4
  let c0_i32_5 : BitVec 32 := 0#32
  let v12 : BitVec 1 := Scalar.cmpi .sgt arg2 c0_i32_5
  let v13 : BitVec 32 := Scalar.extui v12
  let c0_i32_6 : BitVec 32 := 0#32
  let v14 : BitVec 1 := Scalar.cmpi .slt arg2 c0_i32_6
  let v15 : BitVec 32 := Scalar.extui v14
  let v16 : BitVec 32 := Scalar.subi v13 v15
  let c0_i32_7 : BitVec 32 := 0#32
  let v17 : BitVec 1 := Scalar.cmpi .sgt c2_i32_4 c0_i32_7
  let v18 : BitVec 32 := Scalar.extui v17
  let c0_i32_8 : BitVec 32 := 0#32
  let v19 : BitVec 1 := Scalar.cmpi .slt c2_i32_4 c0_i32_8
  let v20 : BitVec 32 := Scalar.extui v19
  let v21 : BitVec 32 := Scalar.subi v18 v20
  let v22 : BitVec 1 := Scalar.cmpi .ne v16 v21
  let v23 : BitVec 32 := Scalar.remsi arg2 c2_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let v28 : BitVec 32 := Scalar.addi v10 v27
  let c1408_i32 : BitVec 32 := 1408#32
  let v29 : BitVec 32 := Scalar.muli v28 c1408_i32
  let c1408_i32_11 : BitVec 32 := 1408#32
  let v30 : BitVec 32 := Scalar.divsi v29 c1408_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c0_i32_14 : BitVec 32 := 0#32
  let v36 : BitVec 1 := Scalar.cmpi .sgt c1408_i32_11 c0_i32_14
  let v37 : BitVec 32 := Scalar.extui v36
  let c0_i32_15 : BitVec 32 := 0#32
  let v38 : BitVec 1 := Scalar.cmpi .slt c1408_i32_11 c0_i32_15
  let v39 : BitVec 32 := Scalar.extui v38
  let v40 : BitVec 32 := Scalar.subi v37 v39
  let v41 : BitVec 1 := Scalar.cmpi .ne v35 v40
  let v42 : BitVec 32 := Scalar.remsi v29 c1408_i32_11
  let c0_i32_16 : BitVec 32 := 0#32
  let v43 : BitVec 1 := Scalar.cmpi .ne v42 c0_i32_16
  let v44 : BitVec 1 := Scalar.andi v41 v43
  let c1_i32_17 : BitVec 32 := 1#32
  let v45 : BitVec 32 := Scalar.subi v30 c1_i32_17
  let v46 : BitVec 32 := Scalar.select v44 v45 v30
  let c2_i32_18 : BitVec 32 := 2#32
  let c0_i32_19 : BitVec 32 := 0#32
  let v47 : BitVec 1 := Scalar.cmpi .eq c2_i32_18 c0_i32_19
  let c1_i32_20 : BitVec 32 := 1#32
  let v48 : BitVec 32 := Scalar.select v47 c1_i32_20 c2_i32_18
  let v49 : BitVec 32 := Scalar.remsi arg2 v48
  let c0_i32_21 : BitVec 32 := 0#32
  let v50 : BitVec 1 := Scalar.cmpi .ne v49 c0_i32_21
  let c0_i32_22 : BitVec 32 := 0#32
  let v51 : BitVec 1 := Scalar.cmpi .slt v49 c0_i32_22
  let c0_i32_23 : BitVec 32 := 0#32
  let v52 : BitVec 1 := Scalar.cmpi .slt v48 c0_i32_23
  let v53 : BitVec 1 := Scalar.xori v51 v52
  let v54 : BitVec 1 := Scalar.andi v53 v50
  let v55 : BitVec 32 := Scalar.addi v49 v48
  let v56 : BitVec 32 := Scalar.select v54 v55 v49
  let c2_i32_24 : BitVec 32 := 2#32
  let v57 : BitVec 32 := Scalar.muli v56 c2_i32_24
  let c2_i32_25 : BitVec 32 := 2#32
  let v58 : BitVec 32 := Scalar.divsi arg2 c2_i32_25
  let c0_i32_26 : BitVec 32 := 0#32
  let v59 : BitVec 1 := Scalar.cmpi .sgt arg2 c0_i32_26
  let v60 : BitVec 32 := Scalar.extui v59
  let c0_i32_27 : BitVec 32 := 0#32
  let v61 : BitVec 1 := Scalar.cmpi .slt arg2 c0_i32_27
  let v62 : BitVec 32 := Scalar.extui v61
  let v63 : BitVec 32 := Scalar.subi v60 v62
  let c0_i32_28 : BitVec 32 := 0#32
  let v64 : BitVec 1 := Scalar.cmpi .sgt c2_i32_25 c0_i32_28
  let v65 : BitVec 32 := Scalar.extui v64
  let c0_i32_29 : BitVec 32 := 0#32
  let v66 : BitVec 1 := Scalar.cmpi .slt c2_i32_25 c0_i32_29
  let v67 : BitVec 32 := Scalar.extui v66
  let v68 : BitVec 32 := Scalar.subi v65 v67
  let v69 : BitVec 1 := Scalar.cmpi .ne v63 v68
  let v70 : BitVec 32 := Scalar.remsi arg2 c2_i32_25
  let c0_i32_30 : BitVec 32 := 0#32
  let v71 : BitVec 1 := Scalar.cmpi .ne v70 c0_i32_30
  let v72 : BitVec 1 := Scalar.andi v69 v71
  let c1_i32_31 : BitVec 32 := 1#32
  let v73 : BitVec 32 := Scalar.subi v58 c1_i32_31
  let v74 : BitVec 32 := Scalar.select v72 v73 v58
  let v75 : BitVec 32 := Scalar.addi v57 v74
  let c1408_i32_32 : BitVec 32 := 1408#32
  let v76 : BitVec 32 := Scalar.muli v75 c1408_i32_32
  let c1408_i32_33 : BitVec 32 := 1408#32
  let c0_i32_34 : BitVec 32 := 0#32
  let v77 : BitVec 1 := Scalar.cmpi .eq c1408_i32_33 c0_i32_34
  let c1_i32_35 : BitVec 32 := 1#32
  let v78 : BitVec 32 := Scalar.select v77 c1_i32_35 c1408_i32_33
  let v79 : BitVec 32 := Scalar.remsi v76 v78
  let c0_i32_36 : BitVec 32 := 0#32
  let v80 : BitVec 1 := Scalar.cmpi .ne v79 c0_i32_36
  let c0_i32_37 : BitVec 32 := 0#32
  let v81 : BitVec 1 := Scalar.cmpi .slt v79 c0_i32_37
  let c0_i32_38 : BitVec 32 := 0#32
  let v82 : BitVec 1 := Scalar.cmpi .slt v78 c0_i32_38
  let v83 : BitVec 1 := Scalar.xori v81 v82
  let v84 : BitVec 1 := Scalar.andi v83 v80
  let v85 : BitVec 32 := Scalar.addi v79 v78
  let v86 : BitVec 32 := Scalar.select v84 v85 v79
  let c1408_i32_39 : BitVec 32 := 1408#32
  let v87 : BitVec 32 := Scalar.divsi v86 c1408_i32_39
  let c0_i32_40 : BitVec 32 := 0#32
  let v88 : BitVec 1 := Scalar.cmpi .sgt v86 c0_i32_40
  let v89 : BitVec 32 := Scalar.extui v88
  let c0_i32_41 : BitVec 32 := 0#32
  let v90 : BitVec 1 := Scalar.cmpi .slt v86 c0_i32_41
  let v91 : BitVec 32 := Scalar.extui v90
  let v92 : BitVec 32 := Scalar.subi v89 v91
  let c0_i32_42 : BitVec 32 := 0#32
  let v93 : BitVec 1 := Scalar.cmpi .sgt c1408_i32_39 c0_i32_42
  let v94 : BitVec 32 := Scalar.extui v93
  let c0_i32_43 : BitVec 32 := 0#32
  let v95 : BitVec 1 := Scalar.cmpi .slt c1408_i32_39 c0_i32_43
  let v96 : BitVec 32 := Scalar.extui v95
  let v97 : BitVec 32 := Scalar.subi v94 v96
  let v98 : BitVec 1 := Scalar.cmpi .ne v92 v97
  let v99 : BitVec 32 := Scalar.remsi v86 c1408_i32_39
  let c0_i32_44 : BitVec 32 := 0#32
  let v100 : BitVec 1 := Scalar.cmpi .ne v99 c0_i32_44
  let v101 : BitVec 1 := Scalar.andi v98 v100
  let c1_i32_45 : BitVec 32 := 1#32
  let v102 : BitVec 32 := Scalar.subi v87 c1_i32_45
  let v103 : BitVec 32 := Scalar.select v101 v102 v87
  let c0_i32_46 : BitVec 32 := 0#32
  let c0_i32_47 : BitVec 32 := 0#32
  ![v46.toNat, c0_i32_46.toNat, arg1.toNat, v103.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2816 : Shape := ⟨2, ![8192, 2816]⟩
abbrev S1024x5632 : Shape := ⟨2, ![1024, 5632]⟩
abbrev S8192x5632 : Shape := ⟨2, ![8192, 5632]⟩
abbrev S5632x1024 : Shape := ⟨2, ![5632, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S1024x5632, .f32⟩
  | .hbm, ⟨3, _⟩ => ⟨S8192x5632, .f32⟩
  | .hbm, ⟨4, _⟩ => ⟨S5632x1024, .f32⟩
  | .hbm, ⟨5, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S2816x1024, .bf16⟩
  | .hbm, ⟨5, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2816 : Shape := ⟨2, ![8192, 2816]⟩
abbrev S8192x1024 : Shape := ⟨2, ![8192, 1024]⟩
abbrev S2816x8192 : Shape := ⟨2, ![2816, 8192]⟩
abbrev S2816x1024 : Shape := ⟨2, ![2816, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S2816x8192, .f32⟩
  | .hbm, ⟨3, _⟩ => ⟨S2816x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel8.lean ====
abbrev S8192x2816 : Shape := ⟨2, ![8192, 2816]⟩
abbrev S2816x1024 : Shape := ⟨2, ![2816, 1024]⟩
abbrev S8192x1024 : Shape := ⟨2, ![8192, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x2816, .bf16⟩
  | .hbm, ⟨4, _⟩ => ⟨S2816x1024, .bf16⟩
  | .hbm, ⟨5, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .bf16⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .f32⟩
  | .hbm, ⟨3, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .bf16⟩
  | .hbm, ⟨5, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S1024x8192 : Shape := ⟨2, ![1024, 8192]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x8192, .f32⟩
  | .hbm, ⟨3, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel11.lean ====
abbrev S8192x1024 : Shape := ⟨2, ![8192, 1024]⟩
abbrev S8192x4x256 : Shape := ⟨3, ![8192, 4, 256]⟩
abbrev S8192x4x1x256 : Shape := ⟨4, ![8192, 4, 1, 256]⟩
abbrev S8192x4x3x256 : Shape := ⟨4, ![8192, 4, 3, 256]⟩
abbrev S8192x3072 : Shape := ⟨2, ![8192, 3072]⟩
abbrev S4x1024x768 : Shape := ⟨3, ![4, 1024, 768]⟩
abbrev S4096x1024 : Shape := ⟨2, ![4096, 1024]⟩
abbrev S4096x256 : Shape := ⟨2, ![4096, 256]⟩
abbrev S1x1024x256 : Shape := ⟨3, ![1, 1024, 256]⟩
abbrev S1024x256 : Shape := ⟨2, ![1024, 256]⟩
abbrev S1024x4x768 : Shape := ⟨3, ![1024, 4, 768]⟩
abbrev S1024x3072 : Shape := ⟨2, ![1024, 3072]⟩

abbrev nBuf : Space → Nat
  | .hbm => 18
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x4x256, .f32⟩
  | .hbm, ⟨5, _⟩ => ⟨S8192x4x256, .f32⟩
  | .hbm, ⟨6, _⟩ => ⟨S8192x4x256, .f32⟩
  | .hbm, ⟨7, _⟩ => ⟨S8192x4x1x256, .f32⟩
  | .hbm, ⟨8, _⟩ => ⟨S8192x4x1x256, .f32⟩
  | .hbm, ⟨9, _⟩ => ⟨S8192x4x1x256, .f32⟩
  | .hbm, ⟨10, _⟩ => ⟨S8192x4x3x256, .f32⟩
  | .hbm, ⟨11, _⟩ => ⟨S8192x3072, .f32⟩
  | .hbm, ⟨12, _⟩ => ⟨S8192x3072, .bf16⟩
  | .hbm, ⟨13, _⟩ => ⟨S8192x1024, .bf16⟩
  | .hbm, ⟨14, _⟩ => ⟨S4x1024x768, .bf16⟩
  | .hbm, ⟨15, _⟩ => ⟨S1024x4x768, .bf16⟩
  | .hbm, ⟨16, _⟩ => ⟨S1024x3072, .bf16⟩
  | .hbm, ⟨17, _⟩ => ⟨S1024x3072, .f32⟩
  | .local _ .vmem, ⟨0, _⟩ => ⟨S4096x1024, .bf16⟩
  | .local _ .vmem, ⟨1, _⟩ => ⟨S4096x1024, .bf16⟩
  | .local _ .vmem, ⟨2, _⟩ => ⟨S4096x256, .bf16⟩
  | .local _ .vmem, ⟨3, _⟩ => ⟨S4096x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1024x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 12, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c3_i32_3 : BitVec 32 := 3#32
  let v11 : BitVec 32 := Scalar.divsi arg1 c3_i32_3
  let c0_i32_4 : BitVec 32 := 0#32
  let v12 : BitVec 1 := Scalar.cmpi .sgt arg1 c0_i32_4
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c0_i32_6 : BitVec 32 := 0#32
  let v17 : BitVec 1 := Scalar.cmpi .sgt c3_i32_3 c0_i32_6
  let v18 : BitVec 32 := Scalar.extui v17
  let c0_i32_7 : BitVec 32 := 0#32
  let v19 : BitVec 1 := Scalar.cmpi .slt c3_i32_3 c0_i32_7
  let v20 : BitVec 32 := Scalar.extui v19
  let v21 : BitVec 32 := Scalar.subi v18 v20
  let v22 : BitVec 1 := Scalar.cmpi .ne v16 v21
  let v23 : BitVec 32 := Scalar.remsi arg1 c3_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c256_i32 : BitVec 32 := 256#32
  let v29 : BitVec 32 := Scalar.muli v28 c256_i32
  let c768_i32 : BitVec 32 := 768#32
  let v30 : BitVec 32 := Scalar.divsi v29 c768_i32
  let c0_i32_10 : BitVec 32 := 0#32
  let v31 : BitVec 1 := Scalar.cmpi .sgt v29 c0_i32_10
  let v32 : BitVec 32 := Scalar.extui v31
  let c0_i32_11 : BitVec 32 := 0#32
  let v33 : BitVec 1 := Scalar.cmpi .slt v29 c0_i32_11
  let v34 : BitVec 32 := Scalar.extui v33
  let v35 : BitVec 32 := Scalar.subi v32 v34
  let c0_i32_12 : BitVec 32 := 0#32
  let v36 : BitVec 1 := Scalar.cmpi .sgt c768_i32 c0_i32_12
  let v37 : BitVec 32 := Scalar.extui v36
  let c0_i32_13 : BitVec 32 := 0#32
  let v38 : BitVec 1 := Scalar.cmpi .slt c768_i32 c0_i32_13
  let v39 : BitVec 32 := Scalar.extui v38
  let v40 : BitVec 32 := Scalar.subi v37 v39
  let v41 : BitVec 1 := Scalar.cmpi .ne v35 v40
  let v42 : BitVec 32 := Scalar.remsi v29 c768_i32
  let c0_i32_14 : BitVec 32 := 0#32
  let v43 : BitVec 1 := Scalar.cmpi .ne v42 c0_i32_14
  let v44 : BitVec 1 := Scalar.andi v41 v43
  let c1_i32_15 : BitVec 32 := 1#32
  let v45 : BitVec 32 := Scalar.subi v30 c1_i32_15
  let v46 : BitVec 32 := Scalar.select v44 v45 v30
  let c3_i32_16 : BitVec 32 := 3#32
  let c0_i32_17 : BitVec 32 := 0#32
  let v47 : BitVec 1 := Scalar.cmpi .eq c3_i32_16 c0_i32_17
  let c1_i32_18 : BitVec 32 := 1#32
  let v48 : BitVec 32 := Scalar.select v47 c1_i32_18 c3_i32_16
  let v49 : BitVec 32 := Scalar.remsi arg1 v48
  let c0_i32_19 : BitVec 32 := 0#32
  let v50 : BitVec 1 := Scalar.cmpi .ne v49 c0_i32_19
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let v54 : BitVec 1 := Scalar.andi v53 v50
  let v55 : BitVec 32 := Scalar.addi v49 v48
  let v56 : BitVec 32 := Scalar.select v54 v55 v49
  let c4_i32_22 : BitVec 32 := 4#32
  let v57 : BitVec 32 := Scalar.muli v56 c4_i32_22
  let c3_i32_23 : BitVec 32 := 3#32
  let v58 : BitVec 32 := Scalar.divsi arg1 c3_i32_23
  let c0_i32_24 : BitVec 32 := 0#32
  let v59 : BitVec 1 := Scalar.cmpi .sgt arg1 c0_i32_24
  let v60 : BitVec 32 := Scalar.extui v59
  let c0_i32_25 : BitVec 32 := 0#32
  let v61 : BitVec 1 := Scalar.cmpi .slt arg1 c0_i32_25
  let v62 : BitVec 32 := Scalar.extui v61
  let v63 : BitVec 32 := Scalar.subi v60 v62
  let c0_i32_26 : BitVec 32 := 0#32
  let v64 : BitVec 1 := Scalar.cmpi .sgt c3_i32_23 c0_i32_26
  let v65 : BitVec 32 := Scalar.extui v64
  let c0_i32_27 : BitVec 32 := 0#32
  let v66 : BitVec 1 := Scalar.cmpi .slt c3_i32_23 c0_i32_27
  let v67 : BitVec 32 := Scalar.extui v66
  let v68 : BitVec 32 := Scalar.subi v65 v67
  let v69 : BitVec 1 := Scalar.cmpi .ne v63 v68
  let v70 : BitVec 32 := Scalar.remsi arg1 c3_i32_23
  let c0_i32_28 : BitVec 32 := 0#32
  let v71 : BitVec 1 := Scalar.cmpi .ne v70 c0_i32_28
  let v72 : BitVec 1 := Scalar.andi v69 v71
  let c1_i32_29 : BitVec 32 := 1#32
  let v73 : BitVec 32 := Scalar.subi v58 c1_i32_29
  let v74 : BitVec 32 := Scalar.select v72 v73 v58
  let v75 : BitVec 32 := Scalar.addi v57 v74
  let c256_i32_30 : BitVec 32 := 256#32
  let v76 : BitVec 32 := Scalar.muli v75 c256_i32_30
  let c768_i32_31 : BitVec 32 := 768#32
  let c0_i32_32 : BitVec 32 := 0#32
  let v77 : BitVec 1 := Scalar.cmpi .eq c768_i32_31 c0_i32_32
  let c1_i32_33 : BitVec 32 := 1#32
  let v78 : BitVec 32 := Scalar.select v77 c1_i32_33 c768_i32_31
  let v79 : BitVec 32 := Scalar.remsi v76 v78
  let c0_i32_34 : BitVec 32 := 0#32
  let v80 : BitVec 1 := Scalar.cmpi .ne v79 c0_i32_34
  let c0_i32_35 : BitVec 32 := 0#32
  let v81 : BitVec 1 := Scalar.cmpi .slt v79 c0_i32_35
  let c0_i32_36 : BitVec 32 := 0#32
  let v82 : BitVec 1 := Scalar.cmpi .slt v78 c0_i32_36
  let v83 : BitVec 1 := Scalar.xori v81 v82
  let v84 : BitVec 1 := Scalar.andi v83 v80
  let v85 : BitVec 32 := Scalar.addi v79 v78
  let v86 : BitVec 32 := Scalar.select v84 v85 v79
  let c256_i32_37 : BitVec 32 := 256#32
  let v87 : BitVec 32 := Scalar.divsi v86 c256_i32_37
  let c0_i32_38 : BitVec 32 := 0#32
  let v88 : BitVec 1 := Scalar.cmpi .sgt v86 c0_i32_38
  let v89 : BitVec 32 := Scalar.extui v88
  let c0_i32_39 : BitVec 32 := 0#32
  let v90 : BitVec 1 := Scalar.cmpi .slt v86 c0_i32_39
  let v91 : BitVec 32 := Scalar.extui v90
  let v92 : BitVec 32 := Scalar.subi v89 v91
  let c0_i32_40 : BitVec 32 := 0#32
  let v93 : BitVec 1 := Scalar.cmpi .sgt c256_i32_37 c0_i32_40
  let v94 : BitVec 32 := Scalar.extui v93
  let c0_i32_41 : BitVec 32 := 0#32
  let v95 : BitVec 1 := Scalar.cmpi .slt c256_i32_37 c0_i32_41
  let v96 : BitVec 32 := Scalar.extui v95
  let v97 : BitVec 32 := Scalar.subi v94 v96
  let v98 : BitVec 1 := Scalar.cmpi .ne v92 v97
  let v99 : BitVec 32 := Scalar.remsi v86 c256_i32_37
  let c0_i32_42 : BitVec 32 := 0#32
  let v100 : BitVec 1 := Scalar.cmpi .ne v99 c0_i32_42
  let v101 : BitVec 1 := Scalar.andi v98 v100
  let c1_i32_43 : BitVec 32 := 1#32
  let v102 : BitVec 32 := Scalar.subi v87 c1_i32_43
  let v103 : BitVec 32 := Scalar.select v101 v102 v87
  let c0_i32_44 : BitVec 32 := 0#32
  ![v46.toNat, arg0.toNat, v103.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S1024x8192 : Shape := ⟨2, ![1024, 8192]⟩
abbrev S8192x3072 : Shape := ⟨2, ![8192, 3072]⟩
abbrev S1024x3072 : Shape := ⟨2, ![1024, 3072]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S1024x8192, .f32⟩
  | .hbm, ⟨5, _⟩ => ⟨S8192x3072, .f32⟩
  | .hbm, ⟨6, _⟩ => ⟨S1024x3072, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel12.lean ====
abbrev S8192x1024 : Shape := ⟨2, ![8192, 1024]⟩
abbrev S1024x3072 : Shape := ⟨2, ![1024, 3072]⟩
abbrev S1024x4x768 : Shape := ⟨3, ![1024, 4, 768]⟩
abbrev S4x1024x768 : Shape := ⟨3, ![4, 1024, 768]⟩
abbrev S4x1x1024x768 : Shape := ⟨4, ![4, 1, 1024, 768]⟩
abbrev S8192x4x256 : Shape := ⟨3, ![8192, 4, 256]⟩
abbrev S8192x4x1x256 : Shape := ⟨4, ![8192, 4, 1, 256]⟩
abbrev S8192x4x3x256 : Shape := ⟨4, ![8192, 4, 3, 256]⟩
abbrev S8192x3072 : Shape := ⟨2, ![8192, 3072]⟩
abbrev S2048x256 : Shape := ⟨2, ![2048, 256]⟩
abbrev S1x1x1024x256 : Shape := ⟨4, ![1, 1, 1024, 256]⟩
abbrev S2048x1024 : Shape := ⟨2, ![2048, 1024]⟩
abbrev S1024x256 : Shape := ⟨2, ![1024, 256]⟩

abbrev nBuf : Space → Nat
  | .hbm => 18
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x3072, .f32⟩
  | .hbm, ⟨4, _⟩ => ⟨S1024x4x768, .f32⟩
  | .hbm, ⟨5, _⟩ => ⟨S4x1024x768, .f32⟩
  | .hbm, ⟨6, _⟩ => ⟨S4x1x1024x768, .f32⟩
  | .hbm, ⟨7, _⟩ => ⟨S4x1x1024x768, .bf16⟩
  | .hbm, ⟨8, _⟩ => ⟨S8192x4x256, .f32⟩
  | .hbm, ⟨9, _⟩ => ⟨S8192x4x256, .f32⟩
  | .hbm, ⟨10, _⟩ => ⟨S8192x4x256, .f32⟩
  | .hbm, ⟨11, _⟩ => ⟨S8192x4x1x256, .f32⟩
  | .hbm, ⟨12, _⟩ => ⟨S8192x4x1x256, .f32⟩
  | .hbm, ⟨13, _⟩ => ⟨S8192x4x1x256, .f32⟩
  | .hbm, ⟨14, _⟩ => ⟨S8192x4x3x256, .f32⟩
  | .hbm, ⟨15, _⟩ => ⟨S8192x3072, .f32⟩
  | .hbm, ⟨16, _⟩ => ⟨S8192x3072, .bf16⟩
  | .hbm, ⟨17, _⟩ => ⟨S8192x1024, .f32⟩
  | .local _ .vmem, ⟨0, _⟩ => ⟨S2048x256, .bf16⟩
  | .local _ .vmem, ⟨1, _⟩ => ⟨S2048x256, .bf16⟩
  | .local _ .vmem, ⟨2, _⟩ => ⟨S1x1x1024x256, .bf16⟩
  | .local _ .vmem, ⟨3, _⟩ => ⟨S1x1x1024x256, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 12], ![false, false, false]⟩

def k0_cond3 (i : grid0.Coords) : BitVec 1 :=
  let arg2 : BitVec 32 := BitVec.ofNat 32 (i 2).val
  let c11_i32 : BitVec 32 := 11#32
  let v11 : BitVec 1 := Scalar.cmpi .eq arg2 c11_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg2 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c3_i32_3 : BitVec 32 := 3#32
  let v11 : BitVec 32 := Scalar.divsi arg2 c3_i32_3
  let c0_i32_4 : BitVec 32 := 0#32
  let v12 : BitVec 1 := Scalar.cmpi .sgt arg2 c0_i32_4
  let v13 : BitVec 32 := Scalar.extui v12
  let c0_i32_5 : BitVec 32 := 0#32
  let v14 : BitVec 1 := Scalar.cmpi .slt arg2 c0_i32_5
  let v15 : BitVec 32 := Scalar.extui v14
  let v16 : BitVec 32 := Scalar.subi v13 v15
  let c0_i32_6 : BitVec 32 := 0#32
  let v17 : BitVec 1 := Scalar.cmpi .sgt c3_i32_3 c0_i32_6
  let v18 : BitVec 32 := Scalar.extui v17
  let c0_i32_7 : BitVec 32 := 0#32
  let v19 : BitVec 1 := Scalar.cmpi .slt c3_i32_3 c0_i32_7
  let v20 : BitVec 32 := Scalar.extui v19
  let v21 : BitVec 32 := Scalar.subi v18 v20
  let v22 : BitVec 1 := Scalar.cmpi .ne v16 v21
  let v23 : BitVec 32 := Scalar.remsi arg2 c3_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c256_i32 : BitVec 32 := 256#32
  let v29 : BitVec 32 := Scalar.muli v28 c256_i32
  let c768_i32 : BitVec 32 := 768#32
  let v30 : BitVec 32 := Scalar.divsi v29 c768_i32
  let c0_i32_10 : BitVec 32 := 0#32
  let v31 : BitVec 1 := Scalar.cmpi .sgt v29 c0_i32_10
  let v32 : BitVec 32 := Scalar.extui v31
  let c0_i32_11 : BitVec 32 := 0#32
  let v33 : BitVec 1 := Scalar.cmpi .slt v29 c0_i32_11
  let v34 : BitVec 32 := Scalar.extui v33
  let v35 : BitVec 32 := Scalar.subi v32 v34
  let c0_i32_12 : BitVec 32 := 0#32
  let v36 : BitVec 1 := Scalar.cmpi .sgt c768_i32 c0_i32_12
  let v37 : BitVec 32 := Scalar.extui v36
  let c0_i32_13 : BitVec 32 := 0#32
  let v38 : BitVec 1 := Scalar.cmpi .slt c768_i32 c0_i32_13
  let v39 : BitVec 32 := Scalar.extui v38
  let v40 : BitVec 32 := Scalar.subi v37 v39
  let v41 : BitVec 1 := Scalar.cmpi .ne v35 v40
  let v42 : BitVec 32 := Scalar.remsi v29 c768_i32
  let c0_i32_14 : BitVec 32 := 0#32
  let v43 : BitVec 1 := Scalar.cmpi .ne v42 c0_i32_14
  let v44 : BitVec 1 := Scalar.andi v41 v43
  let c1_i32_15 : BitVec 32 := 1#32
  let v45 : BitVec 32 := Scalar.subi v30 c1_i32_15
  let v46 : BitVec 32 := Scalar.select v44 v45 v30
  let c3_i32_16 : BitVec 32 := 3#32
  let c0_i32_17 : BitVec 32 := 0#32
  let v47 : BitVec 1 := Scalar.cmpi .eq c3_i32_16 c0_i32_17
  let c1_i32_18 : BitVec 32 := 1#32
  let v48 : BitVec 32 := Scalar.select v47 c1_i32_18 c3_i32_16
  let v49 : BitVec 32 := Scalar.remsi arg2 v48
  let c0_i32_19 : BitVec 32 := 0#32
  let v50 : BitVec 1 := Scalar.cmpi .ne v49 c0_i32_19
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let v54 : BitVec 1 := Scalar.andi v53 v50
  let v55 : BitVec 32 := Scalar.addi v49 v48
  let v56 : BitVec 32 := Scalar.select v54 v55 v49
  let c4_i32_22 : BitVec 32 := 4#32
  let v57 : BitVec 32 := Scalar.muli v56 c4_i32_22
  let c3_i32_23 : BitVec 32 := 3#32
  let v58 : BitVec 32 := Scalar.divsi arg2 c3_i32_23
  let c0_i32_24 : BitVec 32 := 0#32
  let v59 : BitVec 1 := Scalar.cmpi .sgt arg2 c0_i32_24
  let v60 : BitVec 32 := Scalar.extui v59
  let c0_i32_25 : BitVec 32 := 0#32
  let v61 : BitVec 1 := Scalar.cmpi .slt arg2 c0_i32_25
  let v62 : BitVec 32 := Scalar.extui v61
  let v63 : BitVec 32 := Scalar.subi v60 v62
  let c0_i32_26 : BitVec 32 := 0#32
  let v64 : BitVec 1 := Scalar.cmpi .sgt c3_i32_23 c0_i32_26
  let v65 : BitVec 32 := Scalar.extui v64
  let c0_i32_27 : BitVec 32 := 0#32
  let v66 : BitVec 1 := Scalar.cmpi .slt c3_i32_23 c0_i32_27
  let v67 : BitVec 32 := Scalar.extui v66
  let v68 : BitVec 32 := Scalar.subi v65 v67
  let v69 : BitVec 1 := Scalar.cmpi .ne v63 v68
  let v70 : BitVec 32 := Scalar.remsi arg2 c3_i32_23
  let c0_i32_28 : BitVec 32 := 0#32
  let v71 : BitVec 1 := Scalar.cmpi .ne v70 c0_i32_28
  let v72 : BitVec 1 := Scalar.andi v69 v71
  let c1_i32_29 : BitVec 32 := 1#32
  let v73 : BitVec 32 := Scalar.subi v58 c1_i32_29
  let v74 : BitVec 32 := Scalar.select v72 v73 v58
  let v75 : BitVec 32 := Scalar.addi v57 v74
  let c256_i32_30 : BitVec 32 := 256#32
  let v76 : BitVec 32 := Scalar.muli v75 c256_i32_30
  let c768_i32_31 : BitVec 32 := 768#32
  let c0_i32_32 : BitVec 32 := 0#32
  let v77 : BitVec 1 := Scalar.cmpi .eq c768_i32_31 c0_i32_32
  let c1_i32_33 : BitVec 32 := 1#32
  let v78 : BitVec 32 := Scalar.select v77 c1_i32_33 c768_i32_31
  let v79 : BitVec 32 := Scalar.remsi v76 v78
  let c0_i32_34 : BitVec 32 := 0#32
  let v80 : BitVec 1 := Scalar.cmpi .ne v79 c0_i32_34
  let c0_i32_35 : BitVec 32 := 0#32
  let v81 : BitVec 1 := Scalar.cmpi .slt v79 c0_i32_35
  let c0_i32_36 : BitVec 32 := 0#32
  let v82 : BitVec 1 := Scalar.cmpi .slt v78 c0_i32_36
  let v83 : BitVec 1 := Scalar.xori v81 v82
  let v84 : BitVec 1 := Scalar.andi v83 v80
  let v85 : BitVec 32 := Scalar.addi v79 v78
  let v86 : BitVec 32 := Scalar.select v84 v85 v79
  let c256_i32_37 : BitVec 32 := 256#32
  let v87 : BitVec 32 := Scalar.divsi v86 c256_i32_37
  let c0_i32_38 : BitVec 32 := 0#32
  let v88 : BitVec 1 := Scalar.cmpi .sgt v86 c0_i32_38
  let v89 : BitVec 32 := Scalar.extui v88
  let c0_i32_39 : BitVec 32 := 0#32
  let v90 : BitVec 1 := Scalar.cmpi .slt v86 c0_i32_39
  let v91 : BitVec 32 := Scalar.extui v90
  let v92 : BitVec 32 := Scalar.subi v89 v91
  let c0_i32_40 : BitVec 32 := 0#32
  let v93 : BitVec 1 := Scalar.cmpi .sgt c256_i32_37 c0_i32_40
  let v94 : BitVec 32 := Scalar.extui v93
  let c0_i32_41 : BitVec 32 := 0#32
  let v95 : BitVec 1 := Scalar.cmpi .slt c256_i32_37 c0_i32_41
  let v96 : BitVec 32 := Scalar.extui v95
  let v97 : BitVec 32 := Scalar.subi v94 v96
  let v98 : BitVec 1 := Scalar.cmpi .ne v92 v97
  let v99 : BitVec 32 := Scalar.remsi v86 c256_i32_37
  let c0_i32_42 : BitVec 32 := 0#32
  let v100 : BitVec 1 := Scalar.cmpi .ne v99 c0_i32_42
  let v101 : BitVec 1 := Scalar.andi v98 v100
  let c1_i32_43 : BitVec 32 := 1#32
  let v102 : BitVec 32 := Scalar.subi v87 c1_i32_43
  let v103 : BitVec 32 := Scalar.select v101 v102 v87
  let c0_i32_44 : BitVec 32 := 0#32
  let c0_i32_45 : BitVec 32 := 0#32
  ![v46.toNat, c0_i32_44.toNat, arg1.toNat, v103.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S1024x3072 : Shape := ⟨2, ![1024, 3072]⟩
abbrev S8192x3072 : Shape := ⟨2, ![8192, 3072]⟩
abbrev S3072x1024 : Shape := ⟨2, ![3072, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x3072, .f32⟩
  | .hbm, ⟨4, _⟩ => ⟨S8192x3072, .f32⟩
  | .hbm, ⟨5, _⟩ => ⟨S3072x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel13.lean ====
abbrev S8192x1024 : Shape := ⟨2, ![8192, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel14.lean ====
abbrev S8192x1024 : Shape := ⟨2, ![8192, 1024]⟩
abbrev S1024x3072 : Shape := ⟨2, ![1024, 3072]⟩
abbrev S1024x4x768 : Shape := ⟨3, ![1024, 4, 768]⟩
abbrev S4x1024x768 : Shape := ⟨3, ![4, 1024, 768]⟩
abbrev S4x1x1024x768 : Shape := ⟨4, ![4, 1, 1024, 768]⟩
abbrev S8192x3072 : Shape := ⟨2, ![8192, 3072]⟩
abbrev S4096x1024 : Shape := ⟨2, ![4096, 1024]⟩
abbrev S1x1x1024x256 : Shape := ⟨4, ![1, 1, 1024, 256]⟩
abbrev S4096x256 : Shape := ⟨2, ![4096, 256]⟩
abbrev S1024x256 : Shape := ⟨2, ![1024, 256]⟩
abbrev S8192x4x3x256 : Shape := ⟨4, ![8192, 4, 3, 256]⟩
abbrev S8192x4x1x256 : Shape := ⟨4, ![8192, 4, 1, 256]⟩
abbrev S8192x4x256 : Shape := ⟨3, ![8192, 4, 256]⟩

abbrev nBuf : Space → Nat
  | .hbm => 19
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S1024x4x768, .f32⟩
  | .hbm, ⟨3, _⟩ => ⟨S4x1024x768, .f32⟩
  | .hbm, ⟨4, _⟩ => ⟨S4x1x1024x768, .f32⟩
  | .hbm, ⟨5, _⟩ => ⟨S4x1x1024x768, .bf16⟩
  | .hbm, ⟨6, _⟩ => ⟨S8192x1024, .bf16⟩
  | .hbm, ⟨7, _⟩ => ⟨S8192x3072, .bf16⟩
  | .hbm, ⟨8, _⟩ => ⟨S8192x3072, .f32⟩
  | .hbm, ⟨9, _⟩ => ⟨S8192x4x3x256, .f32⟩
  | .hbm, ⟨10, _⟩ => ⟨S8192x4x1x256, .f32⟩
  | .hbm, ⟨11, _⟩ => ⟨S8192x4x256, .f32⟩
  | .hbm, ⟨12, _⟩ => ⟨S8192x1024, .f32⟩
  | .hbm, ⟨13, _⟩ => ⟨S8192x4x1x256, .f32⟩
  | .hbm, ⟨14, _⟩ => ⟨S8192x4x256, .f32⟩
  | .hbm, ⟨15, _⟩ => ⟨S8192x1024, .f32⟩
  | .hbm, ⟨16, _⟩ => ⟨S8192x4x1x256, .f32⟩
  | .hbm, ⟨17, _⟩ => ⟨S8192x4x256, .f32⟩
  | .hbm, ⟨18, _⟩ => ⟨S8192x1024, .f32⟩
  | .local _ .vmem, ⟨0, _⟩ => ⟨S4096x1024, .bf16⟩
  | .local _ .vmem, ⟨1, _⟩ => ⟨S4096x1024, .bf16⟩
  | .local _ .vmem, ⟨2, _⟩ => ⟨S1x1x1024x256, .bf16⟩
  | .local _ .vmem, ⟨3, _⟩ => ⟨S1x1x1024x256, .bf16⟩
  | .local _ .vmem, ⟨4, _⟩ => ⟨S4096x256, .bf16⟩
  | .local _ .vmem, ⟨5, _⟩ => ⟨S4096x256, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.muli v9 c4_i32
  let c3_i32_3 : BitVec 32 := 3#32
  let v11 : BitVec 32 := Scalar.divsi arg1 c3_i32_3
  let c0_i32_4 : BitVec 32 := 0#32
  let v12 : BitVec 1 := Scalar.cmpi .sgt arg1 c0_i32_4
  let v13 : BitVec 32 := Scalar.extui v12
  let c0_i32_5 : BitVec 32 := 0#32
  let v14 : BitVec 1 := Scalar.cmpi .slt arg1 c0_i32_5
  let v15 : BitVec 32 := Scalar.extui v14
  let v16 : BitVec 32 := Scalar.subi v13 v15
  let c0_i32_6 : BitVec 32 := 0#32
  let v17 : BitVec 1 := Scalar.cmpi .sgt c3_i32_3 c0_i32_6
  let v18 : BitVec 32 := Scalar.extui v17
  let c0_i32_7 : BitVec 32 := 0#32
  let v19 : BitVec 1 := Scalar.cmpi .slt c3_i32_3 c0_i32_7
  let v20 : BitVec 32 := Scalar.extui v19
  let v21 : BitVec 32 := Scalar.subi v18 v20
  let v22 : BitVec 1 := Scalar.cmpi .ne v16 v21
  let v23 : BitVec 32 := Scalar.remsi arg1 c3_i32_3
  let c0_i32_8 : BitVec 32 := 0#32
  let v24 : BitVec 1 := Scalar.cmpi .ne v23 c0_i32_8
  let v25 : BitVec 1 := Scalar.andi v22 v24
  let c1_i32_9 : BitVec 32 := 1#32
  let v26 : BitVec 32 := Scalar.subi v11 c1_i32_9
  let v27 : BitVec 32 := Scalar.select v25 v26 v11
  let v28 : BitVec 32 := Scalar.addi v10 v27
  let c256_i32 : BitVec 32 := 256#32
  let v29 : BitVec 32 := Scalar.muli v28 c256_i32
  let c768_i32 : BitVec 32 := 768#32
  let v30 : BitVec 32 := Scalar.divsi v29 c768_i32
  let c0_i32_10 : BitVec 32 := 0#32
  let v31 : BitVec 1 := Scalar.cmpi .sgt v29 c0_i32_10
  let v32 : BitVec 32 := Scalar.extui v31
  let c0_i32_11 : BitVec 32 := 0#32
  let v33 : BitVec 1 := Scalar.cmpi .slt v29 c0_i32_11
  let v34 : BitVec 32 := Scalar.extui v33
  let v35 : BitVec 32 := Scalar.subi v32 v34
  let c0_i32_12 : BitVec 32 := 0#32
  let v36 : BitVec 1 := Scalar.cmpi .sgt c768_i32 c0_i32_12
  let v37 : BitVec 32 := Scalar.extui v36
  let c0_i32_13 : BitVec 32 := 0#32
  let v38 : BitVec 1 := Scalar.cmpi .slt c768_i32 c0_i32_13
  let v39 : BitVec 32 := Scalar.extui v38
  let v40 : BitVec 32 := Scalar.subi v37 v39
  let v41 : BitVec 1 := Scalar.cmpi .ne v35 v40
  let v42 : BitVec 32 := Scalar.remsi v29 c768_i32
  let c0_i32_14 : BitVec 32 := 0#32
  let v43 : BitVec 1 := Scalar.cmpi .ne v42 c0_i32_14
  let v44 : BitVec 1 := Scalar.andi v41 v43
  let c1_i32_15 : BitVec 32 := 1#32
  let v45 : BitVec 32 := Scalar.subi v30 c1_i32_15
  let v46 : BitVec 32 := Scalar.select v44 v45 v30
  let c3_i32_16 : BitVec 32 := 3#32
  let c0_i32_17 : BitVec 32 := 0#32
  let v47 : BitVec 1 := Scalar.cmpi .eq c3_i32_16 c0_i32_17
  let c1_i32_18 : BitVec 32 := 1#32
  let v48 : BitVec 32 := Scalar.select v47 c1_i32_18 c3_i32_16
  let v49 : BitVec 32 := Scalar.remsi arg1 v48
  let c0_i32_19 : BitVec 32 := 0#32
  let v50 : BitVec 1 := Scalar.cmpi .ne v49 c0_i32_19
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let v54 : BitVec 1 := Scalar.andi v53 v50
  let v55 : BitVec 32 := Scalar.addi v49 v48
  let v56 : BitVec 32 := Scalar.select v54 v55 v49
  let c4_i32_22 : BitVec 32 := 4#32
  let v57 : BitVec 32 := Scalar.muli v56 c4_i32_22
  let c3_i32_23 : BitVec 32 := 3#32
  let v58 : BitVec 32 := Scalar.divsi arg1 c3_i32_23
  let c0_i32_24 : BitVec 32 := 0#32
  let v59 : BitVec 1 := Scalar.cmpi .sgt arg1 c0_i32_24
  let v60 : BitVec 32 := Scalar.extui v59
  let c0_i32_25 : BitVec 32 := 0#32
  let v61 : BitVec 1 := Scalar.cmpi .slt arg1 c0_i32_25
  let v62 : BitVec 32 := Scalar.extui v61
  let v63 : BitVec 32 := Scalar.subi v60 v62
  let c0_i32_26 : BitVec 32 := 0#32
  let v64 : BitVec 1 := Scalar.cmpi .sgt c3_i32_23 c0_i32_26
  let v65 : BitVec 32 := Scalar.extui v64
  let c0_i32_27 : BitVec 32 := 0#32
  let v66 : BitVec 1 := Scalar.cmpi .slt c3_i32_23 c0_i32_27
  let v67 : BitVec 32 := Scalar.extui v66
  let v68 : BitVec 32 := Scalar.subi v65 v67
  let v69 : BitVec 1 := Scalar.cmpi .ne v63 v68
  let v70 : BitVec 32 := Scalar.remsi arg1 c3_i32_23
  let c0_i32_28 : BitVec 32 := 0#32
  let v71 : BitVec 1 := Scalar.cmpi .ne v70 c0_i32_28
  let v72 : BitVec 1 := Scalar.andi v69 v71
  let c1_i32_29 : BitVec 32 := 1#32
  let v73 : BitVec 32 := Scalar.subi v58 c1_i32_29
  let v74 : BitVec 32 := Scalar.select v72 v73 v58
  let v75 : BitVec 32 := Scalar.addi v57 v74
  let c256_i32_30 : BitVec 32 := 256#32
  let v76 : BitVec 32 := Scalar.muli v75 c256_i32_30
  let c768_i32_31 : BitVec 32 := 768#32
  let c0_i32_32 : BitVec 32 := 0#32
  let v77 : BitVec 1 := Scalar.cmpi .eq c768_i32_31 c0_i32_32
  let c1_i32_33 : BitVec 32 := 1#32
  let v78 : BitVec 32 := Scalar.select v77 c1_i32_33 c768_i32_31
  let v79 : BitVec 32 := Scalar.remsi v76 v78
  let c0_i32_34 : BitVec 32 := 0#32
  let v80 : BitVec 1 := Scalar.cmpi .ne v79 c0_i32_34
  let c0_i32_35 : BitVec 32 := 0#32
  let v81 : BitVec 1 := Scalar.cmpi .slt v79 c0_i32_35
  let c0_i32_36 : BitVec 32 := 0#32
  let v82 : BitVec 1 := Scalar.cmpi .slt v78 c0_i32_36
  let v83 : BitVec 1 := Scalar.xori v81 v82
  let v84 : BitVec 1 := Scalar.andi v83 v80
  let v85 : BitVec 32 := Scalar.addi v79 v78
  let v86 : BitVec 32 := Scalar.select v84 v85 v79
  let c256_i32_37 : BitVec 32 := 256#32
  let v87 : BitVec 32 := Scalar.divsi v86 c256_i32_37
  let c0_i32_38 : BitVec 32 := 0#32
  let v88 : BitVec 1 := Scalar.cmpi .sgt v86 c0_i32_38
  let v89 : BitVec 32 := Scalar.extui v88
  let c0_i32_39 : BitVec 32 := 0#32
  let v90 : BitVec 1 := Scalar.cmpi .slt v86 c0_i32_39
  let v91 : BitVec 32 := Scalar.extui v90
  let v92 : BitVec 32 := Scalar.subi v89 v91
  let c0_i32_40 : BitVec 32 := 0#32
  let v93 : BitVec 1 := Scalar.cmpi .sgt c256_i32_37 c0_i32_40
  let v94 : BitVec 32 := Scalar.extui v93
  let c0_i32_41 : BitVec 32 := 0#32
  let v95 : BitVec 1 := Scalar.cmpi .slt c256_i32_37 c0_i32_41
  let v96 : BitVec 32 := Scalar.extui v95
  let v97 : BitVec 32 := Scalar.subi v94 v96
  let v98 : BitVec 1 := Scalar.cmpi .ne v92 v97
  let v99 : BitVec 32 := Scalar.remsi v86 c256_i32_37
  let c0_i32_42 : BitVec 32 := 0#32
  let v100 : BitVec 1 := Scalar.cmpi .ne v99 c0_i32_42
  let v101 : BitVec 1 := Scalar.andi v98 v100
  let c1_i32_43 : BitVec 32 := 1#32
  let v102 : BitVec 32 := Scalar.subi v87 c1_i32_43
  let v103 : BitVec 32 := Scalar.select v101 v102 v87
  let c0_i32_44 : BitVec 32 := 0#32
  let c0_i32_45 : BitVec 32 := 0#32
  ![v46.toNat, c0_i32_44.toNat, arg2.toNat, v103.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x3072, .f32⟩
  | .hbm, ⟨3, _⟩ => ⟨S8192x1024, .f32⟩
  | .hbm, ⟨4, _⟩ => ⟨S8192x1024, .f32⟩
  | .hbm, ⟨5, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel15.lean ====
abbrev S8192x1024 : Shape := ⟨2, ![8192, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .bf16⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x1024 : Shape := ⟨2, ![8192, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel16.lean ====
abbrev S8192x1024 : Shape := ⟨2, ![8192, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S8192x1024 : Shape := ⟨2, ![8192, 1024]⟩
abbrev S1024x8192 : Shape := ⟨2, ![1024, 8192]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x8192, .f32⟩
  | .hbm, ⟨3, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel17.lean ====
abbrev S8192x1024 : Shape := ⟨2, ![8192, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8192x1024 : Shape := ⟨2, ![8192, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .f32⟩
  | .hbm, ⟨3, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel18.lean ====
abbrev S8192x1024 : Shape := ⟨2, ![8192, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference18Ideal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel19.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x1024, .bf16⟩
  | .hbm, ⟨3, _⟩ => ⟨S1024x2048, .bf16⟩
  | .hbm, ⟨4, _⟩ => ⟨S8192x2048, .bf16⟩
  | .hbm, ⟨5, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel20.lean ====
abbrev S8192x1024 : Shape := ⟨2, ![8192, 1024]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .bf16⟩
  | .hbm, ⟨3, _⟩ => ⟨S8192x2048, .bf16⟩
  | .hbm, ⟨4, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S8192x1024 : Shape := ⟨2, ![8192, 1024]⟩
abbrev S8192x2048 : Shape := ⟨2, ![8192, 2048]⟩
abbrev S1024x8192 : Shape := ⟨2, ![1024, 8192]⟩
abbrev S1024x2048 : Shape := ⟨2, ![1024, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S1024x8192, .f32⟩
  | .hbm, ⟨3, _⟩ => ⟨S1024x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel21.lean ====
abbrev S8192x2048 : Shape := ⟨2, ![8192, 2048]⟩
abbrev S1024x2048 : Shape := ⟨2, ![1024, 2048]⟩
abbrev S8192x1024 : Shape := ⟨2, ![8192, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S1024x2048, .f32⟩
  | .hbm, ⟨2, _⟩ => ⟨S8192x2048, .bf16⟩
  | .hbm, ⟨3, _⟩ => ⟨S1024x2048, .bf16⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S8192x2048 : Shape := ⟨2, ![8192, 2048]⟩
abbrev S1024x2048 : Shape := ⟨2, ![1024, 2048]⟩
abbrev S2048x1024 : Shape := ⟨2, ![2048, 1024]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1024x2048, .f32⟩
  | .hbm, ⟨2, _⟩ => ⟨S2048x1024, .f32⟩
  | .hbm, ⟨3, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel22.lean ====
abbrev S8192x2048 : Shape := ⟨2, ![8192, 2048]⟩
abbrev S1024x2048 : Shape := ⟨2, ![1024, 2048]⟩
abbrev S8192x1024 : Shape := ⟨2, ![8192, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S1024x2048, .f32⟩
  | .hbm, ⟨2, _⟩ => ⟨S8192x1024, .f32⟩
  | .hbm, ⟨3, _⟩ => ⟨S8192x2048, .bf16⟩
  | .hbm, ⟨4, _⟩ => ⟨S1024x2048, .bf16⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference22Ideal.lean ====
abbrev S8192x2048 : Shape := ⟨2, ![8192, 2048]⟩
abbrev S1024x2048 : Shape := ⟨2, ![1024, 2048]⟩
abbrev S8192x1024 : Shape := ⟨2, ![8192, 1024]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1024x2048, .f32⟩
  | .hbm, ⟨2, _⟩ => ⟨S8192x1024, .f32⟩
  | .hbm, ⟨3, _⟩ => ⟨S2048x1024, .f32⟩
  | .hbm, ⟨4, _⟩ => ⟨S8192x1024, .f32⟩
  | .hbm, ⟨5, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel23.lean ====
abbrev S8192x2048 : Shape := ⟨2, ![8192, 2048]⟩
abbrev S2048x1024 : Shape := ⟨2, ![2048, 1024]⟩
abbrev S8192x1024 : Shape := ⟨2, ![8192, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S8192x1024, .f32⟩
  | .hbm, ⟨3, _⟩ => ⟨S8192x2048, .bf16⟩
  | .hbm, ⟨4, _⟩ => ⟨S2048x1024, .bf16⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference23Ideal.lean ====
abbrev S8192x2048 : Shape := ⟨2, ![8192, 2048]⟩
abbrev S2048x1024 : Shape := ⟨2, ![2048, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel24.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x2048, .bf16⟩
  | .hbm, ⟨3, _⟩ => ⟨S8192x1024, .bf16⟩
  | .hbm, ⟨4, _⟩ => ⟨S2048x1024, .bf16⟩
  | .hbm, ⟨5, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S8192x2048 : Shape := ⟨2, ![8192, 2048]⟩
abbrev S8192x1024 : Shape := ⟨2, ![8192, 1024]⟩
abbrev S2048x8192 : Shape := ⟨2, ![2048, 8192]⟩
abbrev S2048x1024 : Shape := ⟨2, ![2048, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S2048x8192, .f32⟩
  | .hbm, ⟨3, _⟩ => ⟨S2048x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel25.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S2048x1024, .f32⟩
  | .hbm, ⟨2, _⟩ => ⟨S8192x1024, .bf16⟩
  | .hbm, ⟨3, _⟩ => ⟨S2048x1024, .bf16⟩
  | .hbm, ⟨4, _⟩ => ⟨S8192x2048, .bf16⟩
  | .hbm, ⟨5, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S8192x1024 : Shape := ⟨2, ![8192, 1024]⟩
abbrev S2048x1024 : Shape := ⟨2, ![2048, 1024]⟩
abbrev S1024x2048 : Shape := ⟨2, ![1024, 2048]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2048x1024, .f32⟩
  | .hbm, ⟨2, _⟩ => ⟨S1024x2048, .f32⟩
  | .hbm, ⟨3, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel26.lean ====
abbrev S8192x1024 : Shape := ⟨2, ![8192, 1024]⟩
abbrev S1024x128 : Shape := ⟨2, ![1024, 128]⟩
abbrev S8192x128 : Shape := ⟨2, ![8192, 128]⟩
abbrev S4096x1024 : Shape := ⟨2, ![4096, 1024]⟩
abbrev S4096x128 : Shape := ⟨2, ![4096, 128]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x128, .f32⟩
  | .hbm, ⟨2, _⟩ => ⟨S8192x1024, .bf16⟩
  | .hbm, ⟨3, _⟩ => ⟨S1024x128, .bf16⟩
  | .hbm, ⟨4, _⟩ => ⟨S8192x128, .f32⟩
  | .local _ .vmem, ⟨0, _⟩ => ⟨S4096x1024, .bf16⟩
  | .local _ .vmem, ⟨1, _⟩ => ⟨S4096x1024, .bf16⟩
  | .local _ .vmem, ⟨2, _⟩ => ⟨S1024x128, .bf16⟩
  | .local _ .vmem, ⟨3, _⟩ => ⟨S4096x128, .f32⟩
  | .local _ .vmem, ⟨4, _⟩ => ⟨S4096x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference26Ideal.lean ====
abbrev S8192x1024 : Shape := ⟨2, ![8192, 1024]⟩
abbrev S1024x128 : Shape := ⟨2, ![1024, 128]⟩
abbrev S8192x128 : Shape := ⟨2, ![8192, 128]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x128, .f32⟩
  | .hbm, ⟨2, _⟩ => ⟨S8192x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel27.lean ====
abbrev S8192x1024 : Shape := ⟨2, ![8192, 1024]⟩
abbrev S8192x128 : Shape := ⟨2, ![8192, 128]⟩
abbrev S1024x128 : Shape := ⟨2, ![1024, 128]⟩
abbrev S4096x1024 : Shape := ⟨2, ![4096, 1024]⟩
abbrev S4096x128 : Shape := ⟨2, ![4096, 128]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x128, .f32⟩
  | .hbm, ⟨2, _⟩ => ⟨S8192x1024, .bf16⟩
  | .hbm, ⟨3, _⟩ => ⟨S8192x128, .bf16⟩
  | .hbm, ⟨4, _⟩ => ⟨S1024x128, .f32⟩
  | .local _ .vmem, ⟨0, _⟩ => ⟨S4096x1024, .bf16⟩
  | .local _ .vmem, ⟨1, _⟩ => ⟨S4096x1024, .bf16⟩
  | .local _ .vmem, ⟨2, _⟩ => ⟨S4096x128, .bf16⟩
  | .local _ .vmem, ⟨3, _⟩ => ⟨S4096x128, .bf16⟩
  | .local _ .vmem, ⟨4, _⟩ => ⟨S1024x128, .f32⟩
  | .local _ .vmem, ⟨5, _⟩ => ⟨S1024x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference27Ideal.lean ====
abbrev S8192x1024 : Shape := ⟨2, ![8192, 1024]⟩
abbrev S8192x128 : Shape := ⟨2, ![8192, 128]⟩
abbrev S1024x8192 : Shape := ⟨2, ![1024, 8192]⟩
abbrev S1024x128 : Shape := ⟨2, ![1024, 128]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x128, .f32⟩
  | .hbm, ⟨2, _⟩ => ⟨S1024x8192, .f32⟩
  | .hbm, ⟨3, _⟩ => ⟨S1024x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel28.lean ====
abbrev S8192x128 : Shape := ⟨2, ![8192, 128]⟩
abbrev S1024x128 : Shape := ⟨2, ![1024, 128]⟩
abbrev S8192x1024 : Shape := ⟨2, ![8192, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x128, .f32⟩
  | .hbm, ⟨1, _⟩ => ⟨S1024x128, .f32⟩
  | .hbm, ⟨2, _⟩ => ⟨S8192x1024, .f32⟩
  | .hbm, ⟨3, _⟩ => ⟨S8192x128, .bf16⟩
  | .hbm, ⟨4, _⟩ => ⟨S1024x128, .bf16⟩
  | .hbm, ⟨5, _⟩ => ⟨S8192x1024, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference28Ideal.lean ====
abbrev S8192x128 : Shape := ⟨2, ![8192, 128]⟩
abbrev S1024x128 : Shape := ⟨2, ![1024, 128]⟩
abbrev S8192x1024 : Shape := ⟨2, ![8192, 1024]⟩
abbrev S128x1024 : Shape := ⟨2, ![128, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S1024x128, .f32⟩
  | .hbm, ⟨2, _⟩ => ⟨S8192x1024, .f32⟩
  | .hbm, ⟨3, _⟩ => ⟨S128x1024, .f32⟩
  | .hbm, ⟨4, _⟩ => ⟨S8192x1024, .f32⟩
  | .hbm, ⟨5, _⟩ => ⟨S8192x1024, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel29.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .hbm, ⟨4, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]
-- ==== Reference29Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel30.lean ====
abbrev S4x1024x1408 : Shape := ⟨3, ![4, 1024, 1408]⟩
abbrev S4096x1408 : Shape := ⟨2, ![4096, 1408]⟩
abbrev S256x1408 : Shape := ⟨2, ![256, 1408]⟩

abbrev nBuf : Space → Nat
  | .hbm => 14
  | .vmem => 14
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .hbm, ⟨9, _⟩ => ⟨S4096x1408, .f32⟩
  | .hbm, ⟨10, _⟩ => ⟨S4096x1408, .f32⟩
  | .hbm, ⟨11, _⟩ => ⟨S4x1024x1408, .f32⟩
  | .hbm, ⟨12, _⟩ => ⟨S4x1024x1408, .f32⟩
  | .hbm, ⟨13, _⟩ => ⟨S4x1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]
-- ==== Reference30Ideal.lean ====
abbrev S4x1024x1408 : Shape := ⟨3, ![4, 1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S_, .f32⟩
  | .hbm, ⟨5, _⟩ => ⟨S4x1024x1408, .f32⟩
  | .hbm, ⟨6, _⟩ => ⟨S4x1024x1408, .f32⟩
  | .hbm, ⟨7, _⟩ => ⟨S_, .f32⟩
  | .hbm, ⟨8, _⟩ => ⟨S4x1024x1408, .f32⟩
  | .hbm, ⟨9, _⟩ => ⟨S4x1024x1408, .f32⟩
  | .hbm, ⟨10, _⟩ => ⟨S4x1024x1408, .f32⟩
  | .hbm, ⟨11, _⟩ => ⟨S_, .f32⟩
  | .hbm, ⟨12, _⟩ => ⟨S4x1024x1408, .f32⟩
  | .hbm, ⟨13, _⟩ => ⟨S4x1024x1408, .f32⟩
  | .hbm, ⟨14, _⟩ => ⟨S4x1024x1408, .f32⟩
  | .hbm, ⟨15, _⟩ => ⟨S_, .f32⟩
  | .hbm, ⟨16, _⟩ => ⟨S4x1024x1408, .f32⟩
  | .hbm, ⟨17, _⟩ => ⟨S4x1024x1408, .f32⟩
  | .hbm, ⟨18, _⟩ => ⟨S4x1024x1408, .f32⟩
  | .hbm, ⟨19, _⟩ => ⟨S_, .f32⟩
  | .hbm, ⟨20, _⟩ => ⟨S4x1024x1408, .f32⟩
  | .hbm, ⟨21, _⟩ => ⟨S4x1024x1408, .f32⟩
  | .hbm, ⟨22, _⟩ => ⟨S_, .f32⟩
  | .hbm, ⟨23, _⟩ => ⟨S4x1024x1408, .f32⟩
  | .hbm, ⟨24, _⟩ => ⟨S4x1024x1408, .f32⟩
  | .hbm, ⟨25, _⟩ => ⟨S4x1024x1408, .f32⟩
  | .hbm, ⟨26, _⟩ => ⟨S_, .f32⟩
  | .hbm, ⟨27, _⟩ => ⟨S4x1024x1408, .f32⟩
  | .hbm, ⟨28, _⟩ => ⟨S4x1024x1408, .f32⟩
  | .hbm, ⟨29, _⟩ => ⟨S4x1024x1408, .f32⟩
  | .hbm, ⟨30, _⟩ => ⟨S_, .f32⟩
  | .hbm, ⟨31, _⟩ => ⟨S4x1024x1408, .f32⟩
  | .hbm, ⟨32, _⟩ => ⟨S4x1024x1408, .f32⟩
  | .hbm, ⟨33, _⟩ => ⟨S4x1024x1408, .f32⟩
  | .hbm, ⟨34, _⟩ => ⟨S_, .f32⟩
  | .hbm, ⟨35, _⟩ => ⟨S4x1024x1408, .f32⟩
  | .hbm, ⟨36, _⟩ => ⟨S4x1024x1408, .f32⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel31.lean ====
abbrev S8192x1024 : Shape := ⟨2, ![8192, 1024]⟩
abbrev S3x1024 : Shape := ⟨2, ![3, 1024]⟩
abbrev S8192x4x256 : Shape := ⟨3, ![8192, 4, 256]⟩
abbrev S8192x4x1x256 : Shape := ⟨4, ![8192, 4, 1, 256]⟩
abbrev S8192x4x3x256 : Shape := ⟨4, ![8192, 4, 3, 256]⟩
abbrev S8192x3072 : Shape := ⟨2, ![8192, 3072]⟩
abbrev S512x768 : Shape := ⟨2, ![512, 768]⟩
abbrev S8x768 : Shape := ⟨2, ![8, 768]⟩
abbrev S3x256 : Shape := ⟨2, ![3, 256]⟩
abbrev S512x256 : Shape := ⟨2, ![512, 256]⟩
abbrev S8x256 : Shape := ⟨2, ![8, 256]⟩
abbrev S520x256 : Shape := ⟨2, ![520, 256]⟩
abbrev S1x256 : Shape := ⟨2, ![1, 256]⟩

abbrev nBuf : Space → Nat
  | .hbm => 15
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S3x1024, .f32⟩
  | .hbm, ⟨4, _⟩ => ⟨S8192x4x256, .f32⟩
  | .hbm, ⟨5, _⟩ => ⟨S8192x4x256, .f32⟩
  | .hbm, ⟨6, _⟩ => ⟨S8192x4x256, .f32⟩
  | .hbm, ⟨7, _⟩ => ⟨S8192x4x1x256, .f32⟩
  | .hbm, ⟨8, _⟩ => ⟨S8192x4x1x256, .f32⟩
  | .hbm, ⟨9, _⟩ => ⟨S8192x4x1x256, .f32⟩
  | .hbm, ⟨10, _⟩ => ⟨S8192x4x3x256, .f32⟩
  | .hbm, ⟨11, _⟩ => ⟨S8192x3072, .f32⟩
  | .hbm, ⟨12, _⟩ => ⟨S8192x3072, .bf16⟩
  | .hbm, ⟨13, _⟩ => ⟨S8192x1024, .bf16⟩
  | .hbm, ⟨14, _⟩ => ⟨S8192x1024, .f32⟩
  | .local _ .vmem, ⟨0, _⟩ => ⟨S512x768, .bf16⟩
  | .local _ .vmem, ⟨1, _⟩ => ⟨S512x768, .bf16⟩
  | .local _ .vmem, ⟨2, _⟩ => ⟨S8x768, .bf16⟩
  | .local _ .vmem, ⟨3, _⟩ => ⟨S8x768, .bf16⟩
  | .local _ .vmem, ⟨4, _⟩ => ⟨S3x256, .f32⟩
  | .local _ .vmem, ⟨5, _⟩ => ⟨S3x256, .f32⟩
  | .local _ .vmem, ⟨6, _⟩ => ⟨S512x256, .bf16⟩
  | .local _ .vmem, ⟨7, _⟩ => ⟨S512x256, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference31Ideal.lean ====
abbrev S8192x1024 : Shape := ⟨2, ![8192, 1024]⟩
abbrev S3x1024 : Shape := ⟨2, ![3, 1024]⟩
abbrev S_ : Shape := ⟨0, ![]⟩
abbrev S2x1024 : Shape := ⟨2, ![2, 1024]⟩
abbrev S8194x1024 : Shape := ⟨2, ![8194, 1024]⟩
abbrev S1x1024 : Shape := ⟨2, ![1, 1024]⟩
abbrev S1024 : Shape := ⟨1, ![1024]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S3x1024, .f32⟩
  | .hbm, ⟨4, _⟩ => ⟨S8192x1024, .f32⟩
  | .hbm, ⟨5, _⟩ => ⟨S_, .f32⟩
  | .hbm, ⟨6, _⟩ => ⟨S2x1024, .f32⟩
  | .hbm, ⟨7, _⟩ => ⟨S8194x1024, .f32⟩
  | .hbm, ⟨8, _⟩ => ⟨S8192x1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩

abbrev nD : Nat := 1
abbrev τ : Topo := Topo.v7x

variable {F : FTy → Type} [FloatOps F]
-- ==== Kernel32.lean ====
abbrev S8192x1024 : Shape := ⟨2, ![8192, 1024]⟩
abbrev S1x128 : Shape := ⟨2, ![1, 128]⟩
abbrev S512x1024 : Shape := ⟨2, ![512, 1024]⟩
abbrev S1x512x1024 : Shape := ⟨3, ![1, 512, 1024]⟩
abbrev S1 : Shape := ⟨1, ![1]⟩
abbrev S1x1x1 : Shape := ⟨3, ![1, 1, 1]⟩
abbrev S1x1 : Shape := ⟨2, ![1, 1]⟩
abbrev S_ : Shape := ⟨0, ![]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .bf16⟩
  | .hbm, ⟨4, _⟩ => ⟨S1x128, .f32⟩
  | .hbm, ⟨5, _⟩ => ⟨S1x1, .f32⟩
  | .hbm, ⟨6, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg1 : BitVec 32 := BitVec.ofNat 32 (i 1).val
  let c0_i32 : BitVec 32 := 0#32
  let v18 : BitVec 1 := Scalar.cmpi .eq arg1 c0_i32
  let v19 : BitVec 32 := Scalar.extui v18
  let c0_i32_11 : BitVec 32 := 0#32
  let v20 : BitVec 1 := Scalar.cmpi .ne v19 c0_i32_11
  v20

def k0_cond2 (i : grid0.Coords) : BitVec 1 :=
  let arg1 : BitVec 32 := BitVec.ofNat 32 (i 1).val
  let c0_i32_12 : BitVec 32 := 0#32
  let v21 : BitVec 1 := Scalar.cmpi .sgt arg1 c0_i32_12
  let v22 : BitVec 32 := Scalar.extui v21
  let c0_i32_13 : BitVec 32 := 0#32
  let v23 : BitVec 1 := Scalar.cmpi .ne v22 c0_i32_13
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== Reference32Ideal.lean ====
abbrev S8192x1024 : Shape := ⟨2, ![8192, 1024]⟩
abbrev S_ : Shape := ⟨0, ![]⟩
abbrev S8192 : Shape := ⟨1, ![8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== Kernel33.lean ====
abbrev S8192x2048 : Shape := ⟨2, ![8192, 2048]⟩
abbrev S4x2048 : Shape := ⟨2, ![4, 2048]⟩
abbrev S2048 : Shape := ⟨1, ![2048]⟩
abbrev S1x2048 : Shape := ⟨2, ![1, 2048]⟩
abbrev S512x512 : Shape := ⟨2, ![512, 512]⟩
abbrev S8x512 : Shape := ⟨2, ![8, 512]⟩
abbrev S4x512 : Shape := ⟨2, ![4, 512]⟩
abbrev S1x512 : Shape := ⟨2, ![1, 512]⟩
abbrev S520x512 : Shape := ⟨2, ![520, 512]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S2048, .f32⟩
  | .hbm, ⟨3, _⟩ => ⟨S8192x2048, .bf16⟩
  | .hbm, ⟨4, _⟩ => ⟨S1x2048, .f32⟩
  | .hbm, ⟨5, _⟩ => ⟨S8192x2048, .bf16⟩
  | .hbm, ⟨6, _⟩ => ⟨S8192x2048, .f32⟩
  | .local _ .vmem, ⟨0, _⟩ => ⟨S512x512, .bf16⟩
  | .local _ .vmem, ⟨1, _⟩ => ⟨S512x512, .bf16⟩
  | .local _ .vmem, ⟨2, _⟩ => ⟨S8x512, .bf16⟩
  | .local _ .vmem, ⟨3, _⟩ => ⟨S8x512, .bf16⟩
  | .local _ .vmem, ⟨4, _⟩ => ⟨S4x512, .f32⟩
  | .local _ .vmem, ⟨5, _⟩ => ⟨S4x512, .f32⟩
  | .local _ .vmem, ⟨6, _⟩ => ⟨S1x512, .f32⟩
  | .local _ .vmem, ⟨7, _⟩ => ⟨S1x512, .f32⟩
  | .local _ .vmem, ⟨8, _⟩ => ⟨S512x512, .bf16⟩
  | .local _ .vmem, ⟨9, _⟩ => ⟨S512x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference33Ideal.lean ====
abbrev S8192x2048 : Shape := ⟨2, ![8192, 2048]⟩
abbrev S4x2048 : Shape := ⟨2, ![4, 2048]⟩
abbrev S2048 : Shape := ⟨1, ![2048]⟩
abbrev S_ : Shape := ⟨0, ![]⟩
abbrev S3x2048 : Shape := ⟨2, ![3, 2048]⟩
abbrev S8195x2048 : Shape := ⟨2, ![8195, 2048]⟩
abbrev S1x2048 : Shape := ⟨2, ![1, 2048]⟩

abbrev nBuf : Space → Nat
  | .hbm => 45
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S2048, .f32⟩
  | .hbm, ⟨3, _⟩ => ⟨S_, .f32⟩
  | .hbm, ⟨4, _⟩ => ⟨S3x2048, .f32⟩
  | .hbm, ⟨5, _⟩ => ⟨S8195x2048, .f32⟩
  | .hbm, ⟨6, _⟩ => ⟨S8192x2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S1x2048, .f32⟩
  | .hbm, ⟨28, _⟩ => ⟨S2048, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S1x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S8192x2048, .f32⟩
  | .hbm, ⟨43, _⟩ => ⟨S8192x2048, .f32⟩
  | .hbm, ⟨44, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel34.lean ====
abbrev S8192x2048 : Shape := ⟨2, ![8192, 2048]⟩
abbrev S2048 : Shape := ⟨1, ![2048]⟩
abbrev S1x2048 : Shape := ⟨2, ![1, 2048]⟩
abbrev S256x2048 : Shape := ⟨2, ![256, 2048]⟩
abbrev S256x256 : Shape := ⟨2, ![256, 256]⟩

abbrev nBuf : Space → Nat
  | .hbm => 8
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S8192x2048, .bf16⟩
  | .hbm, ⟨4, _⟩ => ⟨S8192x2048, .bf16⟩
  | .hbm, ⟨5, _⟩ => ⟨S1x2048, .f32⟩
  | .hbm, ⟨6, _⟩ => ⟨S8192x2048, .bf16⟩
  | .hbm, ⟨7, _⟩ => ⟨S8192x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]
-- ==== Reference34Ideal.lean ====
abbrev S8192x2048 : Shape := ⟨2, ![8192, 2048]⟩
abbrev S2048 : Shape := ⟨1, ![2048]⟩
abbrev S_ : Shape := ⟨0, ![]⟩
abbrev S8192x8x256 : Shape := ⟨3, ![8192, 8, 256]⟩
abbrev S8192x8 : Shape := ⟨2, ![8192, 8]⟩
abbrev S8192x8x1 : Shape := ⟨3, ![8192, 8, 1]⟩
abbrev S1x2048 : Shape := ⟨2, ![1, 2048]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x8x256, .f32⟩
  | .hbm, ⟨14, _⟩ => ⟨S8192x8x256, .f32⟩
  | .hbm, ⟨15, _⟩ => ⟨S_, .f32⟩
  | .hbm, ⟨16, _⟩ => ⟨S8192x8, .f32⟩
  | .hbm, ⟨17, _⟩ => ⟨S8192x8x1, .f32⟩
  | .hbm, ⟨18, _⟩ => ⟨S_, .f32⟩
  | .hbm, ⟨19, _⟩ => ⟨S8192x8x1, .f32⟩
  | .hbm, ⟨20, _⟩ => ⟨S8192x8x1, .f32⟩
  | .hbm, ⟨21, _⟩ => ⟨S_, .f32⟩
  | .hbm, ⟨22, _⟩ => ⟨S8192x8x1, .f32⟩
  | .hbm, ⟨23, _⟩ => ⟨S8192x8x1, .f32⟩
  | .hbm, ⟨24, _⟩ => ⟨S8192x8x1, .f32⟩
  | .hbm, ⟨25, _⟩ => ⟨S8192x8x256, .f32⟩
  | .hbm, ⟨26, _⟩ => ⟨S8192x8x256, .f32⟩
  | .hbm, ⟨27, _⟩ => ⟨S8192x2048, .f32⟩
  | .hbm, ⟨28, _⟩ => ⟨S1x2048, .f32⟩
  | .hbm, ⟨29, _⟩ => ⟨S8192x2048, .f32⟩
  | .hbm, ⟨30, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩

abbrev nD : Nat := 1
abbrev τ : Topo := Topo.v7x

variable {F : FTy → Type} [FloatOps F]
-- ==== Kernel35.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]
-- ==== Reference35Ideal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel36.lean ====
abbrev S4x704x1024 : Shape := ⟨3, ![4, 704, 1024]⟩
abbrev S2816x1024 : Shape := ⟨2, ![2816, 1024]⟩
abbrev S256x1024 : Shape := ⟨2, ![256, 1024]⟩

abbrev nBuf : Space → Nat
  | .hbm => 14
  | .vmem => 14
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S2816x1024, .f32⟩
  | .hbm, ⟨10, _⟩ => ⟨S2816x1024, .f32⟩
  | .hbm, ⟨11, _⟩ => ⟨S4x704x1024, .f32⟩
  | .hbm, ⟨12, _⟩ => ⟨S4x704x1024, .f32⟩
  | .hbm, ⟨13, _⟩ => ⟨S4x704x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]
-- ==== Reference36Ideal.lean ====
abbrev S4x704x1024 : Shape := ⟨3, ![4, 704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S_, .f32⟩
  | .hbm, ⟨5, _⟩ => ⟨S4x704x1024, .f32⟩
  | .hbm, ⟨6, _⟩ => ⟨S4x704x1024, .f32⟩
  | .hbm, ⟨7, _⟩ => ⟨S_, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .hbm, ⟨11, _⟩ => ⟨S_, .f32⟩
  | .hbm, ⟨12, _⟩ => ⟨S4x704x1024, .f32⟩
  | .hbm, ⟨13, _⟩ => ⟨S4x704x1024, .f32⟩
  | .hbm, ⟨14, _⟩ => ⟨S4x704x1024, .f32⟩
  | .hbm, ⟨15, _⟩ => ⟨S_, .f32⟩
  | .hbm, ⟨16, _⟩ => ⟨S4x704x1024, .f32⟩
  | .hbm, ⟨17, _⟩ => ⟨S4x704x1024, .f32⟩
  | .hbm, ⟨18, _⟩ => ⟨S4x704x1024, .f32⟩
  | .hbm, ⟨19, _⟩ => ⟨S_, .f32⟩
  | .hbm, ⟨20, _⟩ => ⟨S4x704x1024, .f32⟩
  | .hbm, ⟨21, _⟩ => ⟨S4x704x1024, .f32⟩
  | .hbm, ⟨22, _⟩ => ⟨S_, .f32⟩
  | .hbm, ⟨23, _⟩ => ⟨S4x704x1024, .f32⟩
  | .hbm, ⟨24, _⟩ => ⟨S4x704x1024, .f32⟩
  | .hbm, ⟨25, _⟩ => ⟨S4x704x1024, .f32⟩
  | .hbm, ⟨26, _⟩ => ⟨S_, .f32⟩
  | .hbm, ⟨27, _⟩ => ⟨S4x704x1024, .f32⟩
  | .hbm, ⟨28, _⟩ => ⟨S4x704x1024, .f32⟩
  | .hbm, ⟨29, _⟩ => ⟨S4x704x1024, .f32⟩
  | .hbm, ⟨30, _⟩ => ⟨S_, .f32⟩
  | .hbm, ⟨31, _⟩ => ⟨S4x704x1024, .f32⟩
  | .hbm, ⟨32, _⟩ => ⟨S4x704x1024, .f32⟩
  | .hbm, ⟨33, _⟩ => ⟨S4x704x1024, .f32⟩
  | .hbm, ⟨34, _⟩ => ⟨S_, .f32⟩
  | .hbm, ⟨35, _⟩ => ⟨S4x704x1024, .f32⟩
  | .hbm, ⟨36, _⟩ => ⟨S4x704x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Prod.DownGrad.lean ====
/- The gradient of the weights that lead back out of the feed-forward network, a product over the tokens: the kernel's
   array, and that the plain line ends with the same. -/
module

public import proofs.«01_k».proof.Defs
public import proofs.«01_k».proof.Proof.Gen.Kernel7Ideal.Frame
public import proofs.«01_k».proof.Proof.Gen.Reference7Ideal.Run
public import proofs.«01_k».proof.Proof.Gen.Reference7Ideal.Read
public import Idealize.ShloMosaic.Lib.Pointwise
public import Idealize.ShloMosaic.Lib.Pipeline.ReadBack
public import Idealize.ShloMosaic.Lib.KernelVsHost
public import Idealize.ShloMosaic.Lib.Pipeline.ValueKit.Acc
public import Idealize.ShloMosaic.Lib.Pipeline.ValueKit.Point

@[expose] public section

set_option maxRecDepth 16384

noncomputable section

namespace Cert.DownGrad

open Idealize.ShloMosaic Idealize.ShloMosaic.TcCoe Idealize.SL Idealize.SL.Sem Idealize.ShloMosaic.Pipeline

/-- The product over all tokens. -/
def G (a : FVec Ideal ⟨2, ![8192, 2816]⟩ .f32) (d : FVec Ideal ⟨2, ![8192, 1024]⟩ .f32) (f : Fin 2816) (n : Fin 1024) : EReal :=
  ∑ r : Fin 8192, a (ix2 r f) * d (ix2 r n)

section Kernel

open Cert.Kernel7Ideal Cert.Kernel7Ideal.Gen

variable (m : (ℓ : Loc nD τ sig) → Buf (Elt Ideal) ℓ) (c : Dev nD)

/-- The launch's gated product and the gradient from above. -/
abbrev act : FVec Ideal S8192x2816 .f32 := m ((c : Thread nD τ).loc main_arg0)
abbrev dy : FVec Ideal S8192x1024 .f32 := m ((c : Thread nD τ).loc main_arg1)

theorem V_v0 (r : Fin 8192) (f : Fin 2816) : V m c main_v0 (ix2 r f) = act m c (ix2 r f) := by
  simp only [V, V0, List.flatten_cons, List.flatten_nil, List.append_nil]
  after_results
  pointwise

theorem V_v1 (r : Fin 8192) (n : Fin 1024) : V m c main_v1 (ix2 r n) = dy m c (ix2 r n) := by
  simp only [V, V0, List.flatten_cons, List.flatten_nil, List.append_nil]
  after_results
  pointwise

theorem idx0 : ∀ t : Fin cfg0.N, win0_0.index t = ![t.val % 8, t.val / 8] := by
  exact (by decide +kernel : ∀ t : Fin grid0.N, win0_0.index t = ![t.val % 8, t.val / 8])
theorem idx1 : ∀ t : Fin cfg0.N, win0_1.index t = ![t.val % 8, 0] := by
  exact (by decide +kernel : ∀ t : Fin grid0.N, win0_1.index t = ![t.val % 8, 0])
theorem idx2 : ∀ t : Fin cfg0.N, win0_2.index t = ![t.val / 8, 0] := by
  exact (by decide +kernel : ∀ t : Fin grid0.N, win0_2.index t = ![t.val / 8, 0])

theorem lt_N (t : Fin cfg0.N) : t.val < 16 := Nat.lt_of_lt_of_eq t.isLt N_0

theorem blk0 (t : Fin cfg0.N) (r : Fin 1024) (l : Fin 1408) : iblk m c 0 t (ix2 r l)
    = act m c (ix2 ⟨t.val % 8 * 1024 + r.val, by omega⟩ ⟨t.val / 8 * 1408 + l.val, by have := lt_N t; omega⟩) := by
  have ht := lt_N t
  refine Eq.trans ?_ (V_v0 m c ⟨t.val % 8 * 1024 + r.val, by omega⟩ ⟨t.val / 8 * 1408 + l.val, by omega⟩)
  blk_ext [iblk, idx0 t]

theorem blk1 (t : Fin cfg0.N) (r n : Fin 1024) :
    iblk m c 1 t (ix2 r n) = dy m c (ix2 ⟨t.val % 8 * 1024 + r.val, by omega⟩ n) := by
  refine Eq.trans ?_ (V_v1 m c ⟨t.val % 8 * 1024 + r.val, by omega⟩ n)
  blk_ext [iblk, idx1 t]

theorem pay1_at (x0 : Vec Ideal S1024x1408 .bf16) (x1 : Vec Ideal S1024x1024 .bf16) (l : Fin 1408) (n : Fin 1024) :
    k0_pay1 x0 x1 (ix2 l n) = ∑ r : Fin 1024, x0 (ix2 r l) * x1 (ix2 r n) := by
  pointwise [k0_pay1]

/-- What a point adds. -/
def part (t : Fin cfg0.N) (x : S1408x1024.Idx) : EReal := k0_pay1 (iblk m c 0 t) (iblk m c 1 t) x

theorem first (t : Fin cfg0.N) (h0 : t.val % 8 = 0) (x : S1408x1024.Idx) : (outsAt0 m c t.val t.isLt).2 x = 0 + part m c t x := by
  rw [outsAt0_A m c t h0 (by omega) (by omega), eq_ix2 x, zero_add]
  frame_out
  pointwise [k0_pay2]
  rfl

theorem step (t : Fin cfg0.N) (h0 : ¬ t.val % 8 = 0) (x : S1408x1024.Idx) :
    (outsAt0 m c t.val t.isLt).2 x = (outsAt0 m c (t.val - 1) (Nat.lt_of_le_of_lt (Nat.sub_le _ _) t.isLt)).2 x + part m c t x := by
  by_cases h2 : t.val % 8 = 7
  · rw [outsAt0_C m c t h0 (by omega) h2, eq_ix2 x]
    frame_out
    pointwise [k0_pay3]
    rw [read_unread_whole]
    rfl
  · rw [outsAt0_B m c t h0 (by omega) h2, eq_ix2 x]
    frame_out
    pointwise [k0_pay3]
    rw [read_unread_whole]
    rfl

theorem out_last (t : Fin cfg0.N) (h2 : t.val % 8 = 7) (l : Fin 1408) (n : Fin 1024) :
    (outsAt0 m c t.val t.isLt).1 (ix2 l n) = (outsAt0 m c t.val t.isLt).2 (ix2 l n) := by
  rw [outsAt0_C m c t (by omega) (by omega) h2]
  frame_out
  pointwise [k0_pay4]

theorem last (t : Fin cfg0.N) (hf : t.val % 8 = 7) (l : Fin 1408) (n : Fin 1024) : (outsAt0 m c t.val t.isLt).1 (ix2 l n)
    = G (act m c) (dy m c) ⟨t.val / 8 * 1408 + l.val, by have := lt_N t; omega⟩ n := by
  rw [out_last m c t hf]
  refine (eq_sum_fin_of_reset_step_apply_of_flush (fun n h => (outsAt0 m c n h).2) 8 (fun _ => 0) (part m c)
    (fun t h x => first m c t h x) (fun t h x => step m c t h x) t hf (ix2 l n)).trans ?_
  rw [zero_add]
  refine Eq.trans ?_ (Fin.sum_mul_add_fin 8 1024 _)
  refine Finset.sum_congr rfl fun s _ => ?_
  unfold part
  rw [pay1_at]
  simp only [blk0, blk1]
  have e1 : (8 * (t.val / 8) + s.val) % 8 = s.val := by omega
  have e2 : (8 * (t.val / 8) + s.val) / 8 = t.val / 8 := by omega
  simp only [e1, e2]

theorem arr2 : (dats m 0 c).arrAt 2 cfg0.N = fun x : S2816x1024.Idx => G (act m c) (dy m c) (x 0) (x 1) := by
  refine (dats m 0 c).arrAt_eq_of_covers 2 _ (by decide +kernel) fun t hf y => ?_
  have e0 : (((win0_2.blk t).view.emb y) 0).val = t.val / 8 * 1408 + (y 0).val := by
    blk_simp
    rw [idx2 t]
    rfl
  have e1 : (((win0_2.blk t).view.emb y) 1).val = (y 1).val := by
    blk_simp
    rw [idx2 t]
    exact (show 0 * 1024 + (y 1).val = (y 1).val by omega)
  blk_simp
  rw [after0_2]
  refine Eq.trans (congrArg (outsAt0 m c t.val t.isLt).1 (eq_ix2 y)) ((last m c t ((flush0_2 t).mp hf) (y 0) (y 1)).trans ?_)
  exact congrArg₂ (G (act m c) (dy m c)) (Fin.ext e0.symm) (Fin.ext e1.symm)

/-- The contents of the buffer `b` when the program ends. -/
abbrev fin (b : Ref sig .tc) : Buf (Elt Ideal) ((c : Thread nD τ).loc b) :=
  Pipeline.afterTail₀ cfgs (dats m) 0 (V0 m) [hostOps1] c b

theorem fin_at (f : Fin 2816) (n : Fin 1024) : fin m c main_v3 (ix2 f n) = G (act m c) (dy m c) f n := by
  have h2 := (dats m 0 c).withArrays_arrAt (by decide +kernel) (V0 m c) (A_eq m c) 2
  simp only [fin, Pipeline.afterTail₀, List.flatten_cons, List.flatten_nil, List.append_nil]
  after_results
  pointwise
  exact (congrFun h2 _).trans (congrFun (arr2 m c) _)

/-- The kernel's run: the product, and the arguments as launched. -/
theorem kernel_run (g : Dev nD → PrngReg) :
    θ_run (defs (F := Ideal)) (onTc (τ := τ) (main (F := Ideal))) ⟨m, fun _ => 0, g⟩ (fun r => ∀ c : Dev nD,
      r.2.mem ((c : Thread nD τ).loc main_v3) = fin m c main_v3
      ∧ r.2.mem ((c : Thread nD τ).loc main_arg0) = m ((c : Thread nD τ).loc main_arg0)
      ∧ r.2.mem ((c : Thread nD τ).loc main_arg1) = m ((c : Thread nD τ).loc main_arg1)) :=
  (θ_run _ _ _).mono (fun r h c => ⟨(h.1 c).2 main_v3 (by decide), h.2 c⟩) (θ_run_and (run_main m g) (unchanged m g))

end Kernel

section Reference

open Cert.Reference7Ideal Cert.Reference7Ideal.Read

theorem ref_at (a : FVec Ideal S8192x2816 .f32) (d : FVec Ideal S8192x1024 .f32) (f : Fin 2816) (n : Fin 1024) :
    val_main_v1 (F := Ideal) a d (ix2 f n) = G a d f n := by
  pointwise [val_main_v1, val_main_v0]
  rfl

end Reference

theorem algebraic : Cert.algebraic_Kernel7Ideal_Reference7Ideal (hKernel7Ideal := Cert.Kernel7Ideal.Gen.facts)
    (hReference7Ideal := Cert.Reference7Ideal.Gen.facts) := by
  intro m g m' g' _ hagree
  refine ⟨fun c => fin m c Cert.Kernel7Ideal.main_v3, kernel_run m g, ?_⟩
  refine (θ_run _ _ _).mono (fun r h c => ?_) (Cert.Reference7Ideal.Value.run m' g')
  obtain ⟨h1, h2⟩ := h c
  obtain ⟨e0, e1⟩ := hagree c
  refine ⟨?_, h2⟩
  rw [h1, e0, e1]
  refine (Cert.Reference7Ideal.Read.val_main_v1_eq _ _).trans ?_
  funext x
  obtain ⟨i, j, rfl⟩ : ∃ i j, x = ix2 i j := ⟨_, _, eq_ix2 x⟩
  exact (ref_at _ _ i j).trans (fin_at m c i j).symm

end Cert.DownGrad

end
-- ==== Proof.Prod.Down.lean ====
/- The product that leads back out of the feed-forward network, added to the residual: the kernel's array, and that the
   plain lines end with the same. -/
module

public import proofs.«01_k».proof.Defs
public import proofs.«01_k».proof.Proof.Gen.Kernel8Ideal.Frame
public import proofs.«01_k».proof.Proof.Gen.Reference8Ideal.Run
public import proofs.«01_k».proof.Proof.Gen.Reference8Ideal.Read
public import Idealize.ShloMosaic.Lib.Pointwise
public import Idealize.ShloMosaic.Lib.Pipeline.ReadBack
public import Idealize.ShloMosaic.Lib.KernelVsHost
public import Idealize.ShloMosaic.Lib.Pipeline.ValueKit.Acc
public import Idealize.ShloMosaic.Lib.Pipeline.ValueKit.Point

@[expose] public section

set_option maxRecDepth 16384

noncomputable section

namespace Cert.Down

open Idealize.ShloMosaic Idealize.ShloMosaic.TcCoe Idealize.SL Idealize.SL.Sem Idealize.ShloMosaic.Pipeline

/-- The residual, and the product over the network's columns. -/
def G (a : FVec Ideal ⟨2, ![8192, 2816]⟩ .f32) (w : FVec Ideal ⟨2, ![2816, 1024]⟩ .f32) (x : FVec Ideal ⟨2, ![8192, 1024]⟩ .f32)
    (r : Fin 8192) (n : Fin 1024) : EReal :=
  x (ix2 r n) + ∑ f : Fin 2816, a (ix2 r f) * w (ix2 f n)

section Kernel

open Cert.Kernel8Ideal Cert.Kernel8Ideal.Gen

variable (m : (ℓ : Loc nD τ sig) → Buf (Elt Ideal) ℓ) (c : Dev nD)

/-- The launch's gated product, weights and residual. -/
abbrev act : FVec Ideal S8192x2816 .f32 := m ((c : Thread nD τ).loc main_arg0)
abbrev wgt : FVec Ideal S2816x1024 .f32 := m ((c : Thread nD τ).loc main_arg1)
abbrev res : FVec Ideal S8192x1024 .f32 := m ((c : Thread nD τ).loc main_arg2)

theorem V_v0 (r : Fin 8192) (f : Fin 2816) : V m c main_v0 (ix2 r f) = act m c (ix2 r f) := by
  simp only [V]
  after_results
  pointwise

theorem V_v1 (f : Fin 2816) (n : Fin 1024) : V m c main_v1 (ix2 f n) = wgt m c (ix2 f n) := by
  simp only [V]
  after_results
  pointwise

theorem V_arg2 : V m c main_arg2 = res m c := by
  simp only [V]
  after_results

theorem idx0 : ∀ t : Fin cfg0.N, win0_0.index t = ![t.val / 2, t.val % 2] := by
  exact (by decide +kernel : ∀ t : Fin grid0.N, win0_0.index t = ![t.val / 2, t.val % 2])
theorem idx1 : ∀ t : Fin cfg0.N, win0_1.index t = ![t.val % 2, 0] := by
  exact (by decide +kernel : ∀ t : Fin grid0.N, win0_1.index t = ![t.val % 2, 0])
theorem idx2 : ∀ t : Fin cfg0.N, win0_2.index t = ![t.val / 2, 0] := by
  exact (by decide +kernel : ∀ t : Fin grid0.N, win0_2.index t = ![t.val / 2, 0])
theorem idx3 : ∀ t : Fin cfg0.N, win0_3.index t = ![t.val / 2, 0] := by
  exact (by decide +kernel : ∀ t : Fin grid0.N, win0_3.index t = ![t.val / 2, 0])

theorem lt_N (t : Fin cfg0.N) : t.val < 16 := Nat.lt_of_lt_of_eq t.isLt N_0

theorem blk0 (t : Fin cfg0.N) (r : Fin 1024) (l : Fin 1408) : iblk m c 0 t (ix2 r l)
    = act m c (ix2 ⟨t.val / 2 * 1024 + r.val, by have := lt_N t; omega⟩ ⟨t.val % 2 * 1408 + l.val, by omega⟩) := by
  have ht := lt_N t
  refine Eq.trans ?_ (V_v0 m c ⟨t.val / 2 * 1024 + r.val, by omega⟩ ⟨t.val % 2 * 1408 + l.val, by omega⟩)
  blk_ext [iblk, idx0 t]

theorem blk1 (t : Fin cfg0.N) (l : Fin 1408) (n : Fin 1024) :
    iblk m c 1 t (ix2 l n) = wgt m c (ix2 ⟨t.val % 2 * 1408 + l.val, by omega⟩ n) := by
  refine Eq.trans ?_ (V_v1 m c ⟨t.val % 2 * 1408 + l.val, by omega⟩ n)
  blk_ext [iblk, idx1 t]

theorem blk2 (t : Fin cfg0.N) (r n : Fin 1024) :
    iblk m c 2 t (ix2 r n) = res m c (ix2 ⟨t.val / 2 * 1024 + r.val, by have := lt_N t; omega⟩ n) := by
  have ht := lt_N t
  refine Eq.trans ?_ (congrFun (V_arg2 m c) (ix2 ⟨t.val / 2 * 1024 + r.val, by omega⟩ n))
  blk_ext [iblk, idx2 t]

theorem pay1_at (x0 : Vec Ideal S1024x1408 .bf16) (x1 : Vec Ideal S1408x1024 .bf16) (r n : Fin 1024) :
    k0_pay1 x0 x1 (ix2 r n) = ∑ l : Fin 1408, x0 (ix2 r l) * x1 (ix2 l n) := by
  pointwise [k0_pay1]

/-- What a point adds. -/
def part (t : Fin cfg0.N) (x : S1024x1024.Idx) : EReal := k0_pay1 (iblk m c 0 t) (iblk m c 1 t) x

theorem first (t : Fin cfg0.N) (h0 : t.val % 2 = 0) (x : S1024x1024.Idx) : (outsAt0 m c t.val t.isLt).2 x = 0 + part m c t x := by
  rw [outsAt0_A m c t h0 (by omega) (by omega), eq_ix2 x, zero_add]
  frame_out
  pointwise [k0_pay2]
  rfl

theorem step (t : Fin cfg0.N) (h0 : ¬ t.val % 2 = 0) (x : S1024x1024.Idx) :
    (outsAt0 m c t.val t.isLt).2 x = (outsAt0 m c (t.val - 1) (Nat.lt_of_le_of_lt (Nat.sub_le _ _) t.isLt)).2 x + part m c t x := by
  rw [outsAt0_B m c t h0 (by omega) (by omega), eq_ix2 x]
  frame_out
  pointwise [k0_pay3]
  rw [read_unread_whole]
  rfl

theorem out_last (t : Fin cfg0.N) (h2 : t.val % 2 = 1) (r n : Fin 1024) :
    (outsAt0 m c t.val t.isLt).1 (ix2 r n) = (outsAt0 m c t.val t.isLt).2 (ix2 r n) + iblk m c 2 t (ix2 r n) := by
  rw [outsAt0_B m c t (by omega) h2 h2]
  frame_out
  pointwise [k0_pay4]

theorem last (t : Fin cfg0.N) (hf : t.val % 2 = 1) (r n : Fin 1024) : (outsAt0 m c t.val t.isLt).1 (ix2 r n)
    = G (act m c) (wgt m c) (res m c) ⟨t.val / 2 * 1024 + r.val, by have := lt_N t; omega⟩ n := by
  rw [out_last m c t hf, blk2]
  refine (add_comm _ _).trans (congrArg (fun s : EReal => res m c (ix2 _ n) + s) ?_)
  refine (eq_sum_fin_of_reset_step_apply_of_flush (fun n h => (outsAt0 m c n h).2) 2 (fun _ => 0) (part m c)
    (fun t h x => first m c t h x) (fun t h x => step m c t h x) t hf (ix2 r n)).trans ?_
  rw [zero_add]
  refine Eq.trans ?_ (Fin.sum_mul_add_fin 2 1408 _)
  refine Finset.sum_congr rfl fun s _ => ?_
  unfold part
  rw [pay1_at]
  simp only [blk0, blk1]
  have e1 : (2 * (t.val / 2) + s.val) % 2 = s.val := by omega
  have e2 : (2 * (t.val / 2) + s.val) / 2 = t.val / 2 := by omega
  simp only [e1, e2]

/-- The array the kernel ends with. -/
abbrev out : FVec Ideal S8192x1024 .f32 := fun x => G (act m c) (wgt m c) (res m c) (x 0) (x 1)

theorem arr3 : (dats m 0 c).arrAt 3 cfg0.N = out m c := by
  refine (dats m 0 c).arrAt_eq_of_covers 3 _ (by decide +kernel) fun t hf y => ?_
  have e0 : (((win0_3.blk t).view.emb y) 0).val = t.val / 2 * 1024 + (y 0).val := by
    blk_simp
    rw [idx3 t]
    rfl
  have e1 : (((win0_3.blk t).view.emb y) 1).val = (y 1).val := by
    blk_simp
    rw [idx3 t]
    exact (show 0 * 1024 + (y 1).val = (y 1).val by omega)
  blk_simp
  rw [after0_3]
  refine Eq.trans (congrArg (outsAt0 m c t.val t.isLt).1 (eq_ix2 y)) ((last m c t ((flush0_3 t).mp hf) (y 0) (y 1)).trans ?_)
  exact congrArg₂ (G (act m c) (wgt m c) (res m c)) (Fin.ext e0.symm) (Fin.ext e1.symm)

/-- The kernel's run: the sum, and the arguments as launched. -/
theorem kernel_run (g : Dev nD → PrngReg) :
    θ_run (defs (F := Ideal)) (onTc (τ := τ) (main (F := Ideal))) ⟨m, fun _ => 0, g⟩ (fun r => ∀ c : Dev nD,
      r.2.mem ((c : Thread nD τ).loc main_v2) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run _ _ _).mono (fun r h c => ⟨((h.1 c).1 3).trans (arr3 m c), h.2 c⟩) (θ_run_and (run_main m g) (unchanged m g))

end Kernel

section Reference

open Cert.Reference8Ideal Cert.Reference8Ideal.Read

theorem ref_at (a : FVec Ideal S8192x2816 .f32) (w : FVec Ideal S2816x1024 .f32) (x : FVec Ideal S8192x1024 .f32)
    (r : Fin 8192) (n : Fin 1024) : val_main_v1 (F := Ideal) a w x (ix2 r n) = G a w x r n := by
  pointwise [val_main_v1, val_main_v0]
  rfl

end Reference

theorem algebraic : Cert.algebraic_Kernel8Ideal_Reference8Ideal (hKernel8Ideal := Cert.Kernel8Ideal.Gen.facts)
    (hReference8Ideal := Cert.Reference8Ideal.Gen.facts) := by
  intro m g m' g' _ hagree
  refine ⟨fun c => out m c, kernel_run m g, ?_⟩
  refine (θ_run _ _ _).mono (fun r h c => ?_) (Cert.Reference8Ideal.Value.run m' g')
  obtain ⟨h1, h2⟩ := h c
  obtain ⟨e0, e1, e2⟩ := hagree c
  refine ⟨?_, h2⟩
  rw [h1, e0, e1, e2]
  refine (Cert.Reference8Ideal.Read.val_main_v1_eq _ _ _).trans ?_
  funext x
  obtain ⟨i, j, rfl⟩ : ∃ i j, x = ix2 i j := ⟨_, _, eq_ix2 x⟩
  exact ref_at _ _ _ i j

end Cert.Down

end
-- ==== Proof.Prod.MixBack.lean ====
/- The gradient of a mixer's output, a product with the transposed weights: the kernel's array, and that the plain line ends
   with the same. -/
module

public import proofs.«01_k».proof.Defs
public import proofs.«01_k».proof.Proof.Gen.Kernel9Ideal.Frame
public import proofs.«01_k».proof.Proof.Gen.Reference9Ideal.Run
public import proofs.«01_k».proof.Proof.Gen.Reference9Ideal.Read
public import Idealize.ShloMosaic.Lib.Pointwise
public import Idealize.ShloMosaic.Lib.KernelVsHost
public import Idealize.ShloMosaic.Lib.Pipeline.ValueKit.Acc
public import Idealize.ShloMosaic.Lib.Pipeline.ValueKit.Point

@[expose] public section

set_option maxRecDepth 16384

noncomputable section

namespace Cert.MixBack

open Idealize.ShloMosaic Idealize.ShloMosaic.TcCoe Idealize.SL Idealize.SL.Sem Idealize.ShloMosaic.Pipeline

/-- A row of the gradient from above times a row of the weights. -/
def G (d : FVec Ideal ⟨2, ![8192, 1024]⟩ .f32) (w : FVec Ideal ⟨2, ![1024, 1024]⟩ .f32) (r : Fin 8192) (q : Fin 1024) : EReal :=
  ∑ n : Fin 1024, d (ix2 r n) * w (ix2 q n)

section Kernel

open Cert.Kernel9Ideal Cert.Kernel9Ideal.Gen

variable (m : (ℓ : Loc nD τ sig) → Buf (Elt Ideal) ℓ) (c : Dev nD)

/-- The launch's gradient from above and the weights. -/
abbrev dy : FVec Ideal S8192x1024 .f32 := m ((c : Thread nD τ).loc main_arg0)
abbrev wgt : FVec Ideal S1024x1024 .f32 := m ((c : Thread nD τ).loc main_arg1)

theorem V_v0 (r : Fin 8192) (n : Fin 1024) : V m c main_v0 (ix2 r n) = dy m c (ix2 r n) := by
  simp only [V, V0, List.flatten_cons, List.flatten_nil, List.append_nil]
  after_results
  pointwise

theorem V_v1 (q n : Fin 1024) : V m c main_v1 (ix2 q n) = wgt m c (ix2 q n) := by
  simp only [V, V0, List.flatten_cons, List.flatten_nil, List.append_nil]
  after_results
  pointwise

theorem idx0 : ∀ t : Fin cfg0.N, win0_0.index t = ![t.val, 0] := by
  exact (by decide +kernel : ∀ t : Fin grid0.N, win0_0.index t = ![t.val, 0])
theorem idx1 : ∀ t : Fin cfg0.N, win0_1.index t = ![0, 0] := by
  exact (by decide +kernel : ∀ t : Fin grid0.N, win0_1.index t = ![0, 0])
theorem idx2 : ∀ t : Fin cfg0.N, win0_2.index t = ![t.val, 0] := by
  exact (by decide +kernel : ∀ t : Fin grid0.N, win0_2.index t = ![t.val, 0])

theorem lt_N (t : Fin cfg0.N) : t.val < 8 := Nat.lt_of_lt_of_eq t.isLt N_0

theorem blk0 (t : Fin cfg0.N) (r n : Fin 1024) :
    iblk m c 0 t (ix2 r n) = dy m c (ix2 ⟨t.val * 1024 + r.val, by have := lt_N t; omega⟩ n) := by
  have ht := lt_N t
  refine Eq.trans ?_ (V_v0 m c ⟨t.val * 1024 + r.val, by omega⟩ n)
  blk_ext [iblk, idx0 t]

theorem blk1 (t : Fin cfg0.N) (q n : Fin 1024) : iblk m c 1 t (ix2 q n) = wgt m c (ix2 q n) := by
  refine Eq.trans ?_ (V_v1 m c q n)
  blk_ext [iblk, idx1 t]

theorem pay1_at (x0 x1 : Vec Ideal S1024x1024 .bf16) (r q : Fin 1024) :
    k0_pay1 x0 x1 (ix2 r q) = ∑ n : Fin 1024, x0 (ix2 r n) * x1 (ix2 q n) := by
  pointwise [k0_pay1]

theorem out2 (t : Fin cfg0.N) (r q : Fin 1024) : out0_2 (iblk m c 0 t) (iblk m c 1 t) (ix2 r q)
    = G (dy m c) (wgt m c) ⟨t.val * 1024 + r.val, by have := lt_N t; omega⟩ q := by
  frame_out
  rw [pay1_at]
  simp only [blk0, blk1]
  rfl

theorem arr2 : (dats m 0 c).arrAt 2 cfg0.N = fun x : S8192x1024.Idx => G (dy m c) (wgt m c) (x 0) (x 1) := by
  refine (dats m 0 c).arrAt_eq_of_covers 2 _ (by decide +kernel) fun t hf y => ?_
  have e0 : (((win0_2.blk t).view.emb y) 0).val = t.val * 1024 + (y 0).val := by
    blk_simp
    rw [idx2 t]
    rfl
  have e1 : (((win0_2.blk t).view.emb y) 1).val = (y 1).val := by
    blk_simp
    rw [idx2 t]
    exact (show 0 * 1024 + (y 1).val = (y 1).val by omega)
  blk_simp
  rw [after0_2]
  refine Eq.trans (congrArg (out0_2 (iblk m c 0 t) (iblk m c 1 t)) (eq_ix2 y)) ((out2 m c t (y 0) (y 1)).trans ?_)
  exact congrArg₂ (G (dy m c) (wgt m c)) (Fin.ext e0.symm) (Fin.ext e1.symm)

/-- The contents of the buffer `b` when the program ends. -/
abbrev fin (b : Ref sig .tc) : Buf (Elt Ideal) ((c : Thread nD τ).loc b) :=
  Pipeline.afterTail₀ cfgs (dats m) 0 (V0 m) [hostOps1] c b

theorem fin_at (r : Fin 8192) (q : Fin 1024) : fin m c main_v3 (ix2 r q) = G (dy m c) (wgt m c) r q := by
  have h2 := (dats m 0 c).withArrays_arrAt (by decide +kernel) (V0 m c) (A_eq m c) 2
  simp only [fin, Pipeline.afterTail₀, List.flatten_cons, List.flatten_nil, List.append_nil]
  after_results
  pointwise
  exact (congrFun h2 _).trans (congrFun (arr2 m c) _)

/-- The kernel's run: the product, and the arguments as launched. -/
theorem kernel_run (g : Dev nD → PrngReg) :
    θ_run (defs (F := Ideal)) (onTc (τ := τ) (main (F := Ideal))) ⟨m, fun _ => 0, g⟩ (fun r => ∀ c : Dev nD,
      r.2.mem ((c : Thread nD τ).loc main_v3) = fin m c main_v3
      ∧ r.2.mem ((c : Thread nD τ).loc main_arg0) = m ((c : Thread nD τ).loc main_arg0)
      ∧ r.2.mem ((c : Thread nD τ).loc main_arg1) = m ((c : Thread nD τ).loc main_arg1)) :=
  (θ_run _ _ _).mono (fun r h c => ⟨(h.1 c).2 main_v3 (by decide), h.2 c⟩) (θ_run_and (run_main m g) (unchanged m g))

end Kernel

section Reference

open Cert.Reference9Ideal Cert.Reference9Ideal.Read

theorem ref_at (d : FVec Ideal S8192x1024 .f32) (w : FVec Ideal S1024x1024 .f32) (r : Fin 8192) (q : Fin 1024) :
    val_main_v1 (F := Ideal) d w (ix2 r q) = G d w r q := by
  pointwise [val_main_v1, val_main_v0]
  rfl

end Reference

theorem algebraic : Cert.algebraic_Kernel9Ideal_Reference9Ideal (hKernel9Ideal := Cert.Kernel9Ideal.Gen.facts)
    (hReference9Ideal := Cert.Reference9Ideal.Gen.facts) := by
  intro m g m' g' _ hagree
  refine ⟨fun c => fin m c Cert.Kernel9Ideal.main_v3, kernel_run m g, ?_⟩
  refine (θ_run _ _ _).mono (fun r h c => ?_) (Cert.Reference9Ideal.Value.run m' g')
  obtain ⟨h1, h2⟩ := h c
  obtain ⟨e0, e1⟩ := hagree c
  refine ⟨?_, h2⟩
  rw [h1, e0, e1]
  refine (Cert.Reference9Ideal.Read.val_main_v1_eq _ _).trans ?_
  funext x
  obtain ⟨i, j, rfl⟩ : ∃ i j, x = ix2 i j := ⟨_, _, eq_ix2 x⟩
  exact (ref_at _ _ i j).trans (fin_at m c i j).symm

end Cert.MixBack

end
-- ==== Proof.Prod.MixGrad.lean ====
/- The gradient of the weights that lead back out of a mixer, a product over the tokens: the kernel's array, and that the
   plain line ends with the same. -/
module

public import proofs.«01_k».proof.Defs
public import proofs.«01_k».proof.Proof.Gen.Kernel10Ideal.Frame
public import proofs.«01_k».proof.Proof.Gen.Reference10Ideal.Run
public import proofs.«01_k».proof.Proof.Gen.Reference10Ideal.Read
public import Idealize.ShloMosaic.Lib.Pointwise
public import Idealize.ShloMosaic.Lib.Pipeline.ReadBack
public import Idealize.ShloMosaic.Lib.KernelVsHost
public import Idealize.ShloMosaic.Lib.Pipeline.ValueKit.Acc
public import Idealize.ShloMosaic.Lib.Pipeline.ValueKit.Point

@[expose] public section

set_option maxRecDepth 16384

noncomputable section

namespace Cert.MixGrad

open Idealize.ShloMosaic Idealize.ShloMosaic.TcCoe Idealize.SL Idealize.SL.Sem Idealize.ShloMosaic.Pipeline

/-- The product over all tokens. -/
def G (o d : FVec Ideal ⟨2, ![8192, 1024]⟩ .f32) (q n : Fin 1024) : EReal := ∑ r : Fin 8192, o (ix2 r q) * d (ix2 r n)

section Kernel

open Cert.Kernel10Ideal Cert.Kernel10Ideal.Gen

variable (m : (ℓ : Loc nD τ sig) → Buf (Elt Ideal) ℓ) (c : Dev nD)

/-- The launch's mixed rows and the gradient from above. -/
abbrev mixed : FVec Ideal S8192x1024 .f32 := m ((c : Thread nD τ).loc main_arg0)
abbrev dy : FVec Ideal S8192x1024 .f32 := m ((c : Thread nD τ).loc main_arg1)

theorem V_v0 (r : Fin 8192) (q : Fin 1024) : V m c main_v0 (ix2 r q) = mixed m c (ix2 r q) := by
  simp only [V, V0, List.flatten_cons, List.flatten_nil, List.append_nil]
  after_results
  pointwise

theorem V_v1 (r : Fin 8192) (n : Fin 1024) : V m c main_v1 (ix2 r n) = dy m c (ix2 r n) := by
  simp only [V, V0, List.flatten_cons, List.flatten_nil, List.append_nil]
  after_results
  pointwise

theorem idx0 : ∀ t : Fin cfg0.N, win0_0.index t = ![t.val, 0] := by
  exact (by decide +kernel : ∀ t : Fin grid0.N, win0_0.index t = ![t.val, 0])
theorem idx1 : ∀ t : Fin cfg0.N, win0_1.index t = ![t.val, 0] := by
  exact (by decide +kernel : ∀ t : Fin grid0.N, win0_1.index t = ![t.val, 0])
theorem idx2 : ∀ t : Fin cfg0.N, win0_2.index t = ![0, 0] := by
  exact (by decide +kernel : ∀ t : Fin grid0.N, win0_2.index t = ![0, 0])

theorem lt_N (t : Fin cfg0.N) : t.val < 8 := Nat.lt_of_lt_of_eq t.isLt N_0

theorem blk0 (t : Fin cfg0.N) (r q : Fin 1024) :
    iblk m c 0 t (ix2 r q) = mixed m c (ix2 ⟨t.val * 1024 + r.val, by have := lt_N t; omega⟩ q) := by
  have ht := lt_N t
  refine Eq.trans ?_ (V_v0 m c ⟨t.val * 1024 + r.val, by omega⟩ q)
  blk_ext [iblk, idx0 t]

theorem blk1 (t : Fin cfg0.N) (r n : Fin 1024) :
    iblk m c 1 t (ix2 r n) = dy m c (ix2 ⟨t.val * 1024 + r.val, by have := lt_N t; omega⟩ n) := by
  have ht := lt_N t
  refine Eq.trans ?_ (V_v1 m c ⟨t.val * 1024 + r.val, by omega⟩ n)
  blk_ext [iblk, idx1 t]

theorem pay1_at (x0 x1 : Vec Ideal S1024x1024 .bf16) (q n : Fin 1024) :
    k0_pay1 x0 x1 (ix2 q n) = ∑ r : Fin 1024, x0 (ix2 r q) * x1 (ix2 r n) := by
  pointwise [k0_pay1]

/-- What a point adds. -/
def part (t : Fin cfg0.N) (x : S1024x1024.Idx) : EReal := k0_pay1 (iblk m c 0 t) (iblk m c 1 t) x

theorem first (t : Fin cfg0.N) (h0 : t.val % 8 = 0) (x : S1024x1024.Idx) : (outsAt0 m c t.val t.isLt).2 x = 0 + part m c t x := by
  have ht := lt_N t
  rw [outsAt0_A m c t h0 (by omega) (by omega), eq_ix2 x, zero_add]
  frame_out
  pointwise [k0_pay2]
  rfl

theorem step (t : Fin cfg0.N) (h0 : ¬ t.val % 8 = 0) (x : S1024x1024.Idx) :
    (outsAt0 m c t.val t.isLt).2 x = (outsAt0 m c (t.val - 1) (Nat.lt_of_le_of_lt (Nat.sub_le _ _) t.isLt)).2 x + part m c t x := by
  by_cases h2 : t.val % 8 = 7
  · rw [outsAt0_C m c t h0 (by omega) h2, eq_ix2 x]
    frame_out
    pointwise [k0_pay3]
    rw [read_unread_whole]
    rfl
  · rw [outsAt0_B m c t h0 (by omega) h2, eq_ix2 x]
    frame_out
    pointwise [k0_pay3]
    rw [read_unread_whole]
    rfl

theorem out_last (t : Fin cfg0.N) (h2 : t.val % 8 = 7) (q n : Fin 1024) :
    (outsAt0 m c t.val t.isLt).1 (ix2 q n) = (outsAt0 m c t.val t.isLt).2 (ix2 q n) := by
  rw [outsAt0_C m c t (by omega) (by omega) h2]
  frame_out
  pointwise [k0_pay4]

theorem last (t : Fin cfg0.N) (hf : t.val % 8 = 7) (q n : Fin 1024) :
    (outsAt0 m c t.val t.isLt).1 (ix2 q n) = G (mixed m c) (dy m c) q n := by
  have ht := lt_N t
  rw [out_last m c t hf]
  refine (eq_sum_fin_of_reset_step_apply_of_flush (fun n h => (outsAt0 m c n h).2) 8 (fun _ => 0) (part m c)
    (fun t h x => first m c t h x) (fun t h x => step m c t h x) t hf (ix2 q n)).trans ?_
  rw [zero_add]
  refine Eq.trans ?_ (Fin.sum_mul_add_fin 8 1024 _)
  refine Finset.sum_congr rfl fun s _ => ?_
  unfold part
  rw [pay1_at]
  simp only [blk0, blk1]
  have e1 : 8 * (t.val / 8) + s.val = s.val := by omega
  simp only [e1]

theorem arr2 : (dats m 0 c).arrAt 2 cfg0.N = fun x : S1024x1024.Idx => G (mixed m c) (dy m c) (x 0) (x 1) := by
  refine (dats m 0 c).arrAt_eq_of_covers 2 _ (by decide +kernel) fun t hf y => ?_
  have e0 : (((win0_2.blk t).view.emb y) 0).val = (y 0).val := by
    blk_simp
    rw [idx2 t]
    exact (show 0 * 1024 + (y 0).val = (y 0).val by omega)
  have e1 : (((win0_2.blk t).view.emb y) 1).val = (y 1).val := by
    blk_simp
    rw [idx2 t]
    exact (show 0 * 1024 + (y 1).val = (y 1).val by omega)
  blk_simp
  rw [after0_2]
  have ht := lt_N t
  refine Eq.trans (congrArg (outsAt0 m c t.val t.isLt).1 (eq_ix2 y))
    ((last m c t (by have := (flush0_2 t).mp hf; omega) (y 0) (y 1)).trans ?_)
  exact congrArg₂ (G (mixed m c) (dy m c)) (Fin.ext e0.symm) (Fin.ext e1.symm)

/-- The contents of the buffer `b` when the program ends. -/
abbrev fin (b : Ref sig .tc) : Buf (Elt Ideal) ((c : Thread nD τ).loc b) :=
  Pipeline.afterTail₀ cfgs (dats m) 0 (V0 m) [hostOps1] c b

theorem fin_at (q n : Fin 1024) : fin m c main_v3 (ix2 q n) = G (mixed m c) (dy m c) q n := by
  have h2 := (dats m 0 c).withArrays_arrAt (by decide +kernel) (V0 m c) (A_eq m c) 2
  simp only [fin, Pipeline.afterTail₀, List.flatten_cons, List.flatten_nil, List.append_nil]
  after_results
  pointwise
  exact (congrFun h2 _).trans (congrFun (arr2 m c) _)

/-- The kernel's run: the product, and the arguments as launched. -/
theorem kernel_run (g : Dev nD → PrngReg) :
    θ_run (defs (F := Ideal)) (onTc (τ := τ) (main (F := Ideal))) ⟨m, fun _ => 0, g⟩ (fun r => ∀ c : Dev nD,
      r.2.mem ((c : Thread nD τ).loc main_v3) = fin m c main_v3
      ∧ r.2.mem ((c : Thread nD τ).loc main_arg0) = m ((c : Thread nD τ).loc main_arg0)
      ∧ r.2.mem ((c : Thread nD τ).loc main_arg1) = m ((c : Thread nD τ).loc main_arg1)) :=
  (θ_run _ _ _).mono (fun r h c => ⟨(h.1 c).2 main_v3 (by decide), h.2 c⟩) (θ_run_and (run_main m g) (unchanged m g))

end Kernel

section Reference

open Cert.Reference10Ideal Cert.Reference10Ideal.Read

theorem ref_at (o d : FVec Ideal S8192x1024 .f32) (q n : Fin 1024) : val_main_v1 (F := Ideal) o d (ix2 q n) = G o d q n := by
  pointwise [val_main_v1, val_main_v0]
  rfl

end Reference

theorem algebraic : Cert.algebraic_Kernel10Ideal_Reference10Ideal (hKernel10Ideal := Cert.Kernel10Ideal.Gen.facts)
    (hReference10Ideal := Cert.Reference10Ideal.Gen.facts) := by
  intro m g m' g' _ hagree
  refine ⟨fun c => fin m c Cert.Kernel10Ideal.main_v3, kernel_run m g, ?_⟩
  refine (θ_run _ _ _).mono (fun r h c => ?_) (Cert.Reference10Ideal.Value.run m' g')
  obtain ⟨h1, h2⟩ := h c
  obtain ⟨e0, e1⟩ := hagree c
  refine ⟨?_, h2⟩
  rw [h1, e0, e1]
  refine (Cert.Reference10Ideal.Read.val_main_v1_eq _ _).trans ?_
  funext x
  obtain ⟨i, j, rfl⟩ : ∃ i j, x = ix2 i j := ⟨_, _, eq_ix2 x⟩
  exact (ref_at _ _ i j).trans (fin_at m c i j).symm

end Cert.MixGrad

end
-- ==== Proof.Prod.Cat3.lean ====
/- Three arrays of columns side by side, the order in which the convolution's products visit their columns, and the two
   layouts in which the arrays and the weights are handed over. -/
module

public import Idealize.ShloMosaic.Lib.ValueIdx
public import Idealize.ShloMosaic.Lib.Pointwise
public import Idealize.ShloMosaic.Lib.Pipeline.ValueKit.Acc

@[expose] public section

noncomputable section

namespace Cert.Prod

open Idealize.ShloMosaic

/-- The columns of `a`, then those of `b`, then those of `d`. -/
def cat3 (a b d : FVec Ideal ⟨2, ![8192, 1024]⟩ .f32) (r : Fin 8192) (p : Fin 3072) : EReal :=
  if h : p.val < 1024 then a (ix2 r ⟨p.val, h⟩)
  else if h' : p.val - 1024 < 1024 then b (ix2 r ⟨p.val - 1024, h'⟩)
  else d (ix2 r ⟨p.val - 1024 - 1024, by omega⟩)

/-- The block of columns that the interleaved array holds at place `q`: a block of each array in turn. -/
def at12 (q : ℕ) : ℕ := q % 3 * 4 + q / 3

theorem at12_lt {q : ℕ} (h : q < 12) : at12 q < 12 := by unfold at12; omega

/-- The same, as an arrangement of the twelve blocks. -/
def perm12 : Fin 12 ≃ Fin 12 where
  toFun q := ⟨at12 q.val, at12_lt q.isLt⟩
  invFun j := ⟨j.val % 4 * 3 + j.val / 4, by omega⟩
  left_inv := by decide
  right_inv := by decide

/-- Summing block by block in the interleaved order sums over all columns. -/
theorem sum_at12 (f : Fin 3072 → EReal) :
    ∑ q : Fin 12, ∑ l : Fin 256, f ⟨at12 q.val * 256 + l.val, by have := at12_lt q.isLt; omega⟩ = ∑ p : Fin 3072, f p :=
  (Equiv.sum_comp perm12 fun j : Fin 12 => ∑ l : Fin 256, f ⟨j.val * 256 + l.val, by omega⟩).trans (Fin.sum_mul_add_fin 12 256 f)

/-- The shapes of an array, of its four blocks of columns, of these with the place among the three arrays, of the three
    arrays interleaved, and of that laid out flat. -/
abbrev Rows : Shape := ⟨2, ![8192, 1024]⟩
abbrev Blocks : Shape := ⟨3, ![8192, 4, 256]⟩
abbrev Placed : Shape := ⟨4, ![8192, 4, 1, 256]⟩
abbrev Woven : Shape := ⟨4, ![8192, 4, 3, 256]⟩
abbrev Flat : Shape := ⟨2, ![8192, 3072]⟩

/-- The interleaved array at a column of the block at place `q`. -/
theorem interleave_at (a b d : FVec Ideal Rows .f32) (h1 : Rows.ShapeCasts Blocks)
    (h2 : Blocks.BroadcastsInDim Placed (![0, 1, 3] : Fin 3 → Fin Placed.rank))
    (h3 : Shape.Concatenates [Placed, Placed, Placed] Woven 2) (h4 : Woven.ShapeCasts Flat)
    (r : Fin 8192) (q : Fin 12) (l : Fin 256) :
    shapeCast Flat (concatenate Woven 2
        [⟨Placed, broadcastInDim Placed ![0, 1, 3] h2 (shapeCast Blocks a h1)⟩,
          ⟨Placed, broadcastInDim Placed ![0, 1, 3] h2 (shapeCast Blocks b h1)⟩,
          ⟨Placed, broadcastInDim Placed ![0, 1, 3] h2 (shapeCast Blocks d h1)⟩] h3) h4 (ix2 r ⟨q.val * 256 + l.val, by omega⟩)
      = cat3 a b d r ⟨at12 q.val * 256 + l.val, by have := at12_lt q.isLt; omega⟩ := by
  have hl := l.isLt
  have hq := q.isLt
  pointwise
  unfold cat3 at12
  dsimp only
  split_ifs
  all_goals first
    | exfalso; omega
    | exact congrArg (fun f : Fin 1024 => a (ix2 r f)) (Fin.ext (by dsimp only; omega))
    | exact congrArg (fun f : Fin 1024 => b (ix2 r f)) (Fin.ext (by dsimp only; omega))
    | exact congrArg (fun f : Fin 1024 => d (ix2 r f)) (Fin.ext (by dsimp only; omega))

/-- The shapes of the weights, of their columns cut in four, of these with the part first, and of that with the layer. -/
abbrev Wide : Shape := ⟨2, ![1024, 3072]⟩
abbrev Cut : Shape := ⟨3, ![1024, 4, 768]⟩
abbrev Parts : Shape := ⟨3, ![4, 1024, 768]⟩
abbrev Layer : Shape := ⟨4, ![4, 1, 1024, 768]⟩

/-- The weights cut in four, read at a column of the part `j`. -/
theorem cut_at (w : FVec Ideal Wide .f32) (h1 : Wide.ShapeCasts Cut) (h2 : Cut.Transposes [1, 0, 2] Parts)
    (h3 : Parts.BroadcastsInDim Layer (![0, 2, 3] : Fin 3 → Fin Layer.rank)) (j : Fin 4) (q : Fin 1024) (l : Fin 768) :
    broadcastInDim Layer ![0, 2, 3] h3 (transpose Parts [1, 0, 2] (shapeCast Cut w h1) h2) (ix4 j 0 q l)
      = w (ix2 q ⟨j.val * 768 + l.val, by omega⟩) := by
  pointwise

end Cert.Prod

end
-- ==== Proof.Prod.ConvGrad.lean ====
/- The gradient of the weights that lead into the convolution, a product over the tokens with its three gradients side by
   side: the kernel's array, and that the plain lines end with the same. -/
module

public import proofs.«01_k».proof.Defs
public import proofs.«01_k».proof.Proof.Gen.Kernel11Ideal.Frame
public import proofs.«01_k».proof.Proof.Gen.Reference11Ideal.Run
public import proofs.«01_k».proof.Proof.Gen.Reference11Ideal.Read
public import proofs.«01_k».proof.Proof.Prod.Cat3
public import Idealize.ShloMosaic.Lib.Pipeline.ReadBack
public import Idealize.ShloMosaic.Lib.KernelVsHost
public import Idealize.ShloMosaic.Lib.Pipeline.ValueKit.Point

@[expose] public section

set_option maxRecDepth 16384

noncomputable section

namespace Cert.ConvGrad

open Idealize.ShloMosaic Idealize.ShloMosaic.TcCoe Idealize.SL Idealize.SL.Sem Idealize.ShloMosaic.Pipeline
open Cert.Prod

/-- The product over all tokens. -/
def G (h a b d : FVec Ideal Rows .f32) (n : Fin 1024) (p : Fin 3072) : EReal := ∑ r : Fin 8192, h (ix2 r n) * cat3 a b d r p

section Kernel

open Cert.Kernel11Ideal Cert.Kernel11Ideal.Gen

variable (m : (ℓ : Loc nD τ sig) → Buf (Elt Ideal) ℓ) (c : Dev nD)

/-- The launch's activations and the three gradients. -/
abbrev hid : FVec Ideal S8192x1024 .f32 := m ((c : Thread nD τ).loc main_arg0)
abbrev db : FVec Ideal S8192x1024 .f32 := m ((c : Thread nD τ).loc main_arg1)
abbrev dc : FVec Ideal S8192x1024 .f32 := m ((c : Thread nD τ).loc main_arg2)
abbrev dv : FVec Ideal S8192x1024 .f32 := m ((c : Thread nD τ).loc main_arg3)

theorem V_v9 (r : Fin 8192) (n : Fin 1024) : V m c main_v9 (ix2 r n) = hid m c (ix2 r n) := by
  simp only [V, V0, List.flatten_cons, List.flatten_nil, List.append_nil]
  after_results
  pointwise

theorem V_v8_eq : V m c main_v8 = truncf .bf16 (shapeCast S8192x3072 (concatenate S8192x4x3x256 2
      [⟨S8192x4x1x256, broadcastInDim S8192x4x1x256 ![0, 1, 3] bcast_S8192x4x256_S8192x4x1x256_0_1_3
          (shapeCast S8192x4x256 (db m c) shapeCasts_S8192x1024_S8192x4x256)⟩,
        ⟨S8192x4x1x256, broadcastInDim S8192x4x1x256 ![0, 1, 3] bcast_S8192x4x256_S8192x4x1x256_0_1_3
          (shapeCast S8192x4x256 (dc m c) shapeCasts_S8192x1024_S8192x4x256)⟩,
        ⟨S8192x4x1x256, broadcastInDim S8192x4x1x256 ![0, 1, 3] bcast_S8192x4x256_S8192x4x1x256_0_1_3
          (shapeCast S8192x4x256 (dv m c) shapeCasts_S8192x1024_S8192x4x256)⟩]
      concatenates_S8192x4x1x256_S8192x4x1x256_S8192x4x1x256_S8192x4x3x256_d2) shapeCasts_S8192x4x3x256_S8192x3072) bitsLt_bf16_f32 := by
  simp only [V, V0, List.flatten_cons, List.flatten_nil, List.append_nil]
  after_results
  rfl

theorem V_v8 (r : Fin 8192) (q : Fin 12) (l : Fin 256) : V m c main_v8 (ix2 r ⟨q.val * 256 + l.val, by omega⟩)
    = cat3 (db m c) (dc m c) (dv m c) r ⟨at12 q.val * 256 + l.val, by have := at12_lt q.isLt; omega⟩ := by
  rw [V_v8_eq]
  exact interleave_at (db m c) (dc m c) (dv m c) shapeCasts_S8192x1024_S8192x4x256 bcast_S8192x4x256_S8192x4x1x256_0_1_3
    concatenates_S8192x4x1x256_S8192x4x1x256_S8192x4x1x256_S8192x4x3x256_d2 shapeCasts_S8192x4x3x256_S8192x3072 r q l

theorem idx0 : ∀ t : Fin cfg0.N, win0_0.index t = ![t.val % 2, 0] := by
  exact (by decide +kernel : ∀ t : Fin grid0.N, win0_0.index t = ![t.val % 2, 0])
theorem idx1 : ∀ t : Fin cfg0.N, win0_1.index t = ![t.val % 2, t.val / 2] := by
  exact (by decide +kernel : ∀ t : Fin grid0.N, win0_1.index t = ![t.val % 2, t.val / 2])
theorem idx2 : ∀ t : Fin cfg0.N, win0_2.index t = ![at12 (t.val / 2) / 3, 0, at12 (t.val / 2) % 3] := by
  exact (by decide +kernel : ∀ t : Fin grid0.N, win0_2.index t = ![at12 (t.val / 2) / 3, 0, at12 (t.val / 2) % 3])

theorem div_lt (t : Fin cfg0.N) : t.val / 2 < 12 := by have : t.val < 24 := Nat.lt_of_lt_of_eq t.isLt N_0; omega

theorem blk0 (t : Fin cfg0.N) (r : Fin 4096) (n : Fin 1024) :
    iblk m c 0 t (ix2 r n) = hid m c (ix2 ⟨t.val % 2 * 4096 + r.val, by omega⟩ n) := by
  refine Eq.trans ?_ (V_v9 m c ⟨t.val % 2 * 4096 + r.val, by omega⟩ n)
  blk_ext [iblk, idx0 t]

theorem blk1 (t : Fin cfg0.N) (r : Fin 4096) (l : Fin 256) :
    iblk m c 1 t (ix2 r l) = cat3 (db m c) (dc m c) (dv m c) ⟨t.val % 2 * 4096 + r.val, by omega⟩
      ⟨at12 (t.val / 2) * 256 + l.val, by have := at12_lt (div_lt t); omega⟩ := by
  refine Eq.trans ?_ (V_v8 m c ⟨t.val % 2 * 4096 + r.val, by omega⟩ ⟨t.val / 2, div_lt t⟩ l)
  blk_ext [iblk, idx1 t]

theorem pay1_at (x0 : Vec Ideal S4096x1024 .bf16) (x1 : Vec Ideal S4096x256 .bf16) (n : Fin 1024) (l : Fin 256) :
    k0_pay1 x0 x1 (ix2 n l) = ∑ r : Fin 4096, x0 (ix2 r n) * x1 (ix2 r l) := by
  pointwise [k0_pay1]

/-- What a point adds. -/
def part (t : Fin cfg0.N) (x : S1024x256.Idx) : EReal := k0_pay1 (iblk m c 0 t) (iblk m c 1 t) x

theorem first (t : Fin cfg0.N) (h0 : t.val % 2 = 0) (x : S1024x256.Idx) : (outsAt0 m c t.val t.isLt).2 x = 0 + part m c t x := by
  rw [outsAt0_A m c t h0 (by omega) (by omega), eq_ix2 x, zero_add]
  frame_out
  pointwise [k0_pay2]
  rfl

theorem step (t : Fin cfg0.N) (h0 : ¬ t.val % 2 = 0) (x : S1024x256.Idx) :
    (outsAt0 m c t.val t.isLt).2 x = (outsAt0 m c (t.val - 1) (Nat.lt_of_le_of_lt (Nat.sub_le _ _) t.isLt)).2 x + part m c t x := by
  rw [outsAt0_B m c t h0 (by omega) (by omega), eq_ix2 x]
  frame_out
  pointwise [k0_pay3]
  rw [read_unread_whole]
  rfl

theorem out_last (t : Fin cfg0.N) (h2 : t.val % 2 = 1) (n : Fin 1024) (l : Fin 256) :
    (outsAt0 m c t.val t.isLt).1 (ix3 0 n l) = (outsAt0 m c t.val t.isLt).2 (ix2 n l) := by
  rw [outsAt0_B m c t (by omega) h2 h2]
  frame_out
  pointwise [k0_pay4]

theorem last (t : Fin cfg0.N) (hf : t.val % 2 = 1) (n : Fin 1024) (l : Fin 256) : (outsAt0 m c t.val t.isLt).1 (ix3 0 n l)
    = G (hid m c) (db m c) (dc m c) (dv m c) n ⟨at12 (t.val / 2) * 256 + l.val, by have := at12_lt (div_lt t); omega⟩ := by
  rw [out_last m c t hf]
  refine (eq_sum_fin_of_reset_step_apply_of_flush (fun n h => (outsAt0 m c n h).2) 2 (fun _ => 0) (part m c)
    (fun t h x => first m c t h x) (fun t h x => step m c t h x) t hf (ix2 n l)).trans ?_
  rw [zero_add]
  refine Eq.trans ?_ (Fin.sum_mul_add_fin 2 4096 _)
  refine Finset.sum_congr rfl fun s _ => ?_
  unfold part
  rw [pay1_at]
  simp only [blk0, blk1]
  have e1 : (2 * (t.val / 2) + s.val) % 2 = s.val := by omega
  have e2 : (2 * (t.val / 2) + s.val) / 2 = t.val / 2 := by omega
  simp only [e1, e2]

/-- The array the kernel writes: the product, its columns cut in four. -/
def G2 (h a b d : FVec Ideal Rows .f32) (j : Fin 4) (n : Fin 1024) (l : Fin 768) : EReal :=
  G h a b d n ⟨j.val * 768 + l.val, by omega⟩

theorem arr2 : (dats m 0 c).arrAt 2 cfg0.N
    = fun x : S4x1024x768.Idx => G2 (hid m c) (db m c) (dc m c) (dv m c) (x 0) (x 1) (x 2) := by
  refine (dats m 0 c).arrAt_eq_of_covers 2 _ (by decide +kernel) fun t hf y => ?_
  have y0 : (y 0).val < 1 := (y 0).isLt
  have e0 : (((win0_2.blk t).view.emb y) 0).val = at12 (t.val / 2) / 3 := by
    blk_simp
    rw [idx2 t]
    rfl
  have e1 : (((win0_2.blk t).view.emb y) 1).val = (y 1).val := by
    blk_simp
    rw [idx2 t]
    exact (show 0 * 1024 + (y 1).val = (y 1).val by omega)
  have e2 : (((win0_2.blk t).view.emb y) 2).val = at12 (t.val / 2) % 3 * 256 + (y 2).val := by
    blk_simp
    rw [idx2 t]
    rfl
  have hy : y = ix3 (0 : Fin 1) (y 1) (y 2) := (eq_ix3 y).trans (congrArg (fun i : Fin 1 => ix3 i (y 1) (y 2)) (Fin.ext (Nat.lt_one_iff.mp y0)))
  blk_simp
  rw [after0_2]
  refine Eq.trans (congrArg (outsAt0 m c t.val t.isLt).1 hy) ((last m c t ((flush0_2 t).mp hf) (y 1) (y 2)).trans ?_)
  unfold G2
  refine congrArg₂ (G (hid m c) (db m c) (dc m c) (dv m c)) (Fin.ext e1.symm) (Fin.ext ?_)
  refine Eq.trans ?_ (congrArg₂ (fun a b => a * 768 + b) e0.symm e2.symm)
  dsimp only
  omega

/-- The contents of the buffer `b` when the program ends. -/
abbrev fin (b : Ref sig .tc) : Buf (Elt Ideal) ((c : Thread nD τ).loc b) :=
  Pipeline.afterTail₀ cfgs (dats m) 0 (V0 m) [hostOps1] c b

theorem fin_at (n : Fin 1024) (p : Fin 3072) : fin m c main_v13 (ix2 n p) = G (hid m c) (db m c) (dc m c) (dv m c) n p := by
  have h2 := (dats m 0 c).withArrays_arrAt (by decide +kernel) (V0 m c) (A_eq m c) 2
  simp only [fin, Pipeline.afterTail₀, List.flatten_cons, List.flatten_nil, List.append_nil]
  after_results
  pointwise
  refine (congrFun h2 _).trans ((congrFun (arr2 m c) _).trans ?_)
  unfold G2
  refine congrArg (G (hid m c) (db m c) (dc m c) (dv m c) n) (Fin.ext ?_)
  dsimp only [ix3_0, ix3_1, ix3_2]
  omega

/-- The kernel's run: the product, and the arguments as launched. -/
theorem kernel_run (g : Dev nD → PrngReg) :
    θ_run (defs (F := Ideal)) (onTc (τ := τ) (main (F := Ideal))) ⟨m, fun _ => 0, g⟩ (fun r => ∀ c : Dev nD,
      r.2.mem ((c : Thread nD τ).loc main_v13) = fin m c main_v13
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run _ _ _).mono (fun r h c => ⟨(h.1 c).2 main_v13 (by decide), h.2 c⟩) (θ_run_and (run_main m g) (unchanged m g))

end Kernel

section Reference

open Cert.Reference11Ideal Cert.Reference11Ideal.Read

variable (h a b d : FVec Ideal S8192x1024 .f32)

theorem ref_cat (r : Fin 8192) (p : Fin 3072) : val_main_v1 (F := Ideal) a b d (ix2 r p) = cat3 a b d r p := by
  pointwise [val_main_v1]
  rfl

theorem ref_at (n : Fin 1024) (p : Fin 3072) : val_main_v2 (F := Ideal) h a b d (ix2 n p) = G h a b d n p := by
  pointwise [val_main_v2, val_main_v0, ref_cat]
  rfl

end Reference

theorem algebraic : Cert.algebraic_Kernel11Ideal_Reference11Ideal (hKernel11Ideal := Cert.Kernel11Ideal.Gen.facts)
    (hReference11Ideal := Cert.Reference11Ideal.Gen.facts) := by
  intro m g m' g' _ hagree
  refine ⟨fun c => fin m c Cert.Kernel11Ideal.main_v13, kernel_run m g, ?_⟩
  refine (θ_run _ _ _).mono (fun r h c => ?_) (Cert.Reference11Ideal.Value.run m' g')
  obtain ⟨h1, h2⟩ := h c
  obtain ⟨e0, e1, e2, e3⟩ := hagree c
  refine ⟨?_, h2⟩
  rw [h1, e0, e1, e2, e3]
  refine (Cert.Reference11Ideal.Read.val_main_v2_eq _ _ _ _).trans ?_
  funext x
  obtain ⟨i, j, rfl⟩ : ∃ i j, x = ix2 i j := ⟨_, _, eq_ix2 x⟩
  exact (ref_at _ _ _ _ i j).trans (fin_at m c i j).symm

end Cert.ConvGrad

end
-- ==== Proof.Prod.ConvBack.lean ====
/- The gradient of the convolution's input, the three gradients side by side times the transposed weights: the kernel's
   array, and that the plain lines end with the same. -/
module

public import proofs.«01_k».proof.Defs
public import proofs.«01_k».proof.Proof.Gen.Kernel12Ideal.Frame
public import proofs.«01_k».proof.Proof.Gen.Reference12Ideal.Run
public import proofs.«01_k».proof.Proof.Gen.Reference12Ideal.Read
public import proofs.«01_k».proof.Proof.Prod.Cat3
public import Idealize.ShloMosaic.Lib.Pipeline.ReadBack
public import Idealize.ShloMosaic.Lib.KernelVsHost
public import Idealize.ShloMosaic.Lib.Pipeline.ValueKit.Point

@[expose] public section

set_option maxRecDepth 16384

noncomputable section

namespace Cert.ConvBack

open Idealize.ShloMosaic Idealize.ShloMosaic.TcCoe Idealize.SL Idealize.SL.Sem Idealize.ShloMosaic.Pipeline
open Cert.Prod

/-- The product, whole. -/
def G (a b d : FVec Ideal Rows .f32) (w : FVec Ideal Wide .f32) (r : Fin 8192) (n : Fin 1024) : EReal :=
  ∑ p : Fin 3072, cat3 a b d r p * w (ix2 n p)

section Kernel

open Cert.Kernel12Ideal Cert.Kernel12Ideal.Gen

variable (m : (ℓ : Loc nD τ sig) → Buf (Elt Ideal) ℓ) (c : Dev nD)

/-- The launch's three gradients and the weights. -/
abbrev db : FVec Ideal S8192x1024 .f32 := m ((c : Thread nD τ).loc main_arg0)
abbrev dc : FVec Ideal S8192x1024 .f32 := m ((c : Thread nD τ).loc main_arg1)
abbrev dv : FVec Ideal S8192x1024 .f32 := m ((c : Thread nD τ).loc main_arg2)
abbrev wgt : FVec Ideal S1024x3072 .f32 := m ((c : Thread nD τ).loc main_arg3)

theorem V_v3_eq : V m c main_v3 = truncf .bf16 (broadcastInDim S4x1x1024x768 ![0, 2, 3] bcast_S4x1024x768_S4x1x1024x768_0_2_3
      (transpose S4x1024x768 [1, 0, 2] (shapeCast S1024x4x768 (wgt m c) shapeCasts_S1024x3072_S1024x4x768)
        transposes_S1024x4x768_S4x1024x768_1_0_2)) bitsLt_bf16_f32 := by
  simp only [V]
  after_results
  rfl

theorem V_v3 (j : Fin 4) (n : Fin 1024) (l : Fin 768) :
    V m c main_v3 (ix4 j 0 n l) = wgt m c (ix2 n ⟨j.val * 768 + l.val, by omega⟩) := by
  rw [V_v3_eq]
  exact cut_at (wgt m c) shapeCasts_S1024x3072_S1024x4x768 transposes_S1024x4x768_S4x1024x768_1_0_2
    bcast_S4x1024x768_S4x1x1024x768_0_2_3 j n l

theorem V_v12_eq : V m c main_v12 = truncf .bf16 (shapeCast S8192x3072 (concatenate S8192x4x3x256 2
      [⟨S8192x4x1x256, broadcastInDim S8192x4x1x256 ![0, 1, 3] bcast_S8192x4x256_S8192x4x1x256_0_1_3
          (shapeCast S8192x4x256 (db m c) shapeCasts_S8192x1024_S8192x4x256)⟩,
        ⟨S8192x4x1x256, broadcastInDim S8192x4x1x256 ![0, 1, 3] bcast_S8192x4x256_S8192x4x1x256_0_1_3
          (shapeCast S8192x4x256 (dc m c) shapeCasts_S8192x1024_S8192x4x256)⟩,
        ⟨S8192x4x1x256, broadcastInDim S8192x4x1x256 ![0, 1, 3] bcast_S8192x4x256_S8192x4x1x256_0_1_3
          (shapeCast S8192x4x256 (dv m c) shapeCasts_S8192x1024_S8192x4x256)⟩]
      concatenates_S8192x4x1x256_S8192x4x1x256_S8192x4x1x256_S8192x4x3x256_d2) shapeCasts_S8192x4x3x256_S8192x3072) bitsLt_bf16_f32 := by
  simp only [V]
  after_results
  rfl

theorem V_v12 (r : Fin 8192) (q : Fin 12) (l : Fin 256) : V m c main_v12 (ix2 r ⟨q.val * 256 + l.val, by omega⟩)
    = cat3 (db m c) (dc m c) (dv m c) r ⟨at12 q.val * 256 + l.val, by have := at12_lt q.isLt; omega⟩ := by
  rw [V_v12_eq]
  exact interleave_at (db m c) (dc m c) (dv m c) shapeCasts_S8192x1024_S8192x4x256 bcast_S8192x4x256_S8192x4x1x256_0_1_3
    concatenates_S8192x4x1x256_S8192x4x1x256_S8192x4x1x256_S8192x4x3x256_d2 shapeCasts_S8192x4x3x256_S8192x3072 r q l

theorem idx0 : ∀ t : Fin cfg0.N, win0_0.index t = ![t.val / 12, t.val % 12] := by
  exact (by decide +kernel : ∀ t : Fin grid0.N, win0_0.index t = ![t.val / 12, t.val % 12])
theorem idx1 : ∀ t : Fin cfg0.N, win0_1.index t = ![at12 (t.val % 12) / 3, 0, 0, at12 (t.val % 12) % 3] := by
  exact (by decide +kernel : ∀ t : Fin grid0.N, win0_1.index t = ![at12 (t.val % 12) / 3, 0, 0, at12 (t.val % 12) % 3])
theorem idx2 : ∀ t : Fin cfg0.N, win0_2.index t = ![t.val / 12, 0] := by
  exact (by decide +kernel : ∀ t : Fin grid0.N, win0_2.index t = ![t.val / 12, 0])

theorem lt_N (t : Fin cfg0.N) : t.val < 48 := Nat.lt_of_lt_of_eq t.isLt N_0

theorem mod_lt (t : Fin cfg0.N) : at12 (t.val % 12) < 12 := at12_lt (Nat.mod_lt _ (by omega))

theorem blk0 (t : Fin cfg0.N) (r : Fin 2048) (l : Fin 256) :
    iblk m c 0 t (ix2 r l) = cat3 (db m c) (dc m c) (dv m c) ⟨t.val / 12 * 2048 + r.val, by have := lt_N t; omega⟩
      ⟨at12 (t.val % 12) * 256 + l.val, by have := mod_lt t; omega⟩ := by
  have ht := lt_N t
  refine Eq.trans ?_ (V_v12 m c ⟨t.val / 12 * 2048 + r.val, by omega⟩ ⟨t.val % 12, by omega⟩ l)
  blk_ext [iblk, idx0 t]

theorem blk1 (t : Fin cfg0.N) (n : Fin 1024) (l : Fin 256) :
    iblk m c 1 t (ix4 0 0 n l) = wgt m c (ix2 n ⟨at12 (t.val % 12) * 256 + l.val, by have := mod_lt t; omega⟩) := by
  have ht := mod_lt t
  refine Eq.trans ?_ ((V_v3 m c ⟨at12 (t.val % 12) / 3, by omega⟩ n ⟨at12 (t.val % 12) % 3 * 256 + l.val, by omega⟩).trans
    (congrArg (fun p : Fin 3072 => wgt m c (ix2 n p)) (Fin.ext (by dsimp only; omega))))
  blk_ext [iblk, idx1 t]

theorem pay1_at (x0 : Vec Ideal S2048x256 .bf16) (x1 : Vec Ideal S1x1x1024x256 .bf16) (r : Fin 2048) (n : Fin 1024) :
    k0_pay1 x0 x1 (ix2 r n) = ∑ l : Fin 256, x0 (ix2 r l) * x1 (ix4 0 0 n l) := by
  pointwise [k0_pay1]

/-- What a point adds. -/
def part (t : Fin cfg0.N) (x : S2048x1024.Idx) : EReal := k0_pay1 (iblk m c 0 t) (iblk m c 1 t) x

theorem first (t : Fin cfg0.N) (h0 : t.val % 12 = 0) (x : S2048x1024.Idx) : (outsAt0 m c t.val t.isLt).2 x = 0 + part m c t x := by
  rw [outsAt0_A m c t h0 (by omega) (by omega), eq_ix2 x, zero_add]
  frame_out
  pointwise [k0_pay2]
  rfl

theorem step (t : Fin cfg0.N) (h0 : ¬ t.val % 12 = 0) (x : S2048x1024.Idx) :
    (outsAt0 m c t.val t.isLt).2 x = (outsAt0 m c (t.val - 1) (Nat.lt_of_le_of_lt (Nat.sub_le _ _) t.isLt)).2 x + part m c t x := by
  by_cases h2 : t.val % 12 = 11
  · rw [outsAt0_C m c t h0 (by omega) h2, eq_ix2 x]
    frame_out
    pointwise [k0_pay3]
    rw [read_unread_whole]
    rfl
  · rw [outsAt0_B m c t h0 (by omega) h2, eq_ix2 x]
    frame_out
    pointwise [k0_pay3]
    rw [read_unread_whole]
    rfl

theorem out_last (t : Fin cfg0.N) (h2 : t.val % 12 = 11) (x : S2048x1024.Idx) :
    (outsAt0 m c t.val t.isLt).1 x = (outsAt0 m c t.val t.isLt).2 x := by
  rw [outsAt0_C m c t (by omega) (by omega) h2, eq_ix2 x]
  frame_out

theorem last (t : Fin cfg0.N) (hf : t.val % 12 = 11) (r : Fin 2048) (n : Fin 1024) : (outsAt0 m c t.val t.isLt).1 (ix2 r n)
    = G (db m c) (dc m c) (dv m c) (wgt m c) ⟨t.val / 12 * 2048 + r.val, by have := lt_N t; omega⟩ n := by
  rw [out_last m c t hf]
  refine (eq_sum_fin_of_reset_step_apply_of_flush (fun n h => (outsAt0 m c n h).2) 12 (fun _ => 0) (part m c)
    (fun t h x => first m c t h x) (fun t h x => step m c t h x) t hf (ix2 r n)).trans ?_
  rw [zero_add]
  refine Eq.trans ?_ (sum_at12 _)
  refine Finset.sum_congr rfl fun s _ => ?_
  unfold part
  rw [pay1_at]
  simp only [blk0, blk1]
  have e1 : (12 * (t.val / 12) + s.val) % 12 = s.val := by omega
  have e2 : (12 * (t.val / 12) + s.val) / 12 = t.val / 12 := by omega
  simp only [e1, e2]

/-- The array the kernel ends with. -/
abbrev out : FVec Ideal S8192x1024 .f32 := fun x => G (db m c) (dc m c) (dv m c) (wgt m c) (x 0) (x 1)

theorem arr2 : (dats m 0 c).arrAt 2 cfg0.N = out m c := by
  refine (dats m 0 c).arrAt_eq_of_covers 2 _ (by decide +kernel) fun t hf y => ?_
  have e0 : (((win0_2.blk t).view.emb y) 0).val = t.val / 12 * 2048 + (y 0).val := by
    blk_simp
    rw [idx2 t]
    rfl
  have e1 : (((win0_2.blk t).view.emb y) 1).val = (y 1).val := by
    blk_simp
    rw [idx2 t]
    exact (show 0 * 1024 + (y 1).val = (y 1).val by omega)
  blk_simp
  rw [after0_2]
  refine Eq.trans (congrArg (outsAt0 m c t.val t.isLt).1 (eq_ix2 y)) ((last m c t ((flush0_2 t).mp hf) (y 0) (y 1)).trans ?_)
  exact congrArg₂ (G (db m c) (dc m c) (dv m c) (wgt m c)) (Fin.ext e0.symm) (Fin.ext e1.symm)

/-- The kernel's run: the product, and the arguments as launched. -/
theorem kernel_run (g : Dev nD → PrngReg) :
    θ_run (defs (F := Ideal)) (onTc (τ := τ) (main (F := Ideal))) ⟨m, fun _ => 0, g⟩ (fun r => ∀ c : Dev nD,
      r.2.mem ((c : Thread nD τ).loc main_v13) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run _ _ _).mono (fun r h c => ⟨((h.1 c).1 2).trans (arr2 m c), h.2 c⟩) (θ_run_and (run_main m g) (unchanged m g))

end Kernel

section Reference

open Cert.Reference12Ideal Cert.Reference12Ideal.Read

variable (a b d : FVec Ideal S8192x1024 .f32) (w : FVec Ideal S1024x3072 .f32)

theorem ref_cat (r : Fin 8192) (p : Fin 3072) : val_main_v0 (F := Ideal) a b d (ix2 r p) = cat3 a b d r p := by
  pointwise [val_main_v0]
  rfl

theorem ref_at (r : Fin 8192) (n : Fin 1024) : val_main_v2 (F := Ideal) a b d w (ix2 r n) = G a b d w r n := by
  pointwise [val_main_v2, val_main_v1, ref_cat]
  rfl

end Reference

theorem algebraic : Cert.algebraic_Kernel12Ideal_Reference12Ideal (hKernel12Ideal := Cert.Kernel12Ideal.Gen.facts)
    (hReference12Ideal := Cert.Reference12Ideal.Gen.facts) := by
  intro m g m' g' _ hagree
  refine ⟨fun c => out m c, kernel_run m g, ?_⟩
  refine (θ_run _ _ _).mono (fun r h c => ?_) (Cert.Reference12Ideal.Value.run m' g')
  obtain ⟨h1, h2⟩ := h c
  obtain ⟨e0, e1, e2, e3⟩ := hagree c
  refine ⟨?_, h2⟩
  rw [h1, e0, e1, e2, e3]
  refine (Cert.Reference12Ideal.Read.val_main_v2_eq _ _ _ _).trans ?_
  funext x
  obtain ⟨i, j, rfl⟩ : ∃ i j, x = ix2 i j := ⟨_, _, eq_ix2 x⟩
  exact ref_at _ _ _ _ i j

end Cert.ConvBack

end
-- ==== Proof.Prod.MixOut.lean ====
/- The product that leads back out of a mixer, added to the residual: the kernel's array, and that the plain lines end with
   the same. -/
module

public import proofs.«01_k».proof.Defs
public import proofs.«01_k».proof.Proof.Gen.Kernel13Ideal.Frame
public import proofs.«01_k».proof.Proof.Gen.Reference13Ideal.Run
public import proofs.«01_k».proof.Proof.Gen.Reference13Ideal.Read
public import Idealize.ShloMosaic.Lib.Pointwise
public import Idealize.ShloMosaic.Lib.KernelVsHost
public import Idealize.ShloMosaic.Lib.Pipeline.ValueKit.Acc
public import Idealize.ShloMosaic.Lib.Pipeline.ValueKit.Point

@[expose] public section

set_option maxRecDepth 16384

noncomputable section

namespace Cert.MixOut

open Idealize.ShloMosaic Idealize.ShloMosaic.TcCoe Idealize.SL Idealize.SL.Sem Idealize.ShloMosaic.Pipeline

/-- The residual, and the product over the mixer's columns. -/
def G (o : FVec Ideal ⟨2, ![8192, 1024]⟩ .f32) (w : FVec Ideal ⟨2, ![1024, 1024]⟩ .f32) (x : FVec Ideal ⟨2, ![8192, 1024]⟩ .f32)
    (r : Fin 8192) (n : Fin 1024) : EReal :=
  x (ix2 r n) + ∑ q : Fin 1024, o (ix2 r q) * w (ix2 q n)

section Kernel

open Cert.Kernel13Ideal Cert.Kernel13Ideal.Gen

variable (m : (ℓ : Loc nD τ sig) → Buf (Elt Ideal) ℓ) (c : Dev nD)

/-- The launch's mixed rows, weights and residual. -/
abbrev mixed : FVec Ideal S8192x1024 .f32 := m ((c : Thread nD τ).loc main_arg0)
abbrev wgt : FVec Ideal S1024x1024 .f32 := m ((c : Thread nD τ).loc main_arg1)
abbrev res : FVec Ideal S8192x1024 .f32 := m ((c : Thread nD τ).loc main_arg2)

theorem V_v0 (r : Fin 8192) (q : Fin 1024) : V m c main_v0 (ix2 r q) = mixed m c (ix2 r q) := by
  simp only [V]
  after_results
  pointwise

theorem V_v1 (q n : Fin 1024) : V m c main_v1 (ix2 q n) = wgt m c (ix2 q n) := by
  simp only [V]
  after_results
  pointwise

theorem V_arg2 : V m c main_arg2 = res m c := by
  simp only [V]
  after_results

theorem idx0 : ∀ t : Fin cfg0.N, win0_0.index t = ![t.val, 0] := by
  exact (by decide +kernel : ∀ t : Fin grid0.N, win0_0.index t = ![t.val, 0])
theorem idx1 : ∀ t : Fin cfg0.N, win0_1.index t = ![0, 0] := by
  exact (by decide +kernel : ∀ t : Fin grid0.N, win0_1.index t = ![0, 0])
theorem idx2 : ∀ t : Fin cfg0.N, win0_2.index t = ![t.val, 0] := by
  exact (by decide +kernel : ∀ t : Fin grid0.N, win0_2.index t = ![t.val, 0])
theorem idx3 : ∀ t : Fin cfg0.N, win0_3.index t = ![t.val, 0] := by
  exact (by decide +kernel : ∀ t : Fin grid0.N, win0_3.index t = ![t.val, 0])

theorem lt_N (t : Fin cfg0.N) : t.val < 8 := Nat.lt_of_lt_of_eq t.isLt N_0

theorem blk0 (t : Fin cfg0.N) (r q : Fin 1024) :
    iblk m c 0 t (ix2 r q) = mixed m c (ix2 ⟨t.val * 1024 + r.val, by have := lt_N t; omega⟩ q) := by
  have ht := lt_N t
  refine Eq.trans ?_ (V_v0 m c ⟨t.val * 1024 + r.val, by omega⟩ q)
  blk_ext [iblk, idx0 t]

theorem blk1 (t : Fin cfg0.N) (q n : Fin 1024) : iblk m c 1 t (ix2 q n) = wgt m c (ix2 q n) := by
  refine Eq.trans ?_ (V_v1 m c q n)
  blk_ext [iblk, idx1 t]

theorem blk2 (t : Fin cfg0.N) (r n : Fin 1024) :
    iblk m c 2 t (ix2 r n) = res m c (ix2 ⟨t.val * 1024 + r.val, by have := lt_N t; omega⟩ n) := by
  have ht := lt_N t
  refine Eq.trans ?_ (congrFun (V_arg2 m c) (ix2 ⟨t.val * 1024 + r.val, by omega⟩ n))
  blk_ext [iblk, idx2 t]

theorem pay1_at (x0 x1 : Vec Ideal S1024x1024 .bf16) (x2 : Vec Ideal S1024x1024 .f32) (r n : Fin 1024) :
    k0_pay1 x0 x1 x2 (ix2 r n) = (∑ q : Fin 1024, x0 (ix2 r q) * x1 (ix2 q n)) + x2 (ix2 r n) := by
  pointwise [k0_pay1]

theorem out3 (t : Fin cfg0.N) (r n : Fin 1024) : out0_3 (iblk m c 0 t) (iblk m c 1 t) (iblk m c 2 t) (ix2 r n)
    = G (mixed m c) (wgt m c) (res m c) ⟨t.val * 1024 + r.val, by have := lt_N t; omega⟩ n := by
  frame_out
  rw [pay1_at]
  simp only [blk0, blk1, blk2]
  exact add_comm _ _

/-- The array the kernel ends with. -/
abbrev out : FVec Ideal S8192x1024 .f32 := fun x => G (mixed m c) (wgt m c) (res m c) (x 0) (x 1)

theorem arr3 : (dats m 0 c).arrAt 3 cfg0.N = out m c := by
  refine (dats m 0 c).arrAt_eq_of_covers 3 _ (by decide +kernel) fun t hf y => ?_
  have e0 : (((win0_3.blk t).view.emb y) 0).val = t.val * 1024 + (y 0).val := by
    blk_simp
    rw [idx3 t]
    rfl
  have e1 : (((win0_3.blk t).view.emb y) 1).val = (y 1).val := by
    blk_simp
    rw [idx3 t]
    exact (show 0 * 1024 + (y 1).val = (y 1).val by omega)
  blk_simp
  rw [after0_3]
  refine Eq.trans (congrArg (out0_3 (iblk m c 0 t) (iblk m c 1 t) (iblk m c 2 t)) (eq_ix2 y)) ((out3 m c t (y 0) (y 1)).trans ?_)
  exact congrArg₂ (G (mixed m c) (wgt m c) (res m c)) (Fin.ext e0.symm) (Fin.ext e1.symm)

/-- The kernel's run: the sum, and the arguments as launched. -/
theorem kernel_run (g : Dev nD → PrngReg) :
    θ_run (defs (F := Ideal)) (onTc (τ := τ) (main (F := Ideal))) ⟨m, fun _ => 0, g⟩ (fun r => ∀ c : Dev nD,
      r.2.mem ((c : Thread nD τ).loc main_v2) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run _ _ _).mono (fun r h c => ⟨((h.1 c).1 3).trans (arr3 m c), h.2 c⟩) (θ_run_and (run_main m g) (unchanged m g))

end Kernel

section Reference

open Cert.Reference13Ideal Cert.Reference13Ideal.Read

theorem ref_at (o : FVec Ideal S8192x1024 .f32) (w : FVec Ideal S1024x1024 .f32) (x : FVec Ideal S8192x1024 .f32)
    (r : Fin 8192) (n : Fin 1024) : val_main_v1 (F := Ideal) o w x (ix2 r n) = G o w x r n := by
  pointwise [val_main_v1, val_main_v0]
  rfl

end Reference

theorem algebraic : Cert.algebraic_Kernel13Ideal_Reference13Ideal (hKernel13Ideal := Cert.Kernel13Ideal.Gen.facts)
    (hReference13Ideal := Cert.Reference13Ideal.Gen.facts) := by
  intro m g m' g' _ hagree
  refine ⟨fun c => out m c, kernel_run m g, ?_⟩
  refine (θ_run _ _ _).mono (fun r h c => ?_) (Cert.Reference13Ideal.Value.run m' g')
  obtain ⟨h1, h2⟩ := h c
  obtain ⟨e0, e1, e2⟩ := hagree c
  refine ⟨?_, h2⟩
  rw [h1, e0, e1, e2]
  refine (Cert.Reference13Ideal.Read.val_main_v1_eq _ _ _).trans ?_
  funext x
  obtain ⟨i, j, rfl⟩ : ∃ i j, x = ix2 i j := ⟨_, _, eq_ix2 x⟩
  exact ref_at _ _ _ i j

end Cert.MixOut

end
-- ==== Proof.Prod.ConvIn.lean ====
/- The product that leads into the convolution, its three parts apart: the kernel's array, and that the plain lines end with
   the same. -/
module

public import proofs.«01_k».proof.Defs
public import proofs.«01_k».proof.Proof.Gen.Kernel14Ideal.Frame
public import proofs.«01_k».proof.Proof.Gen.Reference14Ideal.Run
public import proofs.«01_k».proof.Proof.Gen.Reference14Ideal.Read
public import proofs.«01_k».proof.Proof.Prod.Cat3
public import Idealize.ShloMosaic.Lib.KernelVsHost
public import Idealize.ShloMosaic.Lib.Pipeline.ValueKit.Point

@[expose] public section

set_option maxRecDepth 16384

noncomputable section

namespace Cert.ConvIn

open Idealize.ShloMosaic Idealize.ShloMosaic.TcCoe Idealize.SL Idealize.SL.Sem Idealize.ShloMosaic.Pipeline
open Cert.Prod

/-- A row of the activations times a column of the weights. -/
def G (h : FVec Ideal Rows .f32) (w : FVec Ideal Wide .f32) (r : Fin 8192) (p : Fin 3072) : EReal :=
  ∑ q : Fin 1024, h (ix2 r q) * w (ix2 q p)

section Kernel

open Cert.Kernel14Ideal Cert.Kernel14Ideal.Gen

variable (m : (ℓ : Loc nD τ sig) → Buf (Elt Ideal) ℓ) (c : Dev nD)

/-- The launch's activations and weights. -/
abbrev hid : FVec Ideal S8192x1024 .f32 := m ((c : Thread nD τ).loc main_arg0)
abbrev wgt : FVec Ideal S1024x3072 .f32 := m ((c : Thread nD τ).loc main_arg1)

theorem V_v4 (r : Fin 8192) (q : Fin 1024) : V m c main_v4 (ix2 r q) = hid m c (ix2 r q) := by
  simp only [V, V0, List.flatten_cons, List.flatten_nil, List.append_nil]
  after_results
  pointwise

theorem V_v3_eq : V m c main_v3 = truncf .bf16 (broadcastInDim S4x1x1024x768 ![0, 2, 3] bcast_S4x1024x768_S4x1x1024x768_0_2_3
      (transpose S4x1024x768 [1, 0, 2] (shapeCast S1024x4x768 (wgt m c) shapeCasts_S1024x3072_S1024x4x768)
        transposes_S1024x4x768_S4x1024x768_1_0_2)) bitsLt_bf16_f32 := by
  simp only [V, V0, List.flatten_cons, List.flatten_nil, List.append_nil]
  after_results
  rfl

theorem V_v3 (j : Fin 4) (q : Fin 1024) (l : Fin 768) :
    V m c main_v3 (ix4 j 0 q l) = wgt m c (ix2 q ⟨j.val * 768 + l.val, by omega⟩) := by
  rw [V_v3_eq]
  exact cut_at (wgt m c) shapeCasts_S1024x3072_S1024x4x768 transposes_S1024x4x768_S4x1024x768_1_0_2
    bcast_S4x1024x768_S4x1x1024x768_0_2_3 j q l

theorem idx0 : ∀ t : Fin cfg0.N, win0_0.index t = ![t.val / 12, 0] := by
  exact (by decide +kernel : ∀ t : Fin grid0.N, win0_0.index t = ![t.val / 12, 0])
theorem idx1 : ∀ t : Fin cfg0.N, win0_1.index t = ![at12 (t.val % 12) / 3, 0, 0, at12 (t.val % 12) % 3] := by
  exact (by decide +kernel : ∀ t : Fin grid0.N, win0_1.index t = ![at12 (t.val % 12) / 3, 0, 0, at12 (t.val % 12) % 3])
theorem idx2 : ∀ t : Fin cfg0.N, win0_2.index t = ![t.val / 12, t.val % 12] := by
  exact (by decide +kernel : ∀ t : Fin grid0.N, win0_2.index t = ![t.val / 12, t.val % 12])

theorem lt_N (t : Fin cfg0.N) : t.val < 24 := Nat.lt_of_lt_of_eq t.isLt N_0

theorem mod_lt (t : Fin cfg0.N) : at12 (t.val % 12) < 12 := at12_lt (Nat.mod_lt _ (by omega))

theorem blk0 (t : Fin cfg0.N) (r : Fin 4096) (q : Fin 1024) :
    iblk m c 0 t (ix2 r q) = hid m c (ix2 ⟨t.val / 12 * 4096 + r.val, by have := lt_N t; omega⟩ q) := by
  have ht := lt_N t
  refine Eq.trans ?_ (V_v4 m c ⟨t.val / 12 * 4096 + r.val, by omega⟩ q)
  blk_ext [iblk, idx0 t]

theorem blk1 (t : Fin cfg0.N) (q : Fin 1024) (l : Fin 256) :
    iblk m c 1 t (ix4 0 0 q l) = wgt m c (ix2 q ⟨at12 (t.val % 12) * 256 + l.val, by have := mod_lt t; omega⟩) := by
  have ht := mod_lt t
  refine Eq.trans ?_ ((V_v3 m c ⟨at12 (t.val % 12) / 3, by omega⟩ q ⟨at12 (t.val % 12) % 3 * 256 + l.val, by omega⟩).trans
    (congrArg (fun p : Fin 3072 => wgt m c (ix2 q p)) (Fin.ext (by dsimp only; omega))))
  blk_ext [iblk, idx1 t]

theorem pay1_at (x0 : Vec Ideal S4096x1024 .bf16) (x1 : Vec Ideal S1x1x1024x256 .bf16) (r : Fin 4096) (l : Fin 256) :
    k0_pay1 x0 x1 (ix2 r l) = ∑ q : Fin 1024, x0 (ix2 r q) * x1 (ix4 0 0 q l) := by
  pointwise [k0_pay1]

theorem out2 (t : Fin cfg0.N) (r : Fin 4096) (l : Fin 256) : out0_2 (iblk m c 0 t) (iblk m c 1 t) (ix2 r l)
    = G (hid m c) (wgt m c) ⟨t.val / 12 * 4096 + r.val, by have := lt_N t; omega⟩
      ⟨at12 (t.val % 12) * 256 + l.val, by have := mod_lt t; omega⟩ := by
  frame_out
  rw [pay1_at]
  simp only [blk0, blk1]
  rfl

/-- The column of the weights that a column of the interleaved output comes from. -/
def src (p : ℕ) : ℕ := at12 (p / 256) * 256 + p % 256

theorem src_lt (p : Fin 3072) : src p.val < 3072 := by
  have := at12_lt (show p.val / 256 < 12 by omega)
  unfold src
  omega

/-- The array the kernel writes: the product, its columns interleaved. -/
def G2 (h : FVec Ideal Rows .f32) (w : FVec Ideal Wide .f32) (r : Fin 8192) (p : Fin 3072) : EReal := G h w r ⟨src p.val, src_lt p⟩

theorem arr2 : (dats m 0 c).arrAt 2 cfg0.N = fun x : S8192x3072.Idx => G2 (hid m c) (wgt m c) (x 0) (x 1) := by
  refine (dats m 0 c).arrAt_eq_of_covers 2 _ (by decide +kernel) fun t hf y => ?_
  have y1 : (y 1).val < 256 := (y 1).isLt
  have e0 : (((win0_2.blk t).view.emb y) 0).val = t.val / 12 * 4096 + (y 0).val := by
    blk_simp
    rw [idx2 t]
    rfl
  have e1 : (((win0_2.blk t).view.emb y) 1).val = t.val % 12 * 256 + (y 1).val := by
    blk_simp
    rw [idx2 t]
    rfl
  have e2 : at12 (t.val % 12) * 256 + (y 1).val = src (t.val % 12 * 256 + (y 1).val) := by
    unfold src
    rw [show (t.val % 12 * 256 + (y 1).val) / 256 = t.val % 12 by omega, show (t.val % 12 * 256 + (y 1).val) % 256 = (y 1).val by omega]
  blk_simp
  rw [after0_2]
  refine Eq.trans (congrArg (out0_2 (iblk m c 0 t) (iblk m c 1 t)) (eq_ix2 y)) ((out2 m c t (y 0) (y 1)).trans ?_)
  unfold G2
  exact congrArg₂ (G (hid m c) (wgt m c)) (Fin.ext e0.symm) (Fin.ext (e2.trans (congrArg src e1.symm)))

/-- The contents of the buffer `b` when the program ends. -/
abbrev fin (b : Ref sig .tc) : Buf (Elt Ideal) ((c : Thread nD τ).loc b) :=
  Pipeline.afterTail₀ cfgs (dats m) 0 (V0 m) [hostOps1] c b

/-- The three results at a token and a column. -/
theorem fin_at (r : Fin 8192) (f : Fin 1024) :
    fin m c main_v10 (ix2 r f) = G (hid m c) (wgt m c) r ⟨f.val, by omega⟩
      ∧ fin m c main_v13 (ix2 r f) = G (hid m c) (wgt m c) r ⟨1024 + f.val, by omega⟩
      ∧ fin m c main_v16 (ix2 r f) = G (hid m c) (wgt m c) r ⟨2048 + f.val, by omega⟩ := by
  have h2 := (dats m 0 c).withArrays_arrAt (by decide +kernel) (V0 m c) (A_eq m c) 2
  simp only [fin, Pipeline.afterTail₀, List.flatten_cons, List.flatten_nil, List.append_nil]
  refine ⟨?_, ?_, ?_⟩
  · after_results
    pointwise
    refine (congrFun h2 _).trans ((congrFun (arr2 m c) _).trans ?_)
    unfold G2
    refine congrArg₂ (G (hid m c) (wgt m c)) (Fin.ext ?_) (Fin.ext ?_) <;> dsimp only [ix2_0, ix2_1, src, at12] <;> omega
  · after_results
    pointwise
    refine (congrFun h2 _).trans ((congrFun (arr2 m c) _).trans ?_)
    unfold G2
    refine congrArg₂ (G (hid m c) (wgt m c)) (Fin.ext ?_) (Fin.ext ?_) <;> dsimp only [ix2_0, ix2_1, src, at12] <;> omega
  · after_results
    pointwise
    refine (congrFun h2 _).trans ((congrFun (arr2 m c) _).trans ?_)
    unfold G2
    refine congrArg₂ (G (hid m c) (wgt m c)) (Fin.ext ?_) (Fin.ext ?_) <;> dsimp only [ix2_0, ix2_1, src, at12] <;> omega

/-- The kernel's run: the three results, and the arguments as launched. -/
theorem kernel_run (g : Dev nD → PrngReg) :
    θ_run (defs (F := Ideal)) (onTc (τ := τ) (main (F := Ideal))) ⟨m, fun _ => 0, g⟩ (fun r => ∀ c : Dev nD,
      r.2.mem ((c : Thread nD τ).loc main_v10) = fin m c main_v10 ∧ r.2.mem ((c : Thread nD τ).loc main_v13) = fin m c main_v13
      ∧ r.2.mem ((c : Thread nD τ).loc main_v16) = fin m c main_v16
      ∧ r.2.mem ((c : Thread nD τ).loc main_arg0) = m ((c : Thread nD τ).loc main_arg0)
      ∧ r.2.mem ((c : Thread nD τ).loc main_arg1) = m ((c : Thread nD τ).loc main_arg1)) :=
  (θ_run _ _ _).mono (fun r h c => ⟨(h.1 c).2 main_v10 (by decide), (h.1 c).2 main_v13 (by decide), (h.1 c).2 main_v16 (by decide), h.2 c⟩)
    (θ_run_and (run_main m g) (unchanged m g))

end Kernel

section Reference

open Cert.Reference14Ideal Cert.Reference14Ideal.Read

variable (h : FVec Ideal S8192x1024 .f32) (w : FVec Ideal S1024x3072 .f32) (r : Fin 8192) (f : Fin 1024)

theorem ref_first : val_main_v1 (F := Ideal) h w (ix2 r f) = G h w r ⟨f.val, by omega⟩ := by
  pointwise [val_main_v1, val_main_v0]
  rfl

theorem ref_second : val_main_v2 (F := Ideal) h w (ix2 r f) = G h w r ⟨1024 + f.val, by omega⟩ := by
  pointwise [val_main_v2, val_main_v0]
  rfl

theorem ref_third : val_main_v3 (F := Ideal) h w (ix2 r f) = G h w r ⟨2048 + f.val, by omega⟩ := by
  pointwise [val_main_v3, val_main_v0]
  rfl

end Reference

theorem algebraic : Cert.algebraic_Kernel14Ideal_Reference14Ideal (hKernel14Ideal := Cert.Kernel14Ideal.Gen.facts)
    (hReference14Ideal := Cert.Reference14Ideal.Gen.facts) := by
  intro m g m' g' _ hagree
  refine ⟨fun c => fin m c Cert.Kernel14Ideal.main_v10, fun c => fin m c Cert.Kernel14Ideal.main_v13,
    fun c => fin m c Cert.Kernel14Ideal.main_v16, kernel_run m g, ?_⟩
  refine (θ_run _ _ _).mono (fun r h c => ?_) (Cert.Reference14Ideal.Value.run m' g')
  obtain ⟨h1, h2, h3, h4⟩ := h c
  obtain ⟨e0, e1⟩ := hagree c
  refine ⟨?_, ?_, ?_, h4⟩
  · rw [h1, e0, e1]
    refine (Cert.Reference14Ideal.Read.val_main_v1_eq _ _).trans ?_
    funext x
    obtain ⟨i, j, rfl⟩ : ∃ i j, x = ix2 i j := ⟨_, _, eq_ix2 x⟩
    exact (ref_first _ _ i j).trans (fin_at m c i j).1.symm
  · rw [h2, e0, e1]
    refine (Cert.Reference14Ideal.Read.val_main_v2_eq _ _).trans ?_
    funext x
    obtain ⟨i, j, rfl⟩ : ∃ i j, x = ix2 i j := ⟨_, _, eq_ix2 x⟩
    exact (ref_second _ _ i j).trans (fin_at m c i j).2.1.symm
  · rw [h3, e0, e1]
    refine (Cert.Reference14Ideal.Read.val_main_v3_eq _ _).trans ?_
    funext x
    obtain ⟨i, j, rfl⟩ : ∃ i j, x = ix2 i j := ⟨_, _, eq_ix2 x⟩
    exact (ref_third _ _ i j).trans (fin_at m c i j).2.2.symm

end Cert.ConvIn

end
-- ==== Proof.Prod.ProjIn.lean ====
/- A product that leads into the attention or the state-space layer, 1024 columns wide: the kernel's array, and that the plain line ends
   with the same. -/
module

public import proofs.«01_k».proof.Defs
public import proofs.«01_k».proof.Proof.Gen.Kernel15Ideal.Frame
public import proofs.«01_k».proof.Proof.Gen.Reference15Ideal.Run
public import proofs.«01_k».proof.Proof.Gen.Reference15Ideal.Read
public import Idealize.ShloMosaic.Lib.Pointwise
public import Idealize.ShloMosaic.Lib.KernelVsHost
public import Idealize.ShloMosaic.Lib.Pipeline.ValueKit.Acc
public import Idealize.ShloMosaic.Lib.Pipeline.ValueKit.Point

@[expose] public section

set_option maxRecDepth 16384

noncomputable section

namespace Cert.ProjIn

open Idealize.ShloMosaic Idealize.ShloMosaic.TcCoe Idealize.SL Idealize.SL.Sem Idealize.ShloMosaic.Pipeline

/-- A row of the input times a column of the weights. -/
def G (h : FVec Ideal ⟨2, ![8192, 1024]⟩ .f32) (w : FVec Ideal ⟨2, ![1024, 1024]⟩ .f32) (r : Fin 8192) (q : Fin 1024) : EReal :=
  ∑ n : Fin 1024, h (ix2 r n) * w (ix2 n q)

section Kernel

open Cert.Kernel15Ideal Cert.Kernel15Ideal.Gen

variable (m : (ℓ : Loc nD τ sig) → Buf (Elt Ideal) ℓ) (c : Dev nD)

/-- The launch's input and the weights. -/
abbrev inp : FVec Ideal S8192x1024 .f32 := m ((c : Thread nD τ).loc main_arg0)
abbrev wgt : FVec Ideal S1024x1024 .f32 := m ((c : Thread nD τ).loc main_arg1)

theorem V_v0 (r : Fin 8192) (n : Fin 1024) : V m c main_v0 (ix2 r n) = inp m c (ix2 r n) := by
  simp only [V, V0, List.flatten_cons, List.flatten_nil, List.append_nil]
  after_results
  pointwise

theorem V_v1 (q n : Fin 1024) : V m c main_v1 (ix2 q n) = wgt m c (ix2 q n) := by
  simp only [V, V0, List.flatten_cons, List.flatten_nil, List.append_nil]
  after_results
  pointwise

theorem idx0 : ∀ t : Fin cfg0.N, win0_0.index t = ![t.val, 0] := by
  exact (by decide +kernel : ∀ t : Fin grid0.N, win0_0.index t = ![t.val, 0])
theorem idx1 : ∀ t : Fin cfg0.N, win0_1.index t = ![0, 0] := by
  exact (by decide +kernel : ∀ t : Fin grid0.N, win0_1.index t = ![0, 0])
theorem idx2 : ∀ t : Fin cfg0.N, win0_2.index t = ![t.val, 0] := by
  exact (by decide +kernel : ∀ t : Fin grid0.N, win0_2.index t = ![t.val, 0])

theorem lt_N (t : Fin cfg0.N) : t.val < 8 := Nat.lt_of_lt_of_eq t.isLt N_0

theorem blk0 (t : Fin cfg0.N) (r n : Fin 1024) :
    iblk m c 0 t (ix2 r n) = inp m c (ix2 ⟨t.val * 1024 + r.val, by have := lt_N t; omega⟩ n) := by
  have ht := lt_N t
  refine Eq.trans ?_ (V_v0 m c ⟨t.val * 1024 + r.val, by omega⟩ n)
  blk_ext [iblk, idx0 t]

theorem blk1 (t : Fin cfg0.N) (q n : Fin 1024) : iblk m c 1 t (ix2 q n) = wgt m c (ix2 q n) := by
  refine Eq.trans ?_ (V_v1 m c q n)
  blk_ext [iblk, idx1 t]

theorem pay1_at (x0 x1 : Vec Ideal S1024x1024 .bf16) (r q : Fin 1024) :
    k0_pay1 x0 x1 (ix2 r q) = ∑ n : Fin 1024, x0 (ix2 r n) * x1 (ix2 n q) := by
  pointwise [k0_pay1]

theorem out2 (t : Fin cfg0.N) (r q : Fin 1024) : out0_2 (iblk m c 0 t) (iblk m c 1 t) (ix2 r q)
    = G (inp m c) (wgt m c) ⟨t.val * 1024 + r.val, by have := lt_N t; omega⟩ q := by
  frame_out
  rw [pay1_at]
  simp only [blk0, blk1]
  rfl

theorem arr2 : (dats m 0 c).arrAt 2 cfg0.N = fun x : S8192x1024.Idx => G (inp m c) (wgt m c) (x 0) (x 1) := by
  refine (dats m 0 c).arrAt_eq_of_covers 2 _ (by decide +kernel) fun t hf y => ?_
  have e0 : (((win0_2.blk t).view.emb y) 0).val = t.val * 1024 + (y 0).val := by
    blk_simp
    rw [idx2 t]
    rfl
  have e1 : (((win0_2.blk t).view.emb y) 1).val = (y 1).val := by
    blk_simp
    rw [idx2 t]
    exact (show 0 * 1024 + (y 1).val = (y 1).val by omega)
  blk_simp
  rw [after0_2]
  refine Eq.trans (congrArg (out0_2 (iblk m c 0 t) (iblk m c 1 t)) (eq_ix2 y)) ((out2 m c t (y 0) (y 1)).trans ?_)
  exact congrArg₂ (G (inp m c) (wgt m c)) (Fin.ext e0.symm) (Fin.ext e1.symm)

/-- The contents of the buffer `b` when the program ends. -/
abbrev fin (b : Ref sig .tc) : Buf (Elt Ideal) ((c : Thread nD τ).loc b) :=
  Pipeline.afterTail₀ cfgs (dats m) 0 (V0 m) [hostOps1] c b

theorem fin_at (r : Fin 8192) (q : Fin 1024) : fin m c main_v3 (ix2 r q) = G (inp m c) (wgt m c) r q := by
  have h2 := (dats m 0 c).withArrays_arrAt (by decide +kernel) (V0 m c) (A_eq m c) 2
  simp only [fin, Pipeline.afterTail₀, List.flatten_cons, List.flatten_nil, List.append_nil]
  after_results
  pointwise
  exact (congrFun h2 _).trans (congrFun (arr2 m c) _)

/-- The kernel's run: the product, and the arguments as launched. -/
theorem kernel_run (g : Dev nD → PrngReg) :
    θ_run (defs (F := Ideal)) (onTc (τ := τ) (main (F := Ideal))) ⟨m, fun _ => 0, g⟩ (fun r => ∀ c : Dev nD,
      r.2.mem ((c : Thread nD τ).loc main_v3) = fin m c main_v3
      ∧ r.2.mem ((c : Thread nD τ).loc main_arg0) = m ((c : Thread nD τ).loc main_arg0)
      ∧ r.2.mem ((c : Thread nD τ).loc main_arg1) = m ((c : Thread nD τ).loc main_arg1)) :=
  (θ_run _ _ _).mono (fun r h c => ⟨(h.1 c).2 main_v3 (by decide), h.2 c⟩) (θ_run_and (run_main m g) (unchanged m g))

end Kernel

section Reference

open Cert.Reference15Ideal Cert.Reference15Ideal.Read

theorem ref_at (h : FVec Ideal S8192x1024 .f32) (w : FVec Ideal S1024x1024 .f32) (r : Fin 8192) (q : Fin 1024) :
    val_main_v0 (F := Ideal) h w (ix2 r q) = G h w r q := by
  pointwise [val_main_v0]
  rfl

end Reference

theorem algebraic : Cert.algebraic_Kernel15Ideal_Reference15Ideal (hKernel15Ideal := Cert.Kernel15Ideal.Gen.facts)
    (hReference15Ideal := Cert.Reference15Ideal.Gen.facts) := by
  intro m g m' g' _ hagree
  refine ⟨fun c => fin m c Cert.Kernel15Ideal.main_v3, kernel_run m g, ?_⟩
  refine (θ_run _ _ _).mono (fun r h c => ?_) (Cert.Reference15Ideal.Value.run m' g')
  obtain ⟨h1, h2⟩ := h c
  obtain ⟨e0, e1⟩ := hagree c
  refine ⟨?_, h2⟩
  rw [h1, e0, e1]
  refine (Cert.Reference15Ideal.Read.val_main_v0_eq _ _).trans ?_
  funext x
  obtain ⟨i, j, rfl⟩ : ∃ i j, x = ix2 i j := ⟨_, _, eq_ix2 x⟩
  exact (ref_at _ _ i j).trans (fin_at m c i j).symm

end Cert.ProjIn

end
-- ==== Proof.Prod.ProjGrad.lean ====
/- The gradient of 1024 columns of the weights that lead into the attention or the state-space layer, a product over the tokens: the kernel's array, and that the
   plain line ends with the same. -/
module

public import proofs.«01_k».proof.Defs
public import proofs.«01_k».proof.Proof.Gen.Kernel16Ideal.Frame
public import proofs.«01_k».proof.Proof.Gen.Reference16Ideal.Run
public import proofs.«01_k».proof.Proof.Gen.Reference16Ideal.Read
public import Idealize.ShloMosaic.Lib.Pointwise
public import Idealize.ShloMosaic.Lib.Pipeline.ReadBack
public import Idealize.ShloMosaic.Lib.KernelVsHost
public import Idealize.ShloMosaic.Lib.Pipeline.ValueKit.Acc
public import Idealize.ShloMosaic.Lib.Pipeline.ValueKit.Point

@[expose] public section

set_option maxRecDepth 16384

noncomputable section

namespace Cert.ProjGrad

open Idealize.ShloMosaic Idealize.ShloMosaic.TcCoe Idealize.SL Idealize.SL.Sem Idealize.ShloMosaic.Pipeline

/-- The product over all tokens. -/
def G (o d : FVec Ideal ⟨2, ![8192, 1024]⟩ .f32) (q n : Fin 1024) : EReal := ∑ r : Fin 8192, o (ix2 r q) * d (ix2 r n)

section Kernel

open Cert.Kernel16Ideal Cert.Kernel16Ideal.Gen

variable (m : (ℓ : Loc nD τ sig) → Buf (Elt Ideal) ℓ) (c : Dev nD)

/-- The launch's input and the gradient from above. -/
abbrev inp : FVec Ideal S8192x1024 .f32 := m ((c : Thread nD τ).loc main_arg0)
abbrev dy : FVec Ideal S8192x1024 .f32 := m ((c : Thread nD τ).loc main_arg1)

theorem V_v0 (r : Fin 8192) (q : Fin 1024) : V m c main_v0 (ix2 r q) = inp m c (ix2 r q) := by
  simp only [V]
  after_results
  pointwise

theorem V_v1 (r : Fin 8192) (n : Fin 1024) : V m c main_v1 (ix2 r n) = dy m c (ix2 r n) := by
  simp only [V]
  after_results
  pointwise

theorem idx0 : ∀ t : Fin cfg0.N, win0_0.index t = ![t.val, 0] := by
  exact (by decide +kernel : ∀ t : Fin grid0.N, win0_0.index t = ![t.val, 0])
theorem idx1 : ∀ t : Fin cfg0.N, win0_1.index t = ![t.val, 0] := by
  exact (by decide +kernel : ∀ t : Fin grid0.N, win0_1.index t = ![t.val, 0])
theorem idx2 : ∀ t : Fin cfg0.N, win0_2.index t = ![0, 0] := by
  exact (by decide +kernel : ∀ t : Fin grid0.N, win0_2.index t = ![0, 0])

theorem lt_N (t : Fin cfg0.N) : t.val < 8 := Nat.lt_of_lt_of_eq t.isLt N_0

theorem blk0 (t : Fin cfg0.N) (r q : Fin 1024) :
    iblk m c 0 t (ix2 r q) = inp m c (ix2 ⟨t.val * 1024 + r.val, by have := lt_N t; omega⟩ q) := by
  have ht := lt_N t
  refine Eq.trans ?_ (V_v0 m c ⟨t.val * 1024 + r.val, by omega⟩ q)
  blk_ext [iblk, idx0 t]

theorem blk1 (t : Fin cfg0.N) (r n : Fin 1024) :
    iblk m c 1 t (ix2 r n) = dy m c (ix2 ⟨t.val * 1024 + r.val, by have := lt_N t; omega⟩ n) := by
  have ht := lt_N t
  refine Eq.trans ?_ (V_v1 m c ⟨t.val * 1024 + r.val, by omega⟩ n)
  blk_ext [iblk, idx1 t]

theorem pay1_at (x0 x1 : Vec Ideal S1024x1024 .bf16) (q n : Fin 1024) :
    k0_pay1 x0 x1 (ix2 q n) = ∑ r : Fin 1024, x0 (ix2 r q) * x1 (ix2 r n) := by
  pointwise [k0_pay1]

/-- What a point adds. -/
def part (t : Fin cfg0.N) (x : S1024x1024.Idx) : EReal := k0_pay1 (iblk m c 0 t) (iblk m c 1 t) x

theorem first (t : Fin cfg0.N) (h0 : t.val % 8 = 0) (x : S1024x1024.Idx) : (outsAt0 m c t.val t.isLt).2 x = 0 + part m c t x := by
  have ht := lt_N t
  rw [outsAt0_A m c t h0 (by omega) (by omega), eq_ix2 x, zero_add]
  frame_out
  pointwise [k0_pay2]
  rfl

theorem step (t : Fin cfg0.N) (h0 : ¬ t.val % 8 = 0) (x : S1024x1024.Idx) :
    (outsAt0 m c t.val t.isLt).2 x = (outsAt0 m c (t.val - 1) (Nat.lt_of_le_of_lt (Nat.sub_le _ _) t.isLt)).2 x + part m c t x := by
  by_cases h2 : t.val % 8 = 7
  · rw [outsAt0_C m c t h0 (by omega) h2, eq_ix2 x]
    frame_out
    pointwise [k0_pay3]
    rw [read_unread_whole]
    rfl
  · rw [outsAt0_B m c t h0 (by omega) h2, eq_ix2 x]
    frame_out
    pointwise [k0_pay3]
    rw [read_unread_whole]
    rfl

theorem out_last (t : Fin cfg0.N) (h2 : t.val % 8 = 7) (q n : Fin 1024) :
    (outsAt0 m c t.val t.isLt).1 (ix2 q n) = (outsAt0 m c t.val t.isLt).2 (ix2 q n) := by
  rw [outsAt0_C m c t (by omega) (by omega) h2]
  frame_out

theorem last (t : Fin cfg0.N) (hf : t.val % 8 = 7) (q n : Fin 1024) :
    (outsAt0 m c t.val t.isLt).1 (ix2 q n) = G (inp m c) (dy m c) q n := by
  have ht := lt_N t
  rw [out_last m c t hf]
  refine (eq_sum_fin_of_reset_step_apply_of_flush (fun n h => (outsAt0 m c n h).2) 8 (fun _ => 0) (part m c)
    (fun t h x => first m c t h x) (fun t h x => step m c t h x) t hf (ix2 q n)).trans ?_
  rw [zero_add]
  refine Eq.trans ?_ (Fin.sum_mul_add_fin 8 1024 _)
  refine Finset.sum_congr rfl fun s _ => ?_
  unfold part
  rw [pay1_at]
  simp only [blk0, blk1]
  have e1 : 8 * (t.val / 8) + s.val = s.val := by omega
  simp only [e1]

/-- The array the kernel ends with. -/
abbrev out : FVec Ideal S1024x1024 .f32 := fun x => G (inp m c) (dy m c) (x 0) (x 1)

theorem arr2 : (dats m 0 c).arrAt 2 cfg0.N = out m c := by
  refine (dats m 0 c).arrAt_eq_of_covers 2 _ (by decide +kernel) fun t hf y => ?_
  have e0 : (((win0_2.blk t).view.emb y) 0).val = (y 0).val := by
    blk_simp
    rw [idx2 t]
    exact (show 0 * 1024 + (y 0).val = (y 0).val by omega)
  have e1 : (((win0_2.blk t).view.emb y) 1).val = (y 1).val := by
    blk_simp
    rw [idx2 t]
    exact (show 0 * 1024 + (y 1).val = (y 1).val by omega)
  blk_simp
  rw [after0_2]
  have ht := lt_N t
  refine Eq.trans (congrArg (outsAt0 m c t.val t.isLt).1 (eq_ix2 y))
    ((last m c t (by have := (flush0_2 t).mp hf; omega) (y 0) (y 1)).trans ?_)
  exact congrArg₂ (G (inp m c) (dy m c)) (Fin.ext e0.symm) (Fin.ext e1.symm)

/-- The kernel's run: the product, and the arguments as launched. -/
theorem kernel_run (g : Dev nD → PrngReg) :
    θ_run (defs (F := Ideal)) (onTc (τ := τ) (main (F := Ideal))) ⟨m, fun _ => 0, g⟩ (fun r => ∀ c : Dev nD,
      r.2.mem ((c : Thread nD τ).loc main_v2) = out m c
      ∧ r.2.mem ((c : Thread nD τ).loc main_arg0) = m ((c : Thread nD τ).loc main_arg0)
      ∧ r.2.mem ((c : Thread nD τ).loc main_arg1) = m ((c : Thread nD τ).loc main_arg1)) :=
  (θ_run _ _ _).mono (fun r h c => ⟨((h.1 c).1 2).trans (arr2 m c), h.2 c⟩) (θ_run_and (run_main m g) (unchanged m g))

end Kernel

section Reference

open Cert.Reference16Ideal Cert.Reference16Ideal.Read

theorem ref_at (o d : FVec Ideal S8192x1024 .f32) (q n : Fin 1024) : val_main_v1 (F := Ideal) o d (ix2 q n) = G o d q n := by
  pointwise [val_main_v1, val_main_v0]
  rfl

end Reference

theorem algebraic : Cert.algebraic_Kernel16Ideal_Reference16Ideal (hKernel16Ideal := Cert.Kernel16Ideal.Gen.facts)
    (hReference16Ideal := Cert.Reference16Ideal.Gen.facts) := by
  intro m g m' g' _ hagree
  refine ⟨fun c => out m c, kernel_run m g, ?_⟩
  refine (θ_run _ _ _).mono (fun r h c => ?_) (Cert.Reference16Ideal.Value.run m' g')
  obtain ⟨h1, h2⟩ := h c
  obtain ⟨e0, e1⟩ := hagree c
  refine ⟨?_, h2⟩
  rw [h1, e0, e1]
  refine (Cert.Reference16Ideal.Read.val_main_v1_eq _ _).trans ?_
  funext x
  obtain ⟨i, j, rfl⟩ : ∃ i j, x = ix2 i j := ⟨_, _, eq_ix2 x⟩
  exact ref_at _ _ i j

end Cert.ProjGrad

end
-- ==== Proof.Prod.ProjBack.lean ====
/- The gradient of the attention's input through its queries, a product with the transposed weights: the kernel's array, and that the plain line ends
   with the same. -/
module

public import proofs.«01_k».proof.Defs
public import proofs.«01_k».proof.Proof.Gen.Kernel17Ideal.Frame
public import proofs.«01_k».proof.Proof.Gen.Reference17Ideal.Run
public import proofs.«01_k».proof.Proof.Gen.Reference17Ideal.Read
public import Idealize.ShloMosaic.Lib.Pointwise
public import Idealize.ShloMosaic.Lib.KernelVsHost
public import Idealize.ShloMosaic.Lib.Pipeline.ValueKit.Acc
public import Idealize.ShloMosaic.Lib.Pipeline.ValueKit.Point

@[expose] public section

set_option maxRecDepth 16384

noncomputable section

namespace Cert.ProjBack

open Idealize.ShloMosaic Idealize.ShloMosaic.TcCoe Idealize.SL Idealize.SL.Sem Idealize.ShloMosaic.Pipeline

/-- A row of the gradient from above times a row of the weights. -/
def G (d : FVec Ideal ⟨2, ![8192, 1024]⟩ .f32) (w : FVec Ideal ⟨2, ![1024, 1024]⟩ .f32) (r : Fin 8192) (q : Fin 1024) : EReal :=
  ∑ n : Fin 1024, d (ix2 r n) * w (ix2 q n)

section Kernel

open Cert.Kernel17Ideal Cert.Kernel17Ideal.Gen

variable (m : (ℓ : Loc nD τ sig) → Buf (Elt Ideal) ℓ) (c : Dev nD)

/-- The launch's gradient from above and the weights. -/
abbrev dy : FVec Ideal S8192x1024 .f32 := m ((c : Thread nD τ).loc main_arg0)
abbrev wgt : FVec Ideal S1024x1024 .f32 := m ((c : Thread nD τ).loc main_arg1)

theorem V_v0 (r : Fin 8192) (n : Fin 1024) : V m c main_v0 (ix2 r n) = dy m c (ix2 r n) := by
  simp only [V]
  after_results
  pointwise

theorem V_v1 (q n : Fin 1024) : V m c main_v1 (ix2 q n) = wgt m c (ix2 q n) := by
  simp only [V]
  after_results
  pointwise

theorem idx0 : ∀ t : Fin cfg0.N, win0_0.index t = ![t.val, 0] := by
  exact (by decide +kernel : ∀ t : Fin grid0.N, win0_0.index t = ![t.val, 0])
theorem idx1 : ∀ t : Fin cfg0.N, win0_1.index t = ![0, 0] := by
  exact (by decide +kernel : ∀ t : Fin grid0.N, win0_1.index t = ![0, 0])
theorem idx2 : ∀ t : Fin cfg0.N, win0_2.index t = ![t.val, 0] := by
  exact (by decide +kernel : ∀ t : Fin grid0.N, win0_2.index t = ![t.val, 0])

theorem lt_N (t : Fin cfg0.N) : t.val < 8 := Nat.lt_of_lt_of_eq t.isLt N_0

theorem blk0 (t : Fin cfg0.N) (r n : Fin 1024) :
    iblk m c 0 t (ix2 r n) = dy m c (ix2 ⟨t.val * 1024 + r.val, by have := lt_N t; omega⟩ n) := by
  have ht := lt_N t
  refine Eq.trans ?_ (V_v0 m c ⟨t.val * 1024 + r.val, by omega⟩ n)
  blk_ext [iblk, idx0 t]

theorem blk1 (t : Fin cfg0.N) (q n : Fin 1024) : iblk m c 1 t (ix2 q n) = wgt m c (ix2 q n) := by
  refine Eq.trans ?_ (V_v1 m c q n)
  blk_ext [iblk, idx1 t]

theorem pay1_at (x0 x1 : Vec Ideal S1024x1024 .bf16) (r q : Fin 1024) :
    k0_pay1 x0 x1 (ix2 r q) = ∑ n : Fin 1024, x0 (ix2 r n) * x1 (ix2 q n) := by
  pointwise [k0_pay1]

theorem out2 (t : Fin cfg0.N) (r q : Fin 1024) : out0_2 (iblk m c 0 t) (iblk m c 1 t) (ix2 r q)
    = G (dy m c) (wgt m c) ⟨t.val * 1024 + r.val, by have := lt_N t; omega⟩ q := by
  frame_out
  rw [pay1_at]
  simp only [blk0, blk1]
  rfl

/-- The array the kernel ends with. -/
abbrev out : FVec Ideal S8192x1024 .f32 := fun x => G (dy m c) (wgt m c) (x 0) (x 1)

theorem arr2 : (dats m 0 c).arrAt 2 cfg0.N = out m c := by
  refine (dats m 0 c).arrAt_eq_of_covers 2 _ (by decide +kernel) fun t hf y => ?_
  have e0 : (((win0_2.blk t).view.emb y) 0).val = t.val * 1024 + (y 0).val := by
    blk_simp
    rw [idx2 t]
    rfl
  have e1 : (((win0_2.blk t).view.emb y) 1).val = (y 1).val := by
    blk_simp
    rw [idx2 t]
    exact (show 0 * 1024 + (y 1).val = (y 1).val by omega)
  blk_simp
  rw [after0_2]
  refine Eq.trans (congrArg (out0_2 (iblk m c 0 t) (iblk m c 1 t)) (eq_ix2 y)) ((out2 m c t (y 0) (y 1)).trans ?_)
  exact congrArg₂ (G (dy m c) (wgt m c)) (Fin.ext e0.symm) (Fin.ext e1.symm)

/-- The kernel's run: the product, and the arguments as launched. -/
theorem kernel_run (g : Dev nD → PrngReg) :
    θ_run (defs (F := Ideal)) (onTc (τ := τ) (main (F := Ideal))) ⟨m, fun _ => 0, g⟩ (fun r => ∀ c : Dev nD,
      r.2.mem ((c : Thread nD τ).loc main_v2) = out m c
      ∧ r.2.mem ((c : Thread nD τ).loc main_arg0) = m ((c : Thread nD τ).loc main_arg0)
      ∧ r.2.mem ((c : Thread nD τ).loc main_arg1) = m ((c : Thread nD τ).loc main_arg1)) :=
  (θ_run _ _ _).mono (fun r h c => ⟨((h.1 c).1 2).trans (arr2 m c), h.2 c⟩) (θ_run_and (run_main m g) (unchanged m g))

end Kernel

section Reference

open Cert.Reference17Ideal Cert.Reference17Ideal.Read

theorem ref_at (d : FVec Ideal S8192x1024 .f32) (w : FVec Ideal S1024x1024 .f32) (r : Fin 8192) (q : Fin 1024) :
    val_main_v1 (F := Ideal) d w (ix2 r q) = G d w r q := by
  pointwise [val_main_v1, val_main_v0]
  rfl

end Reference

theorem algebraic : Cert.algebraic_Kernel17Ideal_Reference17Ideal (hKernel17Ideal := Cert.Kernel17Ideal.Gen.facts)
    (hReference17Ideal := Cert.Reference17Ideal.Gen.facts) := by
  intro m g m' g' _ hagree
  refine ⟨fun c => out m c, kernel_run m g, ?_⟩
  refine (θ_run _ _ _).mono (fun r h c => ?_) (Cert.Reference17Ideal.Value.run m' g')
  obtain ⟨h1, h2⟩ := h c
  obtain ⟨e0, e1⟩ := hagree c
  refine ⟨?_, h2⟩
  rw [h1, e0, e1]
  refine (Cert.Reference17Ideal.Read.val_main_v1_eq _ _).trans ?_
  funext x
  obtain ⟨i, j, rfl⟩ : ∃ i j, x = ix2 i j := ⟨_, _, eq_ix2 x⟩
  exact ref_at _ _ i j

end Cert.ProjBack

end
-- ==== Proof.Prod.ProjAdd.lean ====
/- A link in the gradient of the attention's or the state-space layer's input, a product with the transposed weights added to
   what the links before gave: the kernel's array, and that the plain lines end with the same. -/
module

public import proofs.«01_k».proof.Defs
public import proofs.«01_k».proof.Proof.Gen.Kernel18Ideal.Frame
public import proofs.«01_k».proof.Proof.Gen.Reference18Ideal.Run
public import proofs.«01_k».proof.Proof.Gen.Reference18Ideal.Read
public import Idealize.ShloMosaic.Lib.Pointwise
public import Idealize.ShloMosaic.Lib.KernelVsHost
public import Idealize.ShloMosaic.Lib.Pipeline.ValueKit.Acc
public import Idealize.ShloMosaic.Lib.Pipeline.ValueKit.Point

@[expose] public section

set_option maxRecDepth 16384

noncomputable section

namespace Cert.ProjAdd

open Idealize.ShloMosaic Idealize.ShloMosaic.TcCoe Idealize.SL Idealize.SL.Sem Idealize.ShloMosaic.Pipeline

/-- What came before, and a row of the gradient times a row of the weights. -/
def G (d : FVec Ideal ⟨2, ![8192, 1024]⟩ .f32) (w : FVec Ideal ⟨2, ![1024, 1024]⟩ .f32) (x : FVec Ideal ⟨2, ![8192, 1024]⟩ .f32)
    (r : Fin 8192) (n : Fin 1024) : EReal :=
  x (ix2 r n) + ∑ q : Fin 1024, d (ix2 r q) * w (ix2 n q)

section Kernel

open Cert.Kernel18Ideal Cert.Kernel18Ideal.Gen

variable (m : (ℓ : Loc nD τ sig) → Buf (Elt Ideal) ℓ) (c : Dev nD)

/-- The launch's gradient, weights and what came before. -/
abbrev dp : FVec Ideal S8192x1024 .f32 := m ((c : Thread nD τ).loc main_arg0)
abbrev wgt : FVec Ideal S1024x1024 .f32 := m ((c : Thread nD τ).loc main_arg1)
abbrev before : FVec Ideal S8192x1024 .f32 := m ((c : Thread nD τ).loc main_arg2)

theorem V_v0 (r : Fin 8192) (q : Fin 1024) : V m c main_v0 (ix2 r q) = dp m c (ix2 r q) := by
  simp only [V]
  after_results
  pointwise

theorem V_v1 (q n : Fin 1024) : V m c main_v1 (ix2 q n) = wgt m c (ix2 q n) := by
  simp only [V]
  after_results
  pointwise

theorem V_arg2 : V m c main_arg2 = before m c := by
  simp only [V]
  after_results

theorem idx0 : ∀ t : Fin cfg0.N, win0_0.index t = ![t.val, 0] := by
  exact (by decide +kernel : ∀ t : Fin grid0.N, win0_0.index t = ![t.val, 0])
theorem idx1 : ∀ t : Fin cfg0.N, win0_1.index t = ![0, 0] := by
  exact (by decide +kernel : ∀ t : Fin grid0.N, win0_1.index t = ![0, 0])
theorem idx2 : ∀ t : Fin cfg0.N, win0_2.index t = ![t.val, 0] := by
  exact (by decide +kernel : ∀ t : Fin grid0.N, win0_2.index t = ![t.val, 0])
theorem idx3 : ∀ t : Fin cfg0.N, win0_3.index t = ![t.val, 0] := by
  exact (by decide +kernel : ∀ t : Fin grid0.N, win0_3.index t = ![t.val, 0])

theorem lt_N (t : Fin cfg0.N) : t.val < 8 := Nat.lt_of_lt_of_eq t.isLt N_0

theorem blk0 (t : Fin cfg0.N) (r q : Fin 1024) :
    iblk m c 0 t (ix2 r q) = dp m c (ix2 ⟨t.val * 1024 + r.val, by have := lt_N t; omega⟩ q) := by
  have ht := lt_N t
  refine Eq.trans ?_ (V_v0 m c ⟨t.val * 1024 + r.val, by omega⟩ q)
  blk_ext [iblk, idx0 t]

theorem blk1 (t : Fin cfg0.N) (q n : Fin 1024) : iblk m c 1 t (ix2 q n) = wgt m c (ix2 q n) := by
  refine Eq.trans ?_ (V_v1 m c q n)
  blk_ext [iblk, idx1 t]

theorem blk2 (t : Fin cfg0.N) (r n : Fin 1024) :
    iblk m c 2 t (ix2 r n) = before m c (ix2 ⟨t.val * 1024 + r.val, by have := lt_N t; omega⟩ n) := by
  have ht := lt_N t
  refine Eq.trans ?_ (congrFun (V_arg2 m c) (ix2 ⟨t.val * 1024 + r.val, by omega⟩ n))
  blk_ext [iblk, idx2 t]

theorem pay1_at (x0 x1 : Vec Ideal S1024x1024 .bf16) (x2 : Vec Ideal S1024x1024 .f32) (r n : Fin 1024) :
    k0_pay1 x0 x1 x2 (ix2 r n) = (∑ q : Fin 1024, x0 (ix2 r q) * x1 (ix2 n q)) + x2 (ix2 r n) := by
  pointwise [k0_pay1]

theorem out3 (t : Fin cfg0.N) (r n : Fin 1024) : out0_3 (iblk m c 0 t) (iblk m c 1 t) (iblk m c 2 t) (ix2 r n)
    = G (dp m c) (wgt m c) (before m c) ⟨t.val * 1024 + r.val, by have := lt_N t; omega⟩ n := by
  frame_out
  rw [pay1_at]
  simp only [blk0, blk1, blk2]
  exact add_comm _ _

/-- The array the kernel ends with. -/
abbrev out : FVec Ideal S8192x1024 .f32 := fun x => G (dp m c) (wgt m c) (before m c) (x 0) (x 1)

theorem arr3 : (dats m 0 c).arrAt 3 cfg0.N = out m c := by
  refine (dats m 0 c).arrAt_eq_of_covers 3 _ (by decide +kernel) fun t hf y => ?_
  have e0 : (((win0_3.blk t).view.emb y) 0).val = t.val * 1024 + (y 0).val := by
    blk_simp
    rw [idx3 t]
    rfl
  have e1 : (((win0_3.blk t).view.emb y) 1).val = (y 1).val := by
    blk_simp
    rw [idx3 t]
    exact (show 0 * 1024 + (y 1).val = (y 1).val by omega)
  blk_simp
  rw [after0_3]
  refine Eq.trans (congrArg (out0_3 (iblk m c 0 t) (iblk m c 1 t) (iblk m c 2 t)) (eq_ix2 y)) ((out3 m c t (y 0) (y 1)).trans ?_)
  exact congrArg₂ (G (dp m c) (wgt m c) (before m c)) (Fin.ext e0.symm) (Fin.ext e1.symm)

/-- The kernel's run: the sum, and the arguments as launched. -/
theorem kernel_run (g : Dev nD → PrngReg) :
    θ_run (defs (F := Ideal)) (onTc (τ := τ) (main (F := Ideal))) ⟨m, fun _ => 0, g⟩ (fun r => ∀ c : Dev nD,
      r.2.mem ((c : Thread nD τ).loc main_v2) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run _ _ _).mono (fun r h c => ⟨((h.1 c).1 3).trans (arr3 m c), h.2 c⟩) (θ_run_and (run_main m g) (unchanged m g))

end Kernel

section Reference

open Cert.Reference18Ideal Cert.Reference18Ideal.Read

theorem ref_at (d : FVec Ideal S8192x1024 .f32) (w : FVec Ideal S1024x1024 .f32) (x : FVec Ideal S8192x1024 .f32)
    (r : Fin 8192) (n : Fin 1024) : val_main_v2 (F := Ideal) d w x (ix2 r n) = G d w x r n := by
  pointwise [val_main_v2, val_main_v1, val_main_v0]
  rfl

end Reference

theorem algebraic : Cert.algebraic_Kernel18Ideal_Reference18Ideal (hKernel18Ideal := Cert.Kernel18Ideal.Gen.facts)
    (hReference18Ideal := Cert.Reference18Ideal.Gen.facts) := by
  intro m g m' g' _ hagree
  refine ⟨fun c => out m c, kernel_run m g, ?_⟩
  refine (θ_run _ _ _).mono (fun r h c => ?_) (Cert.Reference18Ideal.Value.run m' g')
  obtain ⟨h1, h2⟩ := h c
  obtain ⟨e0, e1, e2⟩ := hagree c
  refine ⟨?_, h2⟩
  rw [h1, e0, e1, e2]
  refine (Cert.Reference18Ideal.Read.val_main_v2_eq _ _ _).trans ?_
  funext x
  obtain ⟨i, j, rfl⟩ : ∃ i j, x = ix2 i j := ⟨_, _, eq_ix2 x⟩
  exact ref_at _ _ _ i j

end Cert.ProjAdd

end
-- ==== Proof.Prod.WideIn.lean ====
/- A product that leads into the state-space layer, 2048 columns wide: the kernel's array, and that the plain line ends
   with the same. -/
module

public import proofs.«01_k».proof.Defs
public import proofs.«01_k».proof.Proof.Gen.Kernel19Ideal.Frame
public import proofs.«01_k».proof.Proof.Gen.Reference19Ideal.Run
public import proofs.«01_k».proof.Proof.Gen.Reference19Ideal.Read
public import Idealize.ShloMosaic.Lib.Pointwise
public import Idealize.ShloMosaic.Lib.KernelVsHost
public import Idealize.ShloMosaic.Lib.Pipeline.ValueKit.Acc
public import Idealize.ShloMosaic.Lib.Pipeline.ValueKit.Point

@[expose] public section

set_option maxRecDepth 16384

noncomputable section

namespace Cert.WideIn

open Idealize.ShloMosaic Idealize.ShloMosaic.TcCoe Idealize.SL Idealize.SL.Sem Idealize.ShloMosaic.Pipeline

/-- A row of the input times a column of the weights. -/
def G (h : FVec Ideal ⟨2, ![8192, 1024]⟩ .f32) (w : FVec Ideal ⟨2, ![1024, 2048]⟩ .f32) (r : Fin 8192) (q : Fin 2048) : EReal :=
  ∑ n : Fin 1024, h (ix2 r n) * w (ix2 n q)

section Kernel

open Cert.Kernel19Ideal Cert.Kernel19Ideal.Gen

variable (m : (ℓ : Loc nD τ sig) → Buf (Elt Ideal) ℓ) (c : Dev nD)

/-- The launch's input and the weights. -/
abbrev inp : FVec Ideal S8192x1024 .f32 := m ((c : Thread nD τ).loc main_arg0)
abbrev wgt : FVec Ideal S1024x2048 .f32 := m ((c : Thread nD τ).loc main_arg1)

theorem V_v0 (r : Fin 8192) (n : Fin 1024) : V m c main_v0 (ix2 r n) = inp m c (ix2 r n) := by
  simp only [V, V0, List.flatten_cons, List.flatten_nil, List.append_nil]
  after_results
  pointwise

theorem V_v1 (n : Fin 1024) (q : Fin 2048) : V m c main_v1 (ix2 n q) = wgt m c (ix2 n q) := by
  simp only [V, V0, List.flatten_cons, List.flatten_nil, List.append_nil]
  after_results
  pointwise

theorem idx0 : ∀ t : Fin cfg0.N, win0_0.index t = ![t.val / 2, 0] := by
  exact (by decide +kernel : ∀ t : Fin grid0.N, win0_0.index t = ![t.val / 2, 0])
theorem idx1 : ∀ t : Fin cfg0.N, win0_1.index t = ![0, t.val % 2] := by
  exact (by decide +kernel : ∀ t : Fin grid0.N, win0_1.index t = ![0, t.val % 2])
theorem idx2 : ∀ t : Fin cfg0.N, win0_2.index t = ![t.val / 2, t.val % 2] := by
  exact (by decide +kernel : ∀ t : Fin grid0.N, win0_2.index t = ![t.val / 2, t.val % 2])

theorem lt_N (t : Fin cfg0.N) : t.val < 16 := Nat.lt_of_lt_of_eq t.isLt N_0

theorem blk0 (t : Fin cfg0.N) (r n : Fin 1024) :
    iblk m c 0 t (ix2 r n) = inp m c (ix2 ⟨t.val / 2 * 1024 + r.val, by have := lt_N t; omega⟩ n) := by
  have ht := lt_N t
  refine Eq.trans ?_ (V_v0 m c ⟨t.val / 2 * 1024 + r.val, by omega⟩ n)
  blk_ext [iblk, idx0 t]

theorem blk1 (t : Fin cfg0.N) (n q : Fin 1024) :
    iblk m c 1 t (ix2 n q) = wgt m c (ix2 n ⟨t.val % 2 * 1024 + q.val, by omega⟩) := by
  refine Eq.trans ?_ (V_v1 m c n ⟨t.val % 2 * 1024 + q.val, by omega⟩)
  blk_ext [iblk, idx1 t]

theorem pay1_at (x0 x1 : Vec Ideal S1024x1024 .bf16) (r q : Fin 1024) :
    k0_pay1 x0 x1 (ix2 r q) = ∑ n : Fin 1024, x0 (ix2 r n) * x1 (ix2 n q) := by
  pointwise [k0_pay1]

theorem out2 (t : Fin cfg0.N) (r q : Fin 1024) : out0_2 (iblk m c 0 t) (iblk m c 1 t) (ix2 r q)
    = G (inp m c) (wgt m c) ⟨t.val / 2 * 1024 + r.val, by have := lt_N t; omega⟩ ⟨t.val % 2 * 1024 + q.val, by omega⟩ := by
  frame_out
  rw [pay1_at]
  simp only [blk0, blk1]
  rfl

theorem arr2 : (dats m 0 c).arrAt 2 cfg0.N = fun x : S8192x2048.Idx => G (inp m c) (wgt m c) (x 0) (x 1) := by
  refine (dats m 0 c).arrAt_eq_of_covers 2 _ (by decide +kernel) fun t hf y => ?_
  have e0 : (((win0_2.blk t).view.emb y) 0).val = t.val / 2 * 1024 + (y 0).val := by
    blk_simp
    rw [idx2 t]
    rfl
  have e1 : (((win0_2.blk t).view.emb y) 1).val = t.val % 2 * 1024 + (y 1).val := by
    blk_simp
    rw [idx2 t]
    rfl
  blk_simp
  rw [after0_2]
  refine Eq.trans (congrArg (out0_2 (iblk m c 0 t) (iblk m c 1 t)) (eq_ix2 y)) ((out2 m c t (y 0) (y 1)).trans ?_)
  exact congrArg₂ (G (inp m c) (wgt m c)) (Fin.ext e0.symm) (Fin.ext e1.symm)

/-- The contents of the buffer `b` when the program ends. -/
abbrev fin (b : Ref sig .tc) : Buf (Elt Ideal) ((c : Thread nD τ).loc b) :=
  Pipeline.afterTail₀ cfgs (dats m) 0 (V0 m) [hostOps1] c b

theorem fin_at (r : Fin 8192) (q : Fin 2048) : fin m c main_v3 (ix2 r q) = G (inp m c) (wgt m c) r q := by
  have h2 := (dats m 0 c).withArrays_arrAt (by decide +kernel) (V0 m c) (A_eq m c) 2
  simp only [fin, Pipeline.afterTail₀, List.flatten_cons, List.flatten_nil, List.append_nil]
  after_results
  pointwise
  exact (congrFun h2 _).trans (congrFun (arr2 m c) _)

/-- The kernel's run: the product, and the arguments as launched. -/
theorem kernel_run (g : Dev nD → PrngReg) :
    θ_run (defs (F := Ideal)) (onTc (τ := τ) (main (F := Ideal))) ⟨m, fun _ => 0, g⟩ (fun r => ∀ c : Dev nD,
      r.2.mem ((c : Thread nD τ).loc main_v3) = fin m c main_v3
      ∧ r.2.mem ((c : Thread nD τ).loc main_arg0) = m ((c : Thread nD τ).loc main_arg0)
      ∧ r.2.mem ((c : Thread nD τ).loc main_arg1) = m ((c : Thread nD τ).loc main_arg1)) :=
  (θ_run _ _ _).mono (fun r h c => ⟨(h.1 c).2 main_v3 (by decide), h.2 c⟩) (θ_run_and (run_main m g) (unchanged m g))

end Kernel

section Reference

open Cert.Reference19Ideal Cert.Reference19Ideal.Read

theorem ref_at (h : FVec Ideal S8192x1024 .f32) (w : FVec Ideal S1024x2048 .f32) (r : Fin 8192) (q : Fin 2048) :
    val_main_v0 (F := Ideal) h w (ix2 r q) = G h w r q := by
  pointwise [val_main_v0]
  rfl

end Reference

theorem algebraic : Cert.algebraic_Kernel19Ideal_Reference19Ideal (hKernel19Ideal := Cert.Kernel19Ideal.Gen.facts)
    (hReference19Ideal := Cert.Reference19Ideal.Gen.facts) := by
  intro m g m' g' _ hagree
  refine ⟨fun c => fin m c Cert.Kernel19Ideal.main_v3, kernel_run m g, ?_⟩
  refine (θ_run _ _ _).mono (fun r h c => ?_) (Cert.Reference19Ideal.Value.run m' g')
  obtain ⟨h1, h2⟩ := h c
  obtain ⟨e0, e1⟩ := hagree c
  refine ⟨?_, h2⟩
  rw [h1, e0, e1]
  refine (Cert.Reference19Ideal.Read.val_main_v0_eq _ _).trans ?_
  funext x
  obtain ⟨i, j, rfl⟩ : ∃ i j, x = ix2 i j := ⟨_, _, eq_ix2 x⟩
  exact (ref_at _ _ i j).trans (fin_at m c i j).symm

end Cert.WideIn

end
-- ==== Proof.Prod.WideGrad.lean ====
/- The gradient of 2048 columns of the weights that lead into the state-space layer, a product over the tokens: the kernel's array, and that the
   plain line ends with the same. -/
module

public import proofs.«01_k».proof.Defs
public import proofs.«01_k».proof.Proof.Gen.Kernel20Ideal.Frame
public import proofs.«01_k».proof.Proof.Gen.Reference20Ideal.Run
public import proofs.«01_k».proof.Proof.Gen.Reference20Ideal.Read
public import Idealize.ShloMosaic.Lib.Pointwise
public import Idealize.ShloMosaic.Lib.Pipeline.ReadBack
public import Idealize.ShloMosaic.Lib.KernelVsHost
public import Idealize.ShloMosaic.Lib.Pipeline.ValueKit.Acc
public import Idealize.ShloMosaic.Lib.Pipeline.ValueKit.Point

@[expose] public section

set_option maxRecDepth 16384

noncomputable section

namespace Cert.WideGrad

open Idealize.ShloMosaic Idealize.ShloMosaic.TcCoe Idealize.SL Idealize.SL.Sem Idealize.ShloMosaic.Pipeline

/-- The product over all tokens. -/
def G (o : FVec Ideal ⟨2, ![8192, 1024]⟩ .f32) (d : FVec Ideal ⟨2, ![8192, 2048]⟩ .f32) (q : Fin 1024) (n : Fin 2048) : EReal := ∑ r : Fin 8192, o (ix2 r q) * d (ix2 r n)

section Kernel

open Cert.Kernel20Ideal Cert.Kernel20Ideal.Gen

variable (m : (ℓ : Loc nD τ sig) → Buf (Elt Ideal) ℓ) (c : Dev nD)

/-- The launch's input and the gradient from above. -/
abbrev inp : FVec Ideal S8192x1024 .f32 := m ((c : Thread nD τ).loc main_arg0)
abbrev dy : FVec Ideal S8192x2048 .f32 := m ((c : Thread nD τ).loc main_arg1)

theorem V_v0 (r : Fin 8192) (q : Fin 1024) : V m c main_v0 (ix2 r q) = inp m c (ix2 r q) := by
  simp only [V]
  after_results
  pointwise

theorem V_v1 (r : Fin 8192) (n : Fin 2048) : V m c main_v1 (ix2 r n) = dy m c (ix2 r n) := by
  simp only [V]
  after_results
  pointwise

theorem idx0 : ∀ t : Fin cfg0.N, win0_0.index t = ![t.val % 8, 0] := by
  exact (by decide +kernel : ∀ t : Fin grid0.N, win0_0.index t = ![t.val % 8, 0])
theorem idx1 : ∀ t : Fin cfg0.N, win0_1.index t = ![t.val % 8, t.val / 8] := by
  exact (by decide +kernel : ∀ t : Fin grid0.N, win0_1.index t = ![t.val % 8, t.val / 8])
theorem idx2 : ∀ t : Fin cfg0.N, win0_2.index t = ![0, t.val / 8] := by
  exact (by decide +kernel : ∀ t : Fin grid0.N, win0_2.index t = ![0, t.val / 8])

theorem lt_N (t : Fin cfg0.N) : t.val < 16 := Nat.lt_of_lt_of_eq t.isLt N_0

theorem blk0 (t : Fin cfg0.N) (r q : Fin 1024) :
    iblk m c 0 t (ix2 r q) = inp m c (ix2 ⟨t.val % 8 * 1024 + r.val, by have := lt_N t; omega⟩ q) := by
  have ht := lt_N t
  refine Eq.trans ?_ (V_v0 m c ⟨t.val % 8 * 1024 + r.val, by omega⟩ q)
  blk_ext [iblk, idx0 t]

theorem blk1 (t : Fin cfg0.N) (r n : Fin 1024) : iblk m c 1 t (ix2 r n)
    = dy m c (ix2 ⟨t.val % 8 * 1024 + r.val, by omega⟩ ⟨t.val / 8 * 1024 + n.val, by have := lt_N t; omega⟩) := by
  have ht := lt_N t
  refine Eq.trans ?_ (V_v1 m c ⟨t.val % 8 * 1024 + r.val, by omega⟩ ⟨t.val / 8 * 1024 + n.val, by omega⟩)
  blk_ext [iblk, idx1 t]

theorem pay1_at (x0 x1 : Vec Ideal S1024x1024 .bf16) (q n : Fin 1024) :
    k0_pay1 x0 x1 (ix2 q n) = ∑ r : Fin 1024, x0 (ix2 r q) * x1 (ix2 r n) := by
  pointwise [k0_pay1]

/-- What a point adds. -/
def part (t : Fin cfg0.N) (x : S1024x1024.Idx) : EReal := k0_pay1 (iblk m c 0 t) (iblk m c 1 t) x

theorem first (t : Fin cfg0.N) (h0 : t.val % 8 = 0) (x : S1024x1024.Idx) : (outsAt0 m c t.val t.isLt).2 x = 0 + part m c t x := by
  have ht := lt_N t
  rw [outsAt0_A m c t h0 (by omega) (by omega), eq_ix2 x, zero_add]
  frame_out
  pointwise [k0_pay2]
  rfl

theorem step (t : Fin cfg0.N) (h0 : ¬ t.val % 8 = 0) (x : S1024x1024.Idx) :
    (outsAt0 m c t.val t.isLt).2 x = (outsAt0 m c (t.val - 1) (Nat.lt_of_le_of_lt (Nat.sub_le _ _) t.isLt)).2 x + part m c t x := by
  by_cases h2 : t.val % 8 = 7
  · rw [outsAt0_C m c t h0 (by omega) h2, eq_ix2 x]
    frame_out
    pointwise [k0_pay3]
    rw [read_unread_whole]
    rfl
  · rw [outsAt0_B m c t h0 (by omega) h2, eq_ix2 x]
    frame_out
    pointwise [k0_pay3]
    rw [read_unread_whole]
    rfl

theorem out_last (t : Fin cfg0.N) (h2 : t.val % 8 = 7) (q n : Fin 1024) :
    (outsAt0 m c t.val t.isLt).1 (ix2 q n) = (outsAt0 m c t.val t.isLt).2 (ix2 q n) := by
  rw [outsAt0_C m c t (by omega) (by omega) h2]
  frame_out

theorem last (t : Fin cfg0.N) (hf : t.val % 8 = 7) (q n : Fin 1024) :
    (outsAt0 m c t.val t.isLt).1 (ix2 q n)
    = G (inp m c) (dy m c) q ⟨t.val / 8 * 1024 + n.val, by have := lt_N t; omega⟩ := by
  have ht := lt_N t
  rw [out_last m c t hf]
  refine (eq_sum_fin_of_reset_step_apply_of_flush (fun n h => (outsAt0 m c n h).2) 8 (fun _ => 0) (part m c)
    (fun t h x => first m c t h x) (fun t h x => step m c t h x) t hf (ix2 q n)).trans ?_
  rw [zero_add]
  refine Eq.trans ?_ (Fin.sum_mul_add_fin 8 1024 _)
  refine Finset.sum_congr rfl fun s _ => ?_
  unfold part
  rw [pay1_at]
  simp only [blk0, blk1]
  have e1 : (8 * (t.val / 8) + s.val) % 8 = s.val := by omega
  have e2 : (8 * (t.val / 8) + s.val) / 8 = t.val / 8 := by omega
  simp only [e1, e2]

/-- The array the kernel ends with. -/
abbrev out : FVec Ideal S1024x2048 .f32 := fun x => G (inp m c) (dy m c) (x 0) (x 1)

theorem arr2 : (dats m 0 c).arrAt 2 cfg0.N = out m c := by
  refine (dats m 0 c).arrAt_eq_of_covers 2 _ (by decide +kernel) fun t hf y => ?_
  have e0 : (((win0_2.blk t).view.emb y) 0).val = (y 0).val := by
    blk_simp
    rw [idx2 t]
    exact (show 0 * 1024 + (y 0).val = (y 0).val by omega)
  have e1 : (((win0_2.blk t).view.emb y) 1).val = t.val / 8 * 1024 + (y 1).val := by
    blk_simp
    rw [idx2 t]
    rfl
  blk_simp
  rw [after0_2]
  have ht := lt_N t
  refine Eq.trans (congrArg (outsAt0 m c t.val t.isLt).1 (eq_ix2 y))
    ((last m c t (by have := (flush0_2 t).mp hf; omega) (y 0) (y 1)).trans ?_)
  exact congrArg₂ (G (inp m c) (dy m c)) (Fin.ext e0.symm) (Fin.ext e1.symm)

/-- The kernel's run: the product, and the arguments as launched. -/
theorem kernel_run (g : Dev nD → PrngReg) :
    θ_run (defs (F := Ideal)) (onTc (τ := τ) (main (F := Ideal))) ⟨m, fun _ => 0, g⟩ (fun r => ∀ c : Dev nD,
      r.2.mem ((c : Thread nD τ).loc main_v2) = out m c
      ∧ r.2.mem ((c : Thread nD τ).loc main_arg0) = m ((c : Thread nD τ).loc main_arg0)
      ∧ r.2.mem ((c : Thread nD τ).loc main_arg1) = m ((c : Thread nD τ).loc main_arg1)) :=
  (θ_run _ _ _).mono (fun r h c => ⟨((h.1 c).1 2).trans (arr2 m c), h.2 c⟩) (θ_run_and (run_main m g) (unchanged m g))

end Kernel

section Reference

open Cert.Reference20Ideal Cert.Reference20Ideal.Read

theorem ref_at (o : FVec Ideal S8192x1024 .f32) (d : FVec Ideal S8192x2048 .f32) (q : Fin 1024) (n : Fin 2048) :
    val_main_v1 (F := Ideal) o d (ix2 q n) = G o d q n := by
  pointwise [val_main_v1, val_main_v0]
  rfl

end Reference

theorem algebraic : Cert.algebraic_Kernel20Ideal_Reference20Ideal (hKernel20Ideal := Cert.Kernel20Ideal.Gen.facts)
    (hReference20Ideal := Cert.Reference20Ideal.Gen.facts) := by
  intro m g m' g' _ hagree
  refine ⟨fun c => out m c, kernel_run m g, ?_⟩
  refine (θ_run _ _ _).mono (fun r h c => ?_) (Cert.Reference20Ideal.Value.run m' g')
  obtain ⟨h1, h2⟩ := h c
  obtain ⟨e0, e1⟩ := hagree c
  refine ⟨?_, h2⟩
  rw [h1, e0, e1]
  refine (Cert.Reference20Ideal.Read.val_main_v1_eq _ _).trans ?_
  funext x
  obtain ⟨i, j, rfl⟩ : ∃ i j, x = ix2 i j := ⟨_, _, eq_ix2 x⟩
  exact ref_at _ _ i j

end Cert.WideGrad

end
-- ==== Proof.Prod.WideBack.lean ====
/- The gradient of the state-space layer's input through its gates, a product with the transposed weights over 2048 columns: the kernel's array, and that the plain lines end with the same. -/
module

public import proofs.«01_k».proof.Defs
public import proofs.«01_k».proof.Proof.Gen.Kernel21Ideal.Frame
public import proofs.«01_k».proof.Proof.Gen.Reference21Ideal.Run
public import proofs.«01_k».proof.Proof.Gen.Reference21Ideal.Read
public import Idealize.ShloMosaic.Lib.Pointwise
public import Idealize.ShloMosaic.Lib.Pipeline.ReadBack
public import Idealize.ShloMosaic.Lib.KernelVsHost
public import Idealize.ShloMosaic.Lib.Pipeline.ValueKit.Acc
public import Idealize.ShloMosaic.Lib.Pipeline.ValueKit.Point

@[expose] public section

set_option maxRecDepth 16384

noncomputable section

namespace Cert.WideBack

open Idealize.ShloMosaic Idealize.ShloMosaic.TcCoe Idealize.SL Idealize.SL.Sem Idealize.ShloMosaic.Pipeline

/-- A row of the gradient times a row of the weights. -/
def G (a : FVec Ideal ⟨2, ![8192, 2048]⟩ .f32) (w : FVec Ideal ⟨2, ![1024, 2048]⟩ .f32) (r : Fin 8192) (n : Fin 1024) : EReal :=
  ∑ f : Fin 2048, a (ix2 r f) * w (ix2 n f)

section Kernel

open Cert.Kernel21Ideal Cert.Kernel21Ideal.Gen

variable (m : (ℓ : Loc nD τ sig) → Buf (Elt Ideal) ℓ) (c : Dev nD)

/-- The launch's gradient and weights. -/
abbrev dp : FVec Ideal S8192x2048 .f32 := m ((c : Thread nD τ).loc main_arg0)
abbrev wgt : FVec Ideal S1024x2048 .f32 := m ((c : Thread nD τ).loc main_arg1)

theorem V_v0 (r : Fin 8192) (f : Fin 2048) : V m c main_v0 (ix2 r f) = dp m c (ix2 r f) := by
  simp only [V]
  after_results
  pointwise

theorem V_v1 (n : Fin 1024) (f : Fin 2048) : V m c main_v1 (ix2 n f) = wgt m c (ix2 n f) := by
  simp only [V]
  after_results
  pointwise

theorem idx0 : ∀ t : Fin cfg0.N, win0_0.index t = ![t.val / 2, t.val % 2] := by
  exact (by decide +kernel : ∀ t : Fin grid0.N, win0_0.index t = ![t.val / 2, t.val % 2])
theorem idx1 : ∀ t : Fin cfg0.N, win0_1.index t = ![0, t.val % 2] := by
  exact (by decide +kernel : ∀ t : Fin grid0.N, win0_1.index t = ![0, t.val % 2])
theorem idx2 : ∀ t : Fin cfg0.N, win0_2.index t = ![t.val / 2, 0] := by
  exact (by decide +kernel : ∀ t : Fin grid0.N, win0_2.index t = ![t.val / 2, 0])

theorem lt_N (t : Fin cfg0.N) : t.val < 16 := Nat.lt_of_lt_of_eq t.isLt N_0

theorem blk0 (t : Fin cfg0.N) (r : Fin 1024) (l : Fin 1024) : iblk m c 0 t (ix2 r l)
    = dp m c (ix2 ⟨t.val / 2 * 1024 + r.val, by have := lt_N t; omega⟩ ⟨t.val % 2 * 1024 + l.val, by omega⟩) := by
  have ht := lt_N t
  refine Eq.trans ?_ (V_v0 m c ⟨t.val / 2 * 1024 + r.val, by omega⟩ ⟨t.val % 2 * 1024 + l.val, by omega⟩)
  blk_ext [iblk, idx0 t]

theorem blk1 (t : Fin cfg0.N) (n l : Fin 1024) :
    iblk m c 1 t (ix2 n l) = wgt m c (ix2 n ⟨t.val % 2 * 1024 + l.val, by omega⟩) := by
  refine Eq.trans ?_ (V_v1 m c n ⟨t.val % 2 * 1024 + l.val, by omega⟩)
  blk_ext [iblk, idx1 t]

theorem pay1_at (x0 : Vec Ideal S1024x1024 .bf16) (x1 : Vec Ideal S1024x1024 .bf16) (r n : Fin 1024) :
    k0_pay1 x0 x1 (ix2 r n) = ∑ l : Fin 1024, x0 (ix2 r l) * x1 (ix2 n l) := by
  pointwise [k0_pay1]

/-- What a point adds. -/
def part (t : Fin cfg0.N) (x : S1024x1024.Idx) : EReal := k0_pay1 (iblk m c 0 t) (iblk m c 1 t) x

theorem first (t : Fin cfg0.N) (h0 : t.val % 2 = 0) (x : S1024x1024.Idx) : (outsAt0 m c t.val t.isLt).2 x = 0 + part m c t x := by
  rw [outsAt0_A m c t h0 (by omega) (by omega), eq_ix2 x, zero_add]
  frame_out
  pointwise [k0_pay2]
  rfl

theorem step (t : Fin cfg0.N) (h0 : ¬ t.val % 2 = 0) (x : S1024x1024.Idx) :
    (outsAt0 m c t.val t.isLt).2 x = (outsAt0 m c (t.val - 1) (Nat.lt_of_le_of_lt (Nat.sub_le _ _) t.isLt)).2 x + part m c t x := by
  rw [outsAt0_B m c t h0 (by omega) (by omega), eq_ix2 x]
  frame_out
  pointwise [k0_pay3]
  rw [read_unread_whole]
  rfl

theorem out_last (t : Fin cfg0.N) (h2 : t.val % 2 = 1) (r n : Fin 1024) :
    (outsAt0 m c t.val t.isLt).1 (ix2 r n) = (outsAt0 m c t.val t.isLt).2 (ix2 r n) := by
  rw [outsAt0_B m c t (by omega) h2 h2]
  frame_out

theorem last (t : Fin cfg0.N) (hf : t.val % 2 = 1) (r n : Fin 1024) : (outsAt0 m c t.val t.isLt).1 (ix2 r n)
    = G (dp m c) (wgt m c) ⟨t.val / 2 * 1024 + r.val, by have := lt_N t; omega⟩ n := by
  rw [out_last m c t hf]
  refine (eq_sum_fin_of_reset_step_apply_of_flush (fun n h => (outsAt0 m c n h).2) 2 (fun _ => 0) (part m c)
    (fun t h x => first m c t h x) (fun t h x => step m c t h x) t hf (ix2 r n)).trans ?_
  rw [zero_add]
  refine Eq.trans ?_ (Fin.sum_mul_add_fin 2 1024 _)
  refine Finset.sum_congr rfl fun s _ => ?_
  unfold part
  rw [pay1_at]
  simp only [blk0, blk1]
  have e1 : (2 * (t.val / 2) + s.val) % 2 = s.val := by omega
  have e2 : (2 * (t.val / 2) + s.val) / 2 = t.val / 2 := by omega
  simp only [e1, e2]

/-- The array the kernel ends with. -/
abbrev out : FVec Ideal S8192x1024 .f32 := fun x => G (dp m c) (wgt m c) (x 0) (x 1)

theorem arr2 : (dats m 0 c).arrAt 2 cfg0.N = out m c := by
  refine (dats m 0 c).arrAt_eq_of_covers 2 _ (by decide +kernel) fun t hf y => ?_
  have e0 : (((win0_2.blk t).view.emb y) 0).val = t.val / 2 * 1024 + (y 0).val := by
    blk_simp
    rw [idx2 t]
    rfl
  have e1 : (((win0_2.blk t).view.emb y) 1).val = (y 1).val := by
    blk_simp
    rw [idx2 t]
    exact (show 0 * 1024 + (y 1).val = (y 1).val by omega)
  blk_simp
  rw [after0_2]
  refine Eq.trans (congrArg (outsAt0 m c t.val t.isLt).1 (eq_ix2 y)) ((last m c t ((flush0_2 t).mp hf) (y 0) (y 1)).trans ?_)
  exact congrArg₂ (G (dp m c) (wgt m c)) (Fin.ext e0.symm) (Fin.ext e1.symm)

/-- The kernel's run: the product, and the arguments as launched. -/
theorem kernel_run (g : Dev nD → PrngReg) :
    θ_run (defs (F := Ideal)) (onTc (τ := τ) (main (F := Ideal))) ⟨m, fun _ => 0, g⟩ (fun r => ∀ c : Dev nD,
      r.2.mem ((c : Thread nD τ).loc main_v2) = out m c
      ∧ r.2.mem ((c : Thread nD τ).loc main_arg0) = m ((c : Thread nD τ).loc main_arg0)
      ∧ r.2.mem ((c : Thread nD τ).loc main_arg1) = m ((c : Thread nD τ).loc main_arg1)) :=
  (θ_run _ _ _).mono (fun r h c => ⟨((h.1 c).1 2).trans (arr2 m c), h.2 c⟩) (θ_run_and (run_main m g) (unchanged m g))

end Kernel

section Reference

open Cert.Reference21Ideal Cert.Reference21Ideal.Read

theorem ref_at (a : FVec Ideal S8192x2048 .f32) (w : FVec Ideal S1024x2048 .f32) (r : Fin 8192) (n : Fin 1024) : val_main_v1 (F := Ideal) a w (ix2 r n) = G a w r n := by
  pointwise [val_main_v1, val_main_v0]
  rfl

end Reference

theorem algebraic : Cert.algebraic_Kernel21Ideal_Reference21Ideal (hKernel21Ideal := Cert.Kernel21Ideal.Gen.facts)
    (hReference21Ideal := Cert.Reference21Ideal.Gen.facts) := by
  intro m g m' g' _ hagree
  refine ⟨fun c => out m c, kernel_run m g, ?_⟩
  refine (θ_run _ _ _).mono (fun r h c => ?_) (Cert.Reference21Ideal.Value.run m' g')
  obtain ⟨h1, h2⟩ := h c
  obtain ⟨e0, e1⟩ := hagree c
  refine ⟨?_, h2⟩
  rw [h1, e0, e1]
  refine (Cert.Reference21Ideal.Read.val_main_v1_eq _ _).trans ?_
  funext x
  obtain ⟨i, j, rfl⟩ : ∃ i j, x = ix2 i j := ⟨_, _, eq_ix2 x⟩
  exact ref_at _ _ i j

end Cert.WideBack

end
-- ==== Proof.Prod.WideAdd.lean ====
/- A link in the gradient of the state-space layer's input, a product with the transposed weights over 2048 columns added to what
   the links before gave: the kernel's array, and that the plain lines end with the same. -/
module

public import proofs.«01_k».proof.Defs
public import proofs.«01_k».proof.Proof.Gen.Kernel22Ideal.Frame
public import proofs.«01_k».proof.Proof.Gen.Reference22Ideal.Run
public import proofs.«01_k».proof.Proof.Gen.Reference22Ideal.Read
public import Idealize.ShloMosaic.Lib.Pointwise
public import Idealize.ShloMosaic.Lib.Pipeline.ReadBack
public import Idealize.ShloMosaic.Lib.KernelVsHost
public import Idealize.ShloMosaic.Lib.Pipeline.ValueKit.Acc
public import Idealize.ShloMosaic.Lib.Pipeline.ValueKit.Point

@[expose] public section

set_option maxRecDepth 16384

noncomputable section

namespace Cert.WideAdd

open Idealize.ShloMosaic Idealize.ShloMosaic.TcCoe Idealize.SL Idealize.SL.Sem Idealize.ShloMosaic.Pipeline

/-- What came before, and a row of the gradient times a row of the weights. -/
def G (a : FVec Ideal ⟨2, ![8192, 2048]⟩ .f32) (w : FVec Ideal ⟨2, ![1024, 2048]⟩ .f32) (x : FVec Ideal ⟨2, ![8192, 1024]⟩ .f32)
    (r : Fin 8192) (n : Fin 1024) : EReal :=
  x (ix2 r n) + ∑ f : Fin 2048, a (ix2 r f) * w (ix2 n f)

section Kernel

open Cert.Kernel22Ideal Cert.Kernel22Ideal.Gen

variable (m : (ℓ : Loc nD τ sig) → Buf (Elt Ideal) ℓ) (c : Dev nD)

/-- The launch's gradient, weights and what came before. -/
abbrev dp : FVec Ideal S8192x2048 .f32 := m ((c : Thread nD τ).loc main_arg0)
abbrev wgt : FVec Ideal S1024x2048 .f32 := m ((c : Thread nD τ).loc main_arg1)
abbrev before : FVec Ideal S8192x1024 .f32 := m ((c : Thread nD τ).loc main_arg2)

theorem V_v0 (r : Fin 8192) (f : Fin 2048) : V m c main_v0 (ix2 r f) = dp m c (ix2 r f) := by
  simp only [V]
  after_results
  pointwise

theorem V_v1 (n : Fin 1024) (f : Fin 2048) : V m c main_v1 (ix2 n f) = wgt m c (ix2 n f) := by
  simp only [V]
  after_results
  pointwise

theorem V_arg2 : V m c main_arg2 = before m c := by
  simp only [V]
  after_results

theorem idx0 : ∀ t : Fin cfg0.N, win0_0.index t = ![t.val / 2, t.val % 2] := by
  exact (by decide +kernel : ∀ t : Fin grid0.N, win0_0.index t = ![t.val / 2, t.val % 2])
theorem idx1 : ∀ t : Fin cfg0.N, win0_1.index t = ![0, t.val % 2] := by
  exact (by decide +kernel : ∀ t : Fin grid0.N, win0_1.index t = ![0, t.val % 2])
theorem idx2 : ∀ t : Fin cfg0.N, win0_2.index t = ![t.val / 2, 0] := by
  exact (by decide +kernel : ∀ t : Fin grid0.N, win0_2.index t = ![t.val / 2, 0])
theorem idx3 : ∀ t : Fin cfg0.N, win0_3.index t = ![t.val / 2, 0] := by
  exact (by decide +kernel : ∀ t : Fin grid0.N, win0_3.index t = ![t.val / 2, 0])

theorem lt_N (t : Fin cfg0.N) : t.val < 16 := Nat.lt_of_lt_of_eq t.isLt N_0

theorem blk0 (t : Fin cfg0.N) (r : Fin 1024) (l : Fin 1024) : iblk m c 0 t (ix2 r l)
    = dp m c (ix2 ⟨t.val / 2 * 1024 + r.val, by have := lt_N t; omega⟩ ⟨t.val % 2 * 1024 + l.val, by omega⟩) := by
  have ht := lt_N t
  refine Eq.trans ?_ (V_v0 m c ⟨t.val / 2 * 1024 + r.val, by omega⟩ ⟨t.val % 2 * 1024 + l.val, by omega⟩)
  blk_ext [iblk, idx0 t]

theorem blk1 (t : Fin cfg0.N) (n l : Fin 1024) :
    iblk m c 1 t (ix2 n l) = wgt m c (ix2 n ⟨t.val % 2 * 1024 + l.val, by omega⟩) := by
  refine Eq.trans ?_ (V_v1 m c n ⟨t.val % 2 * 1024 + l.val, by omega⟩)
  blk_ext [iblk, idx1 t]

theorem blk2 (t : Fin cfg0.N) (r n : Fin 1024) :
    iblk m c 2 t (ix2 r n) = before m c (ix2 ⟨t.val / 2 * 1024 + r.val, by have := lt_N t; omega⟩ n) := by
  have ht := lt_N t
  refine Eq.trans ?_ (congrFun (V_arg2 m c) (ix2 ⟨t.val / 2 * 1024 + r.val, by omega⟩ n))
  blk_ext [iblk, idx2 t]

theorem pay1_at (x0 : Vec Ideal S1024x1024 .bf16) (x1 : Vec Ideal S1024x1024 .bf16) (r n : Fin 1024) :
    k0_pay1 x0 x1 (ix2 r n) = ∑ l : Fin 1024, x0 (ix2 r l) * x1 (ix2 n l) := by
  pointwise [k0_pay1]

/-- What a point adds. -/
def part (t : Fin cfg0.N) (x : S1024x1024.Idx) : EReal := k0_pay1 (iblk m c 0 t) (iblk m c 1 t) x

theorem first (t : Fin cfg0.N) (h0 : t.val % 2 = 0) (x : S1024x1024.Idx) : (outsAt0 m c t.val t.isLt).2 x = 0 + part m c t x := by
  rw [outsAt0_A m c t h0 (by omega) (by omega), eq_ix2 x, zero_add]
  frame_out
  pointwise [k0_pay2]
  rfl

theorem step (t : Fin cfg0.N) (h0 : ¬ t.val % 2 = 0) (x : S1024x1024.Idx) :
    (outsAt0 m c t.val t.isLt).2 x = (outsAt0 m c (t.val - 1) (Nat.lt_of_le_of_lt (Nat.sub_le _ _) t.isLt)).2 x + part m c t x := by
  rw [outsAt0_B m c t h0 (by omega) (by omega), eq_ix2 x]
  frame_out
  pointwise [k0_pay3]
  rw [read_unread_whole]
  rfl

theorem out_last (t : Fin cfg0.N) (h2 : t.val % 2 = 1) (r n : Fin 1024) :
    (outsAt0 m c t.val t.isLt).1 (ix2 r n) = (outsAt0 m c t.val t.isLt).2 (ix2 r n) + iblk m c 2 t (ix2 r n) := by
  rw [outsAt0_B m c t (by omega) h2 h2]
  frame_out
  pointwise [k0_pay4]

theorem last (t : Fin cfg0.N) (hf : t.val % 2 = 1) (r n : Fin 1024) : (outsAt0 m c t.val t.isLt).1 (ix2 r n)
    = G (dp m c) (wgt m c) (before m c) ⟨t.val / 2 * 1024 + r.val, by have := lt_N t; omega⟩ n := by
  rw [out_last m c t hf, blk2]
  refine (add_comm _ _).trans (congrArg (fun s : EReal => before m c (ix2 _ n) + s) ?_)
  refine (eq_sum_fin_of_reset_step_apply_of_flush (fun n h => (outsAt0 m c n h).2) 2 (fun _ => 0) (part m c)
    (fun t h x => first m c t h x) (fun t h x => step m c t h x) t hf (ix2 r n)).trans ?_
  rw [zero_add]
  refine Eq.trans ?_ (Fin.sum_mul_add_fin 2 1024 _)
  refine Finset.sum_congr rfl fun s _ => ?_
  unfold part
  rw [pay1_at]
  simp only [blk0, blk1]
  have e1 : (2 * (t.val / 2) + s.val) % 2 = s.val := by omega
  have e2 : (2 * (t.val / 2) + s.val) / 2 = t.val / 2 := by omega
  simp only [e1, e2]

/-- The array the kernel ends with. -/
abbrev out : FVec Ideal S8192x1024 .f32 := fun x => G (dp m c) (wgt m c) (before m c) (x 0) (x 1)

theorem arr3 : (dats m 0 c).arrAt 3 cfg0.N = out m c := by
  refine (dats m 0 c).arrAt_eq_of_covers 3 _ (by decide +kernel) fun t hf y => ?_
  have e0 : (((win0_3.blk t).view.emb y) 0).val = t.val / 2 * 1024 + (y 0).val := by
    blk_simp
    rw [idx3 t]
    rfl
  have e1 : (((win0_3.blk t).view.emb y) 1).val = (y 1).val := by
    blk_simp
    rw [idx3 t]
    exact (show 0 * 1024 + (y 1).val = (y 1).val by omega)
  blk_simp
  rw [after0_3]
  refine Eq.trans (congrArg (outsAt0 m c t.val t.isLt).1 (eq_ix2 y)) ((last m c t ((flush0_3 t).mp hf) (y 0) (y 1)).trans ?_)
  exact congrArg₂ (G (dp m c) (wgt m c) (before m c)) (Fin.ext e0.symm) (Fin.ext e1.symm)

/-- The kernel's run: the sum, and the arguments as launched. -/
theorem kernel_run (g : Dev nD → PrngReg) :
    θ_run (defs (F := Ideal)) (onTc (τ := τ) (main (F := Ideal))) ⟨m, fun _ => 0, g⟩ (fun r => ∀ c : Dev nD,
      r.2.mem ((c : Thread nD τ).loc main_v2) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run _ _ _).mono (fun r h c => ⟨((h.1 c).1 3).trans (arr3 m c), h.2 c⟩) (θ_run_and (run_main m g) (unchanged m g))

end Kernel

section Reference

open Cert.Reference22Ideal Cert.Reference22Ideal.Read

theorem ref_at (a : FVec Ideal S8192x2048 .f32) (w : FVec Ideal S1024x2048 .f32) (x : FVec Ideal S8192x1024 .f32)
    (r : Fin 8192) (n : Fin 1024) : val_main_v2 (F := Ideal) a w x (ix2 r n) = G a w x r n := by
  pointwise [val_main_v2, val_main_v1, val_main_v0]
  rfl

end Reference

theorem algebraic : Cert.algebraic_Kernel22Ideal_Reference22Ideal (hKernel22Ideal := Cert.Kernel22Ideal.Gen.facts)
    (hReference22Ideal := Cert.Reference22Ideal.Gen.facts) := by
  intro m g m' g' _ hagree
  refine ⟨fun c => out m c, kernel_run m g, ?_⟩
  refine (θ_run _ _ _).mono (fun r h c => ?_) (Cert.Reference22Ideal.Value.run m' g')
  obtain ⟨h1, h2⟩ := h c
  obtain ⟨e0, e1, e2⟩ := hagree c
  refine ⟨?_, h2⟩
  rw [h1, e0, e1, e2]
  refine (Cert.Reference22Ideal.Read.val_main_v2_eq _ _ _).trans ?_
  funext x
  obtain ⟨i, j, rfl⟩ : ∃ i j, x = ix2 i j := ⟨_, _, eq_ix2 x⟩
  exact ref_at _ _ _ i j

end Cert.WideAdd

end
-- ==== Proof.Prod.ScanOut.lean ====
/- The product that leads back out of the state-space layer, added to the residual: the kernel's array, and that the
   plain lines end with the same. -/
module

public import proofs.«01_k».proof.Defs
public import proofs.«01_k».proof.Proof.Gen.Kernel23Ideal.Frame
public import proofs.«01_k».proof.Proof.Gen.Reference23Ideal.Run
public import proofs.«01_k».proof.Proof.Gen.Reference23Ideal.Read
public import Idealize.ShloMosaic.Lib.Pointwise
public import Idealize.ShloMosaic.Lib.Pipeline.ReadBack
public import Idealize.ShloMosaic.Lib.KernelVsHost
public import Idealize.ShloMosaic.Lib.Pipeline.ValueKit.Acc
public import Idealize.ShloMosaic.Lib.Pipeline.ValueKit.Point

@[expose] public section

set_option maxRecDepth 16384

noncomputable section

namespace Cert.ScanOut

open Idealize.ShloMosaic Idealize.ShloMosaic.TcCoe Idealize.SL Idealize.SL.Sem Idealize.ShloMosaic.Pipeline

/-- The residual, and the product over the layer's columns. -/
def G (a : FVec Ideal ⟨2, ![8192, 2048]⟩ .f32) (w : FVec Ideal ⟨2, ![2048, 1024]⟩ .f32) (x : FVec Ideal ⟨2, ![8192, 1024]⟩ .f32)
    (r : Fin 8192) (n : Fin 1024) : EReal :=
  x (ix2 r n) + ∑ f : Fin 2048, a (ix2 r f) * w (ix2 f n)

section Kernel

open Cert.Kernel23Ideal Cert.Kernel23Ideal.Gen

variable (m : (ℓ : Loc nD τ sig) → Buf (Elt Ideal) ℓ) (c : Dev nD)

/-- The launch's mixed rows, weights and residual. -/
abbrev mixed : FVec Ideal S8192x2048 .f32 := m ((c : Thread nD τ).loc main_arg0)
abbrev wgt : FVec Ideal S2048x1024 .f32 := m ((c : Thread nD τ).loc main_arg1)
abbrev res : FVec Ideal S8192x1024 .f32 := m ((c : Thread nD τ).loc main_arg2)

theorem V_v0 (r : Fin 8192) (f : Fin 2048) : V m c main_v0 (ix2 r f) = mixed m c (ix2 r f) := by
  simp only [V]
  after_results
  pointwise

theorem V_v1 (f : Fin 2048) (n : Fin 1024) : V m c main_v1 (ix2 f n) = wgt m c (ix2 f n) := by
  simp only [V]
  after_results
  pointwise

theorem V_arg2 : V m c main_arg2 = res m c := by
  simp only [V]
  after_results

theorem idx0 : ∀ t : Fin cfg0.N, win0_0.index t = ![t.val / 2, t.val % 2] := by
  exact (by decide +kernel : ∀ t : Fin grid0.N, win0_0.index t = ![t.val / 2, t.val % 2])
theorem idx1 : ∀ t : Fin cfg0.N, win0_1.index t = ![t.val % 2, 0] := by
  exact (by decide +kernel : ∀ t : Fin grid0.N, win0_1.index t = ![t.val % 2, 0])
theorem idx2 : ∀ t : Fin cfg0.N, win0_2.index t = ![t.val / 2, 0] := by
  exact (by decide +kernel : ∀ t : Fin grid0.N, win0_2.index t = ![t.val / 2, 0])
theorem idx3 : ∀ t : Fin cfg0.N, win0_3.index t = ![t.val / 2, 0] := by
  exact (by decide +kernel : ∀ t : Fin grid0.N, win0_3.index t = ![t.val / 2, 0])

theorem lt_N (t : Fin cfg0.N) : t.val < 16 := Nat.lt_of_lt_of_eq t.isLt N_0

theorem blk0 (t : Fin cfg0.N) (r : Fin 1024) (l : Fin 1024) : iblk m c 0 t (ix2 r l)
    = mixed m c (ix2 ⟨t.val / 2 * 1024 + r.val, by have := lt_N t; omega⟩ ⟨t.val % 2 * 1024 + l.val, by omega⟩) := by
  have ht := lt_N t
  refine Eq.trans ?_ (V_v0 m c ⟨t.val / 2 * 1024 + r.val, by omega⟩ ⟨t.val % 2 * 1024 + l.val, by omega⟩)
  blk_ext [iblk, idx0 t]

theorem blk1 (t : Fin cfg0.N) (l : Fin 1024) (n : Fin 1024) :
    iblk m c 1 t (ix2 l n) = wgt m c (ix2 ⟨t.val % 2 * 1024 + l.val, by omega⟩ n) := by
  refine Eq.trans ?_ (V_v1 m c ⟨t.val % 2 * 1024 + l.val, by omega⟩ n)
  blk_ext [iblk, idx1 t]

theorem blk2 (t : Fin cfg0.N) (r n : Fin 1024) :
    iblk m c 2 t (ix2 r n) = res m c (ix2 ⟨t.val / 2 * 1024 + r.val, by have := lt_N t; omega⟩ n) := by
  have ht := lt_N t
  refine Eq.trans ?_ (congrFun (V_arg2 m c) (ix2 ⟨t.val / 2 * 1024 + r.val, by omega⟩ n))
  blk_ext [iblk, idx2 t]

theorem pay1_at (x0 : Vec Ideal S1024x1024 .bf16) (x1 : Vec Ideal S1024x1024 .bf16) (r n : Fin 1024) :
    k0_pay1 x0 x1 (ix2 r n) = ∑ l : Fin 1024, x0 (ix2 r l) * x1 (ix2 l n) := by
  pointwise [k0_pay1]

/-- What a point adds. -/
def part (t : Fin cfg0.N) (x : S1024x1024.Idx) : EReal := k0_pay1 (iblk m c 0 t) (iblk m c 1 t) x

theorem first (t : Fin cfg0.N) (h0 : t.val % 2 = 0) (x : S1024x1024.Idx) : (outsAt0 m c t.val t.isLt).2 x = 0 + part m c t x := by
  rw [outsAt0_A m c t h0 (by omega) (by omega), eq_ix2 x, zero_add]
  frame_out
  pointwise [k0_pay2]
  rfl

theorem step (t : Fin cfg0.N) (h0 : ¬ t.val % 2 = 0) (x : S1024x1024.Idx) :
    (outsAt0 m c t.val t.isLt).2 x = (outsAt0 m c (t.val - 1) (Nat.lt_of_le_of_lt (Nat.sub_le _ _) t.isLt)).2 x + part m c t x := by
  rw [outsAt0_B m c t h0 (by omega) (by omega), eq_ix2 x]
  frame_out
  pointwise [k0_pay3]
  rw [read_unread_whole]
  rfl

theorem out_last (t : Fin cfg0.N) (h2 : t.val % 2 = 1) (r n : Fin 1024) :
    (outsAt0 m c t.val t.isLt).1 (ix2 r n) = (outsAt0 m c t.val t.isLt).2 (ix2 r n) + iblk m c 2 t (ix2 r n) := by
  rw [outsAt0_B m c t (by omega) h2 h2]
  frame_out
  pointwise [k0_pay4]

theorem last (t : Fin cfg0.N) (hf : t.val % 2 = 1) (r n : Fin 1024) : (outsAt0 m c t.val t.isLt).1 (ix2 r n)
    = G (mixed m c) (wgt m c) (res m c) ⟨t.val / 2 * 1024 + r.val, by have := lt_N t; omega⟩ n := by
  rw [out_last m c t hf, blk2]
  refine (add_comm _ _).trans (congrArg (fun s : EReal => res m c (ix2 _ n) + s) ?_)
  refine (eq_sum_fin_of_reset_step_apply_of_flush (fun n h => (outsAt0 m c n h).2) 2 (fun _ => 0) (part m c)
    (fun t h x => first m c t h x) (fun t h x => step m c t h x) t hf (ix2 r n)).trans ?_
  rw [zero_add]
  refine Eq.trans ?_ (Fin.sum_mul_add_fin 2 1024 _)
  refine Finset.sum_congr rfl fun s _ => ?_
  unfold part
  rw [pay1_at]
  simp only [blk0, blk1]
  have e1 : (2 * (t.val / 2) + s.val) % 2 = s.val := by omega
  have e2 : (2 * (t.val / 2) + s.val) / 2 = t.val / 2 := by omega
  simp only [e1, e2]

/-- The array the kernel ends with. -/
abbrev out : FVec Ideal S8192x1024 .f32 := fun x => G (mixed m c) (wgt m c) (res m c) (x 0) (x 1)

theorem arr3 : (dats m 0 c).arrAt 3 cfg0.N = out m c := by
  refine (dats m 0 c).arrAt_eq_of_covers 3 _ (by decide +kernel) fun t hf y => ?_
  have e0 : (((win0_3.blk t).view.emb y) 0).val = t.val / 2 * 1024 + (y 0).val := by
    blk_simp
    rw [idx3 t]
    rfl
  have e1 : (((win0_3.blk t).view.emb y) 1).val = (y 1).val := by
    blk_simp
    rw [idx3 t]
    exact (show 0 * 1024 + (y 1).val = (y 1).val by omega)
  blk_simp
  rw [after0_3]
  refine Eq.trans (congrArg (outsAt0 m c t.val t.isLt).1 (eq_ix2 y)) ((last m c t ((flush0_3 t).mp hf) (y 0) (y 1)).trans ?_)
  exact congrArg₂ (G (mixed m c) (wgt m c) (res m c)) (Fin.ext e0.symm) (Fin.ext e1.symm)

/-- The kernel's run: the sum, and the arguments as launched. -/
theorem kernel_run (g : Dev nD → PrngReg) :
    θ_run (defs (F := Ideal)) (onTc (τ := τ) (main (F := Ideal))) ⟨m, fun _ => 0, g⟩ (fun r => ∀ c : Dev nD,
      r.2.mem ((c : Thread nD τ).loc main_v2) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run _ _ _).mono (fun r h c => ⟨((h.1 c).1 3).trans (arr3 m c), h.2 c⟩) (θ_run_and (run_main m g) (unchanged m g))

end Kernel

section Reference

open Cert.Reference23Ideal Cert.Reference23Ideal.Read

theorem ref_at (a : FVec Ideal S8192x2048 .f32) (w : FVec Ideal S2048x1024 .f32) (x : FVec Ideal S8192x1024 .f32)
    (r : Fin 8192) (n : Fin 1024) : val_main_v1 (F := Ideal) a w x (ix2 r n) = G a w x r n := by
  pointwise [val_main_v1, val_main_v0]
  rfl

end Reference

theorem algebraic : Cert.algebraic_Kernel23Ideal_Reference23Ideal (hKernel23Ideal := Cert.Kernel23Ideal.Gen.facts)
    (hReference23Ideal := Cert.Reference23Ideal.Gen.facts) := by
  intro m g m' g' _ hagree
  refine ⟨fun c => out m c, kernel_run m g, ?_⟩
  refine (θ_run _ _ _).mono (fun r h c => ?_) (Cert.Reference23Ideal.Value.run m' g')
  obtain ⟨h1, h2⟩ := h c
  obtain ⟨e0, e1, e2⟩ := hagree c
  refine ⟨?_, h2⟩
  rw [h1, e0, e1, e2]
  refine (Cert.Reference23Ideal.Read.val_main_v1_eq _ _ _).trans ?_
  funext x
  obtain ⟨i, j, rfl⟩ : ∃ i j, x = ix2 i j := ⟨_, _, eq_ix2 x⟩
  exact ref_at _ _ _ i j

end Cert.ScanOut

end
-- ==== Proof.Prod.ScanGrad.lean ====
/- The gradient of the weights that lead back out of the state-space layer, a product over the tokens: the kernel's array, and that the
   plain line ends with the same. -/
module

public import proofs.«01_k».proof.Defs
public import proofs.«01_k».proof.Proof.Gen.Kernel24Ideal.Frame
public import proofs.«01_k».proof.Proof.Gen.Reference24Ideal.Run
public import proofs.«01_k».proof.Proof.Gen.Reference24Ideal.Read
public import Idealize.ShloMosaic.Lib.Pointwise
public import Idealize.ShloMosaic.Lib.Pipeline.ReadBack
public import Idealize.ShloMosaic.Lib.KernelVsHost
public import Idealize.ShloMosaic.Lib.Pipeline.ValueKit.Acc
public import Idealize.ShloMosaic.Lib.Pipeline.ValueKit.Point

@[expose] public section

set_option maxRecDepth 16384

noncomputable section

namespace Cert.ScanGrad

open Idealize.ShloMosaic Idealize.ShloMosaic.TcCoe Idealize.SL Idealize.SL.Sem Idealize.ShloMosaic.Pipeline

/-- The product over all tokens. -/
def G (o : FVec Ideal ⟨2, ![8192, 2048]⟩ .f32) (d : FVec Ideal ⟨2, ![8192, 1024]⟩ .f32) (q : Fin 2048) (n : Fin 1024) : EReal := ∑ r : Fin 8192, o (ix2 r q) * d (ix2 r n)

section Kernel

open Cert.Kernel24Ideal Cert.Kernel24Ideal.Gen

variable (m : (ℓ : Loc nD τ sig) → Buf (Elt Ideal) ℓ) (c : Dev nD)

/-- The launch's mixed rows and the gradient from above. -/
abbrev mixed : FVec Ideal S8192x2048 .f32 := m ((c : Thread nD τ).loc main_arg0)
abbrev dy : FVec Ideal S8192x1024 .f32 := m ((c : Thread nD τ).loc main_arg1)

theorem V_v0 (r : Fin 8192) (q : Fin 2048) : V m c main_v0 (ix2 r q) = mixed m c (ix2 r q) := by
  simp only [V, V0, List.flatten_cons, List.flatten_nil, List.append_nil]
  after_results
  pointwise

theorem V_v1 (r : Fin 8192) (n : Fin 1024) : V m c main_v1 (ix2 r n) = dy m c (ix2 r n) := by
  simp only [V, V0, List.flatten_cons, List.flatten_nil, List.append_nil]
  after_results
  pointwise

theorem idx0 : ∀ t : Fin cfg0.N, win0_0.index t = ![t.val % 8, t.val / 8] := by
  exact (by decide +kernel : ∀ t : Fin grid0.N, win0_0.index t = ![t.val % 8, t.val / 8])
theorem idx1 : ∀ t : Fin cfg0.N, win0_1.index t = ![t.val % 8, 0] := by
  exact (by decide +kernel : ∀ t : Fin grid0.N, win0_1.index t = ![t.val % 8, 0])
theorem idx2 : ∀ t : Fin cfg0.N, win0_2.index t = ![t.val / 8, 0] := by
  exact (by decide +kernel : ∀ t : Fin grid0.N, win0_2.index t = ![t.val / 8, 0])

theorem lt_N (t : Fin cfg0.N) : t.val < 16 := Nat.lt_of_lt_of_eq t.isLt N_0

theorem blk0 (t : Fin cfg0.N) (r q : Fin 1024) : iblk m c 0 t (ix2 r q)
    = mixed m c (ix2 ⟨t.val % 8 * 1024 + r.val, by omega⟩ ⟨t.val / 8 * 1024 + q.val, by have := lt_N t; omega⟩) := by
  have ht := lt_N t
  refine Eq.trans ?_ (V_v0 m c ⟨t.val % 8 * 1024 + r.val, by omega⟩ ⟨t.val / 8 * 1024 + q.val, by omega⟩)
  blk_ext [iblk, idx0 t]

theorem blk1 (t : Fin cfg0.N) (r n : Fin 1024) :
    iblk m c 1 t (ix2 r n) = dy m c (ix2 ⟨t.val % 8 * 1024 + r.val, by have := lt_N t; omega⟩ n) := by
  have ht := lt_N t
  refine Eq.trans ?_ (V_v1 m c ⟨t.val % 8 * 1024 + r.val, by omega⟩ n)
  blk_ext [iblk, idx1 t]

theorem pay1_at (x0 x1 : Vec Ideal S1024x1024 .bf16) (q n : Fin 1024) :
    k0_pay1 x0 x1 (ix2 q n) = ∑ r : Fin 1024, x0 (ix2 r q) * x1 (ix2 r n) := by
  pointwise [k0_pay1]

/-- What a point adds. -/
def part (t : Fin cfg0.N) (x : S1024x1024.Idx) : EReal := k0_pay1 (iblk m c 0 t) (iblk m c 1 t) x

theorem first (t : Fin cfg0.N) (h0 : t.val % 8 = 0) (x : S1024x1024.Idx) : (outsAt0 m c t.val t.isLt).2 x = 0 + part m c t x := by
  have ht := lt_N t
  rw [outsAt0_A m c t h0 (by omega) (by omega), eq_ix2 x, zero_add]
  frame_out
  pointwise [k0_pay2]
  rfl

theorem step (t : Fin cfg0.N) (h0 : ¬ t.val % 8 = 0) (x : S1024x1024.Idx) :
    (outsAt0 m c t.val t.isLt).2 x = (outsAt0 m c (t.val - 1) (Nat.lt_of_le_of_lt (Nat.sub_le _ _) t.isLt)).2 x + part m c t x := by
  by_cases h2 : t.val % 8 = 7
  · rw [outsAt0_C m c t h0 (by omega) h2, eq_ix2 x]
    frame_out
    pointwise [k0_pay3]
    rw [read_unread_whole]
    rfl
  · rw [outsAt0_B m c t h0 (by omega) h2, eq_ix2 x]
    frame_out
    pointwise [k0_pay3]
    rw [read_unread_whole]
    rfl

theorem out_last (t : Fin cfg0.N) (h2 : t.val % 8 = 7) (q n : Fin 1024) :
    (outsAt0 m c t.val t.isLt).1 (ix2 q n) = (outsAt0 m c t.val t.isLt).2 (ix2 q n) := by
  rw [outsAt0_C m c t (by omega) (by omega) h2]
  frame_out
  pointwise [k0_pay4]

theorem last (t : Fin cfg0.N) (hf : t.val % 8 = 7) (q n : Fin 1024) :
    (outsAt0 m c t.val t.isLt).1 (ix2 q n)
    = G (mixed m c) (dy m c) ⟨t.val / 8 * 1024 + q.val, by have := lt_N t; omega⟩ n := by
  have ht := lt_N t
  rw [out_last m c t hf]
  refine (eq_sum_fin_of_reset_step_apply_of_flush (fun n h => (outsAt0 m c n h).2) 8 (fun _ => 0) (part m c)
    (fun t h x => first m c t h x) (fun t h x => step m c t h x) t hf (ix2 q n)).trans ?_
  rw [zero_add]
  refine Eq.trans ?_ (Fin.sum_mul_add_fin 8 1024 _)
  refine Finset.sum_congr rfl fun s _ => ?_
  unfold part
  rw [pay1_at]
  simp only [blk0, blk1]
  have e1 : (8 * (t.val / 8) + s.val) % 8 = s.val := by omega
  have e2 : (8 * (t.val / 8) + s.val) / 8 = t.val / 8 := by omega
  simp only [e1, e2]

theorem arr2 : (dats m 0 c).arrAt 2 cfg0.N = fun x : S2048x1024.Idx => G (mixed m c) (dy m c) (x 0) (x 1) := by
  refine (dats m 0 c).arrAt_eq_of_covers 2 _ (by decide +kernel) fun t hf y => ?_
  have e0 : (((win0_2.blk t).view.emb y) 0).val = t.val / 8 * 1024 + (y 0).val := by
    blk_simp
    rw [idx2 t]
    rfl
  have e1 : (((win0_2.blk t).view.emb y) 1).val = (y 1).val := by
    blk_simp
    rw [idx2 t]
    exact (show 0 * 1024 + (y 1).val = (y 1).val by omega)
  blk_simp
  rw [after0_2]
  have ht := lt_N t
  refine Eq.trans (congrArg (outsAt0 m c t.val t.isLt).1 (eq_ix2 y))
    ((last m c t (by have := (flush0_2 t).mp hf; omega) (y 0) (y 1)).trans ?_)
  exact congrArg₂ (G (mixed m c) (dy m c)) (Fin.ext e0.symm) (Fin.ext e1.symm)

/-- The contents of the buffer `b` when the program ends. -/
abbrev fin (b : Ref sig .tc) : Buf (Elt Ideal) ((c : Thread nD τ).loc b) :=
  Pipeline.afterTail₀ cfgs (dats m) 0 (V0 m) [hostOps1] c b

theorem fin_at (q : Fin 2048) (n : Fin 1024) : fin m c main_v3 (ix2 q n) = G (mixed m c) (dy m c) q n := by
  have h2 := (dats m 0 c).withArrays_arrAt (by decide +kernel) (V0 m c) (A_eq m c) 2
  simp only [fin, Pipeline.afterTail₀, List.flatten_cons, List.flatten_nil, List.append_nil]
  after_results
  pointwise
  exact (congrFun h2 _).trans (congrFun (arr2 m c) _)

/-- The kernel's run: the product, and the arguments as launched. -/
theorem kernel_run (g : Dev nD → PrngReg) :
    θ_run (defs (F := Ideal)) (onTc (τ := τ) (main (F := Ideal))) ⟨m, fun _ => 0, g⟩ (fun r => ∀ c : Dev nD,
      r.2.mem ((c : Thread nD τ).loc main_v3) = fin m c main_v3
      ∧ r.2.mem ((c : Thread nD τ).loc main_arg0) = m ((c : Thread nD τ).loc main_arg0)
      ∧ r.2.mem ((c : Thread nD τ).loc main_arg1) = m ((c : Thread nD τ).loc main_arg1)) :=
  (θ_run _ _ _).mono (fun r h c => ⟨(h.1 c).2 main_v3 (by decide), h.2 c⟩) (θ_run_and (run_main m g) (unchanged m g))

end Kernel

section Reference

open Cert.Reference24Ideal Cert.Reference24Ideal.Read

theorem ref_at (o : FVec Ideal S8192x2048 .f32) (d : FVec Ideal S8192x1024 .f32) (q : Fin 2048) (n : Fin 1024) :
    val_main_v1 (F := Ideal) o d (ix2 q n) = G o d q n := by
  pointwise [val_main_v1, val_main_v0]
  rfl

end Reference

theorem algebraic : Cert.algebraic_Kernel24Ideal_Reference24Ideal (hKernel24Ideal := Cert.Kernel24Ideal.Gen.facts)
    (hReference24Ideal := Cert.Reference24Ideal.Gen.facts) := by
  intro m g m' g' _ hagree
  refine ⟨fun c => fin m c Cert.Kernel24Ideal.main_v3, kernel_run m g, ?_⟩
  refine (θ_run _ _ _).mono (fun r h c => ?_) (Cert.Reference24Ideal.Value.run m' g')
  obtain ⟨h1, h2⟩ := h c
  obtain ⟨e0, e1⟩ := hagree c
  refine ⟨?_, h2⟩
  rw [h1, e0, e1]
  refine (Cert.Reference24Ideal.Read.val_main_v1_eq _ _).trans ?_
  funext x
  obtain ⟨i, j, rfl⟩ : ∃ i j, x = ix2 i j := ⟨_, _, eq_ix2 x⟩
  exact (ref_at _ _ i j).trans (fin_at m c i j).symm

end Cert.ScanGrad

end
-- ==== Proof.Prod.ScanBack.lean ====
/- The gradient of the state-space layer's output, a product with the transposed weights: the kernel's array, and that the plain line ends
   with the same. -/
module

public import proofs.«01_k».proof.Defs
public import proofs.«01_k».proof.Proof.Gen.Kernel25Ideal.Frame
public import proofs.«01_k».proof.Proof.Gen.Reference25Ideal.Run
public import proofs.«01_k».proof.Proof.Gen.Reference25Ideal.Read
public import Idealize.ShloMosaic.Lib.Pointwise
public import Idealize.ShloMosaic.Lib.KernelVsHost
public import Idealize.ShloMosaic.Lib.Pipeline.ValueKit.Acc
public import Idealize.ShloMosaic.Lib.Pipeline.ValueKit.Point

@[expose] public section

set_option maxRecDepth 16384

noncomputable section

namespace Cert.ScanBack

open Idealize.ShloMosaic Idealize.ShloMosaic.TcCoe Idealize.SL Idealize.SL.Sem Idealize.ShloMosaic.Pipeline

/-- A row of the gradient from above times a row of the weights. -/
def G (d : FVec Ideal ⟨2, ![8192, 1024]⟩ .f32) (w : FVec Ideal ⟨2, ![2048, 1024]⟩ .f32) (r : Fin 8192) (q : Fin 2048) : EReal :=
  ∑ n : Fin 1024, d (ix2 r n) * w (ix2 q n)

section Kernel

open Cert.Kernel25Ideal Cert.Kernel25Ideal.Gen

variable (m : (ℓ : Loc nD τ sig) → Buf (Elt Ideal) ℓ) (c : Dev nD)

/-- The launch's gradient from above and the weights. -/
abbrev dy : FVec Ideal S8192x1024 .f32 := m ((c : Thread nD τ).loc main_arg0)
abbrev wgt : FVec Ideal S2048x1024 .f32 := m ((c : Thread nD τ).loc main_arg1)

theorem V_v0 (r : Fin 8192) (n : Fin 1024) : V m c main_v0 (ix2 r n) = dy m c (ix2 r n) := by
  simp only [V, V0, List.flatten_cons, List.flatten_nil, List.append_nil]
  after_results
  pointwise

theorem V_v1 (q : Fin 2048) (n : Fin 1024) : V m c main_v1 (ix2 q n) = wgt m c (ix2 q n) := by
  simp only [V, V0, List.flatten_cons, List.flatten_nil, List.append_nil]
  after_results
  pointwise

theorem idx0 : ∀ t : Fin cfg0.N, win0_0.index t = ![t.val / 2, 0] := by
  exact (by decide +kernel : ∀ t : Fin grid0.N, win0_0.index t = ![t.val / 2, 0])
theorem idx1 : ∀ t : Fin cfg0.N, win0_1.index t = ![t.val % 2, 0] := by
  exact (by decide +kernel : ∀ t : Fin grid0.N, win0_1.index t = ![t.val % 2, 0])
theorem idx2 : ∀ t : Fin cfg0.N, win0_2.index t = ![t.val / 2, t.val % 2] := by
  exact (by decide +kernel : ∀ t : Fin grid0.N, win0_2.index t = ![t.val / 2, t.val % 2])

theorem lt_N (t : Fin cfg0.N) : t.val < 16 := Nat.lt_of_lt_of_eq t.isLt N_0

theorem blk0 (t : Fin cfg0.N) (r n : Fin 1024) :
    iblk m c 0 t (ix2 r n) = dy m c (ix2 ⟨t.val / 2 * 1024 + r.val, by have := lt_N t; omega⟩ n) := by
  have ht := lt_N t
  refine Eq.trans ?_ (V_v0 m c ⟨t.val / 2 * 1024 + r.val, by omega⟩ n)
  blk_ext [iblk, idx0 t]

theorem blk1 (t : Fin cfg0.N) (q n : Fin 1024) :
    iblk m c 1 t (ix2 q n) = wgt m c (ix2 ⟨t.val % 2 * 1024 + q.val, by omega⟩ n) := by
  refine Eq.trans ?_ (V_v1 m c ⟨t.val % 2 * 1024 + q.val, by omega⟩ n)
  blk_ext [iblk, idx1 t]

theorem pay1_at (x0 x1 : Vec Ideal S1024x1024 .bf16) (r q : Fin 1024) :
    k0_pay1 x0 x1 (ix2 r q) = ∑ n : Fin 1024, x0 (ix2 r n) * x1 (ix2 q n) := by
  pointwise [k0_pay1]

theorem out2 (t : Fin cfg0.N) (r q : Fin 1024) : out0_2 (iblk m c 0 t) (iblk m c 1 t) (ix2 r q)
    = G (dy m c) (wgt m c) ⟨t.val / 2 * 1024 + r.val, by have := lt_N t; omega⟩ ⟨t.val % 2 * 1024 + q.val, by omega⟩ := by
  frame_out
  rw [pay1_at]
  simp only [blk0, blk1]
  rfl

theorem arr2 : (dats m 0 c).arrAt 2 cfg0.N = fun x : S8192x2048.Idx => G (dy m c) (wgt m c) (x 0) (x 1) := by
  refine (dats m 0 c).arrAt_eq_of_covers 2 _ (by decide +kernel) fun t hf y => ?_
  have e0 : (((win0_2.blk t).view.emb y) 0).val = t.val / 2 * 1024 + (y 0).val := by
    blk_simp
    rw [idx2 t]
    rfl
  have e1 : (((win0_2.blk t).view.emb y) 1).val = t.val % 2 * 1024 + (y 1).val := by
    blk_simp
    rw [idx2 t]
    rfl
  blk_simp
  rw [after0_2]
  refine Eq.trans (congrArg (out0_2 (iblk m c 0 t) (iblk m c 1 t)) (eq_ix2 y)) ((out2 m c t (y 0) (y 1)).trans ?_)
  exact congrArg₂ (G (dy m c) (wgt m c)) (Fin.ext e0.symm) (Fin.ext e1.symm)

/-- The contents of the buffer `b` when the program ends. -/
abbrev fin (b : Ref sig .tc) : Buf (Elt Ideal) ((c : Thread nD τ).loc b) :=
  Pipeline.afterTail₀ cfgs (dats m) 0 (V0 m) [hostOps1] c b

theorem fin_at (r : Fin 8192) (q : Fin 2048) : fin m c main_v3 (ix2 r q) = G (dy m c) (wgt m c) r q := by
  have h2 := (dats m 0 c).withArrays_arrAt (by decide +kernel) (V0 m c) (A_eq m c) 2
  simp only [fin, Pipeline.afterTail₀, List.flatten_cons, List.flatten_nil, List.append_nil]
  after_results
  pointwise
  exact (congrFun h2 _).trans (congrFun (arr2 m c) _)

/-- The kernel's run: the product, and the arguments as launched. -/
theorem kernel_run (g : Dev nD → PrngReg) :
    θ_run (defs (F := Ideal)) (onTc (τ := τ) (main (F := Ideal))) ⟨m, fun _ => 0, g⟩ (fun r => ∀ c : Dev nD,
      r.2.mem ((c : Thread nD τ).loc main_v3) = fin m c main_v3
      ∧ r.2.mem ((c : Thread nD τ).loc main_arg0) = m ((c : Thread nD τ).loc main_arg0)
      ∧ r.2.mem ((c : Thread nD τ).loc main_arg1) = m ((c : Thread nD τ).loc main_arg1)) :=
  (θ_run _ _ _).mono (fun r h c => ⟨(h.1 c).2 main_v3 (by decide), h.2 c⟩) (θ_run_and (run_main m g) (unchanged m g))

end Kernel

section Reference

open Cert.Reference25Ideal Cert.Reference25Ideal.Read

theorem ref_at (d : FVec Ideal S8192x1024 .f32) (w : FVec Ideal S2048x1024 .f32) (r : Fin 8192) (q : Fin 2048) :
    val_main_v1 (F := Ideal) d w (ix2 r q) = G d w r q := by
  pointwise [val_main_v1, val_main_v0]
  rfl

end Reference

theorem algebraic : Cert.algebraic_Kernel25Ideal_Reference25Ideal (hKernel25Ideal := Cert.Kernel25Ideal.Gen.facts)
    (hReference25Ideal := Cert.Reference25Ideal.Gen.facts) := by
  intro m g m' g' _ hagree
  refine ⟨fun c => fin m c Cert.Kernel25Ideal.main_v3, kernel_run m g, ?_⟩
  refine (θ_run _ _ _).mono (fun r h c => ?_) (Cert.Reference25Ideal.Value.run m' g')
  obtain ⟨h1, h2⟩ := h c
  obtain ⟨e0, e1⟩ := hagree c
  refine ⟨?_, h2⟩
  rw [h1, e0, e1]
  refine (Cert.Reference25Ideal.Read.val_main_v1_eq _ _).trans ?_
  funext x
  obtain ⟨i, j, rfl⟩ : ∃ i j, x = ix2 i j := ⟨_, _, eq_ix2 x⟩
  exact (ref_at _ _ i j).trans (fin_at m c i j).symm

end Cert.ScanBack

end
-- ==== Proof.Prod.Gates.lean ====
/- The product that makes the attention's gates or the state-space layer's time steps, 128 columns wide: the kernel's array, and that the plain line ends
   with the same. -/
module

public import proofs.«01_k».proof.Defs
public import proofs.«01_k».proof.Proof.Gen.Kernel26Ideal.Frame
public import proofs.«01_k».proof.Proof.Gen.Reference26Ideal.Run
public import proofs.«01_k».proof.Proof.Gen.Reference26Ideal.Read
public import Idealize.ShloMosaic.Lib.Pointwise
public import Idealize.ShloMosaic.Lib.KernelVsHost
public import Idealize.ShloMosaic.Lib.Pipeline.ValueKit.Acc
public import Idealize.ShloMosaic.Lib.Pipeline.ValueKit.Point

@[expose] public section

set_option maxRecDepth 16384

noncomputable section

namespace Cert.Gates

open Idealize.ShloMosaic Idealize.ShloMosaic.TcCoe Idealize.SL Idealize.SL.Sem Idealize.ShloMosaic.Pipeline

/-- A row of the input times a column of the weights. -/
def G (h : FVec Ideal ⟨2, ![8192, 1024]⟩ .f32) (w : FVec Ideal ⟨2, ![1024, 128]⟩ .f32) (r : Fin 8192) (q : Fin 128) : EReal :=
  ∑ n : Fin 1024, h (ix2 r n) * w (ix2 n q)

section Kernel

open Cert.Kernel26Ideal Cert.Kernel26Ideal.Gen

variable (m : (ℓ : Loc nD τ sig) → Buf (Elt Ideal) ℓ) (c : Dev nD)

/-- The launch's input and the weights. -/
abbrev inp : FVec Ideal S8192x1024 .f32 := m ((c : Thread nD τ).loc main_arg0)
abbrev wgt : FVec Ideal S1024x128 .f32 := m ((c : Thread nD τ).loc main_arg1)

theorem V_v0 (r : Fin 8192) (n : Fin 1024) : V m c main_v0 (ix2 r n) = inp m c (ix2 r n) := by
  simp only [V]
  after_results
  pointwise

theorem V_v1 (n : Fin 1024) (q : Fin 128) : V m c main_v1 (ix2 n q) = wgt m c (ix2 n q) := by
  simp only [V]
  after_results
  pointwise

theorem idx0 : ∀ t : Fin cfg0.N, win0_0.index t = ![t.val, 0] := by
  exact (by decide +kernel : ∀ t : Fin grid0.N, win0_0.index t = ![t.val, 0])
theorem idx1 : ∀ t : Fin cfg0.N, win0_1.index t = ![0, 0] := by
  exact (by decide +kernel : ∀ t : Fin grid0.N, win0_1.index t = ![0, 0])
theorem idx2 : ∀ t : Fin cfg0.N, win0_2.index t = ![t.val, 0] := by
  exact (by decide +kernel : ∀ t : Fin grid0.N, win0_2.index t = ![t.val, 0])

theorem lt_N (t : Fin cfg0.N) : t.val < 2 := Nat.lt_of_lt_of_eq t.isLt N_0

theorem blk0 (t : Fin cfg0.N) (r : Fin 4096) (n : Fin 1024) :
    iblk m c 0 t (ix2 r n) = inp m c (ix2 ⟨t.val * 4096 + r.val, by have := lt_N t; omega⟩ n) := by
  have ht := lt_N t
  refine Eq.trans ?_ (V_v0 m c ⟨t.val * 4096 + r.val, by omega⟩ n)
  blk_ext [iblk, idx0 t]

theorem blk1 (t : Fin cfg0.N) (n : Fin 1024) (q : Fin 128) : iblk m c 1 t (ix2 n q) = wgt m c (ix2 n q) := by
  refine Eq.trans ?_ (V_v1 m c n q)
  blk_ext [iblk, idx1 t]

theorem pay1_at (x0 : Vec Ideal S4096x1024 .bf16) (x1 : Vec Ideal S1024x128 .bf16) (r : Fin 4096) (q : Fin 128) :
    k0_pay1 x0 x1 (ix2 r q) = ∑ n : Fin 1024, x0 (ix2 r n) * x1 (ix2 n q) := by
  pointwise [k0_pay1]

theorem out2 (t : Fin cfg0.N) (r : Fin 4096) (q : Fin 128) : out0_2 (iblk m c 0 t) (iblk m c 1 t) (ix2 r q)
    = G (inp m c) (wgt m c) ⟨t.val * 4096 + r.val, by have := lt_N t; omega⟩ q := by
  frame_out
  rw [pay1_at]
  simp only [blk0, blk1]
  rfl

/-- The array the kernel ends with. -/
abbrev out : FVec Ideal S8192x128 .f32 := fun x => G (inp m c) (wgt m c) (x 0) (x 1)

theorem arr2 : (dats m 0 c).arrAt 2 cfg0.N = out m c := by
  refine (dats m 0 c).arrAt_eq_of_covers 2 _ (by decide +kernel) fun t hf y => ?_
  have e0 : (((win0_2.blk t).view.emb y) 0).val = t.val * 4096 + (y 0).val := by
    blk_simp
    rw [idx2 t]
    rfl
  have e1 : (((win0_2.blk t).view.emb y) 1).val = (y 1).val := by
    blk_simp
    rw [idx2 t]
    exact (show 0 * 128 + (y 1).val = (y 1).val by omega)
  blk_simp
  rw [after0_2]
  refine Eq.trans (congrArg (out0_2 (iblk m c 0 t) (iblk m c 1 t)) (eq_ix2 y)) ((out2 m c t (y 0) (y 1)).trans ?_)
  exact congrArg₂ (G (inp m c) (wgt m c)) (Fin.ext e0.symm) (Fin.ext e1.symm)

/-- The kernel's run: the product, and the arguments as launched. -/
theorem kernel_run (g : Dev nD → PrngReg) :
    θ_run (defs (F := Ideal)) (onTc (τ := τ) (main (F := Ideal))) ⟨m, fun _ => 0, g⟩ (fun r => ∀ c : Dev nD,
      r.2.mem ((c : Thread nD τ).loc main_v2) = out m c
      ∧ r.2.mem ((c : Thread nD τ).loc main_arg0) = m ((c : Thread nD τ).loc main_arg0)
      ∧ r.2.mem ((c : Thread nD τ).loc main_arg1) = m ((c : Thread nD τ).loc main_arg1)) :=
  (θ_run _ _ _).mono (fun r h c => ⟨((h.1 c).1 2).trans (arr2 m c), h.2 c⟩) (θ_run_and (run_main m g) (unchanged m g))

end Kernel

section Reference

open Cert.Reference26Ideal Cert.Reference26Ideal.Read

theorem ref_at (h : FVec Ideal S8192x1024 .f32) (w : FVec Ideal S1024x128 .f32) (r : Fin 8192) (q : Fin 128) :
    val_main_v0 (F := Ideal) h w (ix2 r q) = G h w r q := by
  pointwise [val_main_v0]
  rfl

end Reference

theorem algebraic : Cert.algebraic_Kernel26Ideal_Reference26Ideal (hKernel26Ideal := Cert.Kernel26Ideal.Gen.facts)
    (hReference26Ideal := Cert.Reference26Ideal.Gen.facts) := by
  intro m g m' g' _ hagree
  refine ⟨fun c => out m c, kernel_run m g, ?_⟩
  refine (θ_run _ _ _).mono (fun r h c => ?_) (Cert.Reference26Ideal.Value.run m' g')
  obtain ⟨h1, h2⟩ := h c
  obtain ⟨e0, e1⟩ := hagree c
  refine ⟨?_, h2⟩
  rw [h1, e0, e1]
  refine (Cert.Reference26Ideal.Read.val_main_v0_eq _ _).trans ?_
  funext x
  obtain ⟨i, j, rfl⟩ : ∃ i j, x = ix2 i j := ⟨_, _, eq_ix2 x⟩
  exact ref_at _ _ i j

end Cert.Gates

end
-- ==== Proof.Prod.GatesGrad.lean ====
/- The gradient of the weights that lead into the gates or the time steps, 128 columns wide, a product over the tokens: the kernel's
   array, and that the plain line ends with the same. -/
module

public import proofs.«01_k».proof.Defs
public import proofs.«01_k».proof.Proof.Gen.Kernel27Ideal.Frame
public import proofs.«01_k».proof.Proof.Gen.Reference27Ideal.Run
public import proofs.«01_k».proof.Proof.Gen.Reference27Ideal.Read
public import Idealize.ShloMosaic.Lib.Pointwise
public import Idealize.ShloMosaic.Lib.Pipeline.ReadBack
public import Idealize.ShloMosaic.Lib.KernelVsHost
public import Idealize.ShloMosaic.Lib.Pipeline.ValueKit.Acc
public import Idealize.ShloMosaic.Lib.Pipeline.ValueKit.Point

@[expose] public section

set_option maxRecDepth 16384

noncomputable section

namespace Cert.GatesGrad

open Idealize.ShloMosaic Idealize.ShloMosaic.TcCoe Idealize.SL Idealize.SL.Sem Idealize.ShloMosaic.Pipeline

/-- The product over all tokens. -/
def G (o : FVec Ideal ⟨2, ![8192, 1024]⟩ .f32) (d : FVec Ideal ⟨2, ![8192, 128]⟩ .f32) (q : Fin 1024) (n : Fin 128) : EReal := ∑ r : Fin 8192, o (ix2 r q) * d (ix2 r n)

section Kernel

open Cert.Kernel27Ideal Cert.Kernel27Ideal.Gen

variable (m : (ℓ : Loc nD τ sig) → Buf (Elt Ideal) ℓ) (c : Dev nD)

/-- The launch's input and the gradient from above. -/
abbrev inp : FVec Ideal S8192x1024 .f32 := m ((c : Thread nD τ).loc main_arg0)
abbrev dy : FVec Ideal S8192x128 .f32 := m ((c : Thread nD τ).loc main_arg1)

theorem V_v0 (r : Fin 8192) (q : Fin 1024) : V m c main_v0 (ix2 r q) = inp m c (ix2 r q) := by
  simp only [V]
  after_results
  pointwise

theorem V_v1 (r : Fin 8192) (n : Fin 128) : V m c main_v1 (ix2 r n) = dy m c (ix2 r n) := by
  simp only [V]
  after_results
  pointwise

theorem idx0 : ∀ t : Fin cfg0.N, win0_0.index t = ![t.val, 0] := by
  exact (by decide +kernel : ∀ t : Fin grid0.N, win0_0.index t = ![t.val, 0])
theorem idx1 : ∀ t : Fin cfg0.N, win0_1.index t = ![t.val, 0] := by
  exact (by decide +kernel : ∀ t : Fin grid0.N, win0_1.index t = ![t.val, 0])
theorem idx2 : ∀ t : Fin cfg0.N, win0_2.index t = ![0, 0] := by
  exact (by decide +kernel : ∀ t : Fin grid0.N, win0_2.index t = ![0, 0])

theorem lt_N (t : Fin cfg0.N) : t.val < 2 := Nat.lt_of_lt_of_eq t.isLt N_0

theorem blk0 (t : Fin cfg0.N) (r : Fin 4096) (q : Fin 1024) :
    iblk m c 0 t (ix2 r q) = inp m c (ix2 ⟨t.val * 4096 + r.val, by have := lt_N t; omega⟩ q) := by
  have ht := lt_N t
  refine Eq.trans ?_ (V_v0 m c ⟨t.val * 4096 + r.val, by omega⟩ q)
  blk_ext [iblk, idx0 t]

theorem blk1 (t : Fin cfg0.N) (r : Fin 4096) (n : Fin 128) :
    iblk m c 1 t (ix2 r n) = dy m c (ix2 ⟨t.val * 4096 + r.val, by have := lt_N t; omega⟩ n) := by
  have ht := lt_N t
  refine Eq.trans ?_ (V_v1 m c ⟨t.val * 4096 + r.val, by omega⟩ n)
  blk_ext [iblk, idx1 t]

theorem pay1_at (x0 : Vec Ideal S4096x1024 .bf16) (x1 : Vec Ideal S4096x128 .bf16) (q : Fin 1024) (n : Fin 128) :
    k0_pay1 x0 x1 (ix2 q n) = ∑ r : Fin 4096, x0 (ix2 r q) * x1 (ix2 r n) := by
  pointwise [k0_pay1]

/-- What a point adds. -/
def part (t : Fin cfg0.N) (x : S1024x128.Idx) : EReal := k0_pay1 (iblk m c 0 t) (iblk m c 1 t) x

theorem first (t : Fin cfg0.N) (h0 : t.val % 2 = 0) (x : S1024x128.Idx) : (outsAt0 m c t.val t.isLt).2 x = 0 + part m c t x := by
  have ht := lt_N t
  rw [outsAt0_A m c t h0 (by omega) (by omega), eq_ix2 x, zero_add]
  frame_out
  pointwise [k0_pay2]
  rfl

theorem step (t : Fin cfg0.N) (h0 : ¬ t.val % 2 = 0) (x : S1024x128.Idx) :
    (outsAt0 m c t.val t.isLt).2 x = (outsAt0 m c (t.val - 1) (Nat.lt_of_le_of_lt (Nat.sub_le _ _) t.isLt)).2 x + part m c t x := by
  have h1 : t.val % 2 = 1 := by omega
  rw [outsAt0_B m c t h0 h1 h1, eq_ix2 x]
  frame_out
  pointwise [k0_pay3]
  rw [read_unread_whole]
  rfl

theorem out_last (t : Fin cfg0.N) (h2 : t.val % 2 = 1) (q : Fin 1024) (n : Fin 128) :
    (outsAt0 m c t.val t.isLt).1 (ix2 q n) = (outsAt0 m c t.val t.isLt).2 (ix2 q n) := by
  rw [outsAt0_B m c t (by omega) h2 h2]
  frame_out

theorem last (t : Fin cfg0.N) (hf : t.val % 2 = 1) (q : Fin 1024) (n : Fin 128) :
    (outsAt0 m c t.val t.isLt).1 (ix2 q n) = G (inp m c) (dy m c) q n := by
  have ht := lt_N t
  rw [out_last m c t hf]
  refine (eq_sum_fin_of_reset_step_apply_of_flush (fun n h => (outsAt0 m c n h).2) 2 (fun _ => 0) (part m c)
    (fun t h x => first m c t h x) (fun t h x => step m c t h x) t hf (ix2 q n)).trans ?_
  rw [zero_add]
  refine Eq.trans ?_ (Fin.sum_mul_add_fin 2 4096 _)
  refine Finset.sum_congr rfl fun s _ => ?_
  unfold part
  rw [pay1_at]
  simp only [blk0, blk1]
  have e1 : 2 * (t.val / 2) + s.val = s.val := by omega
  simp only [e1]

/-- The array the kernel ends with. -/
abbrev out : FVec Ideal S1024x128 .f32 := fun x => G (inp m c) (dy m c) (x 0) (x 1)

theorem arr2 : (dats m 0 c).arrAt 2 cfg0.N = out m c := by
  refine (dats m 0 c).arrAt_eq_of_covers 2 _ (by decide +kernel) fun t hf y => ?_
  have e0 : (((win0_2.blk t).view.emb y) 0).val = (y 0).val := by
    blk_simp
    rw [idx2 t]
    exact (show 0 * 1024 + (y 0).val = (y 0).val by omega)
  have e1 : (((win0_2.blk t).view.emb y) 1).val = (y 1).val := by
    blk_simp
    rw [idx2 t]
    exact (show 0 * 128 + (y 1).val = (y 1).val by omega)
  blk_simp
  rw [after0_2]
  have ht := lt_N t
  refine Eq.trans (congrArg (outsAt0 m c t.val t.isLt).1 (eq_ix2 y))
    ((last m c t (by have := (flush0_2 t).mp hf; omega) (y 0) (y 1)).trans ?_)
  exact congrArg₂ (G (inp m c) (dy m c)) (Fin.ext e0.symm) (Fin.ext e1.symm)

/-- The kernel's run: the product, and the arguments as launched. -/
theorem kernel_run (g : Dev nD → PrngReg) :
    θ_run (defs (F := Ideal)) (onTc (τ := τ) (main (F := Ideal))) ⟨m, fun _ => 0, g⟩ (fun r => ∀ c : Dev nD,
      r.2.mem ((c : Thread nD τ).loc main_v2) = out m c
      ∧ r.2.mem ((c : Thread nD τ).loc main_arg0) = m ((c : Thread nD τ).loc main_arg0)
      ∧ r.2.mem ((c : Thread nD τ).loc main_arg1) = m ((c : Thread nD τ).loc main_arg1)) :=
  (θ_run _ _ _).mono (fun r h c => ⟨((h.1 c).1 2).trans (arr2 m c), h.2 c⟩) (θ_run_and (run_main m g) (unchanged m g))

end Kernel

section Reference

open Cert.Reference27Ideal Cert.Reference27Ideal.Read

theorem ref_at (o : FVec Ideal S8192x1024 .f32) (d : FVec Ideal S8192x128 .f32) (q : Fin 1024) (n : Fin 128) : val_main_v1 (F := Ideal) o d (ix2 q n) = G o d q n := by
  pointwise [val_main_v1, val_main_v0]
  rfl

end Reference

theorem algebraic : Cert.algebraic_Kernel27Ideal_Reference27Ideal (hKernel27Ideal := Cert.Kernel27Ideal.Gen.facts)
    (hReference27Ideal := Cert.Reference27Ideal.Gen.facts) := by
  intro m g m' g' _ hagree
  refine ⟨fun c => out m c, kernel_run m g, ?_⟩
  refine (θ_run _ _ _).mono (fun r h c => ?_) (Cert.Reference27Ideal.Value.run m' g')
  obtain ⟨h1, h2⟩ := h c
  obtain ⟨e0, e1⟩ := hagree c
  refine ⟨?_, h2⟩
  rw [h1, e0, e1]
  refine (Cert.Reference27Ideal.Read.val_main_v1_eq _ _).trans ?_
  funext x
  obtain ⟨i, j, rfl⟩ : ∃ i j, x = ix2 i j := ⟨_, _, eq_ix2 x⟩
  exact ref_at _ _ i j

end Cert.GatesGrad

end
-- ==== Proof.Prod.GatesAdd.lean ====
/- The gradient of a mixer's input through the gates or the time steps, added to what came before: the kernel's array, and that the
   plain line ends with the same. -/
module

public import proofs.«01_k».proof.Defs
public import proofs.«01_k».proof.Proof.Gen.Kernel28Ideal.Frame
public import proofs.«01_k».proof.Proof.Gen.Reference28Ideal.Run
public import proofs.«01_k».proof.Proof.Gen.Reference28Ideal.Read
public import Idealize.ShloMosaic.Lib.Pointwise
public import Idealize.ShloMosaic.Lib.KernelVsHost
public import Idealize.ShloMosaic.Lib.Pipeline.ValueKit.Acc
public import Idealize.ShloMosaic.Lib.Pipeline.ValueKit.Point

@[expose] public section

set_option maxRecDepth 16384

noncomputable section

namespace Cert.GatesAdd

open Idealize.ShloMosaic Idealize.ShloMosaic.TcCoe Idealize.SL Idealize.SL.Sem Idealize.ShloMosaic.Pipeline

/-- What came before, and a row of the gradient times a row of the weights. -/
def G (d : FVec Ideal ⟨2, ![8192, 128]⟩ .f32) (w : FVec Ideal ⟨2, ![1024, 128]⟩ .f32) (x : FVec Ideal ⟨2, ![8192, 1024]⟩ .f32)
    (r : Fin 8192) (n : Fin 1024) : EReal :=
  x (ix2 r n) + ∑ q : Fin 128, d (ix2 r q) * w (ix2 n q)

section Kernel

open Cert.Kernel28Ideal Cert.Kernel28Ideal.Gen

variable (m : (ℓ : Loc nD τ sig) → Buf (Elt Ideal) ℓ) (c : Dev nD)

/-- The launch's gradient, weights and what came before. -/
abbrev dp : FVec Ideal S8192x128 .f32 := m ((c : Thread nD τ).loc main_arg0)
abbrev wgt : FVec Ideal S1024x128 .f32 := m ((c : Thread nD τ).loc main_arg1)
abbrev before : FVec Ideal S8192x1024 .f32 := m ((c : Thread nD τ).loc main_arg2)

theorem V_v0 (r : Fin 8192) (q : Fin 128) : V m c main_v0 (ix2 r q) = dp m c (ix2 r q) := by
  simp only [V]
  after_results
  pointwise

theorem V_v1 (n : Fin 1024) (q : Fin 128) : V m c main_v1 (ix2 n q) = wgt m c (ix2 n q) := by
  simp only [V]
  after_results
  pointwise

theorem V_arg2 : V m c main_arg2 = before m c := by
  simp only [V]
  after_results

theorem idx0 : ∀ t : Fin cfg0.N, win0_0.index t = ![t.val, 0] := by
  exact (by decide +kernel : ∀ t : Fin grid0.N, win0_0.index t = ![t.val, 0])
theorem idx1 : ∀ t : Fin cfg0.N, win0_1.index t = ![0, 0] := by
  exact (by decide +kernel : ∀ t : Fin grid0.N, win0_1.index t = ![0, 0])
theorem idx2 : ∀ t : Fin cfg0.N, win0_2.index t = ![t.val, 0] := by
  exact (by decide +kernel : ∀ t : Fin grid0.N, win0_2.index t = ![t.val, 0])
theorem idx3 : ∀ t : Fin cfg0.N, win0_3.index t = ![t.val, 0] := by
  exact (by decide +kernel : ∀ t : Fin grid0.N, win0_3.index t = ![t.val, 0])

theorem lt_N (t : Fin cfg0.N) : t.val < 8 := Nat.lt_of_lt_of_eq t.isLt N_0

theorem blk0 (t : Fin cfg0.N) (r : Fin 1024) (q : Fin 128) :
    iblk m c 0 t (ix2 r q) = dp m c (ix2 ⟨t.val * 1024 + r.val, by have := lt_N t; omega⟩ q) := by
  have ht := lt_N t
  refine Eq.trans ?_ (V_v0 m c ⟨t.val * 1024 + r.val, by omega⟩ q)
  blk_ext [iblk, idx0 t]

theorem blk1 (t : Fin cfg0.N) (n : Fin 1024) (q : Fin 128) : iblk m c 1 t (ix2 n q) = wgt m c (ix2 n q) := by
  refine Eq.trans ?_ (V_v1 m c n q)
  blk_ext [iblk, idx1 t]

theorem blk2 (t : Fin cfg0.N) (r n : Fin 1024) :
    iblk m c 2 t (ix2 r n) = before m c (ix2 ⟨t.val * 1024 + r.val, by have := lt_N t; omega⟩ n) := by
  have ht := lt_N t
  refine Eq.trans ?_ (congrFun (V_arg2 m c) (ix2 ⟨t.val * 1024 + r.val, by omega⟩ n))
  blk_ext [iblk, idx2 t]

theorem pay1_at (x0 x1 : Vec Ideal S1024x128 .bf16) (x2 : Vec Ideal S1024x1024 .f32) (r n : Fin 1024) :
    k0_pay1 x0 x1 x2 (ix2 r n) = (∑ q : Fin 128, x0 (ix2 r q) * x1 (ix2 n q)) + x2 (ix2 r n) := by
  pointwise [k0_pay1]

theorem out3 (t : Fin cfg0.N) (r n : Fin 1024) : out0_3 (iblk m c 0 t) (iblk m c 1 t) (iblk m c 2 t) (ix2 r n)
    = G (dp m c) (wgt m c) (before m c) ⟨t.val * 1024 + r.val, by have := lt_N t; omega⟩ n := by
  frame_out
  rw [pay1_at]
  simp only [blk0, blk1, blk2]
  exact add_comm _ _

/-- The array the kernel ends with. -/
abbrev out : FVec Ideal S8192x1024 .f32 := fun x => G (dp m c) (wgt m c) (before m c) (x 0) (x 1)

theorem arr3 : (dats m 0 c).arrAt 3 cfg0.N = out m c := by
  refine (dats m 0 c).arrAt_eq_of_covers 3 _ (by decide +kernel) fun t hf y => ?_
  have e0 : (((win0_3.blk t).view.emb y) 0).val = t.val * 1024 + (y 0).val := by
    blk_simp
    rw [idx3 t]
    rfl
  have e1 : (((win0_3.blk t).view.emb y) 1).val = (y 1).val := by
    blk_simp
    rw [idx3 t]
    exact (show 0 * 1024 + (y 1).val = (y 1).val by omega)
  blk_simp
  rw [after0_3]
  refine Eq.trans (congrArg (out0_3 (iblk m c 0 t) (iblk m c 1 t) (iblk m c 2 t)) (eq_ix2 y)) ((out3 m c t (y 0) (y 1)).trans ?_)
  exact congrArg₂ (G (dp m c) (wgt m c) (before m c)) (Fin.ext e0.symm) (Fin.ext e1.symm)

/-- The kernel's run: the sum, and the arguments as launched. -/
theorem kernel_run (g : Dev nD → PrngReg) :
    θ_run (defs (F := Ideal)) (onTc (τ := τ) (main (F := Ideal))) ⟨m, fun _ => 0, g⟩ (fun r => ∀ c : Dev nD,
      r.2.mem ((c : Thread nD τ).loc main_v2) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run _ _ _).mono (fun r h c => ⟨((h.1 c).1 3).trans (arr3 m c), h.2 c⟩) (θ_run_and (run_main m g) (unchanged m g))

end Kernel

section Reference

open Cert.Reference28Ideal Cert.Reference28Ideal.Read

theorem ref_at (d : FVec Ideal S8192x128 .f32) (w : FVec Ideal S1024x128 .f32) (x : FVec Ideal S8192x1024 .f32)
    (r : Fin 8192) (n : Fin 1024) : val_main_v2 (F := Ideal) d w x (ix2 r n) = G d w x r n := by
  pointwise [val_main_v2, val_main_v1, val_main_v0]
  rfl

end Reference

theorem algebraic : Cert.algebraic_Kernel28Ideal_Reference28Ideal (hKernel28Ideal := Cert.Kernel28Ideal.Gen.facts)
    (hReference28Ideal := Cert.Reference28Ideal.Gen.facts) := by
  intro m g m' g' _ hagree
  refine ⟨fun c => out m c, kernel_run m g, ?_⟩
  refine (θ_run _ _ _).mono (fun r h c => ?_) (Cert.Reference28Ideal.Value.run m' g')
  obtain ⟨h1, h2⟩ := h c
  obtain ⟨e0, e1, e2⟩ := hagree c
  refine ⟨?_, h2⟩
  rw [h1, e0, e1, e2]
  refine (Cert.Reference28Ideal.Read.val_main_v2_eq _ _ _).trans ?_
  funext x
  obtain ⟨i, j, rfl⟩ : ∃ i j, x = ix2 i j := ⟨_, _, eq_ix2 x⟩
  exact ref_at _ _ _ i j

end Cert.GatesAdd

end
-- ==== Proof.Prod.Norm.lean ====
/- The normalisation that each layer begins with: the kernel's array, and that the plain line ends with the same. -/
module

public import proofs.«01_k».proof.Defs
public import proofs.«01_k».proof.Proof.Gen.Kernel29Ideal.Frame
public import proofs.«01_k».proof.Proof.Gen.Reference29Ideal.Run
public import proofs.«01_k».proof.Proof.Gen.Reference29Ideal.Read
public import Idealize.ShloMosaic.Lib.Pointwise
public import Idealize.ShloMosaic.Lib.KernelVsHost
public import Idealize.ShloMosaic.Lib.Pipeline.ValueKit.Acc
public import Idealize.ShloMosaic.Lib.Pipeline.ValueKit.Point

@[expose] public section

set_option maxRecDepth 16384

noncomputable section

namespace Cert.Norm

open Idealize.ShloMosaic Idealize.ShloMosaic.TcCoe Idealize.SL Idealize.SL.Sem Idealize.ShloMosaic.Pipeline

/-- One over the root of a token's mean square. -/
def scale (x : Fin 1024 → EReal) : EReal :=
  Ideal.rsqrt (Ideal.div (∑ n : Fin 1024, x n * x n) (Ideal.ofBits .f32 0x44800000#32) + Ideal.ofBits .f32 0x358637BD#32)

/-- A token's element, normalised and weighted. -/
def G (x : FVec Ideal ⟨2, ![8192, 1024]⟩ .f32) (w : FVec Ideal ⟨1, ![1024]⟩ .f32) (r : Fin 8192) (q : Fin 1024) : EReal :=
  x (ix2 r q) * scale (fun n => x (ix2 r n)) * w (ix1 q)

section Kernel

open Cert.Kernel29Ideal Cert.Kernel29Ideal.Gen

variable (m : (ℓ : Loc nD τ sig) → Buf (Elt Ideal) ℓ) (c : Dev nD)

/-- The launch's tokens and the weights. -/
abbrev inp : FVec Ideal S8192x1024 .f32 := m ((c : Thread nD τ).loc main_arg0)
abbrev wgt : FVec Ideal S1024 .f32 := m ((c : Thread nD τ).loc main_arg1)

theorem V_arg0 : V m c main_arg0 = inp m c := by
  simp only [V, V0, List.flatten_cons, List.flatten_nil, List.append_nil]
  after_results

theorem V_v0 (q : Fin 1024) : V m c main_v0 (ix2 (0 : Fin 1) q) = wgt m c (ix1 q) := by
  simp only [V, V0, List.flatten_cons, List.flatten_nil, List.append_nil]
  after_results
  pointwise

theorem idx0 : ∀ t : Fin cfg0.N, win0_0.index t = ![t.val, 0] := by
  exact (by decide +kernel : ∀ t : Fin grid0.N, win0_0.index t = ![t.val, 0])
theorem idx1 : ∀ t : Fin cfg0.N, win0_1.index t = ![0, 0] := by
  exact (by decide +kernel : ∀ t : Fin grid0.N, win0_1.index t = ![0, 0])
theorem idx2 : ∀ t : Fin cfg0.N, win0_2.index t = ![t.val, 0] := by
  exact (by decide +kernel : ∀ t : Fin grid0.N, win0_2.index t = ![t.val, 0])

theorem lt_N (t : Fin cfg0.N) : t.val < 16 := Nat.lt_of_lt_of_eq t.isLt N_0

theorem blk0 (t : Fin cfg0.N) (r : Fin 512) (n : Fin 1024) :
    iblk m c 0 t (ix2 r n) = inp m c (ix2 ⟨t.val * 512 + r.val, by have := lt_N t; omega⟩ n) := by
  have ht := lt_N t
  refine Eq.trans ?_ (congrFun (V_arg0 m c) (ix2 ⟨t.val * 512 + r.val, by omega⟩ n))
  blk_ext [iblk, idx0 t]

theorem blk1 (t : Fin cfg0.N) (q : Fin 1024) : iblk m c 1 t (ix2 (0 : Fin 1) q) = wgt m c (ix1 q) := by
  refine Eq.trans ?_ (V_v0 m c q)
  blk_ext [iblk, idx1 t]

theorem pay1_at (x0 : Vec Ideal S512x1024 .f32) (x1 : Vec Ideal S1x1024 .f32) (r : Fin 512) (q : Fin 1024) :
    k0_pay1 x0 x1 (ix2 r q) = x0 (ix2 r q) * scale (fun n => x0 (ix2 r n)) * x1 (ix2 (0 : Fin 1) q) := by
  pointwise [k0_pay1]
  rfl

theorem out2 (t : Fin cfg0.N) (r : Fin 512) (q : Fin 1024) : out0_2 (iblk m c 0 t) (iblk m c 1 t) (ix2 r q)
    = G (inp m c) (wgt m c) ⟨t.val * 512 + r.val, by have := lt_N t; omega⟩ q := by
  frame_out
  rw [pay1_at]
  simp only [blk0, blk1]
  rfl

theorem arr2 : (dats m 0 c).arrAt 2 cfg0.N = fun x : S8192x1024.Idx => G (inp m c) (wgt m c) (x 0) (x 1) := by
  refine (dats m 0 c).arrAt_eq_of_covers 2 _ (by decide +kernel) fun t hf y => ?_
  have e0 : (((win0_2.blk t).view.emb y) 0).val = t.val * 512 + (y 0).val := by
    blk_simp
    rw [idx2 t]
    rfl
  have e1 : (((win0_2.blk t).view.emb y) 1).val = (y 1).val := by
    blk_simp
    rw [idx2 t]
    exact (show 0 * 1024 + (y 1).val = (y 1).val by omega)
  blk_simp
  rw [after0_2]
  refine Eq.trans (congrArg (out0_2 (iblk m c 0 t) (iblk m c 1 t)) (eq_ix2 y)) ((out2 m c t (y 0) (y 1)).trans ?_)
  exact congrArg₂ (G (inp m c) (wgt m c)) (Fin.ext e0.symm) (Fin.ext e1.symm)

/-- The contents of the buffer `b` when the program ends. -/
abbrev fin (b : Ref sig .tc) : Buf (Elt Ideal) ((c : Thread nD τ).loc b) :=
  Pipeline.afterTail₀ cfgs (dats m) 0 (V0 m) [hostOps1] c b

theorem fin_at (r : Fin 8192) (q : Fin 1024) : fin m c main_v2 (ix2 r q) = G (inp m c) (wgt m c) r q := by
  have h2 := (dats m 0 c).withArrays_arrAt (by decide +kernel) (V0 m c) (A_eq m c) 2
  simp only [fin, Pipeline.afterTail₀, List.flatten_cons, List.flatten_nil, List.append_nil]
  after_results
  pointwise
  exact (congrFun h2 _).trans (congrFun (arr2 m c) _)

/-- The kernel's run: the normalised tokens, and the arguments as launched. -/
theorem kernel_run (g : Dev nD → PrngReg) :
    θ_run (defs (F := Ideal)) (onTc (τ := τ) (main (F := Ideal))) ⟨m, fun _ => 0, g⟩ (fun r => ∀ c : Dev nD,
      r.2.mem ((c : Thread nD τ).loc main_v2) = fin m c main_v2
      ∧ r.2.mem ((c : Thread nD τ).loc main_arg0) = m ((c : Thread nD τ).loc main_arg0)
      ∧ r.2.mem ((c : Thread nD τ).loc main_arg1) = m ((c : Thread nD τ).loc main_arg1)) :=
  (θ_run _ _ _).mono (fun r h c => ⟨(h.1 c).2 main_v2 (by decide), h.2 c⟩) (θ_run_and (run_main m g) (unchanged m g))

end Kernel

section Reference

open Cert.Reference29Ideal Cert.Reference29Ideal.Read

theorem ref_at (x : FVec Ideal S8192x1024 .f32) (w : FVec Ideal S1024 .f32) (r : Fin 8192) (q : Fin 1024) :
    val_main_v12 (F := Ideal) x w (ix2 r q) = G x w r q := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]
  rfl

end Reference

theorem algebraic : Cert.algebraic_Kernel29Ideal_Reference29Ideal (hKernel29Ideal := Cert.Kernel29Ideal.Gen.facts)
    (hReference29Ideal := Cert.Reference29Ideal.Gen.facts) := by
  intro m g m' g' _ hagree
  refine ⟨fun c => fin m c Cert.Kernel29Ideal.main_v2, kernel_run m g, ?_⟩
  refine (θ_run _ _ _).mono (fun r h c => ?_) (Cert.Reference29Ideal.Value.run m' g')
  obtain ⟨h1, h2⟩ := h c
  obtain ⟨e0, e1⟩ := hagree c
  refine ⟨?_, h2⟩
  rw [h1, e0, e1]
  refine (Cert.Reference29Ideal.Read.val_main_v12_eq _ _).trans ?_
  funext x
  obtain ⟨i, j, rfl⟩ : ∃ i j, x = ix2 i j := ⟨_, _, eq_ix2 x⟩
  exact (ref_at _ _ i j).trans (fin_at m c i j).symm

end Cert.Norm

end
-- ==== Proof.Prod.Adam.lean ====
/- The optimiser's update of one weight: the kernel's three arrays, and that the plain lines end with the same. -/
module

public import proofs.«01_k».proof.Defs
public import proofs.«01_k».proof.Proof.Gen.Kernel30Ideal.Frame
public import proofs.«01_k».proof.Proof.Gen.Reference30Ideal.Run
public import proofs.«01_k».proof.Proof.Gen.Reference30Ideal.Read
public import Idealize.ShloMosaic.Lib.Pointwise
public import Idealize.ShloMosaic.Lib.KernelVsHost
public import Idealize.ShloMosaic.Lib.Pipeline.ValueKit.Acc
public import Idealize.ShloMosaic.Lib.Pipeline.ValueKit.Point

@[expose] public section

set_option maxRecDepth 16384

noncomputable section

namespace Cert.Adam

open Idealize.ShloMosaic Idealize.ShloMosaic.TcCoe Idealize.SL Idealize.SL.Sem Idealize.ShloMosaic.Pipeline

/-- The new first moment, from the gradient and the moment before. -/
def mean (g m : EReal) : EReal := Ideal.ofBits .f32 0x3F666666#32 * m + Ideal.ofBits .f32 0x3DCCCCCD#32 * g

/-- The new second moment. -/
def square (g v : EReal) : EReal := Ideal.ofBits .f32 0x3F7FBE77#32 * v + Ideal.ofBits .f32 0x3A83126F#32 * (g * g)

/-- What is added to the weight. -/
def delta (w g m v : EReal) : EReal :=
  Ideal.ofBits .f32 0xBA83126F#32
    * (Ideal.div (Ideal.div (mean g m) (Ideal.ofBits .f32 0x3F26BD02#32))
        (Ideal.sqrt (Ideal.div (square g v) (Ideal.ofBits .f32 0x3C231ACC#32)) + Ideal.ofBits .f32 0x322BCC77#32)
      + Ideal.ofBits .f32 0x3C23D70A#32 * w)

/-- A weight of the four layers. -/
abbrev Weight := FVec Ideal ⟨3, ![4, 1024, 1408]⟩ .f32

/-- A weight with the layers' rows one after the other. -/
def flat (a : Weight) (r : Fin 4096) (q : Fin 1408) : EReal := a (ix3 ⟨r.val / 1024, by omega⟩ ⟨r.val % 1024, by omega⟩ q)

theorem flat_at (a : Weight) (l : Fin 4) (n : Fin 1024) (q : Fin 1408) (h : l.val * 1024 + n.val < 4096) :
    flat a ⟨l.val * 1024 + n.val, h⟩ q = a (ix3 l n q) := by
  have e0 : (l.val * 1024 + n.val) / 1024 = l.val := by omega
  have e1 : (l.val * 1024 + n.val) % 1024 = n.val := by omega
  unfold flat
  simp only [e0, e1]

section Kernel

open Cert.Kernel30Ideal Cert.Kernel30Ideal.Gen

variable (m : (ℓ : Loc nD τ sig) → Buf (Elt Ideal) ℓ) (c : Dev nD)

/-- The launch's weight, its gradient and the moments. -/
abbrev wgt : Weight := m ((c : Thread nD τ).loc main_arg0)
abbrev grd : Weight := m ((c : Thread nD τ).loc main_arg1)
abbrev mom : Weight := m ((c : Thread nD τ).loc main_arg2)
abbrev sqr : Weight := m ((c : Thread nD τ).loc main_arg3)

/-- A weight laid out flat reads as `flat`. -/
theorem cast_at (a : Weight) (h : S4x1024x1408.ShapeCasts S4096x1408) (r : Fin 4096) (q : Fin 1408) :
    shapeCast S4096x1408 a h (ix2 r q) = flat a r q := by
  pointwise
  rfl

theorem V_v0 (r : Fin 4096) (q : Fin 1408) : V m c main_v0 (ix2 r q) = flat (wgt m c) r q := by
  simp only [V, V0, List.flatten_cons, List.flatten_nil, List.append_nil]
  after_results
  exact cast_at _ _ r q
theorem V_v1 (r : Fin 4096) (q : Fin 1408) : V m c main_v1 (ix2 r q) = flat (grd m c) r q := by
  simp only [V, V0, List.flatten_cons, List.flatten_nil, List.append_nil]
  after_results
  exact cast_at _ _ r q
theorem V_v2 (r : Fin 4096) (q : Fin 1408) : V m c main_v2 (ix2 r q) = flat (mom m c) r q := by
  simp only [V, V0, List.flatten_cons, List.flatten_nil, List.append_nil]
  after_results
  exact cast_at _ _ r q
theorem V_v3 (r : Fin 4096) (q : Fin 1408) : V m c main_v3 (ix2 r q) = flat (sqr m c) r q := by
  simp only [V, V0, List.flatten_cons, List.flatten_nil, List.append_nil]
  after_results
  exact cast_at _ _ r q

theorem idx0 : ∀ t : Fin cfg0.N, win0_0.index t = ![t.val, 0] := by
  exact (by decide +kernel : ∀ t : Fin grid0.N, win0_0.index t = ![t.val, 0])
theorem idx1 : ∀ t : Fin cfg0.N, win0_1.index t = ![t.val, 0] := by
  exact (by decide +kernel : ∀ t : Fin grid0.N, win0_1.index t = ![t.val, 0])
theorem idx2 : ∀ t : Fin cfg0.N, win0_2.index t = ![t.val, 0] := by
  exact (by decide +kernel : ∀ t : Fin grid0.N, win0_2.index t = ![t.val, 0])
theorem idx3 : ∀ t : Fin cfg0.N, win0_3.index t = ![t.val, 0] := by
  exact (by decide +kernel : ∀ t : Fin grid0.N, win0_3.index t = ![t.val, 0])
theorem idx4 : ∀ t : Fin cfg0.N, win0_4.index t = ![t.val, 0] := by
  exact (by decide +kernel : ∀ t : Fin grid0.N, win0_4.index t = ![t.val, 0])
theorem idx5 : ∀ t : Fin cfg0.N, win0_5.index t = ![t.val, 0] := by
  exact (by decide +kernel : ∀ t : Fin grid0.N, win0_5.index t = ![t.val, 0])
theorem idx6 : ∀ t : Fin cfg0.N, win0_6.index t = ![t.val, 0] := by
  exact (by decide +kernel : ∀ t : Fin grid0.N, win0_6.index t = ![t.val, 0])

theorem lt_N (t : Fin cfg0.N) : t.val < 16 := Nat.lt_of_lt_of_eq t.isLt N_0

/-- The row of the whole array that a point's row is. -/
abbrev row (t : Fin cfg0.N) (r : Fin 256) : Fin 4096 := ⟨t.val * 256 + r.val, by have := lt_N t; omega⟩

theorem blk0 (t : Fin cfg0.N) (r : Fin 256) (q : Fin 1408) : iblk m c 0 t (ix2 r q) = flat (wgt m c) (row t r) q := by
  refine Eq.trans ?_ (V_v0 m c (row t r) q)
  blk_ext [iblk, idx0 t]
theorem blk1 (t : Fin cfg0.N) (r : Fin 256) (q : Fin 1408) : iblk m c 1 t (ix2 r q) = flat (grd m c) (row t r) q := by
  refine Eq.trans ?_ (V_v1 m c (row t r) q)
  blk_ext [iblk, idx1 t]
theorem blk2 (t : Fin cfg0.N) (r : Fin 256) (q : Fin 1408) : iblk m c 2 t (ix2 r q) = flat (mom m c) (row t r) q := by
  refine Eq.trans ?_ (V_v2 m c (row t r) q)
  blk_ext [iblk, idx2 t]
theorem blk3 (t : Fin cfg0.N) (r : Fin 256) (q : Fin 1408) : iblk m c 3 t (ix2 r q) = flat (sqr m c) (row t r) q := by
  refine Eq.trans ?_ (V_v3 m c (row t r) q)
  blk_ext [iblk, idx3 t]

theorem pay2_at (g p : Vec Ideal S256x1408 .f32) (r : Fin 256) (q : Fin 1408) :
    k0_pay2 g p (ix2 r q) = mean (g (ix2 r q)) (p (ix2 r q)) := by
  pointwise [k0_pay2, k0_pay1]
  rfl

theorem pay3_at (g v : Vec Ideal S256x1408 .f32) (r : Fin 256) (q : Fin 1408) :
    k0_pay3 g v (ix2 r q) = square (g (ix2 r q)) (v (ix2 r q)) := by
  pointwise [k0_pay3, k0_pay1]
  rfl

theorem pay4_at (w g p v : Vec Ideal S256x1408 .f32) (r : Fin 256) (q : Fin 1408) :
    k0_pay4 w g p v (ix2 r q) = delta (w (ix2 r q)) (g (ix2 r q)) (p (ix2 r q)) (v (ix2 r q)) := by
  pointwise [k0_pay4, k0_pay3, k0_pay2, k0_pay1]
  rfl

/-- The three arrays the kernel ends with. -/
abbrev dlt (r : Fin 4096) (q : Fin 1408) : EReal :=
  delta (flat (wgt m c) r q) (flat (grd m c) r q) (flat (mom m c) r q) (flat (sqr m c) r q)
abbrev mn (r : Fin 4096) (q : Fin 1408) : EReal := mean (flat (grd m c) r q) (flat (mom m c) r q)
abbrev sq (r : Fin 4096) (q : Fin 1408) : EReal := square (flat (grd m c) r q) (flat (sqr m c) r q)

theorem out4 (t : Fin cfg0.N) (r : Fin 256) (q : Fin 1408) :
    out0_4 (iblk m c 0 t) (iblk m c 1 t) (iblk m c 2 t) (iblk m c 3 t) (ix2 r q) = dlt m c (row t r) q := by
  frame_out
  rw [pay4_at, blk0, blk1, blk2, blk3]

theorem out5 (t : Fin cfg0.N) (r : Fin 256) (q : Fin 1408) :
    out0_5 (iblk m c 0 t) (iblk m c 1 t) (iblk m c 2 t) (iblk m c 3 t) (ix2 r q) = mn m c (row t r) q := by
  frame_out
  rw [pay2_at, blk1, blk2]

theorem out6 (t : Fin cfg0.N) (r : Fin 256) (q : Fin 1408) :
    out0_6 (iblk m c 0 t) (iblk m c 1 t) (iblk m c 2 t) (iblk m c 3 t) (ix2 r q) = sq m c (row t r) q := by
  frame_out
  rw [pay3_at, blk1, blk3]

theorem arr4 : (dats m 0 c).arrAt 4 cfg0.N = fun x : S4096x1408.Idx => dlt m c (x 0) (x 1) := by
  refine (dats m 0 c).arrAt_eq_of_covers 4 _ (by decide +kernel) fun t hf y => ?_
  have e0 : (((win0_4.blk t).view.emb y) 0).val = t.val * 256 + (y 0).val := by
    blk_simp
    rw [idx4 t]
    rfl
  have e1 : (((win0_4.blk t).view.emb y) 1).val = (y 1).val := by
    blk_simp
    rw [idx4 t]
    exact (show 0 * 1408 + (y 1).val = (y 1).val by omega)
  blk_simp
  rw [after0_4]
  refine Eq.trans (congrArg (out0_4 (iblk m c 0 t) (iblk m c 1 t) (iblk m c 2 t) (iblk m c 3 t)) (eq_ix2 y)) ((out4 m c t (y 0) (y 1)).trans ?_)
  exact congrArg₂ (dlt m c) (Fin.ext e0.symm) (Fin.ext e1.symm)

theorem arr5 : (dats m 0 c).arrAt 5 cfg0.N = fun x : S4096x1408.Idx => mn m c (x 0) (x 1) := by
  refine (dats m 0 c).arrAt_eq_of_covers 5 _ (by decide +kernel) fun t hf y => ?_
  have e0 : (((win0_5.blk t).view.emb y) 0).val = t.val * 256 + (y 0).val := by
    blk_simp
    rw [idx5 t]
    rfl
  have e1 : (((win0_5.blk t).view.emb y) 1).val = (y 1).val := by
    blk_simp
    rw [idx5 t]
    exact (show 0 * 1408 + (y 1).val = (y 1).val by omega)
  blk_simp
  rw [after0_5]
  refine Eq.trans (congrArg (out0_5 (iblk m c 0 t) (iblk m c 1 t) (iblk m c 2 t) (iblk m c 3 t)) (eq_ix2 y)) ((out5 m c t (y 0) (y 1)).trans ?_)
  exact congrArg₂ (mn m c) (Fin.ext e0.symm) (Fin.ext e1.symm)

theorem arr6 : (dats m 0 c).arrAt 6 cfg0.N = fun x : S4096x1408.Idx => sq m c (x 0) (x 1) := by
  refine (dats m 0 c).arrAt_eq_of_covers 6 _ (by decide +kernel) fun t hf y => ?_
  have e0 : (((win0_6.blk t).view.emb y) 0).val = t.val * 256 + (y 0).val := by
    blk_simp
    rw [idx6 t]
    rfl
  have e1 : (((win0_6.blk t).view.emb y) 1).val = (y 1).val := by
    blk_simp
    rw [idx6 t]
    exact (show 0 * 1408 + (y 1).val = (y 1).val by omega)
  blk_simp
  rw [after0_6]
  refine Eq.trans (congrArg (out0_6 (iblk m c 0 t) (iblk m c 1 t) (iblk m c 2 t) (iblk m c 3 t)) (eq_ix2 y)) ((out6 m c t (y 0) (y 1)).trans ?_)
  exact congrArg₂ (sq m c) (Fin.ext e0.symm) (Fin.ext e1.symm)

/-- The contents of the buffer `b` when the program ends. -/
abbrev fin (b : Ref sig .tc) : Buf (Elt Ideal) ((c : Thread nD τ).loc b) :=
  Pipeline.afterTail₀ cfgs (dats m) 0 (V0 m) [hostOps1] c b

/-- A flat array laid out by layers again. -/
theorem back_at (f : Fin 4096 → Fin 1408 → EReal) (a : FVec Ideal S4096x1408 .f32) (ha : a = fun x => f (x 0) (x 1))
    (h : S4096x1408.ShapeCasts S4x1024x1408) (l : Fin 4) (n : Fin 1024) (q : Fin 1408) :
    shapeCast S4x1024x1408 a h (ix3 l n q) = f ⟨l.val * 1024 + n.val, by omega⟩ q := by
  subst ha
  pointwise

theorem fin5 (l : Fin 4) (n : Fin 1024) (q : Fin 1408) : fin m c main_v5 (ix3 l n q)
    = delta (wgt m c (ix3 l n q)) (grd m c (ix3 l n q)) (mom m c (ix3 l n q)) (sqr m c (ix3 l n q)) := by
  have h4 := (dats m 0 c).withArrays_arrAt (by decide +kernel) (V0 m c) (A_eq m c) 4
  simp only [fin, Pipeline.afterTail₀, List.flatten_cons, List.flatten_nil, List.append_nil]
  after_results
  refine (back_at (dlt m c) _ (h4.trans (arr4 m c)) _ l n q).trans ?_
  simp only [dlt, flat_at]

theorem fin6 (l : Fin 4) (n : Fin 1024) (q : Fin 1408) : fin m c main_v6 (ix3 l n q)
    = mean (grd m c (ix3 l n q)) (mom m c (ix3 l n q)) := by
  have h5 := (dats m 0 c).withArrays_arrAt (by decide +kernel) (V0 m c) (A_eq m c) 5
  simp only [fin, Pipeline.afterTail₀, List.flatten_cons, List.flatten_nil, List.append_nil]
  after_results
  refine (back_at (mn m c) _ (h5.trans (arr5 m c)) _ l n q).trans ?_
  simp only [mn, flat_at]

theorem fin7 (l : Fin 4) (n : Fin 1024) (q : Fin 1408) : fin m c main_v7 (ix3 l n q)
    = square (grd m c (ix3 l n q)) (sqr m c (ix3 l n q)) := by
  have h6 := (dats m 0 c).withArrays_arrAt (by decide +kernel) (V0 m c) (A_eq m c) 6
  simp only [fin, Pipeline.afterTail₀, List.flatten_cons, List.flatten_nil, List.append_nil]
  after_results
  refine (back_at (sq m c) _ (h6.trans (arr6 m c)) _ l n q).trans ?_
  simp only [sq, flat_at]

/-- The kernel's run: the three arrays, and the arguments as launched. -/
theorem kernel_run (g : Dev nD → PrngReg) :
    θ_run (defs (F := Ideal)) (onTc (τ := τ) (main (F := Ideal))) ⟨m, fun _ => 0, g⟩ (fun r => ∀ c : Dev nD,
      r.2.mem ((c : Thread nD τ).loc main_v5) = fin m c main_v5
      ∧ r.2.mem ((c : Thread nD τ).loc main_v6) = fin m c main_v6
      ∧ r.2.mem ((c : Thread nD τ).loc main_v7) = fin m c main_v7
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run _ _ _).mono (fun r h c => ⟨(h.1 c).2 main_v5 (by decide), (h.1 c).2 main_v6 (by decide), (h.1 c).2 main_v7 (by decide), h.2 c⟩)
    (θ_run_and (run_main m g) (unchanged m g))

end Kernel

section Reference

open Cert.Reference30Ideal Cert.Reference30Ideal.Read

theorem ref4_at (g p : FVec Ideal S4x1024x1408 .f32) (i : S4x1024x1408.Idx) : val_main_v4 (F := Ideal) g p i = mean (g i) (p i) := by
  rw [val_main_v4_apply, val_main_v1_apply, val_main_v3_apply, val_main_v0_apply, val_main_v2_apply, val_main_cst_apply, val_main_cst_0_apply]
  rfl

theorem ref10_at (g v : FVec Ideal S4x1024x1408 .f32) (i : S4x1024x1408.Idx) : val_main_v10 (F := Ideal) g v i = square (g i) (v i) := by
  rw [val_main_v10_apply, val_main_v6_apply, val_main_v9_apply, val_main_v5_apply, val_main_v8_apply, val_main_v7_apply,
    val_main_cst_1_apply, val_main_cst_2_apply]
  rfl

theorem ref23_at (w g p v : FVec Ideal S4x1024x1408 .f32) (i : S4x1024x1408.Idx) :
    val_main_v23 (F := Ideal) w g p v i = delta (w i) (g i) (p i) (v i) := by
  rw [val_main_v23_apply, val_main_v22_apply, val_main_v21_apply, val_main_v20_apply, val_main_v19_apply, val_main_v18_apply,
    val_main_v17_apply, val_main_v16_apply, val_main_v15_apply, val_main_v14_apply, val_main_v13_apply, val_main_v12_apply,
    val_main_v11_apply, ref4_at, ref10_at, val_main_cst_3_apply, val_main_cst_4_apply, val_main_cst_5_apply, val_main_cst_6_apply,
    val_main_cst_7_apply]
  rfl

end Reference

theorem algebraic : Cert.algebraic_Kernel30Ideal_Reference30Ideal (hKernel30Ideal := Cert.Kernel30Ideal.Gen.facts)
    (hReference30Ideal := Cert.Reference30Ideal.Gen.facts) := by
  intro m g m' g' _ hagree
  refine ⟨fun c => fin m c Cert.Kernel30Ideal.main_v5, fun c => fin m c Cert.Kernel30Ideal.main_v6, fun c => fin m c Cert.Kernel30Ideal.main_v7,
    kernel_run m g, ?_⟩
  refine (θ_run _ _ _).mono (fun r h c => ?_) (Cert.Reference30Ideal.Value.run m' g')
  obtain ⟨h1, h2, h3, h4⟩ := h c
  obtain ⟨e0, e1, e2, e3⟩ := hagree c
  refine ⟨?_, ?_, ?_, h4⟩
  · rw [h1, e0, e1, e2, e3]
    refine (Cert.Reference30Ideal.Read.val_main_v23_eq _ _ _ _).trans ?_
    funext x
    obtain ⟨i, j, k, rfl⟩ : ∃ i j k, x = ix3 i j k := ⟨_, _, _, eq_ix3 x⟩
    exact (ref23_at _ _ _ _ _).trans (fin5 m c i j k).symm
  · rw [h2, e1, e2]
    refine (Cert.Reference30Ideal.Read.val_main_v4_eq _ _).trans ?_
    funext x
    obtain ⟨i, j, k, rfl⟩ : ∃ i j k, x = ix3 i j k := ⟨_, _, _, eq_ix3 x⟩
    exact (ref4_at _ _ _).trans (fin6 m c i j k).symm
  · rw [h3, e1, e3]
    refine (Cert.Reference30Ideal.Read.val_main_v10_eq _ _).trans ?_
    funext x
    obtain ⟨i, j, k, rfl⟩ : ∃ i j k, x = ix3 i j k := ⟨_, _, _, eq_ix3 x⟩
    exact (ref10_at _ _ _).trans (fin7 m c i j k).symm

end Cert.Adam

end
-- ==== Proof.Prod.ConvOut.lean ====
/- The gated convolution: the kernel's array, and that the plain line ends with the same. -/
module

public import proofs.«01_k».proof.Defs
public import proofs.«01_k».proof.Proof.Gen.Kernel31Ideal.Frame
public import proofs.«01_k».proof.Proof.Gen.Reference31Ideal.Run
public import proofs.«01_k».proof.Proof.Gen.Reference31Ideal.Read
public import Idealize.ShloMosaic.Lib.Pointwise
public import Idealize.ShloMosaic.Lib.KernelVsHost
public import Idealize.ShloMosaic.Lib.Pipeline.ValueKit.Acc
public import Idealize.ShloMosaic.Lib.Pipeline.ValueKit.Point

@[expose] public section

set_option maxRecDepth 16384

noncomputable section

namespace Cert.ConvOut

open Idealize.ShloMosaic Idealize.ShloMosaic.TcCoe Idealize.SL Idealize.SL.Sem Idealize.ShloMosaic.Pipeline

/-- The shapes of a gate, of the taps, and of a point's blocks. -/
abbrev Gate := FVec Ideal ⟨2, ![8192, 1024]⟩ .f32
abbrev Taps := FVec Ideal ⟨2, ![3, 1024]⟩ .f32

/-- The convolution's input two rows behind the row `r`: zero before the first token. -/
def past (c v : Gate) (r : ℕ) (q : Fin 1024) : EReal :=
  if h : 2 ≤ r ∧ r < 8194 then c (ix2 ⟨r - 2, by omega⟩ q) * v (ix2 ⟨r - 2, by omega⟩ q) else 0

theorem past_at (c v : Gate) (p n : ℕ) (e : p = n) (hp : p < 8194) (q : Fin 1024) :
    (if h : p < 2 then 0 else c (ix2 ⟨p - 2, by omega⟩ q) * v (ix2 ⟨p - 2, by omega⟩ q)) = past c v n q := by
  subst e
  unfold past
  by_cases h : p < 2
  · rw [dif_pos h, dif_neg (by omega)]
  · rw [dif_neg h, dif_pos (by omega)]

/-- The gate times the convolution of the other two's product. -/
def G (b c v : Gate) (w : Taps) (r : Fin 8192) (q : Fin 1024) : EReal :=
  b (ix2 r q) * (w (ix2 0 q) * past c v r.val q + w (ix2 1 q) * past c v (r.val + 1) q + w (ix2 2 q) * past c v (r.val + 2) q)

section Kernel

open Cert.Kernel31Ideal Cert.Kernel31Ideal.Gen

theorem sel_zero {n : ℕ} (hn : n < 16) {α : Type} (a b : α) :
    Scalar.select (Scalar.cmpi .eq (BitVec.ofNat 32 n) 0#32) a b = if n = 0 then a else b := by
  have h : (Scalar.cmpi .eq (BitVec.ofNat 32 n) 0#32 = 1#1) ↔ n = 0 := by
    interval_cases n <;> decide
  by_cases e : n = 0
  · rw [if_pos e]
    exact if_pos (h.mpr e)
  · rw [if_neg e]
    exact if_neg fun k => e (h.mp k)

/-- A point's rows with the eight before them. -/
def near (i : ℕ) (x0 : Vec Ideal S512x768 .bf16) (x1 : Vec Ideal S8x768 .bf16) (r : ℕ) (l : Fin 256) : EReal :=
  if h : r < 8 then (if i = 0 then 0 else x1 (ix2 ⟨r, h⟩ ⟨256 + l.val, by omega⟩) * x1 (ix2 ⟨r, h⟩ ⟨512 + l.val, by omega⟩))
  else if h' : r - 8 < 512 then x0 (ix2 ⟨r - 8, h'⟩ ⟨256 + l.val, by omega⟩) * x0 (ix2 ⟨r - 8, h'⟩ ⟨512 + l.val, by omega⟩) else 0

theorem near_at {i : ℕ} (hi : i < 16) (x0 : Vec Ideal S512x768 .bf16) (x1 : Vec Ideal S8x768 .bf16) (p q : ℕ) (hq : q < 520) (e : q = p)
    (l : Fin 256) :
    (if h : q < 8 then Scalar.select (Scalar.cmpi .eq (BitVec.ofNat 32 i) 0#32) 0
        (x1 (ix2 ⟨q, h⟩ ⟨256 + l.val, by omega⟩) * x1 (ix2 ⟨q, h⟩ ⟨512 + l.val, by omega⟩))
      else x0 (ix2 ⟨q - 8, by omega⟩ ⟨256 + l.val, by omega⟩) * x0 (ix2 ⟨q - 8, by omega⟩ ⟨512 + l.val, by omega⟩)) = near i x0 x1 p l := by
  subst e
  unfold near
  by_cases h : q < 8
  · rw [dif_pos h, dif_pos h, sel_zero hi]
  · rw [dif_neg h, dif_neg h, dif_pos (show q - 8 < 512 by omega)]

theorem pay1_at (i : grid0.Coords) (hi : (i 1).val < 16) (x0 : Vec Ideal S512x768 .bf16) (x1 : Vec Ideal S8x768 .bf16) (x2 : Vec Ideal S3x256 .f32)
    (r : Fin 512) (l : Fin 256) : k0_pay1 i x0 x1 x2 (ix2 r l) = x0 (ix2 r ⟨l.val, by omega⟩)
      * (x2 (ix2 0 l) * near (i 1).val x0 x1 (r.val + 6) l + x2 (ix2 1 l) * near (i 1).val x0 x1 (r.val + 7) l
        + x2 (ix2 2 l) * near (i 1).val x0 x1 (r.val + 8) l) := by
  have hr := r.isLt
  pointwise [k0_pay1]
  refine congrArg (_ * ·) (congrArg₂ (· + ·) (congrArg₂ (· + ·) (congrArg (_ * ·) ?_) (congrArg (_ * ·) ?_)) (congrArg (_ * ·) ?_))
  · exact near_at hi x0 x1 (r.val + 6) ((8 + r.val + 520 - 2) % 520) (by omega) (by omega) l
  · exact near_at hi x0 x1 (r.val + 7) ((8 + r.val + 520 - 1) % 520) (by omega) (by omega) l
  · unfold near
    rw [dif_neg (show ¬ r.val + 8 < 8 by omega), dif_pos (show r.val + 8 - 8 < 512 by omega)]
    rfl

variable (m : (ℓ : Loc nD τ sig) → Buf (Elt Ideal) ℓ) (c : Dev nD)

/-- The launch's three gates and the taps. -/
abbrev gb : Gate := m ((c : Thread nD τ).loc main_arg0)
abbrev gc : Gate := m ((c : Thread nD τ).loc main_arg1)
abbrev gv : Gate := m ((c : Thread nD τ).loc main_arg2)
abbrev tap : Taps := m ((c : Thread nD τ).loc main_arg3)

/-- The gate at place `k` of the interleaved operand. -/
def gate (k : ℕ) : Gate := if k < 1 then gb m c else if k - 1 < 1 then gc m c else gv m c

/-- A gate's columns in four blocks, with the place among the gates. -/
def block (X : FVec Ideal S8192x1024 .f32) : FVec Ideal S8192x4x1x256 .f32 :=
  broadcastInDim S8192x4x1x256 ![0, 1, 3] bcast_S8192x4x256_S8192x4x1x256_0_1_3 (shapeCast S8192x4x256 X shapeCasts_S8192x1024_S8192x4x256)

theorem V_v8_eq : V m c main_v8 = truncf .bf16 (shapeCast S8192x3072 (concatenate S8192x4x3x256 2
      [⟨S8192x4x1x256, block (gb m c)⟩, ⟨S8192x4x1x256, block (gc m c)⟩, ⟨S8192x4x1x256, block (gv m c)⟩]
      concatenates_S8192x4x1x256_S8192x4x1x256_S8192x4x1x256_S8192x4x3x256_d2) shapeCasts_S8192x4x3x256_S8192x3072) bitsLt_bf16_f32 := by
  simp only [V, V0, List.flatten_cons, List.flatten_nil, List.append_nil]
  after_results
  rfl

/-- The interleaved operand, read at a channel of the gate at place `k`. -/
theorem V_v8 (r : Fin 8192) (j : Fin 4) (k : Fin 3) (l : Fin 256) :
    V m c main_v8 (ix2 r ⟨768 * j.val + 256 * k.val + l.val, by omega⟩) = gate m c k.val (ix2 r ⟨j.val * 256 + l.val, by omega⟩) := by
  rw [V_v8_eq]
  pointwise [block]
  unfold gate
  split_ifs <;> rfl

theorem V_arg3 : V m c main_arg3 = tap m c := by
  simp only [V, V0, List.flatten_cons, List.flatten_nil, List.append_nil]
  after_results

theorem idx0 : ∀ t : Fin cfg0.N, win0_0.index t = ![t.val % 16, t.val / 16] := by
  exact (by decide +kernel : ∀ t : Fin grid0.N, win0_0.index t = ![t.val % 16, t.val / 16])
theorem idx1 : ∀ t : Fin cfg0.N, win0_1.index t = ![64 * (t.val % 16) - 1, t.val / 16] := by
  exact (by decide +kernel : ∀ t : Fin grid0.N, win0_1.index t = ![64 * (t.val % 16) - 1, t.val / 16])
theorem idx2 : ∀ t : Fin cfg0.N, win0_2.index t = ![0, t.val / 16] := by
  exact (by decide +kernel : ∀ t : Fin grid0.N, win0_2.index t = ![0, t.val / 16])
theorem idx3 : ∀ t : Fin cfg0.N, win0_3.index t = ![t.val % 16, t.val / 16] := by
  exact (by decide +kernel : ∀ t : Fin grid0.N, win0_3.index t = ![t.val % 16, t.val / 16])
theorem crd1 : ∀ t : Fin cfg0.N, (grid0.coords t 1).val = t.val % 16 := by
  exact (by decide +kernel : ∀ t : Fin grid0.N, (grid0.coords t 1).val = t.val % 16)

theorem lt_N (t : Fin cfg0.N) : t.val < 64 := Nat.lt_of_lt_of_eq t.isLt N_0

/-- The row and the channel of the whole arrays that a point's are. -/
abbrev row (t : Fin cfg0.N) (r : Fin 512) : Fin 8192 := ⟨t.val % 16 * 512 + r.val, by omega⟩
abbrev col (t : Fin cfg0.N) (l : Fin 256) : Fin 1024 := ⟨t.val / 16 * 256 + l.val, by have := lt_N t; omega⟩

theorem blk0 (t : Fin cfg0.N) (r : Fin 512) (k : Fin 3) (l : Fin 256) :
    iblk m c 0 t (ix2 r ⟨256 * k.val + l.val, by omega⟩) = gate m c k.val (ix2 (row t r) (col t l)) := by
  have ht := lt_N t
  refine Eq.trans ?_ (V_v8 m c (row t r) ⟨t.val / 16, by omega⟩ k l)
  blk_ext [iblk, idx0 t]

theorem blk1 (t : Fin cfg0.N) (h : t.val % 16 ≠ 0) (r : Fin 8) (k : Fin 3) (l : Fin 256) :
    iblk m c 1 t (ix2 r ⟨256 * k.val + l.val, by omega⟩) = gate m c k.val (ix2 ⟨t.val % 16 * 512 + r.val - 8, by omega⟩ (col t l)) := by
  have ht := lt_N t
  refine Eq.trans ?_ (V_v8 m c ⟨t.val % 16 * 512 + r.val - 8, by omega⟩ ⟨t.val / 16, by omega⟩ k l)
  blk_ext [iblk, idx1 t]

theorem blk2 (t : Fin cfg0.N) (k : Fin 3) (l : Fin 256) : iblk m c 2 t (ix2 k l) = tap m c (ix2 k (col t l)) := by
  have ht := lt_N t
  refine Eq.trans ?_ (congrFun (V_arg3 m c) (ix2 k (col t l)))
  blk_ext [iblk, idx2 t]

/-- A point's rows are the convolution's input. -/
theorem near_blk (t : Fin cfg0.N) (p n : ℕ) (hp : p < 520) (h6 : 6 ≤ p) (hn : n = t.val % 16 * 512 + p - 6) (l : Fin 256) :
    near (t.val % 16) (iblk m c 0 t) (iblk m c 1 t) p l = past (gc m c) (gv m c) n (col t l) := by
  subst hn
  unfold near past
  by_cases h : p < 8
  · rw [dif_pos h]
    by_cases h0 : t.val % 16 = 0
    · rw [if_pos h0, dif_neg (by omega)]
    · rw [if_neg h0, dif_pos (by omega)]
      have e : t.val % 16 * 512 + p - 6 - 2 = t.val % 16 * 512 + p - 8 := by omega
      simp only [e]
      exact congrArg₂ (· * ·) (blk1 m c t h0 ⟨p, h⟩ 1 l) (blk1 m c t h0 ⟨p, h⟩ 2 l)
  · have h' : p - 8 < 512 := by omega
    rw [dif_neg h, dif_pos h', dif_pos (by omega)]
    have e : t.val % 16 * 512 + p - 6 - 2 = t.val % 16 * 512 + (p - 8) := by omega
    simp only [e]
    exact congrArg₂ (· * ·) (blk0 m c t ⟨p - 8, h'⟩ 1 l) (blk0 m c t ⟨p - 8, h'⟩ 2 l)

theorem out3 (t : Fin cfg0.N) (r : Fin 512) (l : Fin 256) : out0_3 (grid0.coords t) (iblk m c 0 t) (iblk m c 1 t) (iblk m c 2 t) (ix2 r l)
    = G (gb m c) (gc m c) (gv m c) (tap m c) (row t r) (col t l) := by
  have hr := r.isLt
  have e0 := blk0 m c t r 0 l
  have el : (⟨256 * (0 : Fin 3).val + l.val, by omega⟩ : Fin 768) = ⟨l.val, by omega⟩ := Fin.ext (by show 256 * 0 + l.val = l.val; omega)
  rw [el] at e0
  frame_out
  rw [pay1_at _ (by rw [crd1]; omega), crd1, near_blk m c t (r.val + 6) (row t r).val (by omega) (by omega) (by dsimp only; omega),
    near_blk m c t (r.val + 7) ((row t r).val + 1) (by omega) (by omega) (by dsimp only; omega),
    near_blk m c t (r.val + 8) ((row t r).val + 2) (by omega) (by omega) (by dsimp only; omega), e0, blk2, blk2, blk2]
  rfl

theorem arr3 : (dats m 0 c).arrAt 3 cfg0.N = fun x : S8192x1024.Idx => G (gb m c) (gc m c) (gv m c) (tap m c) (x 0) (x 1) := by
  refine (dats m 0 c).arrAt_eq_of_covers 3 _ (by decide +kernel) fun t hf y => ?_
  have e0 : (((win0_3.blk t).view.emb y) 0).val = t.val % 16 * 512 + (y 0).val := by
    blk_simp
    rw [idx3 t]
    rfl
  have e1 : (((win0_3.blk t).view.emb y) 1).val = t.val / 16 * 256 + (y 1).val := by
    blk_simp
    rw [idx3 t]
    rfl
  blk_simp
  rw [after0_3]
  refine Eq.trans (congrArg (out0_3 (grid0.coords t) (iblk m c 0 t) (iblk m c 1 t) (iblk m c 2 t)) (eq_ix2 y)) ((out3 m c t (y 0) (y 1)).trans ?_)
  exact congrArg₂ (G (gb m c) (gc m c) (gv m c) (tap m c)) (Fin.ext e0.symm) (Fin.ext e1.symm)

/-- The contents of the buffer `b` when the program ends. -/
abbrev fin (b : Ref sig .tc) : Buf (Elt Ideal) ((c : Thread nD τ).loc b) :=
  Pipeline.afterTail₀ cfgs (dats m) 0 (V0 m) [hostOps1] c b

theorem fin_at (r : Fin 8192) (q : Fin 1024) : fin m c main_v10 (ix2 r q) = G (gb m c) (gc m c) (gv m c) (tap m c) r q := by
  have h3 := (dats m 0 c).withArrays_arrAt (by decide +kernel) (V0 m c) (A_eq m c) 3
  simp only [fin, Pipeline.afterTail₀, List.flatten_cons, List.flatten_nil, List.append_nil]
  after_results
  pointwise
  exact (congrFun h3 _).trans (congrFun (arr3 m c) _)

/-- The kernel's run: the gated convolution, and the arguments as launched. -/
theorem kernel_run (g : Dev nD → PrngReg) :
    θ_run (defs (F := Ideal)) (onTc (τ := τ) (main (F := Ideal))) ⟨m, fun _ => 0, g⟩ (fun r => ∀ c : Dev nD,
      r.2.mem ((c : Thread nD τ).loc main_v10) = fin m c main_v10
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run _ _ _).mono (fun r h c => ⟨(h.1 c).2 main_v10 (by decide), h.2 c⟩) (θ_run_and (run_main m g) (unchanged m g))

end Kernel

section Reference

open Cert.Reference31Ideal Cert.Reference31Ideal.Read

theorem ref_at (b c v : Gate) (w : Taps) (r : Fin 8192) (q : Fin 1024) : val_main_v23 (F := Ideal) b c v w (ix2 r q) = G b c v w r q := by
  have hr := r.isLt
  pointwise [val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5,
    val_main_v4, val_main_v3, val_main_v2, val_main_v1, val_main_v0, val_main_cst]
  refine congrArg (_ * ·) (congrArg₂ (· + ·) (congrArg₂ (· + ·) ((mul_comm _ _).trans (congrArg (_ * ·) ?_))
    ((mul_comm _ _).trans (congrArg (_ * ·) ?_))) ((mul_comm _ _).trans (congrArg (_ * ·) ?_)))
  · exact past_at c v r.val r.val rfl (by omega) q
  · exact past_at c v (1 + r.val) (r.val + 1) (by omega) (by omega) q
  · unfold past
    rw [dif_pos (by omega)]
    rfl

end Reference

theorem algebraic : Cert.algebraic_Kernel31Ideal_Reference31Ideal (hKernel31Ideal := Cert.Kernel31Ideal.Gen.facts)
    (hReference31Ideal := Cert.Reference31Ideal.Gen.facts) := by
  intro m g m' g' _ hagree
  refine ⟨fun c => fin m c Cert.Kernel31Ideal.main_v10, kernel_run m g, ?_⟩
  refine (θ_run _ _ _).mono (fun r h c => ?_) (Cert.Reference31Ideal.Value.run m' g')
  obtain ⟨h1, h2⟩ := h c
  obtain ⟨e0, e1, e2, e3⟩ := hagree c
  refine ⟨?_, h2⟩
  rw [h1, e0, e1, e2, e3]
  refine (Cert.Reference31Ideal.Read.val_main_v23_eq _ _ _ _).trans ?_
  funext x
  obtain ⟨i, j, rfl⟩ : ∃ i j, x = ix2 i j := ⟨_, _, eq_ix2 x⟩
  exact (ref_at _ _ _ _ i j).trans (fin_at m c i j).symm

end Cert.ConvOut

end
-- ==== Proof.Prod.Squares.lean ====
/- Squares are not negative, and a sum of values that are not negative may be scaled term by term. -/
module

public import Idealize.ShloMosaic.Lib.Pointwise

@[expose] public section

noncomputable section

namespace Cert.Squares

theorem square_nonneg (x : EReal) : 0 ≤ x * x := by
  rcases le_total 0 x with h | h
  · exact EReal.mul_nonneg h h
  · rw [← neg_mul_neg]
    exact EReal.mul_nonneg (by simpa using h) (by simpa using h)

theorem sum_mul_of_nonneg {ι : Type} (s : Finset ι) (f : ι → EReal) (k : EReal) (h : ∀ i, 0 ≤ f i) : (∑ i ∈ s, f i) * k = ∑ i ∈ s, f i * k := by
  classical
  induction s using Finset.induction_on with
  | empty => simp
  | insert a s ha ih =>
    rw [Finset.sum_insert ha, Finset.sum_insert ha, EReal.right_distrib_of_nonneg (h a) (Finset.sum_nonneg fun i _ => h i), ih]

end Cert.Squares

end
-- ==== Proof.Prod.Loss.lean ====
/- The loss and the gradient that the backward pass begins with: the kernel's results, and that differentiating the plain line ends with
   the same. -/
module

public import proofs.«01_k».proof.Defs
public import proofs.«01_k».proof.Proof.Gen.Kernel32Ideal.Frame
public import proofs.«01_k».proof.Proof.Gen.Reference32Ideal.Run
public import proofs.«01_k».proof.Proof.Gen.Reference32Ideal.Read
public import proofs.«01_k».proof.Proof.Prod.Squares
public import Idealize.ShloMosaic.Lib.Pointwise
public import Idealize.ShloMosaic.Lib.KernelVsHost
public import Idealize.ShloMosaic.Lib.Pipeline.ValueKit.Acc
public import Idealize.ShloMosaic.Lib.Pipeline.ValueKit.Point

@[expose] public section

set_option maxRecDepth 16384

noncomputable section

namespace Cert.Loss

open Squares Idealize.ShloMosaic Idealize.ShloMosaic.TcCoe Idealize.SL Idealize.SL.Sem Idealize.ShloMosaic.Pipeline

/-- The constants of the loss. -/
abbrev wide : EReal := Ideal.ofBits .f32 0x44800000#32
abbrev half : EReal := Ideal.ofBits .f32 0x3F000000#32
abbrev two : EReal := Ideal.ofBits .f32 0x40000000#32

/-- The squared distance of one output from its target. -/
def sq (y t : FVec Ideal ⟨2, ![8192, 1024]⟩ .f32) (r : Fin 8192) (n : Fin 1024) : EReal :=
  (y (ix2 r n) - t (ix2 r n)) * (y (ix2 r n) - t (ix2 r n))

/-- The loss: half the sum of the squares, over the width. -/
def G (y t : FVec Ideal ⟨2, ![8192, 1024]⟩ .f32) : EReal := (∑ r : Fin 8192, ∑ n : Fin 1024, sq y t r n) * (half * wide⁻¹)

/-- An element of its gradient. -/
def D (y t : FVec Ideal ⟨2, ![8192, 1024]⟩ .f32) (r : Fin 8192) (n : Fin 1024) : EReal := (y (ix2 r n) - t (ix2 r n)) * wide⁻¹

theorem wide_eq : wide = ((1024 : ℝ) : EReal) := by
  simp [wide, Ideal.ofBits, Ideal.ieee]
  rw [← EReal.coe_mul]
  norm_num
theorem half_eq : half = ((1 / 2 : ℝ) : EReal) := by
  simp [half, Ideal.ofBits, Ideal.ieee]
  rw [← EReal.coe_mul]
  norm_num
theorem two_eq : two = ((2 : ℝ) : EReal) := by
  simp [two, Ideal.ofBits, Ideal.ieee]
  rw [← EReal.coe_mul]
  norm_num

theorem wide_ne : wide ≠ 0 := by
  rw [wide_eq]
  exact_mod_cast (by norm_num : (1024 : ℝ) ≠ 0)

theorem div_wide (x : EReal) : Ideal.div x wide = x * wide⁻¹ := by
  unfold Ideal.div
  rw [if_neg wide_ne]

theorem half_two : half * two = 1 := by
  rw [half_eq, two_eq, ← EReal.coe_mul]
  norm_num

theorem sq_nonneg (y t : FVec Ideal ⟨2, ![8192, 1024]⟩ .f32) (r : Fin 8192) : 0 ≤ ∑ n : Fin 1024, sq y t r n :=
  Finset.sum_nonneg fun _ _ => square_nonneg _

section Kernel

open Cert.Kernel32Ideal Cert.Kernel32Ideal.Gen

variable (m : (ℓ : Loc nD τ sig) → Buf (Elt Ideal) ℓ) (c : Dev nD)

/-- The launch's output of the last layer, and the targets. -/
abbrev inp : FVec Ideal S8192x1024 .f32 := m ((c : Thread nD τ).loc main_arg0)
abbrev tgt : FVec Ideal S8192x1024 .f32 := m ((c : Thread nD τ).loc main_arg1)

theorem V_arg0 : V m c main_arg0 = inp m c := rfl
theorem V_arg1 : V m c main_arg1 = tgt m c := rfl

theorem idx0 : ∀ t : Fin cfg0.N, win0_0.index t = ![t.val, 0] := by
  exact (by decide +kernel : ∀ t : Fin grid0.N, win0_0.index t = ![t.val, 0])
theorem idx1 : ∀ t : Fin cfg0.N, win0_1.index t = ![t.val, 0] := by
  exact (by decide +kernel : ∀ t : Fin grid0.N, win0_1.index t = ![t.val, 0])
theorem idx2 : ∀ t : Fin cfg0.N, win0_2.index t = ![t.val, 0] := by
  exact (by decide +kernel : ∀ t : Fin grid0.N, win0_2.index t = ![t.val, 0])
theorem idx4 : ∀ t : Fin cfg0.N, win0_4.index t = ![0, 0] := by
  exact (by decide +kernel : ∀ t : Fin grid0.N, win0_4.index t = ![0, 0])

theorem lt_N (t : Fin cfg0.N) : t.val < 16 := Nat.lt_of_lt_of_eq t.isLt N_0

theorem blk0 (t : Fin cfg0.N) (r : Fin 512) (n : Fin 1024) :
    iblk m c 0 t (ix2 r n) = inp m c (ix2 ⟨t.val * 512 + r.val, by have := lt_N t; omega⟩ n) := by
  have ht := lt_N t
  refine Eq.trans ?_ (congrFun (V_arg0 m c) (ix2 ⟨t.val * 512 + r.val, by omega⟩ n))
  blk_ext [iblk, idx0 t]

theorem blk1 (t : Fin cfg0.N) (r : Fin 512) (n : Fin 1024) :
    iblk m c 1 t (ix2 r n) = tgt m c (ix2 ⟨t.val * 512 + r.val, by have := lt_N t; omega⟩ n) := by
  have ht := lt_N t
  refine Eq.trans ?_ (congrFun (V_arg1 m c) (ix2 ⟨t.val * 512 + r.val, by omega⟩ n))
  blk_ext [iblk, idx1 t]

theorem pay2_at (x0 x1 : Vec Ideal S512x1024 .f32) (r : Fin 512) (n : Fin 1024) :
    k0_pay2 x0 x1 (ix2 r n) = (x0 (ix2 r n) - x1 (ix2 r n)) * wide⁻¹ := by
  pointwise [k0_pay2, k0_pay1]
  exact div_wide _

theorem pay3_at (x0 x1 : Vec Ideal S512x1024 .f32) (l : Fin 128) :
    k0_pay3 x0 x1 (ix2 (0 : Fin 1) l)
      = (∑ r : Fin 512, ∑ n : Fin 1024, (x0 (ix2 r n) - x1 (ix2 r n)) * (x0 (ix2 r n) - x1 (ix2 r n))) * (half * wide⁻¹) := by
  pointwise [k0_pay3, k0_pay1]
  rw [div_wide, mul_comm half, mul_assoc]

theorem dy_at (t : Fin cfg0.N) (r : Fin 512) (n : Fin 1024) : (outsAt0 m c t.val t.isLt).1 (ix2 r n)
    = D (inp m c) (tgt m c) ⟨t.val * 512 + r.val, by have := lt_N t; omega⟩ n := by
  have ht := lt_N t
  by_cases h0 : t.val % 16 = 0
  · rw [outsAt0_A m c t h0 (by omega)]
    frame_out
    rw [pay2_at]
    simp only [blk0, blk1]
    rfl
  · rw [outsAt0_B m c t h0 (by omega)]
    frame_out
    rw [pay2_at]
    simp only [blk0, blk1]
    rfl

/-- What a point adds. -/
def part (t : Fin cfg0.N) (x : S1x128.Idx) : EReal := k0_pay3 (iblk m c 0 t) (iblk m c 1 t) x

theorem first (t : Fin cfg0.N) (h0 : t.val % 16 = 0) (x : S1x128.Idx) : (outsAt0 m c t.val t.isLt).2.2 x = 0 + part m c t x := by
  have ht := lt_N t
  rw [outsAt0_A m c t h0 (by omega), eq_ix2 x, zero_add]
  frame_out
  rfl

theorem step (t : Fin cfg0.N) (h0 : ¬ t.val % 16 = 0) (x : S1x128.Idx) :
    (outsAt0 m c t.val t.isLt).2.2 x = (outsAt0 m c (t.val - 1) (Nat.lt_of_le_of_lt (Nat.sub_le _ _) t.isLt)).2.2 x + part m c t x := by
  rw [outsAt0_B m c t h0 (by omega), eq_ix2 x]
  frame_out
  pointwise [k0_pay5]
  rfl

theorem last (t : Fin cfg0.N) (hf : t.val % 16 = 15) (l : Fin 128) :
    (outsAt0 m c t.val t.isLt).2.2 (ix2 (0 : Fin 1) l) = G (inp m c) (tgt m c) := by
  have ht := lt_N t
  refine (eq_sum_fin_of_reset_step_apply_of_flush (fun n h => (outsAt0 m c n h).2.2) 16 (fun _ => 0) (part m c)
    (fun t h x => first m c t h x) (fun t h x => step m c t h x) t hf (ix2 (0 : Fin 1) l)).trans ?_
  rw [zero_add]
  unfold G
  rw [← Fin.sum_mul_add_fin 16 512 fun r : Fin 8192 => ∑ n : Fin 1024, sq (inp m c) (tgt m c) r n]
  rw [sum_mul_of_nonneg _ _ _ fun i => Finset.sum_nonneg fun _ _ => sq_nonneg _ _ _]
  refine Finset.sum_congr rfl fun s _ => ?_
  unfold part
  rw [pay3_at]
  simp only [blk0, blk1]
  have e1 : 16 * (t.val / 16) + s.val = s.val := by omega
  simp only [e1]
  rfl

theorem last_at (t : Fin cfg0.N) (hf : t.val % 16 = 15) (x : S1x128.Idx) : (outsAt0 m c t.val t.isLt).2.2 x = G (inp m c) (tgt m c) := by
  obtain ⟨i, j, rfl⟩ : ∃ (i : Fin 1) (j : Fin 128), x = ix2 i j := ⟨_, _, eq_ix2 x⟩
  rw [Subsingleton.elim i 0]
  exact last m c t hf j

theorem arr2 : (dats m 0 c).arrAt 2 cfg0.N = fun x : S8192x1024.Idx => D (inp m c) (tgt m c) (x 0) (x 1) := by
  refine (dats m 0 c).arrAt_eq_of_covers 2 _ (by decide +kernel) fun t hf y => ?_
  have e0 : (((win0_2.blk t).view.emb y) 0).val = t.val * 512 + (y 0).val := by
    blk_simp
    rw [idx2 t]
    rfl
  have e1 : (((win0_2.blk t).view.emb y) 1).val = (y 1).val := by
    blk_simp
    rw [idx2 t]
    exact (show 0 * 1024 + (y 1).val = (y 1).val by omega)
  blk_simp
  rw [after0_2]
  refine Eq.trans (congrArg (outsAt0 m c t.val t.isLt).1 (eq_ix2 y)) ((dy_at m c t (y 0) (y 1)).trans ?_)
  exact congrArg₂ (D (inp m c) (tgt m c)) (Fin.ext e0.symm) (Fin.ext e1.symm)

theorem arr4 : (dats m 0 c).arrAt 4 cfg0.N = fun _ : S1x128.Idx => G (inp m c) (tgt m c) := by
  refine (dats m 0 c).arrAt_eq_of_covers 4 _ (by decide +kernel) fun t hf y => ?_
  blk_simp
  rw [after0_4]
  exact last_at m c t ((flush0_4 t).mp hf) y

/-- The contents of the buffer `b` when the program ends. -/
abbrev fin (b : Ref sig .tc) : Buf (Elt Ideal) ((c : Thread nD τ).loc b) :=
  Pipeline.afterTail₀ cfgs (dats m) 0 (V0 m) [hostOps1] c b

theorem fin_at (x : S_.Idx) : fin m c main_v2 x = G (inp m c) (tgt m c) := by
  have h4 := (dats m 0 c).withArrays_arrAt (by decide +kernel) (V0 m c) (A_eq m c) 4
  simp only [fin, Pipeline.afterTail₀, List.flatten_cons, List.flatten_nil, List.append_nil]
  after_results
  pointwise
  exact (congrFun h4 _).trans (congrFun (arr4 m c) _)

/-- The kernel's run: the loss, its gradient, and the arguments as launched. -/
theorem kernel_run (g : Dev nD → PrngReg) :
    θ_run (defs (F := Ideal)) (onTc (τ := τ) (main (F := Ideal))) ⟨m, fun _ => 0, g⟩ (fun r => ∀ c : Dev nD,
      r.2.mem ((c : Thread nD τ).loc main_v2) = fin m c main_v2
      ∧ r.2.mem ((c : Thread nD τ).loc main_v0_0) = (fun x : S8192x1024.Idx => D (inp m c) (tgt m c) (x 0) (x 1))
      ∧ r.2.mem ((c : Thread nD τ).loc main_arg0) = m ((c : Thread nD τ).loc main_arg0)
      ∧ r.2.mem ((c : Thread nD τ).loc main_arg1) = m ((c : Thread nD τ).loc main_arg1)) :=
  (θ_run _ _ _).mono (fun r h c => ⟨(h.1 c).2 main_v2 (by decide), ((h.1 c).1 2).trans (arr2 m c), h.2 c⟩)
    (θ_run_and (run_main m g) (unchanged m g))

end Kernel

section Reference

open Cert.Reference32Ideal Cert.Reference32Ideal.Read

variable (y t : FVec Ideal S8192x1024 .f32)

theorem ref_row (r : Fin 8192) : val_main_v6 (F := Ideal) y t (ix1 r) = (∑ n : Fin 1024, sq y t r n) * wide⁻¹ := by
  pointwise [val_main_v6, val_main_v5, val_main_v4, val_main_v1, val_main_v0, val_main_cst_0, val_main_cst_1]
  rw [div_wide]
  rfl

theorem ref_loss (x : S_.Idx) : val_main_v8 (F := Ideal) y t x = G y t := by
  rw [val_main_v8_apply, val_main_v7_apply, sum_idx1]
  simp only [ref_row]
  rw [← sum_mul_of_nonneg _ _ _ fun r => sq_nonneg y t r]
  have z : val_main_cst_2 (F := Ideal) (Shape.Idx.first Gen.h_S_) = 0 := by
    rw [val_main_cst_2_apply]
    exact Ideal.ofBits_zero _
  rw [z, zero_add, val_main_cst_3_apply]
  exact (mul_left_comm _ _ _)

theorem ref_dy (r : Fin 8192) (n : Fin 1024) : val_main_v14 (F := Ideal) y t (ix2 r n) = D y t r n := by
  pointwise [val_main_v14, val_main_v13, val_main_v12, val_main_v11, val_main_v10, val_main_v9, val_main_v3, val_main_v2, val_main_v0, val_main_cst,
    val_main_cst_4, val_main_cst_5, val_main_cst_6]
  rw [div_wide]
  unfold D
  rw [mul_right_comm, ← mul_assoc, half_two, one_mul]

end Reference

theorem algebraic : Cert.algebraic_Kernel32Ideal_Reference32Ideal (hKernel32Ideal := Cert.Kernel32Ideal.Gen.facts)
    (hReference32Ideal := Cert.Reference32Ideal.Gen.facts) := by
  intro m g m' g' _ hagree
  refine ⟨fun c => fin m c Cert.Kernel32Ideal.main_v2, fun c => fun x => D (inp m c) (tgt m c) (x 0) (x 1), kernel_run m g, ?_⟩
  refine (θ_run _ _ _).mono (fun r h c => ?_) (Cert.Reference32Ideal.Value.run m' g')
  obtain ⟨h1, h2, h3⟩ := h c
  obtain ⟨e0, e1⟩ := hagree c
  refine ⟨?_, ?_, h3⟩
  · rw [h1, e0, e1]
    refine (Cert.Reference32Ideal.Read.val_main_v8_eq _ _).trans ?_
    funext x
    exact (ref_loss _ _ x).trans (fin_at m c x).symm
  · rw [h2, e0, e1]
    refine (Cert.Reference32Ideal.Read.val_main_v14_eq _ _).trans ?_
    funext x
    obtain ⟨i, j, rfl⟩ : ∃ i j, x = ix2 i j := ⟨_, _, eq_ix2 x⟩
    exact ref_dy _ _ i j

end Cert.Loss

end
-- ==== Proof.Prod.ShortConv.lean ====
/- The state-space layer's short convolution: the kernel's array, and that the plain line ends with the same. -/
module

public import proofs.«01_k».proof.Defs
public import proofs.«01_k».proof.Proof.Gen.Kernel33Ideal.Frame
public import proofs.«01_k».proof.Proof.Gen.Reference33Ideal.Run
public import proofs.«01_k».proof.Proof.Gen.Reference33Ideal.Read
public import Idealize.ShloMosaic.Lib.Pointwise
public import Idealize.ShloMosaic.Lib.KernelVsHost
public import Idealize.ShloMosaic.Lib.Pipeline.ValueKit.Acc
public import Idealize.ShloMosaic.Lib.Pipeline.ValueKit.Point

@[expose] public section

set_option maxRecDepth 16384

noncomputable section

namespace Cert.ShortConv

open Idealize.ShloMosaic Idealize.ShloMosaic.TcCoe Idealize.SL Idealize.SL.Sem Idealize.ShloMosaic.Pipeline

/-- The shapes of the rows, of the taps, and of the bias. -/
abbrev Rows := FVec Ideal ⟨2, ![8192, 2048]⟩ .f32
abbrev Taps := FVec Ideal ⟨2, ![4, 2048]⟩ .f32
abbrev Bias := FVec Ideal ⟨1, ![2048]⟩ .f32

/-- A value times its logistic. -/
def act (s : EReal) : EReal := s * Ideal.div 1 (1 + Ideal.exp (-s))

/-- The input three rows behind the row `r`: zero before the first token. -/
def past (x : Rows) (r : ℕ) (q : Fin 2048) : EReal := if h : 3 ≤ r ∧ r < 8195 then x (ix2 ⟨r - 3, by omega⟩ q) else 0

theorem past_at (x : Rows) (p n : ℕ) (e : p = n) (hp : p < 8195) (q : Fin 2048) :
    (if h : p < 3 then 0 else x (ix2 ⟨p - 3, by omega⟩ q)) = past x n q := by
  subst e
  unfold past
  by_cases h : p < 3
  · rw [dif_pos h, dif_neg (by omega)]
  · rw [dif_neg h, dif_pos (by omega)]

/-- The convolution with its bias, through the activation. -/
def G (x : Rows) (w : Taps) (b : Bias) (r : Fin 8192) (q : Fin 2048) : EReal :=
  act (w (ix2 0 q) * past x r.val q + w (ix2 1 q) * past x (r.val + 1) q + w (ix2 2 q) * past x (r.val + 2) q
    + w (ix2 3 q) * past x (r.val + 3) q + b (ix1 q))

section Kernel

open Cert.Kernel33Ideal Cert.Kernel33Ideal.Gen

theorem sel_first {n : ℕ} (hn : n < 16) {α : Type} (a b : α) :
    Scalar.select (Scalar.cmpi .eq (BitVec.ofNat 32 n) 0#32) a b = if n = 0 then a else b := by
  have h : (Scalar.cmpi .eq (BitVec.ofNat 32 n) 0#32 = 1#1) ↔ n = 0 := by
    interval_cases n <;> decide
  by_cases e : n = 0
  · rw [if_pos e]
    exact if_pos (h.mpr e)
  · rw [if_neg e]
    exact if_neg fun k => e (h.mp k)

/-- A point's rows with the eight before them. -/
def near (i : ℕ) (x0 : Vec Ideal S512x512 .bf16) (x1 : Vec Ideal S8x512 .bf16) (r : ℕ) (l : Fin 512) : EReal :=
  if h : r < 8 then (if i = 0 then 0 else x1 (ix2 ⟨r, h⟩ l)) else if h' : r - 8 < 512 then x0 (ix2 ⟨r - 8, h'⟩ l) else 0

theorem near_at {i : ℕ} (hi : i < 16) (x0 : Vec Ideal S512x512 .bf16) (x1 : Vec Ideal S8x512 .bf16) (p q : ℕ) (hq : q < 520) (e : q = p)
    (l : Fin 512) :
    (if h : q < 8 then Scalar.select (Scalar.cmpi .eq (BitVec.ofNat 32 i) 0#32) 0 (x1 (ix2 ⟨q, h⟩ l)) else x0 (ix2 ⟨q - 8, by omega⟩ l))
      = near i x0 x1 p l := by
  subst e
  unfold near
  by_cases h : q < 8
  · rw [dif_pos h, dif_pos h, sel_first hi]
  · rw [dif_neg h, dif_neg h, dif_pos (show q - 8 < 512 by omega)]

theorem pay2_at (i : grid0.Coords) (hi : (i 1).val < 16) (x0 : Vec Ideal S512x512 .bf16) (x1 : Vec Ideal S8x512 .bf16) (x2 : Vec Ideal S4x512 .f32)
    (x3 : Vec Ideal S1x512 .f32) (r l : Fin 512) : k0_pay2 i x0 x1 x2 x3 (ix2 r l)
      = x2 (ix2 0 l) * near (i 1).val x0 x1 (r.val + 5) l + x2 (ix2 1 l) * near (i 1).val x0 x1 (r.val + 6) l
        + x2 (ix2 2 l) * near (i 1).val x0 x1 (r.val + 7) l + x2 (ix2 3 l) * near (i 1).val x0 x1 (r.val + 8) l + x3 (ix2 (0 : Fin 1) l) := by
  have hr := r.isLt
  pointwise [k0_pay2]
  refine congrArg (· + _) (congrArg₂ (· + ·) (congrArg₂ (· + ·) (congrArg₂ (· + ·) (congrArg (_ * ·) ?_) (congrArg (_ * ·) ?_))
    (congrArg (_ * ·) ?_)) (congrArg (_ * ·) ?_))
  · exact near_at hi x0 x1 (r.val + 5) ((8 + r.val + 520 - 3) % 520) (by omega) (by omega) l
  · exact near_at hi x0 x1 (r.val + 6) ((8 + r.val + 520 - 2) % 520) (by omega) (by omega) l
  · exact near_at hi x0 x1 (r.val + 7) ((8 + r.val + 520 - 1) % 520) (by omega) (by omega) l
  · unfold near
    rw [dif_neg (show ¬ r.val + 8 < 8 by omega), dif_pos (show r.val + 8 - 8 < 512 by omega)]
    rfl

theorem pay1_at (s e : FVec Ideal S512x512 .f32) (r l : Fin 512) :
    k0_pay1 s e (Scalar.ofBits .f32 0x3F800000#32) (ix2 r l) = s (ix2 r l) * Ideal.div 1 (1 + e (ix2 r l)) := by
  pointwise [k0_pay1]

theorem pay3_at (i : grid0.Coords) (x0 : Vec Ideal S512x512 .bf16) (x1 : Vec Ideal S8x512 .bf16) (x2 : Vec Ideal S4x512 .f32)
    (x3 : Vec Ideal S1x512 .f32) (r l : Fin 512) : k0_pay3 i x0 x1 x2 x3 (ix2 r l) = Ideal.exp (-(k0_pay2 i x0 x1 x2 x3 (ix2 r l))) := by
  pointwise [k0_pay3]
  rw [zero_sub]

variable (m : (ℓ : Loc nD τ sig) → Buf (Elt Ideal) ℓ) (c : Dev nD)

/-- The launch's rows, the taps and the bias. -/
abbrev inp : Rows := m ((c : Thread nD τ).loc main_arg0)
abbrev tap : Taps := m ((c : Thread nD τ).loc main_arg1)
abbrev off : Bias := m ((c : Thread nD τ).loc main_arg2)

theorem V_v0 (r : Fin 8192) (q : Fin 2048) : V m c main_v0 (ix2 r q) = inp m c (ix2 r q) := by
  simp only [V, V0, List.flatten_cons, List.flatten_nil, List.append_nil]
  after_results
  pointwise

theorem V_arg1 : V m c main_arg1 = tap m c := by
  simp only [V, V0, List.flatten_cons, List.flatten_nil, List.append_nil]
  after_results

theorem V_v1 (q : Fin 2048) : V m c main_v1 (ix2 (0 : Fin 1) q) = off m c (ix1 q) := by
  simp only [V, V0, List.flatten_cons, List.flatten_nil, List.append_nil]
  after_results
  pointwise

theorem idx0 : ∀ t : Fin cfg0.N, win0_0.index t = ![t.val % 16, t.val / 16] := by
  exact (by decide +kernel : ∀ t : Fin grid0.N, win0_0.index t = ![t.val % 16, t.val / 16])
theorem idx1 : ∀ t : Fin cfg0.N, win0_1.index t = ![64 * (t.val % 16) - 1, t.val / 16] := by
  exact (by decide +kernel : ∀ t : Fin grid0.N, win0_1.index t = ![64 * (t.val % 16) - 1, t.val / 16])
theorem idx2 : ∀ t : Fin cfg0.N, win0_2.index t = ![0, t.val / 16] := by
  exact (by decide +kernel : ∀ t : Fin grid0.N, win0_2.index t = ![0, t.val / 16])
theorem idx3 : ∀ t : Fin cfg0.N, win0_3.index t = ![0, t.val / 16] := by
  exact (by decide +kernel : ∀ t : Fin grid0.N, win0_3.index t = ![0, t.val / 16])
theorem idx4 : ∀ t : Fin cfg0.N, win0_4.index t = ![t.val % 16, t.val / 16] := by
  exact (by decide +kernel : ∀ t : Fin grid0.N, win0_4.index t = ![t.val % 16, t.val / 16])
theorem crd1 : ∀ t : Fin cfg0.N, (grid0.coords t 1).val = t.val % 16 := by
  exact (by decide +kernel : ∀ t : Fin grid0.N, (grid0.coords t 1).val = t.val % 16)

theorem lt_N (t : Fin cfg0.N) : t.val < 64 := Nat.lt_of_lt_of_eq t.isLt N_0

/-- The row and the column of the whole arrays that a point's are. -/
abbrev row (t : Fin cfg0.N) (r : Fin 512) : Fin 8192 := ⟨t.val % 16 * 512 + r.val, by omega⟩
abbrev col (t : Fin cfg0.N) (l : Fin 512) : Fin 2048 := ⟨t.val / 16 * 512 + l.val, by have := lt_N t; omega⟩

theorem blk0 (t : Fin cfg0.N) (r l : Fin 512) : iblk m c 0 t (ix2 r l) = inp m c (ix2 (row t r) (col t l)) := by
  have ht := lt_N t
  refine Eq.trans ?_ (V_v0 m c (row t r) (col t l))
  blk_ext [iblk, idx0 t]

theorem blk1 (t : Fin cfg0.N) (h : t.val % 16 ≠ 0) (r : Fin 8) (l : Fin 512) :
    iblk m c 1 t (ix2 r l) = inp m c (ix2 ⟨t.val % 16 * 512 + r.val - 8, by omega⟩ (col t l)) := by
  have ht := lt_N t
  refine Eq.trans ?_ (V_v0 m c ⟨t.val % 16 * 512 + r.val - 8, by omega⟩ (col t l))
  blk_ext [iblk, idx1 t]

theorem blk2 (t : Fin cfg0.N) (k : Fin 4) (l : Fin 512) : iblk m c 2 t (ix2 k l) = tap m c (ix2 k (col t l)) := by
  have ht := lt_N t
  refine Eq.trans ?_ (congrFun (V_arg1 m c) (ix2 k (col t l)))
  blk_ext [iblk, idx2 t]

theorem blk3 (t : Fin cfg0.N) (l : Fin 512) : iblk m c 3 t (ix2 (0 : Fin 1) l) = off m c (ix1 (col t l)) := by
  have ht := lt_N t
  refine Eq.trans ?_ (V_v1 m c (col t l))
  blk_ext [iblk, idx3 t]

/-- A point's rows are the input's. -/
theorem near_blk (t : Fin cfg0.N) (p n : ℕ) (hp : p < 520) (h5 : 5 ≤ p) (hn : n = t.val % 16 * 512 + p - 5) (l : Fin 512) :
    near (t.val % 16) (iblk m c 0 t) (iblk m c 1 t) p l = past (inp m c) n (col t l) := by
  subst hn
  unfold near past
  by_cases h : p < 8
  · rw [dif_pos h]
    by_cases h0 : t.val % 16 = 0
    · rw [if_pos h0, dif_neg (by omega)]
    · rw [if_neg h0, dif_pos (by omega)]
      have e : t.val % 16 * 512 + p - 5 - 3 = t.val % 16 * 512 + p - 8 := by omega
      simp only [e]
      exact blk1 m c t h0 ⟨p, h⟩ l
  · have h' : p - 8 < 512 := by omega
    rw [dif_neg h, dif_pos h', dif_pos (by omega)]
    have e : t.val % 16 * 512 + p - 5 - 3 = t.val % 16 * 512 + (p - 8) := by omega
    simp only [e]
    exact blk0 m c t ⟨p - 8, h'⟩ l

theorem out4 (t : Fin cfg0.N) (r l : Fin 512) :
    out0_4 (grid0.coords t) (iblk m c 0 t) (iblk m c 1 t) (iblk m c 2 t) (iblk m c 3 t) (ix2 r l)
      = G (inp m c) (tap m c) (off m c) (row t r) (col t l) := by
  have hr := r.isLt
  frame_out
  refine (pay1_at _ _ r l).trans ?_
  rw [pay3_at, pay2_at _ (by rw [crd1]; omega), crd1, near_blk m c t (r.val + 5) (row t r).val (by omega) (by omega) (by dsimp only; omega),
    near_blk m c t (r.val + 6) ((row t r).val + 1) (by omega) (by omega) (by dsimp only; omega),
    near_blk m c t (r.val + 7) ((row t r).val + 2) (by omega) (by omega) (by dsimp only; omega),
    near_blk m c t (r.val + 8) ((row t r).val + 3) (by omega) (by omega) (by dsimp only; omega), blk2, blk2, blk2, blk2, blk3]
  rfl

theorem arr4 : (dats m 0 c).arrAt 4 cfg0.N = fun x : S8192x2048.Idx => G (inp m c) (tap m c) (off m c) (x 0) (x 1) := by
  refine (dats m 0 c).arrAt_eq_of_covers 4 _ (by decide +kernel) fun t hf y => ?_
  have e0 : (((win0_4.blk t).view.emb y) 0).val = t.val % 16 * 512 + (y 0).val := by
    blk_simp
    rw [idx4 t]
    rfl
  have e1 : (((win0_4.blk t).view.emb y) 1).val = t.val / 16 * 512 + (y 1).val := by
    blk_simp
    rw [idx4 t]
    rfl
  blk_simp
  rw [after0_4]
  refine Eq.trans (congrArg (out0_4 (grid0.coords t) (iblk m c 0 t) (iblk m c 1 t) (iblk m c 2 t) (iblk m c 3 t)) (eq_ix2 y))
    ((out4 m c t (y 0) (y 1)).trans ?_)
  exact congrArg₂ (G (inp m c) (tap m c) (off m c)) (Fin.ext e0.symm) (Fin.ext e1.symm)

/-- The contents of the buffer `b` when the program ends. -/
abbrev fin (b : Ref sig .tc) : Buf (Elt Ideal) ((c : Thread nD τ).loc b) :=
  Pipeline.afterTail₀ cfgs (dats m) 0 (V0 m) [hostOps1] c b

theorem fin_at (r : Fin 8192) (q : Fin 2048) : fin m c main_v3 (ix2 r q) = G (inp m c) (tap m c) (off m c) r q := by
  have h4 := (dats m 0 c).withArrays_arrAt (by decide +kernel) (V0 m c) (A_eq m c) 4
  simp only [fin, Pipeline.afterTail₀, List.flatten_cons, List.flatten_nil, List.append_nil]
  after_results
  pointwise
  exact (congrFun h4 _).trans (congrFun (arr4 m c) _)

/-- The kernel's run: the convolution, and the arguments as launched. -/
theorem kernel_run (g : Dev nD → PrngReg) :
    θ_run (defs (F := Ideal)) (onTc (τ := τ) (main (F := Ideal))) ⟨m, fun _ => 0, g⟩ (fun r => ∀ c : Dev nD,
      r.2.mem ((c : Thread nD τ).loc main_v3) = fin m c main_v3
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run _ _ _).mono (fun r h c => ⟨(h.1 c).2 main_v3 (by decide), h.2 c⟩) (θ_run_and (run_main m g) (unchanged m g))

end Kernel

section Reference

open Cert.Reference33Ideal Cert.Reference33Ideal.Read

theorem ref_pre (x : Rows) (w : Taps) (b : Bias) (r : Fin 8192) (q : Fin 2048) : val_main_v31 (F := Ideal) x w b (ix2 r q)
    = w (ix2 0 q) * past x r.val q + w (ix2 1 q) * past x (r.val + 1) q + w (ix2 2 q) * past x (r.val + 2) q
      + w (ix2 3 q) * past x (r.val + 3) q + b (ix1 q) := by
  have hr := r.isLt
  pointwise [val_main_v31, val_main_v30, val_main_v29, val_main_v28, val_main_v27, val_main_v26, val_main_v25, val_main_v24, val_main_v23, val_main_v22,
    val_main_v21, val_main_v20, val_main_v19, val_main_v18, val_main_v17, val_main_v16, val_main_v15, val_main_v14, val_main_v13, val_main_v12,
    val_main_v11, val_main_v10, val_main_v9, val_main_v8, val_main_v7, val_main_v6, val_main_v5, val_main_v4, val_main_v3, val_main_v2,
    val_main_v1, val_main_v0, val_main_cst]
  refine congrArg (· + _) (congrArg₂ (· + ·) (congrArg₂ (· + ·) (congrArg₂ (· + ·) ((mul_comm _ _).trans (congrArg (_ * ·) ?_))
    ((mul_comm _ _).trans (congrArg (_ * ·) ?_))) ((mul_comm _ _).trans (congrArg (_ * ·) ?_))) ((mul_comm _ _).trans (congrArg (_ * ·) ?_)))
  · exact past_at x r.val r.val rfl (by omega) q
  · exact past_at x (1 + r.val) (r.val + 1) (by omega) (by omega) q
  · exact past_at x (2 + r.val) (r.val + 2) (by omega) (by omega) q
  · unfold past
    rw [dif_pos (by omega)]
    rfl

theorem ref_at (x : Rows) (w : Taps) (b : Bias) (r : Fin 8192) (q : Fin 2048) : val_main_v32 (F := Ideal) x w b (ix2 r q) = G x w b r q := by
  pointwise [val_main_v32, val_main_call0_v5, val_main_call0_v4, val_main_call0_cst_0, val_main_call0_v3, val_main_call0_v2, val_main_call0_cst, val_main_call0_v1, val_main_call0_v0, ref_pre]
  rfl

end Reference

theorem algebraic : Cert.algebraic_Kernel33Ideal_Reference33Ideal (hKernel33Ideal := Cert.Kernel33Ideal.Gen.facts)
    (hReference33Ideal := Cert.Reference33Ideal.Gen.facts) := by
  intro m g m' g' _ hagree
  refine ⟨fun c => fin m c Cert.Kernel33Ideal.main_v3, kernel_run m g, ?_⟩
  refine (θ_run _ _ _).mono (fun r h c => ?_) (Cert.Reference33Ideal.Value.run m' g')
  obtain ⟨h1, h2⟩ := h c
  obtain ⟨e0, e1, e2⟩ := hagree c
  refine ⟨?_, h2⟩
  rw [h1, Cert.Reference33Ideal.Read.val_main_v32_eq, e0, e1, e2]
  funext x
  obtain ⟨i, j, rfl⟩ : ∃ i j, x = ix2 i j := ⟨_, _, eq_ix2 x⟩
  exact (ref_at _ _ _ i j).trans (fin_at m c i j).symm

end Cert.ShortConv

end
-- ==== Proof.Prod.GroupNorm.lean ====
/- The state-space layer's gate and norm over groups of 256: the kernel's array, and that the plain lines end with the same. -/
module

public import proofs.«01_k».proof.Defs
public import proofs.«01_k».proof.Proof.Gen.Kernel34Ideal.Frame
public import proofs.«01_k».proof.Proof.Gen.Reference34Ideal.Run
public import proofs.«01_k».proof.Proof.Gen.Reference34Ideal.Read
public import proofs.«01_k».proof.Proof.Prod.Squares
public import Idealize.ShloMosaic.Lib.Pointwise
public import Idealize.ShloMosaic.Lib.KernelVsHost
public import Idealize.ShloMosaic.Lib.Pipeline.ValueKit.Acc
public import Idealize.ShloMosaic.Lib.Pipeline.ValueKit.Point

@[expose] public section

set_option maxRecDepth 16384

noncomputable section

namespace Cert.GroupNorm

open Idealize.ShloMosaic Idealize.ShloMosaic.TcCoe Idealize.SL Idealize.SL.Sem Idealize.ShloMosaic.Pipeline

/-- The shapes of the rows and of the weights. -/
abbrev Rows := FVec Ideal ⟨2, ![8192, 2048]⟩ .f32
abbrev Wts := FVec Ideal ⟨1, ![2048]⟩ .f32

/-- The constants: a group's width, its inverse, and the term that keeps the mean from zero. -/
abbrev width : EReal := Ideal.ofBits .f32 0x43800000#32
abbrev part : EReal := Ideal.ofBits .f32 0x3B800000#32
abbrev small : EReal := Ideal.ofBits .f32 0x358637BD#32

theorem width_eq : width = ((256 : ℝ) : EReal) := by
  simp [width, Ideal.ofBits, Ideal.ieee]
  rw [← EReal.coe_mul]
  norm_num
theorem part_eq : part = ((1 / 256 : ℝ) : EReal) := by
  simp [part, Ideal.ofBits, Ideal.ieee]
  rw [← EReal.coe_mul]
  norm_num

theorem div_width (x : EReal) : Ideal.div x width = x * part := by
  have h : width ≠ 0 := by
    rw [width_eq]
    exact_mod_cast (by norm_num : (256 : ℝ) ≠ 0)
  unfold Ideal.div
  rw [if_neg h, width_eq, part_eq, ← EReal.coe_inv]
  norm_num

/-- A value times the gate through its logistic. -/
def gated (a b : EReal) : EReal := a * (b * Ideal.div 1 (1 + Ideal.exp (-b)))

/-- The column `n` of the group of the column `q`. -/
abbrev mate (q : Fin 2048) (n : Fin 256) : Fin 2048 := ⟨q.val / 256 * 256 + n.val, by omega⟩

/-- The inverse of a group's root mean square, from its gated values. -/
def scale (v : Fin 256 → EReal) : EReal := Ideal.rsqrt (Ideal.div (∑ n : Fin 256, v n * v n) width + small)

/-- The gated values over their group's root mean square, weighted. -/
def G (y z : Rows) (w : Wts) (r : Fin 8192) (q : Fin 2048) : EReal :=
  gated (y (ix2 r q)) (z (ix2 r q)) * scale (fun n => gated (y (ix2 r (mate q n))) (z (ix2 r (mate q n)))) * w (ix1 q)

theorem mean_eq (v : Fin 256 → EReal) : ∑ n : Fin 256, v n * v n * part = Ideal.div (∑ n : Fin 256, v n * v n) width := by
  rw [div_width, Squares.sum_mul_of_nonneg _ _ _ fun n => Squares.square_nonneg (v n)]

section Kernel

open Cert.Kernel34Ideal Cert.Kernel34Ideal.Gen

theorem pay3_at (x0 x1 : Vec Ideal S256x2048 .bf16) (r : Fin 256) (q : Fin 2048) :
    k0_pay3 x0 x1 (ix2 r q) = gated (x0 (ix2 r q)) (x1 (ix2 r q)) := by
  pointwise [k0_pay3]
  rw [zero_sub]
  exact mul_assoc _ _ _

/-- The group of an index, as the kernel divides it out. -/
def group (a : ℕ) : BitVec 32 :=
  Scalar.select (IntOp.andi
      (IntOp.cmpi .ne (IntOp.subi (BitVec.setWidth 32 (IntOp.cmpi .sgt (BitVec.ofNat 32 a) 0#32))
          (BitVec.setWidth 32 (IntOp.cmpi .slt (BitVec.ofNat 32 a) 0#32)))
        (Scalar.subi (Scalar.extui (Scalar.cmpi .sgt 256#32 0#32)) (Scalar.extui (Scalar.cmpi .slt 256#32 0#32))))
      (IntOp.cmpi .ne (IntOp.remsi .vector (BitVec.ofNat 32 a) 256#32) 0#32))
    (IntOp.subi (IntOp.divsi .vector (BitVec.ofNat 32 a) 256#32) 1#32) (IntOp.divsi .vector (BitVec.ofNat 32 a) 256#32)

theorem group_eq : ∀ a : Fin 256, group a.val = 0#32 := by decide +kernel

/-- All indices are of one group, so the kernel's matrix is constant. -/
theorem mask_at (a b : Fin 256) : k0_pay8 (F := Ideal) k0_pay5 k0_pay6 k0_pay7 (ix2 a b) = part := by
  pointwise [k0_pay8, k0_pay5, k0_pay6, k0_pay7]
  refine (congrArg₂ (fun x y => Scalar.select (IntOp.cmpi .eq x y) part 0) (group_eq a) (group_eq b)).trans ?_
  exact if_pos (by decide)

theorem square_at (x0 x1 : Vec Ideal S256x2048 .bf16) (r : Fin 256) {a b : Fin 2048} (e : a = b) :
    gated (x0 (ix2 r a)) (x1 (ix2 r a)) * gated (x0 (ix2 r a)) (x1 (ix2 r a)) * part
      = gated (x0 (ix2 r b)) (x1 (ix2 r b)) * gated (x0 (ix2 r b)) (x1 (ix2 r b)) * part := by
  rw [e]

theorem pay1_at (x0 x1 : Vec Ideal S256x2048 .bf16) (x2 : Vec Ideal S1x2048 .f32) (r : Fin 256) (q : Fin 2048) :
    k0_pay1 (k0_pay2 x2) (k0_pay3 x0 x1) (k0_pay4 x0 x1) (k0_pay8 k0_pay5 k0_pay6 k0_pay7)
      (k0_pay9 (k0_pay4 x0 x1) k0_pay5 k0_pay6 k0_pay7) (k0_pay10 (k0_pay4 x0 x1) k0_pay5 k0_pay6 k0_pay7)
      (k0_pay11 (k0_pay4 x0 x1) k0_pay5 k0_pay6 k0_pay7) (k0_pay12 (k0_pay4 x0 x1) k0_pay5 k0_pay6 k0_pay7)
      (k0_pay13 (k0_pay4 x0 x1) k0_pay5 k0_pay6 k0_pay7) (k0_pay14 (k0_pay4 x0 x1) k0_pay5 k0_pay6 k0_pay7)
      (k0_pay15 (k0_pay4 x0 x1) k0_pay5 k0_pay6 k0_pay7) (ix2 r q)
      = gated (x0 (ix2 r q)) (x1 (ix2 r q)) * scale (fun n => gated (x0 (ix2 r (mate q n))) (x1 (ix2 r (mate q n)))) * x2 (ix2 (0 : Fin 1) q) := by
  pointwise [k0_pay1, k0_pay2, k0_pay4, k0_pay9, k0_pay10, k0_pay11, k0_pay12, k0_pay13, k0_pay14, k0_pay15, pay3_at, mask_at]
  unfold scale
  rw [← mean_eq]
  refine congrArg (fun s : EReal => gated (x0 (ix2 r q)) (x1 (ix2 r q)) * Ideal.rsqrt (s + small) * x2 (ix2 (0 : Fin 1) q)) ?_
  split_ifs
  all_goals exact Finset.sum_congr rfl fun n _ => square_at x0 x1 r (Fin.ext (by dsimp only [mate]; omega))

theorem pay16_eq (x0 x1 : Vec Ideal S256x2048 .bf16) (x2 : Vec Ideal S1x2048 .f32) : k0_pay16 x0 x1 x2 = k0_pay4 x0 x1 := by
  unfold k0_pay16
  rw [View.ld_unit_lit _ _ (by decide), View.ld_unit_lit _ _ (by decide)]

variable (m : (ℓ : Loc nD τ sig) → Buf (Elt Ideal) ℓ) (c : Dev nD)

/-- The launch's rows, the gates and the weights. -/
abbrev inp : Rows := m ((c : Thread nD τ).loc main_arg0)
abbrev gat : Rows := m ((c : Thread nD τ).loc main_arg1)
abbrev wgt : Wts := m ((c : Thread nD τ).loc main_arg2)

theorem V_v0 (r : Fin 8192) (q : Fin 2048) : V m c main_v0 (ix2 r q) = inp m c (ix2 r q) := by
  simp only [V, V0, List.flatten_cons, List.flatten_nil, List.append_nil]
  after_results
  pointwise

theorem V_v1 (r : Fin 8192) (q : Fin 2048) : V m c main_v1 (ix2 r q) = gat m c (ix2 r q) := by
  simp only [V, V0, List.flatten_cons, List.flatten_nil, List.append_nil]
  after_results
  pointwise

theorem V_v2 (q : Fin 2048) : V m c main_v2 (ix2 (0 : Fin 1) q) = wgt m c (ix1 q) := by
  simp only [V, V0, List.flatten_cons, List.flatten_nil, List.append_nil]
  after_results
  pointwise

theorem idx0 : ∀ t : Fin cfg0.N, win0_0.index t = ![t.val, 0] := by
  exact (by decide +kernel : ∀ t : Fin grid0.N, win0_0.index t = ![t.val, 0])
theorem idx1 : ∀ t : Fin cfg0.N, win0_1.index t = ![t.val, 0] := by
  exact (by decide +kernel : ∀ t : Fin grid0.N, win0_1.index t = ![t.val, 0])
theorem idx2 : ∀ t : Fin cfg0.N, win0_2.index t = ![0, 0] := by
  exact (by decide +kernel : ∀ t : Fin grid0.N, win0_2.index t = ![0, 0])
theorem idx3 : ∀ t : Fin cfg0.N, win0_3.index t = ![t.val, 0] := by
  exact (by decide +kernel : ∀ t : Fin grid0.N, win0_3.index t = ![t.val, 0])

theorem lt_N (t : Fin cfg0.N) : t.val < 32 := Nat.lt_of_lt_of_eq t.isLt N_0

/-- The row of the whole array that a point's is. -/
abbrev row (t : Fin cfg0.N) (r : Fin 256) : Fin 8192 := ⟨t.val * 256 + r.val, by have := lt_N t; omega⟩

theorem blk0 (t : Fin cfg0.N) (r : Fin 256) (q : Fin 2048) : iblk m c 0 t (ix2 r q) = inp m c (ix2 (row t r) q) := by
  have ht := lt_N t
  refine Eq.trans ?_ (V_v0 m c (row t r) q)
  blk_ext [iblk, idx0 t]

theorem blk1 (t : Fin cfg0.N) (r : Fin 256) (q : Fin 2048) : iblk m c 1 t (ix2 r q) = gat m c (ix2 (row t r) q) := by
  have ht := lt_N t
  refine Eq.trans ?_ (V_v1 m c (row t r) q)
  blk_ext [iblk, idx1 t]

theorem blk2 (t : Fin cfg0.N) (q : Fin 2048) : iblk m c 2 t (ix2 (0 : Fin 1) q) = wgt m c (ix1 q) := by
  have ht := lt_N t
  refine Eq.trans ?_ (V_v2 m c q)
  blk_ext [iblk, idx2 t]

theorem out3 (t : Fin cfg0.N) (r : Fin 256) (q : Fin 2048) :
    out0_3 (iblk m c 0 t) (iblk m c 1 t) (iblk m c 2 t) (ix2 r q) = G (inp m c) (gat m c) (wgt m c) (row t r) q := by
  frame_out
  rw [pay16_eq, k0_pay17, k0_pay18, k0_pay19]
  refine (pay1_at _ _ _ r q).trans ?_
  simp only [blk0, blk1, blk2]
  rfl

theorem arr3 : (dats m 0 c).arrAt 3 cfg0.N = fun x : S8192x2048.Idx => G (inp m c) (gat m c) (wgt m c) (x 0) (x 1) := by
  refine (dats m 0 c).arrAt_eq_of_covers 3 _ (by decide +kernel) fun t hf y => ?_
  have e0 : (((win0_3.blk t).view.emb y) 0).val = t.val * 256 + (y 0).val := by
    blk_simp
    rw [idx3 t]
    rfl
  have e1 : (((win0_3.blk t).view.emb y) 1).val = (y 1).val := by
    blk_simp
    rw [idx3 t]
    exact (show 0 * 2048 + (y 1).val = (y 1).val by omega)
  blk_simp
  rw [after0_3]
  refine Eq.trans (congrArg (out0_3 (iblk m c 0 t) (iblk m c 1 t) (iblk m c 2 t)) (eq_ix2 y)) ((out3 m c t (y 0) (y 1)).trans ?_)
  exact congrArg₂ (G (inp m c) (gat m c) (wgt m c)) (Fin.ext e0.symm) (Fin.ext e1.symm)

/-- The contents of the buffer `b` when the program ends. -/
abbrev fin (b : Ref sig .tc) : Buf (Elt Ideal) ((c : Thread nD τ).loc b) :=
  Pipeline.afterTail₀ cfgs (dats m) 0 (V0 m) [hostOps1] c b

theorem fin_at (r : Fin 8192) (q : Fin 2048) : fin m c main_v4 (ix2 r q) = G (inp m c) (gat m c) (wgt m c) r q := by
  have h3 := (dats m 0 c).withArrays_arrAt (by decide +kernel) (V0 m c) (A_eq m c) 3
  simp only [fin, Pipeline.afterTail₀, List.flatten_cons, List.flatten_nil, List.append_nil]
  after_results
  pointwise
  exact (congrFun h3 _).trans (congrFun (arr3 m c) _)

/-- The kernel's run: the gated norm, and the arguments as launched. -/
theorem kernel_run (g : Dev nD → PrngReg) :
    θ_run (defs (F := Ideal)) (onTc (τ := τ) (main (F := Ideal))) ⟨m, fun _ => 0, g⟩ (fun r => ∀ c : Dev nD,
      r.2.mem ((c : Thread nD τ).loc main_v4) = fin m c main_v4
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run _ _ _).mono (fun r h c => ⟨(h.1 c).2 main_v4 (by decide), h.2 c⟩) (θ_run_and (run_main m g) (unchanged m g))

end Kernel

section Reference

open Cert.Reference34Ideal Cert.Reference34Ideal.Read

theorem ref_gated (y z : Rows) (r : Fin 8192) (q : Fin 2048) : val_main_v1 (F := Ideal) y z (ix2 r q) = gated (y (ix2 r q)) (z (ix2 r q)) := by
  pointwise [val_main_v1, val_main_v0, val_main_call0_v5, val_main_call0_v4, val_main_call0_cst_0, val_main_call0_v3, val_main_call0_v2,
    val_main_call0_cst, val_main_call0_v1, val_main_call0_v0]
  rfl

theorem ref_at (y z : Rows) (w : Wts) (r : Fin 8192) (q : Fin 2048) : val_main_v16 (F := Ideal) y z w (ix2 r q) = G y z w r q := by
  pointwise [val_main_v16, val_main_v15, val_main_v14, val_main_v13, val_main_v12, val_main_v11, val_main_v10, val_main_v9, val_main_v8,
    val_main_cst_1, val_main_v7, val_main_v6, val_main_cst_0, val_main_v5, val_main_v4, val_main_cst, val_main_v3, val_main_v2, ref_gated]
  rfl

end Reference

theorem algebraic : Cert.algebraic_Kernel34Ideal_Reference34Ideal (hKernel34Ideal := Cert.Kernel34Ideal.Gen.facts)
    (hReference34Ideal := Cert.Reference34Ideal.Gen.facts) := by
  intro m g m' g' _ hagree
  refine ⟨fun c => fin m c Cert.Kernel34Ideal.main_v4, kernel_run m g, ?_⟩
  refine (θ_run _ _ _).mono (fun r h c => ?_) (Cert.Reference34Ideal.Value.run m' g')
  obtain ⟨h1, h2⟩ := h c
  obtain ⟨e0, e1, e2⟩ := hagree c
  refine ⟨?_, h2⟩
  rw [h1, Cert.Reference34Ideal.Read.val_main_v16_eq, e0, e1, e2]
  funext x
  obtain ⟨i, j, rfl⟩ : ∃ i j, x = ix2 i j := ⟨_, _, eq_ix2 x⟩
  exact (ref_at _ _ _ i j).trans (fin_at m c i j).symm

end Cert.GroupNorm

end
-- ==== Proof.Prod.AdamNorm.lean ====
/- The optimiser's update of the norms' weights, which every device holds whole: the kernel's three arrays, and that the plain lines end
   with the same. -/
module

public import proofs.«01_k».proof.Defs
public import proofs.«01_k».proof.Proof.Gen.Kernel35Ideal.Frame
public import proofs.«01_k».proof.Proof.Gen.Reference35Ideal.Run
public import proofs.«01_k».proof.Proof.Gen.Reference35Ideal.Read
public import proofs.«01_k».proof.Proof.Prod.Adam
public import Idealize.ShloMosaic.Lib.Pointwise
public import Idealize.ShloMosaic.Lib.KernelVsHost
public import Idealize.ShloMosaic.Lib.Pipeline.ValueKit.Acc
public import Idealize.ShloMosaic.Lib.Pipeline.ValueKit.Point

@[expose] public section

set_option maxRecDepth 16384

noncomputable section

namespace Cert.AdamNorm

open Adam (mean square delta)
open Idealize.ShloMosaic Idealize.ShloMosaic.TcCoe Idealize.SL Idealize.SL.Sem Idealize.ShloMosaic.Pipeline

/-- A weight of the four layers. -/
abbrev Weight := FVec Ideal ⟨2, ![4, 1024]⟩ .f32

section Kernel

open Cert.Kernel35Ideal Cert.Kernel35Ideal.Gen

variable (m : (ℓ : Loc nD τ sig) → Buf (Elt Ideal) ℓ) (c : Dev nD)

/-- The launch's weight, its gradient and the moments. -/
abbrev wgt : Weight := m ((c : Thread nD τ).loc main_arg0)
abbrev grd : Weight := m ((c : Thread nD τ).loc main_arg1)
abbrev mom : Weight := m ((c : Thread nD τ).loc main_arg2)
abbrev sqr : Weight := m ((c : Thread nD τ).loc main_arg3)

theorem idx0 : ∀ t : Fin cfg0.N, win0_0.index t = ![0, 0] := by
  exact (by decide +kernel : ∀ t : Fin grid0.N, win0_0.index t = ![0, 0])
theorem idx1 : ∀ t : Fin cfg0.N, win0_1.index t = ![0, 0] := by
  exact (by decide +kernel : ∀ t : Fin grid0.N, win0_1.index t = ![0, 0])
theorem idx2 : ∀ t : Fin cfg0.N, win0_2.index t = ![0, 0] := by
  exact (by decide +kernel : ∀ t : Fin grid0.N, win0_2.index t = ![0, 0])
theorem idx3 : ∀ t : Fin cfg0.N, win0_3.index t = ![0, 0] := by
  exact (by decide +kernel : ∀ t : Fin grid0.N, win0_3.index t = ![0, 0])
theorem idx4 : ∀ t : Fin cfg0.N, win0_4.index t = ![0, 0] := by
  exact (by decide +kernel : ∀ t : Fin grid0.N, win0_4.index t = ![0, 0])
theorem idx5 : ∀ t : Fin cfg0.N, win0_5.index t = ![0, 0] := by
  exact (by decide +kernel : ∀ t : Fin grid0.N, win0_5.index t = ![0, 0])
theorem idx6 : ∀ t : Fin cfg0.N, win0_6.index t = ![0, 0] := by
  exact (by decide +kernel : ∀ t : Fin grid0.N, win0_6.index t = ![0, 0])

theorem blk0 (t : Fin cfg0.N) : iblk m c 0 t = wgt m c := by
  funext y
  obtain ⟨l, q, rfl⟩ : ∃ (l : Fin 4) (q : Fin 1024), y = ix2 l q := ⟨_, _, eq_ix2 y⟩
  refine Eq.trans ?_ (show V m c main_arg0 (ix2 l q) = wgt m c (ix2 l q) from rfl)
  blk_ext [iblk, idx0 t]
theorem blk1 (t : Fin cfg0.N) : iblk m c 1 t = grd m c := by
  funext y
  obtain ⟨l, q, rfl⟩ : ∃ (l : Fin 4) (q : Fin 1024), y = ix2 l q := ⟨_, _, eq_ix2 y⟩
  refine Eq.trans ?_ (show V m c main_arg1 (ix2 l q) = grd m c (ix2 l q) from rfl)
  blk_ext [iblk, idx1 t]
theorem blk2 (t : Fin cfg0.N) : iblk m c 2 t = mom m c := by
  funext y
  obtain ⟨l, q, rfl⟩ : ∃ (l : Fin 4) (q : Fin 1024), y = ix2 l q := ⟨_, _, eq_ix2 y⟩
  refine Eq.trans ?_ (show V m c main_arg2 (ix2 l q) = mom m c (ix2 l q) from rfl)
  blk_ext [iblk, idx2 t]
theorem blk3 (t : Fin cfg0.N) : iblk m c 3 t = sqr m c := by
  funext y
  obtain ⟨l, q, rfl⟩ : ∃ (l : Fin 4) (q : Fin 1024), y = ix2 l q := ⟨_, _, eq_ix2 y⟩
  refine Eq.trans ?_ (show V m c main_arg3 (ix2 l q) = sqr m c (ix2 l q) from rfl)
  blk_ext [iblk, idx3 t]

theorem pay_at (w g p v : Vec Ideal S4x1024 .f32) (y : S4x1024.Idx) :
    k0_pay1 g p y = mean (g y) (p y) ∧ k0_pay2 g v y = square (g y) (v y) ∧ k0_pay3 w g p v y = delta (w y) (g y) (p y) (v y) := by
  obtain ⟨l, q, rfl⟩ : ∃ l q, y = ix2 l q := ⟨_, _, eq_ix2 y⟩
  refine ⟨?_, ?_, ?_⟩
  · pointwise [k0_pay1]
    rfl
  · pointwise [k0_pay2]
    rfl
  · pointwise [k0_pay3, k0_pay2, k0_pay1]
    rfl

/-- The three arrays the kernel ends with. -/
def dlt (y : S4x1024.Idx) : EReal := delta (wgt m c y) (grd m c y) (mom m c y) (sqr m c y)
def mn (y : S4x1024.Idx) : EReal := mean (grd m c y) (mom m c y)
def sq (y : S4x1024.Idx) : EReal := square (grd m c y) (sqr m c y)

theorem out4 (t : Fin cfg0.N) (y : S4x1024.Idx) :
    out0_4 (iblk m c 0 t) (iblk m c 1 t) (iblk m c 2 t) (iblk m c 3 t) y = dlt m c y := by
  rw [blk0, blk1, blk2, blk3]
  frame_out
  exact (pay_at (wgt m c) (grd m c) (mom m c) (sqr m c) y).2.2

theorem arr4 : (dats m 0 c).arrAt 4 cfg0.N = dlt m c := by
  refine (dats m 0 c).arrAt_eq_of_covers 4 _ (by decide +kernel) fun t hf y => ?_
  have e : (win0_4.blk t).view.emb y = y := by
    funext a
    refine Fin.ext ?_
    blk_simp
    rw [idx4 t]
    fin_cases a <;> simp
  rw [e]
  blk_simp
  rw [after0_4]
  exact out4 m c t y

theorem out5 (t : Fin cfg0.N) (y : S4x1024.Idx) :
    out0_5 (iblk m c 0 t) (iblk m c 1 t) (iblk m c 2 t) (iblk m c 3 t) y = mn m c y := by
  rw [blk0, blk1, blk2, blk3]
  frame_out
  exact (pay_at (wgt m c) (grd m c) (mom m c) (sqr m c) y).1

theorem arr5 : (dats m 0 c).arrAt 5 cfg0.N = mn m c := by
  refine (dats m 0 c).arrAt_eq_of_covers 5 _ (by decide +kernel) fun t hf y => ?_
  have e : (win0_5.blk t).view.emb y = y := by
    funext a
    refine Fin.ext ?_
    blk_simp
    rw [idx5 t]
    fin_cases a <;> simp
  rw [e]
  blk_simp
  rw [after0_5]
  exact out5 m c t y

theorem out6 (t : Fin cfg0.N) (y : S4x1024.Idx) :
    out0_6 (iblk m c 0 t) (iblk m c 1 t) (iblk m c 2 t) (iblk m c 3 t) y = sq m c y := by
  rw [blk0, blk1, blk2, blk3]
  frame_out
  exact (pay_at (wgt m c) (grd m c) (mom m c) (sqr m c) y).2.1

theorem arr6 : (dats m 0 c).arrAt 6 cfg0.N = sq m c := by
  refine (dats m 0 c).arrAt_eq_of_covers 6 _ (by decide +kernel) fun t hf y => ?_
  have e : (win0_6.blk t).view.emb y = y := by
    funext a
    refine Fin.ext ?_
    blk_simp
    rw [idx6 t]
    fin_cases a <;> simp
  rw [e]
  blk_simp
  rw [after0_6]
  exact out6 m c t y

/-- The kernel's run: the three arrays, and the arguments as launched. -/
theorem kernel_run (g : Dev nD → PrngReg) :
    θ_run (defs (F := Ideal)) (onTc (τ := τ) (main (F := Ideal))) ⟨m, fun _ => 0, g⟩ (fun r => ∀ c : Dev nD,
      r.2.mem ((c : Thread nD τ).loc main_v0_0) = dlt m c
      ∧ r.2.mem ((c : Thread nD τ).loc main_v0_1) = mn m c
      ∧ r.2.mem ((c : Thread nD τ).loc main_v0_2) = sq m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run _ _ _).mono (fun r h c => ⟨((h.1 c).1 4).trans (arr4 m c), ((h.1 c).1 5).trans (arr5 m c), ((h.1 c).1 6).trans (arr6 m c), h.2 c⟩)
    (θ_run_and (run_main m g) (unchanged m g))

end Kernel

section Reference

open Cert.Reference35Ideal Cert.Reference35Ideal.Read

theorem ref4_at (g p : Weight) (i : S4x1024.Idx) : val_main_v4 (F := Ideal) g p i = mean (g i) (p i) := by
  obtain ⟨l, q, rfl⟩ : ∃ l q, i = ix2 l q := ⟨_, _, eq_ix2 i⟩
  pointwise [val_main_v4, val_main_v3, val_main_v2, val_main_v1, val_main_v0, val_main_cst, val_main_cst_0]
  rfl

theorem ref10_at (g v : Weight) (i : S4x1024.Idx) : val_main_v10 (F := Ideal) g v i = square (g i) (v i) := by
  obtain ⟨l, q, rfl⟩ : ∃ l q, i = ix2 l q := ⟨_, _, eq_ix2 i⟩
  pointwise [val_main_v10, val_main_v9, val_main_v8, val_main_v7, val_main_v6, val_main_v5, val_main_cst_1, val_main_cst_2]
  rfl

theorem ref23_at (w g p v : Weight) (i : S4x1024.Idx) : val_main_v23 (F := Ideal) w g p v i = delta (w i) (g i) (p i) (v i) := by
  obtain ⟨l, q, rfl⟩ : ∃ l q, i = ix2 l q := ⟨_, _, eq_ix2 i⟩
  pointwise [val_main_v23, val_main_v22, val_main_v21, val_main_v20, val_main_v19, val_main_v18, val_main_v17, val_main_v16, val_main_v15,
    val_main_v14, val_main_v13, val_main_v12, val_main_v11, ref4_at, ref10_at, val_main_cst_3, val_main_cst_4, val_main_cst_5,
    val_main_cst_6, val_main_cst_7]
  rfl

end Reference

theorem algebraic : Cert.algebraic_Kernel35Ideal_Reference35Ideal (hKernel35Ideal := Cert.Kernel35Ideal.Gen.facts)
    (hReference35Ideal := Cert.Reference35Ideal.Gen.facts) := by
  intro m g m' g' _ hagree
  refine ⟨dlt m, mn m, sq m, kernel_run m g, ?_⟩
  refine (θ_run _ _ _).mono (fun r h c => ?_) (Cert.Reference35Ideal.Value.run m' g')
  obtain ⟨h1, h2, h3, h4⟩ := h c
  obtain ⟨e0, e1, e2, e3⟩ := hagree c
  refine ⟨?_, ?_, ?_, h4⟩
  · rw [h1, e0, e1, e2, e3]
    exact (Cert.Reference35Ideal.Read.val_main_v23_eq _ _ _ _).trans (funext fun i => ref23_at _ _ _ _ i)
  · rw [h2, e1, e2]
    exact (Cert.Reference35Ideal.Read.val_main_v4_eq _ _).trans (funext fun i => ref4_at _ _ i)
  · rw [h3, e1, e3]
    exact (Cert.Reference35Ideal.Read.val_main_v10_eq _ _).trans (funext fun i => ref10_at _ _ i)

end Cert.AdamNorm

end
-- ==== Proof.Prod.AdamDown.lean ====
/- The optimiser's update of a second weight, of other sizes: the kernel's three arrays, and that the plain lines end with the same. -/
module

public import proofs.«01_k».proof.Defs
public import proofs.«01_k».proof.Proof.Gen.Kernel36Ideal.Frame
public import proofs.«01_k».proof.Proof.Gen.Reference36Ideal.Run
public import proofs.«01_k».proof.Proof.Gen.Reference36Ideal.Read
public import proofs.«01_k».proof.Proof.Prod.Adam
public import Idealize.ShloMosaic.Lib.Pointwise
public import Idealize.ShloMosaic.Lib.KernelVsHost
public import Idealize.ShloMosaic.Lib.Pipeline.ValueKit.Acc
public import Idealize.ShloMosaic.Lib.Pipeline.ValueKit.Point

@[expose] public section

set_option maxRecDepth 16384

noncomputable section

namespace Cert.AdamDown

open Adam (mean square delta)
open Idealize.ShloMosaic Idealize.ShloMosaic.TcCoe Idealize.SL Idealize.SL.Sem Idealize.ShloMosaic.Pipeline

/-- A weight of the four layers. -/
abbrev Weight := FVec Ideal ⟨3, ![4, 704, 1024]⟩ .f32

/-- A weight with the layers' rows one after the other. -/
def flat (a : Weight) (r : Fin 2816) (q : Fin 1024) : EReal := a (ix3 ⟨r.val / 704, by omega⟩ ⟨r.val % 704, by omega⟩ q)

theorem flat_at (a : Weight) (l : Fin 4) (n : Fin 704) (q : Fin 1024) (h : l.val * 704 + n.val < 2816) :
    flat a ⟨l.val * 704 + n.val, h⟩ q = a (ix3 l n q) := by
  have e0 : (l.val * 704 + n.val) / 704 = l.val := by omega
  have e1 : (l.val * 704 + n.val) % 704 = n.val := by omega
  unfold flat
  simp only [e0, e1]

section Kernel

open Cert.Kernel36Ideal Cert.Kernel36Ideal.Gen

variable (m : (ℓ : Loc nD τ sig) → Buf (Elt Ideal) ℓ) (c : Dev nD)

/-- The launch's weight, its gradient and the moments. -/
abbrev wgt : Weight := m ((c : Thread nD τ).loc main_arg0)
abbrev grd : Weight := m ((c : Thread nD τ).loc main_arg1)
abbrev mom : Weight := m ((c : Thread nD τ).loc main_arg2)
abbrev sqr : Weight := m ((c : Thread nD τ).loc main_arg3)

/-- A weight laid out flat reads as `flat`. -/
theorem cast_at (a : Weight) (h : S4x704x1024.ShapeCasts S2816x1024) (r : Fin 2816) (q : Fin 1024) :
    shapeCast S2816x1024 a h (ix2 r q) = flat a r q := by
  pointwise
  rfl

theorem V_v0 (r : Fin 2816) (q : Fin 1024) : V m c main_v0 (ix2 r q) = flat (wgt m c) r q := by
  simp only [V, V0, List.flatten_cons, List.flatten_nil, List.append_nil]
  after_results
  exact cast_at _ _ r q
theorem V_v1 (r : Fin 2816) (q : Fin 1024) : V m c main_v1 (ix2 r q) = flat (grd m c) r q := by
  simp only [V, V0, List.flatten_cons, List.flatten_nil, List.append_nil]
  after_results
  exact cast_at _ _ r q
theorem V_v2 (r : Fin 2816) (q : Fin 1024) : V m c main_v2 (ix2 r q) = flat (mom m c) r q := by
  simp only [V, V0, List.flatten_cons, List.flatten_nil, List.append_nil]
  after_results
  exact cast_at _ _ r q
theorem V_v3 (r : Fin 2816) (q : Fin 1024) : V m c main_v3 (ix2 r q) = flat (sqr m c) r q := by
  simp only [V, V0, List.flatten_cons, List.flatten_nil, List.append_nil]
  after_results
  exact cast_at _ _ r q

theorem idx0 : ∀ t : Fin cfg0.N, win0_0.index t = ![t.val, 0] := by
  exact (by decide +kernel : ∀ t : Fin grid0.N, win0_0.index t = ![t.val, 0])
theorem idx1 : ∀ t : Fin cfg0.N, win0_1.index t = ![t.val, 0] := by
  exact (by decide +kernel : ∀ t : Fin grid0.N, win0_1.index t = ![t.val, 0])
theorem idx2 : ∀ t : Fin cfg0.N, win0_2.index t = ![t.val, 0] := by
  exact (by decide +kernel : ∀ t : Fin grid0.N, win0_2.index t = ![t.val, 0])
theorem idx3 : ∀ t : Fin cfg0.N, win0_3.index t = ![t.val, 0] := by
  exact (by decide +kernel : ∀ t : Fin grid0.N, win0_3.index t = ![t.val, 0])
theorem idx4 : ∀ t : Fin cfg0.N, win0_4.index t = ![t.val, 0] := by
  exact (by decide +kernel : ∀ t : Fin grid0.N, win0_4.index t = ![t.val, 0])
theorem idx5 : ∀ t : Fin cfg0.N, win0_5.index t = ![t.val, 0] := by
  exact (by decide +kernel : ∀ t : Fin grid0.N, win0_5.index t = ![t.val, 0])
theorem idx6 : ∀ t : Fin cfg0.N, win0_6.index t = ![t.val, 0] := by
  exact (by decide +kernel : ∀ t : Fin grid0.N, win0_6.index t = ![t.val, 0])

theorem lt_N (t : Fin cfg0.N) : t.val < 11 := Nat.lt_of_lt_of_eq t.isLt N_0

/-- The row of the whole array that a point's row is. -/
abbrev row (t : Fin cfg0.N) (r : Fin 256) : Fin 2816 := ⟨t.val * 256 + r.val, by have := lt_N t; omega⟩

theorem blk0 (t : Fin cfg0.N) (r : Fin 256) (q : Fin 1024) : iblk m c 0 t (ix2 r q) = flat (wgt m c) (row t r) q := by
  refine Eq.trans ?_ (V_v0 m c (row t r) q)
  blk_ext [iblk, idx0 t]
theorem blk1 (t : Fin cfg0.N) (r : Fin 256) (q : Fin 1024) : iblk m c 1 t (ix2 r q) = flat (grd m c) (row t r) q := by
  refine Eq.trans ?_ (V_v1 m c (row t r) q)
  blk_ext [iblk, idx1 t]
theorem blk2 (t : Fin cfg0.N) (r : Fin 256) (q : Fin 1024) : iblk m c 2 t (ix2 r q) = flat (mom m c) (row t r) q := by
  refine Eq.trans ?_ (V_v2 m c (row t r) q)
  blk_ext [iblk, idx2 t]
theorem blk3 (t : Fin cfg0.N) (r : Fin 256) (q : Fin 1024) : iblk m c 3 t (ix2 r q) = flat (sqr m c) (row t r) q := by
  refine Eq.trans ?_ (V_v3 m c (row t r) q)
  blk_ext [iblk, idx3 t]

theorem pay2_at (g p : Vec Ideal S256x1024 .f32) (r : Fin 256) (q : Fin 1024) :
    k0_pay2 g p (ix2 r q) = mean (g (ix2 r q)) (p (ix2 r q)) := by
  pointwise [k0_pay2, k0_pay1]
  rfl

theorem pay3_at (g v : Vec Ideal S256x1024 .f32) (r : Fin 256) (q : Fin 1024) :
    k0_pay3 g v (ix2 r q) = square (g (ix2 r q)) (v (ix2 r q)) := by
  pointwise [k0_pay3, k0_pay1]
  rfl

theorem pay4_at (w g p v : Vec Ideal S256x1024 .f32) (r : Fin 256) (q : Fin 1024) :
    k0_pay4 w g p v (ix2 r q) = delta (w (ix2 r q)) (g (ix2 r q)) (p (ix2 r q)) (v (ix2 r q)) := by
  pointwise [k0_pay4, k0_pay3, k0_pay2, k0_pay1]
  rfl

/-- The three arrays the kernel ends with. -/
abbrev dlt (r : Fin 2816) (q : Fin 1024) : EReal :=
  delta (flat (wgt m c) r q) (flat (grd m c) r q) (flat (mom m c) r q) (flat (sqr m c) r q)
abbrev mn (r : Fin 2816) (q : Fin 1024) : EReal := mean (flat (grd m c) r q) (flat (mom m c) r q)
abbrev sq (r : Fin 2816) (q : Fin 1024) : EReal := square (flat (grd m c) r q) (flat (sqr m c) r q)

theorem out4 (t : Fin cfg0.N) (r : Fin 256) (q : Fin 1024) :
    out0_4 (iblk m c 0 t) (iblk m c 1 t) (iblk m c 2 t) (iblk m c 3 t) (ix2 r q) = dlt m c (row t r) q := by
  frame_out
  rw [pay4_at, blk0, blk1, blk2, blk3]

theorem out5 (t : Fin cfg0.N) (r : Fin 256) (q : Fin 1024) :
    out0_5 (iblk m c 0 t) (iblk m c 1 t) (iblk m c 2 t) (iblk m c 3 t) (ix2 r q) = mn m c (row t r) q := by
  frame_out
  rw [pay2_at, blk1, blk2]

theorem out6 (t : Fin cfg0.N) (r : Fin 256) (q : Fin 1024) :
    out0_6 (iblk m c 0 t) (iblk m c 1 t) (iblk m c 2 t) (iblk m c 3 t) (ix2 r q) = sq m c (row t r) q := by
  frame_out
  rw [pay3_at, blk1, blk3]

theorem arr4 : (dats m 0 c).arrAt 4 cfg0.N = fun x : S2816x1024.Idx => dlt m c (x 0) (x 1) := by
  refine (dats m 0 c).arrAt_eq_of_covers 4 _ (by decide +kernel) fun t hf y => ?_
  have e0 : (((win0_4.blk t).view.emb y) 0).val = t.val * 256 + (y 0).val := by
    blk_simp
    rw [idx4 t]
    rfl
  have e1 : (((win0_4.blk t).view.emb y) 1).val = (y 1).val := by
    blk_simp
    rw [idx4 t]
    exact (show 0 * 1024 + (y 1).val = (y 1).val by omega)
  blk_simp
  rw [after0_4]
  refine Eq.trans (congrArg (out0_4 (iblk m c 0 t) (iblk m c 1 t) (iblk m c 2 t) (iblk m c 3 t)) (eq_ix2 y)) ((out4 m c t (y 0) (y 1)).trans ?_)
  exact congrArg₂ (dlt m c) (Fin.ext e0.symm) (Fin.ext e1.symm)

theorem arr5 : (dats m 0 c).arrAt 5 cfg0.N = fun x : S2816x1024.Idx => mn m c (x 0) (x 1) := by
  refine (dats m 0 c).arrAt_eq_of_covers 5 _ (by decide +kernel) fun t hf y => ?_
  have e0 : (((win0_5.blk t).view.emb y) 0).val = t.val * 256 + (y 0).val := by
    blk_simp
    rw [idx5 t]
    rfl
  have e1 : (((win0_5.blk t).view.emb y) 1).val = (y 1).val := by
    blk_simp
    rw [idx5 t]
    exact (show 0 * 1024 + (y 1).val = (y 1).val by omega)
  blk_simp
  rw [after0_5]
  refine Eq.trans (congrArg (out0_5 (iblk m c 0 t) (iblk m c 1 t) (iblk m c 2 t) (iblk m c 3 t)) (eq_ix2 y)) ((out5 m c t (y 0) (y 1)).trans ?_)
  exact congrArg₂ (mn m c) (Fin.ext e0.symm) (Fin.ext e1.symm)

theorem arr6 : (dats m 0 c).arrAt 6 cfg0.N = fun x : S2816x1024.Idx => sq m c (x 0) (x 1) := by
  refine (dats m 0 c).arrAt_eq_of_covers 6 _ (by decide +kernel) fun t hf y => ?_
  have e0 : (((win0_6.blk t).view.emb y) 0).val = t.val * 256 + (y 0).val := by
    blk_simp
    rw [idx6 t]
    rfl
  have e1 : (((win0_6.blk t).view.emb y) 1).val = (y 1).val := by
    blk_simp
    rw [idx6 t]
    exact (show 0 * 1024 + (y 1).val = (y 1).val by omega)
  blk_simp
  rw [after0_6]
  refine Eq.trans (congrArg (out0_6 (iblk m c 0 t) (iblk m c 1 t) (iblk m c 2 t) (iblk m c 3 t)) (eq_ix2 y)) ((out6 m c t (y 0) (y 1)).trans ?_)
  exact congrArg₂ (sq m c) (Fin.ext e0.symm) (Fin.ext e1.symm)

/-- The contents of the buffer `b` when the program ends. -/
abbrev fin (b : Ref sig .tc) : Buf (Elt Ideal) ((c : Thread nD τ).loc b) :=
  Pipeline.afterTail₀ cfgs (dats m) 0 (V0 m) [hostOps1] c b

/-- A flat array laid out by layers again. -/
theorem back_at (f : Fin 2816 → Fin 1024 → EReal) (a : FVec Ideal S2816x1024 .f32) (ha : a = fun x => f (x 0) (x 1))
    (h : S2816x1024.ShapeCasts S4x704x1024) (l : Fin 4) (n : Fin 704) (q : Fin 1024) :
    shapeCast S4x704x1024 a h (ix3 l n q) = f ⟨l.val * 704 + n.val, by omega⟩ q := by
  subst ha
  pointwise

theorem fin5 (l : Fin 4) (n : Fin 704) (q : Fin 1024) : fin m c main_v5 (ix3 l n q)
    = delta (wgt m c (ix3 l n q)) (grd m c (ix3 l n q)) (mom m c (ix3 l n q)) (sqr m c (ix3 l n q)) := by
  have h4 := (dats m 0 c).withArrays_arrAt (by decide +kernel) (V0 m c) (A_eq m c) 4
  simp only [fin, Pipeline.afterTail₀, List.flatten_cons, List.flatten_nil, List.append_nil]
  after_results
  refine (back_at (dlt m c) _ (h4.trans (arr4 m c)) _ l n q).trans ?_
  simp only [dlt, flat_at]

theorem fin6 (l : Fin 4) (n : Fin 704) (q : Fin 1024) : fin m c main_v6 (ix3 l n q)
    = mean (grd m c (ix3 l n q)) (mom m c (ix3 l n q)) := by
  have h5 := (dats m 0 c).withArrays_arrAt (by decide +kernel) (V0 m c) (A_eq m c) 5
  simp only [fin, Pipeline.afterTail₀, List.flatten_cons, List.flatten_nil, List.append_nil]
  after_results
  refine (back_at (mn m c) _ (h5.trans (arr5 m c)) _ l n q).trans ?_
  simp only [mn, flat_at]

theorem fin7 (l : Fin 4) (n : Fin 704) (q : Fin 1024) : fin m c main_v7 (ix3 l n q)
    = square (grd m c (ix3 l n q)) (sqr m c (ix3 l n q)) := by
  have h6 := (dats m 0 c).withArrays_arrAt (by decide +kernel) (V0 m c) (A_eq m c) 6
  simp only [fin, Pipeline.afterTail₀, List.flatten_cons, List.flatten_nil, List.append_nil]
  after_results
  refine (back_at (sq m c) _ (h6.trans (arr6 m c)) _ l n q).trans ?_
  simp only [sq, flat_at]

/-- The kernel's run: the three arrays, and the arguments as launched. -/
theorem kernel_run (g : Dev nD → PrngReg) :
    θ_run (defs (F := Ideal)) (onTc (τ := τ) (main (F := Ideal))) ⟨m, fun _ => 0, g⟩ (fun r => ∀ c : Dev nD,
      r.2.mem ((c : Thread nD τ).loc main_v5) = fin m c main_v5
      ∧ r.2.mem ((c : Thread nD τ).loc main_v6) = fin m c main_v6
      ∧ r.2.mem ((c : Thread nD τ).loc main_v7) = fin m c main_v7
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run _ _ _).mono (fun r h c => ⟨(h.1 c).2 main_v5 (by decide), (h.1 c).2 main_v6 (by decide), (h.1 c).2 main_v7 (by decide), h.2 c⟩)
    (θ_run_and (run_main m g) (unchanged m g))

end Kernel

section Reference

open Cert.Reference36Ideal Cert.Reference36Ideal.Read

theorem ref4_at (g p : FVec Ideal S4x704x1024 .f32) (i : S4x704x1024.Idx) : val_main_v4 (F := Ideal) g p i = mean (g i) (p i) := by
  rw [val_main_v4_apply, val_main_v1_apply, val_main_v3_apply, val_main_v0_apply, val_main_v2_apply, val_main_cst_apply, val_main_cst_0_apply]
  rfl

theorem ref10_at (g v : FVec Ideal S4x704x1024 .f32) (i : S4x704x1024.Idx) : val_main_v10 (F := Ideal) g v i = square (g i) (v i) := by
  rw [val_main_v10_apply, val_main_v6_apply, val_main_v9_apply, val_main_v5_apply, val_main_v8_apply, val_main_v7_apply,
    val_main_cst_1_apply, val_main_cst_2_apply]
  rfl

theorem ref23_at (w g p v : FVec Ideal S4x704x1024 .f32) (i : S4x704x1024.Idx) :
    val_main_v23 (F := Ideal) w g p v i = delta (w i) (g i) (p i) (v i) := by
  rw [val_main_v23_apply, val_main_v22_apply, val_main_v21_apply, val_main_v20_apply, val_main_v19_apply, val_main_v18_apply,
    val_main_v17_apply, val_main_v16_apply, val_main_v15_apply, val_main_v14_apply, val_main_v13_apply, val_main_v12_apply,
    val_main_v11_apply, ref4_at, ref10_at, val_main_cst_3_apply, val_main_cst_4_apply, val_main_cst_5_apply, val_main_cst_6_apply,
    val_main_cst_7_apply]
  rfl

end Reference

theorem algebraic : Cert.algebraic_Kernel36Ideal_Reference36Ideal (hKernel36Ideal := Cert.Kernel36Ideal.Gen.facts)
    (hReference36Ideal := Cert.Reference36Ideal.Gen.facts) := by
  intro m g m' g' _ hagree
  refine ⟨fun c => fin m c Cert.Kernel36Ideal.main_v5, fun c => fin m c Cert.Kernel36Ideal.main_v6, fun c => fin m c Cert.Kernel36Ideal.main_v7,
    kernel_run m g, ?_⟩
  refine (θ_run _ _ _).mono (fun r h c => ?_) (Cert.Reference36Ideal.Value.run m' g')
  obtain ⟨h1, h2, h3, h4⟩ := h c
  obtain ⟨e0, e1, e2, e3⟩ := hagree c
  refine ⟨?_, ?_, ?_, h4⟩
  · rw [h1, e0, e1, e2, e3]
    refine (Cert.Reference36Ideal.Read.val_main_v23_eq _ _ _ _).trans ?_
    funext x
    obtain ⟨i, j, k, rfl⟩ : ∃ i j k, x = ix3 i j k := ⟨_, _, _, eq_ix3 x⟩
    exact (ref23_at _ _ _ _ _).trans (fin5 m c i j k).symm
  · rw [h2, e1, e2]
    refine (Cert.Reference36Ideal.Read.val_main_v4_eq _ _).trans ?_
    funext x
    obtain ⟨i, j, k, rfl⟩ : ∃ i j k, x = ix3 i j k := ⟨_, _, _, eq_ix3 x⟩
    exact (ref4_at _ _ _).trans (fin6 m c i j k).symm
  · rw [h3, e1, e3]
    refine (Cert.Reference36Ideal.Read.val_main_v10_eq _ _).trans ?_
    funext x
    obtain ⟨i, j, k, rfl⟩ : ∃ i j k, x = ix3 i j k := ⟨_, _, _, eq_ix3 x⟩
    exact (ref10_at _ _ _).trans (fin7 m c i j k).symm

end Cert.AdamDown

end
-- ==== Proof.Ffn.UpPay.lean ====
/- What one grid point of the feed-forward network's first half computes, read at an index. -/
module

public import proofs.«01_k».proof.Proof.Gen.Kernel4Ideal.Skeleton
public import Idealize.ShloMosaic.Lib.Pointwise
public import Idealize.ShloMosaic.Lib.KernelVsHost
public import Idealize.ShloMosaic.Lib.ValueIdx
public import Idealize.ShloMosaic.Lib.Pipeline.ValueKit.Point

@[expose] public section

set_option maxRecDepth 16384

noncomputable section

namespace Cert.FfnUp

open Idealize.ShloMosaic Idealize.ShloMosaic.TcCoe
open Cert.Kernel4Ideal Cert.Kernel4Ideal.Gen

/-- A value times its logistic. -/
def silu (g : EReal) : EReal := g * Ideal.div 1 (1 + Ideal.exp (-g))

variable (x0 : Vec Ideal S512x1024 .bf16) (x1 x2 : Vec Ideal S1x1x1024x1408 .bf16)

theorem pay2_at (r : Fin 512) (l : Fin 1408) : k0_pay2 x0 x1 (ix2 r l) = ∑ q : Fin 1024, x0 (ix2 r q) * x1 (ix4 0 0 q l) := by
  pointwise [k0_pay2, k0_pay1]

theorem pay3_at (r : Fin 512) (l : Fin 1408) : k0_pay3 x0 x2 (ix2 r l) = ∑ q : Fin 1024, x0 (ix2 r q) * x2 (ix4 0 0 q l) := by
  pointwise [k0_pay3, k0_pay1]

theorem pay4_gate (r : Fin 512) (l : Fin 1408) :
    k0_pay4 x0 x1 x2 (ix2 r ⟨l.val, by omega⟩) = ∑ q : Fin 1024, x0 (ix2 r q) * x1 (ix4 0 0 q l) := by
  pointwise [k0_pay4]
  exact pay2_at x0 x1 r l

theorem pay4_value (r : Fin 512) (l : Fin 1408) :
    k0_pay4 x0 x1 x2 (ix2 r ⟨1408 + l.val, by omega⟩) = ∑ q : Fin 1024, x0 (ix2 r q) * x2 (ix4 0 0 q l) := by
  pointwise [k0_pay4]
  exact pay3_at x0 x2 r l

theorem pay5_at (r : Fin 512) (l : Fin 1408) : k0_pay5 x0 x1 x2 (ix2 r l) = silu (∑ q : Fin 1024, x0 (ix2 r q) * x1 (ix4 0 0 q l)) * ∑ q : Fin 1024, x0 (ix2 r q) * x2 (ix4 0 0 q l) := by
  pointwise [k0_pay5, pay2_at, pay3_at]
  rw [zero_sub]
  rfl

end Cert.FfnUp

end
-- ==== Proof.Ffn.UpEntry.lean ====
/- The arrays the feed-forward network's first half finds when it starts, and the blocks its points read of them. -/
module

public import proofs.«01_k».proof.Proof.Gen.Kernel4Ideal.Frame
public import proofs.«01_k».proof.Proof.Ffn.UpPay

@[expose] public section

set_option maxRecDepth 16384

noncomputable section

namespace Cert.FfnUp

open Idealize.ShloMosaic Idealize.ShloMosaic.TcCoe Idealize.SL Idealize.SL.Sem Idealize.ShloMosaic.Pipeline
open Cert.Kernel4Ideal Cert.Kernel4Ideal.Gen

variable (m : (ℓ : Loc nD τ sig) → Buf (Elt Ideal) ℓ) (c : Dev nD)

/-- The row `r` of the activations times the column `f` of the two weights laid side by side. -/
def up (h : FVec Ideal S8192x1024 .f32) (w : FVec Ideal S1024x5632 .f32) (r : Fin 8192) (f : Fin 5632) : EReal :=
  ∑ q : Fin 1024, h (ix2 r q) * w (ix2 q f)

/-- The launch's activations and weights. -/
abbrev hid : FVec Ideal S8192x1024 .f32 := m ((c : Thread nD τ).loc main_arg0)
abbrev wgt : FVec Ideal S1024x5632 .f32 := m ((c : Thread nD τ).loc main_arg1)

theorem V_v4 (r : Fin 8192) (q : Fin 1024) : V m c main_v4 (ix2 r q) = hid m c (ix2 r q) := by
  simp only [V, V0, List.flatten_cons, List.flatten_nil, List.append_nil]
  after_results
  pointwise

theorem V_v3_eq : V m c main_v3 = truncf .bf16 (broadcastInDim S4x1x1024x1408 ![0, 2, 3] bcast_S4x1024x1408_S4x1x1024x1408_0_2_3
      (transpose S4x1024x1408 [1, 0, 2] (shapeCast S1024x4x1408 (wgt m c) shapeCasts_S1024x5632_S1024x4x1408)
        transposes_S1024x4x1408_S4x1024x1408_1_0_2)) bitsLt_bf16_f32 := by
  simp only [V, V0, List.flatten_cons, List.flatten_nil, List.append_nil]
  after_results
  rfl

/-- The weights cut in four, read at a column of the part `j`. -/
theorem V_v3 (j : Fin 4) (q : Fin 1024) (l : Fin 1408) :
    V m c main_v3 (ix4 j 0 q l) = wgt m c (ix2 q ⟨j.val * 1408 + l.val, by omega⟩) := by
  rw [V_v3_eq]
  pointwise

theorem idx0 : ∀ t : Fin cfg0.N, win0_0.index t = ![t.val % 16, 0] := by
  exact (by decide +kernel : ∀ t : Fin grid0.N, win0_0.index t = ![t.val % 16, 0])
theorem idx1 : ∀ t : Fin cfg0.N, win0_1.index t = ![t.val / 16, 0, 0, 0] := by
  exact (by decide +kernel : ∀ t : Fin grid0.N, win0_1.index t = ![t.val / 16, 0, 0, 0])
theorem idx2 : ∀ t : Fin cfg0.N, win0_2.index t = ![2 + t.val / 16, 0, 0, 0] := by
  exact (by decide +kernel : ∀ t : Fin grid0.N, win0_2.index t = ![2 + t.val / 16, 0, 0, 0])
theorem idx3 : ∀ t : Fin cfg0.N, win0_3.index t = ![t.val % 16, t.val / 16] := by
  exact (by decide +kernel : ∀ t : Fin grid0.N, win0_3.index t = ![t.val % 16, t.val / 16])
theorem idx4 : ∀ t : Fin cfg0.N, win0_4.index t = ![t.val % 16, t.val / 16] := by
  exact (by decide +kernel : ∀ t : Fin grid0.N, win0_4.index t = ![t.val % 16, t.val / 16])

theorem lt_N (t : Fin cfg0.N) : t.val < 32 := Nat.lt_of_lt_of_eq t.isLt N_0

theorem blk0 (t : Fin cfg0.N) (r : Fin 512) (q : Fin 1024) :
    iblk m c 0 t (ix2 r q) = hid m c (ix2 ⟨512 * (t.val % 16) + r.val, by omega⟩ q) := by
  refine Eq.trans ?_ (V_v4 m c ⟨512 * (t.val % 16) + r.val, by omega⟩ q)
  blk_ext [iblk, idx0 t]

theorem blk1 (t : Fin cfg0.N) (q : Fin 1024) (l : Fin 1408) :
    iblk m c 1 t (ix4 0 0 q l) = wgt m c (ix2 q ⟨t.val / 16 * 1408 + l.val, by have := lt_N t; omega⟩) := by
  have ht := lt_N t
  refine Eq.trans ?_ (V_v3 m c ⟨t.val / 16, by omega⟩ q l)
  blk_ext [iblk, idx1 t]

theorem blk2 (t : Fin cfg0.N) (q : Fin 1024) (l : Fin 1408) :
    iblk m c 2 t (ix4 0 0 q l) = wgt m c (ix2 q ⟨(2 + t.val / 16) * 1408 + l.val, by have := lt_N t; omega⟩) := by
  have ht := lt_N t
  refine Eq.trans ?_ (V_v3 m c ⟨2 + t.val / 16, by omega⟩ q l)
  blk_ext [iblk, idx2 t]

end Cert.FfnUp

end
-- ==== Proof.Ffn.UpVal.lean ====
/- What the feed-forward network's first half leaves in its arrays, in terms of the launch's. -/
module

public import proofs.«01_k».proof.Proof.Ffn.UpEntry
public import Idealize.ShloMosaic.Lib.Pipeline.ValueKit.Acc

@[expose] public section

set_option maxRecDepth 16384

noncomputable section

namespace Cert.FfnUp

open Idealize.ShloMosaic Idealize.ShloMosaic.TcCoe Idealize.SL Idealize.SL.Sem Idealize.ShloMosaic.Pipeline
open Cert.Kernel4Ideal Cert.Kernel4Ideal.Gen

variable (m : (ℓ : Loc nD τ sig) → Buf (Elt Ideal) ℓ) (c : Dev nD)

/-- The column of the weights that a column of the interleaved output comes from. -/
def src (f : ℕ) : ℕ := (2 * (f % 2816 / 1408) + f / 2816) * 1408 + f % 1408

theorem src_lt (f : Fin 5632) : src f.val < 5632 := by unfold src; omega

/-- The two products interleaved, whole. -/
def G3 (h : FVec Ideal S8192x1024 .f32) (w : FVec Ideal S1024x5632 .f32) (x : S8192x5632.Idx) : EReal := up h w (x 0) ⟨src (x 1).val, src_lt (x 1)⟩

theorem out3 (t : Fin cfg0.N) (r : Fin 512) (f : Fin 2816) :
    out0_3 (iblk m c 0 t) (iblk m c 1 t) (iblk m c 2 t) (ix2 r f) = up (hid m c) (wgt m c) ⟨512 * (t.val % 16) + r.val, by omega⟩
      ⟨src (2816 * (t.val / 16) + f.val), by have := lt_N t; unfold src; omega⟩ := by
  have ht := lt_N t
  frame_out
  by_cases hf : f.val < 1408
  · refine (pay4_gate _ _ _ r ⟨f.val, hf⟩).trans ?_
    simp only [blk0, blk1]
    unfold up
    refine Finset.sum_congr rfl fun q _ => congrArg (fun f : Fin 5632 => hid m c (ix2 _ q) * wgt m c (ix2 q f)) (Fin.ext ?_)
    show t.val / 16 * 1408 + f.val = src (2816 * (t.val / 16) + f.val)
    unfold src
    omega
  · have e : f = ⟨1408 + (f.val - 1408), by omega⟩ := Fin.ext (by show f.val = 1408 + (f.val - 1408); omega)
    refine (congrArg (fun f => k0_pay4 (iblk m c 0 t) (iblk m c 1 t) (iblk m c 2 t) (ix2 r f)) e).trans
      ((pay4_value _ _ _ r ⟨f.val - 1408, by omega⟩).trans ?_)
    simp only [blk0, blk2]
    unfold up
    refine Finset.sum_congr rfl fun q _ => congrArg (fun f : Fin 5632 => hid m c (ix2 _ q) * wgt m c (ix2 q f)) (Fin.ext ?_)
    show (2 + t.val / 16) * 1408 + (f.val - 1408) = src (2816 * (t.val / 16) + f.val)
    unfold src
    omega

theorem arr3 : (dats m 0 c).arrAt 3 cfg0.N = G3 (hid m c) (wgt m c) := by
  refine (dats m 0 c).arrAt_eq_of_covers 3 _ (by decide +kernel) fun t hf y => ?_
  have e0 : (((win0_3.blk t).view.emb y) 0).val = t.val % 16 * 512 + (y 0).val := by
    blk_simp
    rw [idx3 t]
    rfl
  have e1 : (((win0_3.blk t).view.emb y) 1).val = t.val / 16 * 2816 + (y 1).val := by
    blk_simp
    rw [idx3 t]
    rfl
  blk_simp
  rw [after0_3]
  have e := out3 m c t (y 0) (y 1)
  refine Eq.trans (congrArg (out0_3 (iblk m c 0 t) (iblk m c 1 t) (iblk m c 2 t)) (eq_ix2 y)) (e.trans ?_)
  unfold G3
  refine congrArg₂ (up (hid m c) (wgt m c)) (Fin.ext ?_) (Fin.ext ?_)
  · exact Eq.trans (congrArg (· + (y 0).val) (Nat.mul_comm 512 (t.val % 16))) e0.symm
  · exact congrArg src (Eq.trans (congrArg (· + (y 1).val) (Nat.mul_comm 2816 (t.val / 16))) e1.symm)

/-- The gated product, whole. -/
def G4 (h : FVec Ideal S8192x1024 .f32) (w : FVec Ideal S1024x5632 .f32) (x : S8192x2816.Idx) : EReal :=
  silu (up h w (x 0) ⟨(x 1).val, by have : (x 1).val < 2816 := (x 1).isLt; omega⟩)
    * up h w (x 0) ⟨2816 + (x 1).val, by have : (x 1).val < 2816 := (x 1).isLt; omega⟩

theorem out4 (t : Fin cfg0.N) (r : Fin 512) (l : Fin 1408) :
    out0_4 (iblk m c 0 t) (iblk m c 1 t) (iblk m c 2 t) (ix2 r l)
      = silu (up (hid m c) (wgt m c) ⟨512 * (t.val % 16) + r.val, by omega⟩ ⟨t.val / 16 * 1408 + l.val, by have := lt_N t; omega⟩)
        * up (hid m c) (wgt m c) ⟨512 * (t.val % 16) + r.val, by omega⟩ ⟨(2 + t.val / 16) * 1408 + l.val, by have := lt_N t; omega⟩ := by
  frame_out
  rw [pay5_at]
  simp only [blk0, blk1, blk2]
  rfl

theorem arr4 : (dats m 0 c).arrAt 4 cfg0.N = G4 (hid m c) (wgt m c) := by
  refine (dats m 0 c).arrAt_eq_of_covers 4 _ (by decide +kernel) fun t hf y => ?_
  have e0 : (((win0_4.blk t).view.emb y) 0).val = t.val % 16 * 512 + (y 0).val := by
    blk_simp
    rw [idx4 t]
    rfl
  have e1 : (((win0_4.blk t).view.emb y) 1).val = t.val / 16 * 1408 + (y 1).val := by
    blk_simp
    rw [idx4 t]
    rfl
  blk_simp
  rw [after0_4]
  have e := out4 m c t (y 0) (y 1)
  refine Eq.trans (congrArg (out0_4 (iblk m c 0 t) (iblk m c 1 t) (iblk m c 2 t)) (eq_ix2 y)) (e.trans ?_)
  unfold G4
  have f0 : 512 * (t.val % 16) + (y 0).val = (((win0_4.blk t).view.emb y) 0).val :=
    Eq.trans (congrArg (· + (y 0).val) (Nat.mul_comm 512 (t.val % 16))) e0.symm
  refine congrArg₂ (fun a b => silu a * b) (congrArg₂ (up (hid m c) (wgt m c)) (Fin.ext f0) (Fin.ext e1.symm))
    (congrArg₂ (up (hid m c) (wgt m c)) (Fin.ext f0) (Fin.ext ?_))
  show (2 + t.val / 16) * 1408 + (y 1).val = 2816 + (((win0_4.blk t).view.emb y) 1).val
  rw [e1, add_mul, add_assoc]

/-- The contents of the buffer `b` when the program ends. -/
abbrev fin (b : Ref sig .tc) : Buf (Elt Ideal) ((c : Thread nD τ).loc b) :=
  Pipeline.afterTail₀ cfgs (dats m) 0 (V0 m) [hostOps1] c b

/-- The three results at a token and a column. -/
theorem fin_at (r : Fin 8192) (f : Fin 2816) :
    fin m c main_v10 (ix2 r f) = up (hid m c) (wgt m c) r ⟨f.val, by omega⟩
      ∧ fin m c main_v14 (ix2 r f) = up (hid m c) (wgt m c) r ⟨2816 + f.val, by omega⟩
      ∧ fin m c main_v15 (ix2 r f) = G4 (hid m c) (wgt m c) (ix2 r f) := by
  have h3 := (dats m 0 c).withArrays_arrAt (by decide +kernel) (V0 m c) (A_eq m c) 3
  have h4 := (dats m 0 c).withArrays_arrAt (by decide +kernel) (V0 m c) (A_eq m c) 4
  simp only [fin, Pipeline.afterTail₀, List.flatten_cons, List.flatten_nil, List.append_nil]
  refine ⟨?_, ?_, ?_⟩
  · after_results
    pointwise
    refine (congrFun h3 _).trans ((congrFun (arr3 m c) _).trans ?_)
    unfold G3
    refine congrArg₂ (up (hid m c) (wgt m c)) (Fin.ext ?_) (Fin.ext ?_) <;> dsimp only [ix2_0, ix2_1, src] <;> omega
  · after_results
    pointwise
    refine (congrFun h3 _).trans ((congrFun (arr3 m c) _).trans ?_)
    unfold G3
    refine congrArg₂ (up (hid m c) (wgt m c)) (Fin.ext ?_) (Fin.ext ?_) <;> dsimp only [ix2_0, ix2_1, src] <;> omega
  · after_results
    pointwise
    exact (congrFun h4 _).trans (congrFun (arr4 m c) _)

end Cert.FfnUp

end
-- ==== Proof.Ffn.UpClaim.lean ====
/- The feed-forward network's first half and the plain lines end with equal results. -/
module

public import proofs.«01_k».proof.Defs
public import proofs.«01_k».proof.Proof.Gen.Reference4Ideal.Run
public import proofs.«01_k».proof.Proof.Gen.Reference4Ideal.Read
public import proofs.«01_k».proof.Proof.Ffn.UpVal

@[expose] public section

set_option maxRecDepth 16384

noncomputable section

namespace Cert.FfnUp

open Idealize.ShloMosaic Idealize.ShloMosaic.TcCoe Idealize.SL Idealize.SL.Sem Idealize.ShloMosaic.Pipeline

section Reference

open Cert.Reference4Ideal Cert.Reference4Ideal.Read

variable (h : FVec Ideal S8192x1024 .f32) (w : FVec Ideal S1024x5632 .f32)

theorem ref_gate (r : Fin 8192) (f : Fin 2816) : val_main_v1 (F := Ideal) h w (ix2 r f) = up h w r ⟨f.val, by omega⟩ := by
  pointwise [val_main_v1, val_main_v0]
  rfl

theorem ref_value (r : Fin 8192) (f : Fin 2816) : val_main_v2 (F := Ideal) h w (ix2 r f) = up h w r ⟨2816 + f.val, by omega⟩ := by
  pointwise [val_main_v2, val_main_v0]
  rfl

theorem ref_out (r : Fin 8192) (f : Fin 2816) : val_main_v4 (F := Ideal) h w (ix2 r f) = G4 h w (ix2 r f) := by
  pointwise [val_main_v4, val_main_v3, val_main_call0_v5, val_main_call0_v4, val_main_call0_v3, val_main_call0_v2, val_main_call0_v1, val_main_call0_v0, val_main_call0_cst, val_main_call0_cst_0, ref_gate, ref_value]
  rfl

end Reference

open Cert.Kernel4Ideal Cert.Kernel4Ideal.Gen

/-- The kernel's run: the three results, and the arguments as launched. -/
theorem kernel_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c : Thread nD τ).loc main_v10) = fin m c main_v10 ∧ r.2.mem ((c : Thread nD τ).loc main_v14) = fin m c main_v14
      ∧ r.2.mem ((c : Thread nD τ).loc main_v15) = fin m c main_v15
      ∧ r.2.mem ((c : Thread nD τ).loc main_arg0) = m ((c : Thread nD τ).loc main_arg0)
      ∧ r.2.mem ((c : Thread nD τ).loc main_arg1) = m ((c : Thread nD τ).loc main_arg1)) :=
  (θ_run _ _ _).mono (fun r h c => ⟨(h.1 c).2 main_v10 (by decide), (h.1 c).2 main_v14 (by decide), (h.1 c).2 main_v15 (by decide), h.2 c⟩)
    (θ_run_and (run_main m g) (unchanged m g))

theorem algebraic : Cert.algebraic_Kernel4Ideal_Reference4Ideal (hKernel4Ideal := Cert.Kernel4Ideal.Gen.facts)
    (hReference4Ideal := Cert.Reference4Ideal.Gen.facts) := by
  intro m g m' g' _ hagree
  refine ⟨fun c => fin m c main_v10, fun c => fin m c main_v14, fun c => fin m c main_v15, kernel_run m g, ?_⟩
  refine (θ_run _ _ _).mono (fun r h c => ?_) (Cert.Reference4Ideal.Value.run m' g')
  obtain ⟨h1, h2, h3, h4⟩ := h c
  obtain ⟨e0, e1⟩ := hagree c
  refine ⟨?_, ?_, ?_, h4⟩
  · rw [h1, e0, e1]
    refine (Cert.Reference4Ideal.Read.val_main_v1_eq _ _).trans ?_
    funext x
    obtain ⟨i, j, rfl⟩ : ∃ i j, x = ix2 i j := ⟨_, _, eq_ix2 x⟩
    exact (ref_gate _ _ i j).trans (fin_at m c i j).1.symm
  · rw [h2, e0, e1]
    refine (Cert.Reference4Ideal.Read.val_main_v2_eq _ _).trans ?_
    funext x
    obtain ⟨i, j, rfl⟩ : ∃ i j, x = ix2 i j := ⟨_, _, eq_ix2 x⟩
    exact (ref_value _ _ i j).trans (fin_at m c i j).2.1.symm
  · rw [h3, e0, e1]
    refine (Cert.Reference4Ideal.Read.val_main_v4_eq _ _).trans ?_
    funext x
    obtain ⟨i, j, rfl⟩ : ∃ i j, x = ix2 i j := ⟨_, _, eq_ix2 x⟩
    exact (ref_out _ _ i j).trans (fin_at m c i j).2.2.symm

end Cert.FfnUp

end
-- ==== Proof.Ffn.Cat.lean ====
/- Two arrays of columns side by side, and the order in which the feed-forward network's products visit their columns. -/
module

public import Idealize.ShloMosaic.Lib.ValueIdx
public import Idealize.ShloMosaic.Lib.Pointwise
public import Idealize.ShloMosaic.Lib.Pipeline.ValueKit.Acc

@[expose] public section

noncomputable section

namespace Cert.Ffn

open Idealize.ShloMosaic

/-- The columns of `a`, then those of `b`. -/
def cat (a b : FVec Ideal ⟨2, ![8192, 2816]⟩ .f32) (r : Fin 8192) (p : Fin 5632) : EReal :=
  if h : p.val < 2816 then a (ix2 r ⟨p.val, h⟩) else b (ix2 r ⟨p.val - 2816, by omega⟩)

/-- The block of columns that the interleaved operand holds at place `q`: a block of the one array beside the same
    block of the other. -/
def at4 (q : ℕ) : ℕ := q % 2 * 2 + q / 2

theorem at4_lt {q : ℕ} (h : q < 4) : at4 q < 4 := by unfold at4; omega

/-- Summing block by block in the interleaved order sums over all columns. -/
theorem sum_at4 (f : Fin 5632 → EReal) :
    ∑ q : Fin 4, ∑ l : Fin 1408, f ⟨at4 q.val * 1408 + l.val, by have := at4_lt q.isLt; omega⟩ = ∑ p : Fin 5632, f p := by
  refine Eq.trans ?_ (Fin.sum_mul_add_fin 4 1408 f)
  rw [Fin.sum_univ_four, Fin.sum_univ_four, add_right_comm (∑ l : Fin 1408, _)]
  rfl

end Cert.Ffn

end
-- ==== Proof.Ffn.Dw.lean ====
/- The gradient of the weights as a product over the tokens: what the kernel leaves in its array, in terms of the launch's. -/
module

public import proofs.«01_k».proof.Proof.Gen.Kernel5Ideal.Frame
public import proofs.«01_k».proof.Proof.Ffn.Cat
public import Idealize.ShloMosaic.Lib.Pipeline.ReadBack
public import Idealize.ShloMosaic.Lib.KernelVsHost
public import Idealize.ShloMosaic.Lib.Pipeline.ValueKit.Point

@[expose] public section

set_option maxRecDepth 16384

noncomputable section

namespace Cert.FfnDw

open Idealize.ShloMosaic Idealize.ShloMosaic.TcCoe Idealize.SL Idealize.SL.Sem Idealize.ShloMosaic.Pipeline
open Cert.Kernel5Ideal Cert.Kernel5Ideal.Gen Cert.Ffn

variable (m : (ℓ : Loc nD τ sig) → Buf (Elt Ideal) ℓ) (c : Dev nD)

/-- The launch's activations and its two arrays of columns. -/
abbrev hid : FVec Ideal S8192x1024 .f32 := m ((c : Thread nD τ).loc main_arg0)
abbrev dg : FVec Ideal S8192x2816 .f32 := m ((c : Thread nD τ).loc main_arg1)
abbrev du : FVec Ideal S8192x2816 .f32 := m ((c : Thread nD τ).loc main_arg2)

theorem V_v0 (r : Fin 8192) (q : Fin 1024) : V m c main_v0 (ix2 r q) = hid m c (ix2 r q) := by
  simp only [V, V0, List.flatten_cons, List.flatten_nil, List.append_nil]
  after_results
  pointwise

theorem V_v5_eq : V m c main_v5 = truncf .bf16 (shapeCast S8192x5632 (concatenate S8192x2x2x1408 2
      [⟨S8192x2x1x1408, shapeCast S8192x2x1x1408 (dg m c) shapeCasts_S8192x2816_S8192x2x1x1408⟩,
        ⟨S8192x2x1x1408, shapeCast S8192x2x1x1408 (du m c) shapeCasts_S8192x2816_S8192x2x1x1408⟩]
      concatenates_S8192x2x1x1408_S8192x2x1x1408_S8192x2x2x1408_d2) shapeCasts_S8192x2x2x1408_S8192x5632) bitsLt_bf16_f32 := by
  simp only [V, V0, List.flatten_cons, List.flatten_nil, List.append_nil]
  after_results
  rfl

/-- The interleaved operand, read at a column of the block at place `q`. -/
theorem V_v5 (r : Fin 8192) (q : Fin 4) (l : Fin 1408) : V m c main_v5 (ix2 r ⟨q.val * 1408 + l.val, by omega⟩)
    = cat (dg m c) (du m c) r ⟨at4 q.val * 1408 + l.val, by have := at4_lt q.isLt; omega⟩ := by
  rw [V_v5_eq]
  have hl := l.isLt
  have hq := q.isLt
  pointwise
  unfold cat at4
  dsimp only
  split_ifs
  · refine congrArg (fun f : Fin 2816 => dg m c (ix2 r f)) (Fin.ext ?_)
    dsimp only
    omega
  · exfalso
    omega
  · exfalso
    omega
  · refine congrArg (fun f : Fin 2816 => du m c (ix2 r f)) (Fin.ext ?_)
    dsimp only
    omega

theorem idx0 : ∀ t : Fin cfg0.N, win0_0.index t = ![t.val % 8, 0] := by
  exact (by decide +kernel : ∀ t : Fin grid0.N, win0_0.index t = ![t.val % 8, 0])
theorem idx1 : ∀ t : Fin cfg0.N, win0_1.index t = ![t.val % 8, t.val / 8] := by
  exact (by decide +kernel : ∀ t : Fin grid0.N, win0_1.index t = ![t.val % 8, t.val / 8])
theorem idx2 : ∀ t : Fin cfg0.N, win0_2.index t = ![at4 (t.val / 8), 0, 0] := by
  exact (by decide +kernel : ∀ t : Fin grid0.N, win0_2.index t = ![at4 (t.val / 8), 0, 0])

theorem div_lt (t : Fin cfg0.N) : t.val / 8 < 4 := by have : t.val < 32 := Nat.lt_of_lt_of_eq t.isLt N_0; omega

theorem blk0 (t : Fin cfg0.N) (r n : Fin 1024) :
    iblk m c 0 t (ix2 r n) = hid m c (ix2 ⟨t.val % 8 * 1024 + r.val, by omega⟩ n) := by
  refine Eq.trans ?_ (V_v0 m c ⟨t.val % 8 * 1024 + r.val, by omega⟩ n)
  blk_ext [iblk, idx0 t]

theorem blk1 (t : Fin cfg0.N) (r : Fin 1024) (l : Fin 1408) :
    iblk m c 1 t (ix2 r l) = cat (dg m c) (du m c) ⟨t.val % 8 * 1024 + r.val, by omega⟩
      ⟨at4 (t.val / 8) * 1408 + l.val, by have := at4_lt (div_lt t); omega⟩ := by
  refine Eq.trans ?_ (V_v5 m c ⟨t.val % 8 * 1024 + r.val, by omega⟩ ⟨t.val / 8, div_lt t⟩ l)
  blk_ext [iblk, idx1 t]

theorem pay1_at (x0 : Vec Ideal S1024x1024 .bf16) (x1 : Vec Ideal S1024x1408 .bf16) (n : Fin 1024) (l : Fin 1408) :
    k0_pay1 x0 x1 (ix2 n l) = ∑ r : Fin 1024, x0 (ix2 r n) * x1 (ix2 r l) := by
  pointwise [k0_pay1]

/-- What a point adds. -/
def part (t : Fin cfg0.N) (x : S1024x1408.Idx) : EReal := k0_pay1 (iblk m c 0 t) (iblk m c 1 t) x

theorem first (t : Fin cfg0.N) (h0 : t.val % 8 = 0) (x : S1024x1408.Idx) : (outsAt0 m c t.val t.isLt).2 x = 0 + part m c t x := by
  rw [outsAt0_A m c t h0 (by omega) (by omega), eq_ix2 x, zero_add]
  frame_out
  pointwise [k0_pay2]
  rfl

theorem step (t : Fin cfg0.N) (h0 : ¬ t.val % 8 = 0) (x : S1024x1408.Idx) :
    (outsAt0 m c t.val t.isLt).2 x = (outsAt0 m c (t.val - 1) (Nat.lt_of_le_of_lt (Nat.sub_le _ _) t.isLt)).2 x + part m c t x := by
  by_cases h2 : t.val % 8 = 7
  · rw [outsAt0_C m c t h0 (by omega) h2, eq_ix2 x]
    frame_out
    pointwise [k0_pay3]
    rw [read_unread_whole]
    rfl
  · rw [outsAt0_B m c t h0 (by omega) h2, eq_ix2 x]
    frame_out
    pointwise [k0_pay3]
    rw [read_unread_whole]
    rfl

theorem out_last (t : Fin cfg0.N) (h2 : t.val % 8 = 7) (n : Fin 1024) (l : Fin 1408) :
    (outsAt0 m c t.val t.isLt).1 (ix3 0 n l) = (outsAt0 m c t.val t.isLt).2 (ix2 n l) := by
  rw [outsAt0_C m c t (by omega) (by omega) h2]
  frame_out
  pointwise [k0_pay4]

/-- The product over all tokens. -/
def G (h : FVec Ideal S8192x1024 .f32) (a b : FVec Ideal S8192x2816 .f32) (n : Fin 1024) (p : Fin 5632) : EReal :=
  ∑ r : Fin 8192, h (ix2 r n) * cat a b r p

theorem last (t : Fin cfg0.N) (hf : t.val % 8 = 7) (n : Fin 1024) (l : Fin 1408) : (outsAt0 m c t.val t.isLt).1 (ix3 0 n l)
    = G (hid m c) (dg m c) (du m c) n ⟨at4 (t.val / 8) * 1408 + l.val, by have := at4_lt (div_lt t); omega⟩ := by
  rw [out_last m c t hf]
  refine (eq_sum_fin_of_reset_step_apply_of_flush (fun n h => (outsAt0 m c n h).2) 8 (fun _ => 0) (part m c)
    (fun t h x => first m c t h x) (fun t h x => step m c t h x) t hf (ix2 n l)).trans ?_
  rw [zero_add]
  refine Eq.trans ?_ (Fin.sum_mul_add_fin 8 1024 _)
  refine Finset.sum_congr rfl fun s _ => ?_
  unfold part
  rw [pay1_at]
  simp only [blk0, blk1]
  have e1 : (8 * (t.val / 8) + s.val) % 8 = s.val := by omega
  have e2 : (8 * (t.val / 8) + s.val) / 8 = t.val / 8 := by omega
  simp only [e1, e2]

/-- The array the kernel writes: the product, its columns cut in four. -/
def G2 (h : FVec Ideal S8192x1024 .f32) (a b : FVec Ideal S8192x2816 .f32) (j : Fin 4) (n : Fin 1024) (l : Fin 1408) : EReal :=
  G h a b n ⟨j.val * 1408 + l.val, by omega⟩

theorem arr2 : (dats m 0 c).arrAt 2 cfg0.N = fun x : S4x1024x1408.Idx => G2 (hid m c) (dg m c) (du m c) (x 0) (x 1) (x 2) := by
  refine (dats m 0 c).arrAt_eq_of_covers 2 _ (by decide +kernel) fun t hf y => ?_
  have y0 : (y 0).val < 1 := (y 0).isLt
  have e0 : (((win0_2.blk t).view.emb y) 0).val = at4 (t.val / 8) := by
    blk_simp
    rw [idx2 t]
    rfl
  have e1 : (((win0_2.blk t).view.emb y) 1).val = (y 1).val := by
    blk_simp
    rw [idx2 t]
    exact (show 0 * 1024 + (y 1).val = (y 1).val by omega)
  have e2 : (((win0_2.blk t).view.emb y) 2).val = (y 2).val := by
    blk_simp
    rw [idx2 t]
    exact (show 0 * 1408 + (y 2).val = (y 2).val by omega)
  have hy : y = ix3 (0 : Fin 1) (y 1) (y 2) := (eq_ix3 y).trans (congrArg (fun i : Fin 1 => ix3 i (y 1) (y 2)) (Fin.ext (Nat.lt_one_iff.mp y0)))
  blk_simp
  rw [after0_2]
  refine Eq.trans (congrArg (outsAt0 m c t.val t.isLt).1 hy) ((last m c t ((flush0_2 t).mp hf) (y 1) (y 2)).trans ?_)
  unfold G2
  refine congrArg₂ (G (hid m c) (dg m c) (du m c)) (Fin.ext e1.symm) (Fin.ext ?_)
  exact congrArg₂ (fun a b => a * 1408 + b) e0.symm e2.symm

/-- The contents of the buffer `b` when the program ends. -/
abbrev fin (b : Ref sig .tc) : Buf (Elt Ideal) ((c : Thread nD τ).loc b) :=
  Pipeline.afterTail₀ cfgs (dats m) 0 (V0 m) [hostOps1] c b

theorem fin_at (n : Fin 1024) (p : Fin 5632) : fin m c main_v9 (ix2 n p) = G (hid m c) (dg m c) (du m c) n p := by
  have h2 := (dats m 0 c).withArrays_arrAt (by decide +kernel) (V0 m c) (A_eq m c) 2
  simp only [fin, Pipeline.afterTail₀, List.flatten_cons, List.flatten_nil, List.append_nil]
  after_results
  pointwise
  refine (congrFun h2 _).trans ((congrFun (arr2 m c) _).trans ?_)
  unfold G2
  refine congrArg (G (hid m c) (dg m c) (du m c) n) (Fin.ext ?_)
  dsimp only [ix3_0, ix3_1, ix3_2]
  omega

end Cert.FfnDw

end
-- ==== Proof.Ffn.DwClaim.lean ====
/- The gradient of the weights, by the kernel and by the plain line, ends with equal results. -/
module

public import proofs.«01_k».proof.Defs
public import proofs.«01_k».proof.Proof.Gen.Reference5Ideal.Run
public import proofs.«01_k».proof.Proof.Gen.Reference5Ideal.Read
public import proofs.«01_k».proof.Proof.Ffn.Dw

@[expose] public section

set_option maxRecDepth 16384

noncomputable section

namespace Cert.FfnDw

open Idealize.ShloMosaic Idealize.ShloMosaic.TcCoe Idealize.SL Idealize.SL.Sem Idealize.ShloMosaic.Pipeline

section Reference

open Cert.Reference5Ideal Cert.Reference5Ideal.Read Cert.Ffn

variable (h : FVec Ideal S8192x1024 .f32) (a b : FVec Ideal S8192x2816 .f32)

theorem ref_cat (r : Fin 8192) (p : Fin 5632) : val_main_v1 (F := Ideal) a b (ix2 r p) = cat a b r p := by
  pointwise [val_main_v1]
  rfl

theorem ref_at (n : Fin 1024) (p : Fin 5632) : val_main_v2 (F := Ideal) h a b (ix2 n p) = G h a b n p := by
  pointwise [val_main_v2, val_main_v0, ref_cat]
  rfl

end Reference

open Cert.Kernel5Ideal Cert.Kernel5Ideal.Gen

/-- The kernel's run: the product, and the arguments as launched. -/
theorem kernel_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c : Thread nD τ).loc main_v9) = fin m c main_v9
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run _ _ _).mono (fun r h c => ⟨(h.1 c).2 main_v9 (by decide), h.2 c⟩) (θ_run_and (run_main m g) (unchanged m g))

theorem algebraic : Cert.algebraic_Kernel5Ideal_Reference5Ideal (hKernel5Ideal := Cert.Kernel5Ideal.Gen.facts)
    (hReference5Ideal := Cert.Reference5Ideal.Gen.facts) := by
  intro m g m' g' _ hagree
  refine ⟨fun c => fin m c main_v9, kernel_run m g, ?_⟩
  refine (θ_run _ _ _).mono (fun r h c => ?_) (Cert.Reference5Ideal.Value.run m' g')
  obtain ⟨h1, h2⟩ := h c
  obtain ⟨e0, e1, e2⟩ := hagree c
  refine ⟨?_, h2⟩
  rw [h1, e0, e1, e2]
  refine (Cert.Reference5Ideal.Read.val_main_v2_eq _ _ _).trans ?_
  funext x
  obtain ⟨i, j, rfl⟩ : ∃ i j, x = ix2 i j := ⟨_, _, eq_ix2 x⟩
  exact (ref_at _ _ _ i j).trans (fin_at m c i j).symm

end Cert.FfnDw

end
-- ==== Proof.Ffn.Dh.lean ====
/- The product with the transposed weights: what the kernel leaves in its array, in terms of the launch's. -/
module

public import proofs.«01_k».proof.Proof.Gen.Kernel6Ideal.Frame
public import proofs.«01_k».proof.Proof.Ffn.Cat
public import Idealize.ShloMosaic.Lib.Pipeline.ReadBack
public import Idealize.ShloMosaic.Lib.KernelVsHost
public import Idealize.ShloMosaic.Lib.Pipeline.ValueKit.Point

@[expose] public section

set_option maxRecDepth 16384

noncomputable section

namespace Cert.FfnDh

open Idealize.ShloMosaic Idealize.ShloMosaic.TcCoe Idealize.SL Idealize.SL.Sem Idealize.ShloMosaic.Pipeline
open Cert.Kernel6Ideal Cert.Kernel6Ideal.Gen Cert.Ffn

variable (m : (ℓ : Loc nD τ sig) → Buf (Elt Ideal) ℓ) (c : Dev nD)

/-- The launch's two arrays of columns and the weights. -/
abbrev dg : FVec Ideal S8192x2816 .f32 := m ((c : Thread nD τ).loc main_arg0)
abbrev du : FVec Ideal S8192x2816 .f32 := m ((c : Thread nD τ).loc main_arg1)
abbrev wgt : FVec Ideal S1024x5632 .f32 := m ((c : Thread nD τ).loc main_arg2)

theorem V_v3_eq : V m c main_v3 = truncf .bf16 (broadcastInDim S4x1x1024x1408 ![0, 2, 3] bcast_S4x1024x1408_S4x1x1024x1408_0_2_3
      (transpose S4x1024x1408 [1, 0, 2] (shapeCast S1024x4x1408 (wgt m c) shapeCasts_S1024x5632_S1024x4x1408)
        transposes_S1024x4x1408_S4x1024x1408_1_0_2)) bitsLt_bf16_f32 := by
  simp only [V]
  after_results
  rfl

/-- The weights cut in four, read at a column of the part `j`. -/
theorem V_v3 (j : Fin 4) (q : Fin 1024) (l : Fin 1408) :
    V m c main_v3 (ix4 j 0 q l) = wgt m c (ix2 q ⟨j.val * 1408 + l.val, by omega⟩) := by
  rw [V_v3_eq]
  pointwise

theorem V_v8_eq : V m c main_v8 = truncf .bf16 (shapeCast S8192x5632 (concatenate S8192x2x2x1408 2
      [⟨S8192x2x1x1408, shapeCast S8192x2x1x1408 (dg m c) shapeCasts_S8192x2816_S8192x2x1x1408⟩,
        ⟨S8192x2x1x1408, shapeCast S8192x2x1x1408 (du m c) shapeCasts_S8192x2816_S8192x2x1x1408⟩]
      concatenates_S8192x2x1x1408_S8192x2x1x1408_S8192x2x2x1408_d2) shapeCasts_S8192x2x2x1408_S8192x5632) bitsLt_bf16_f32 := by
  simp only [V]
  after_results
  rfl

/-- The interleaved operand, read at a column of the block at place `q`. -/
theorem V_v8 (r : Fin 8192) (q : Fin 4) (l : Fin 1408) : V m c main_v8 (ix2 r ⟨q.val * 1408 + l.val, by omega⟩)
    = cat (dg m c) (du m c) r ⟨at4 q.val * 1408 + l.val, by have := at4_lt q.isLt; omega⟩ := by
  rw [V_v8_eq]
  have hl := l.isLt
  have hq := q.isLt
  pointwise
  unfold cat at4
  dsimp only
  split_ifs
  · refine congrArg (fun f : Fin 2816 => dg m c (ix2 r f)) (Fin.ext ?_)
    dsimp only
    omega
  · exfalso
    omega
  · exfalso
    omega
  · refine congrArg (fun f : Fin 2816 => du m c (ix2 r f)) (Fin.ext ?_)
    dsimp only
    omega

theorem idx0 : ∀ t : Fin cfg0.N, win0_0.index t = ![t.val / 4, t.val % 4] := by
  exact (by decide +kernel : ∀ t : Fin grid0.N, win0_0.index t = ![t.val / 4, t.val % 4])
theorem idx1 : ∀ t : Fin cfg0.N, win0_1.index t = ![at4 (t.val % 4), 0, 0, 0] := by
  exact (by decide +kernel : ∀ t : Fin grid0.N, win0_1.index t = ![at4 (t.val % 4), 0, 0, 0])
theorem idx2 : ∀ t : Fin cfg0.N, win0_2.index t = ![t.val / 4, 0] := by
  exact (by decide +kernel : ∀ t : Fin grid0.N, win0_2.index t = ![t.val / 4, 0])

theorem lt_N (t : Fin cfg0.N) : t.val < 32 := Nat.lt_of_lt_of_eq t.isLt N_0

theorem blk0 (t : Fin cfg0.N) (r : Fin 1024) (l : Fin 1408) :
    iblk m c 0 t (ix2 r l) = cat (dg m c) (du m c) ⟨t.val / 4 * 1024 + r.val, by have := lt_N t; omega⟩
      ⟨at4 (t.val % 4) * 1408 + l.val, by have := at4_lt (Nat.mod_lt t.val (show 4 > 0 by omega)); omega⟩ := by
  have ht := lt_N t
  refine Eq.trans ?_ (V_v8 m c ⟨t.val / 4 * 1024 + r.val, by omega⟩ ⟨t.val % 4, by omega⟩ l)
  blk_ext [iblk, idx0 t]

theorem blk1 (t : Fin cfg0.N) (n : Fin 1024) (l : Fin 1408) :
    iblk m c 1 t (ix4 0 0 n l) = wgt m c (ix2 n
      ⟨at4 (t.val % 4) * 1408 + l.val, by have := at4_lt (Nat.mod_lt t.val (show 4 > 0 by omega)); omega⟩) := by
  refine Eq.trans ?_ (V_v3 m c ⟨at4 (t.val % 4), at4_lt (Nat.mod_lt _ (by omega))⟩ n l)
  blk_ext [iblk, idx1 t]

theorem pay1_at (x0 : Vec Ideal S1024x1408 .bf16) (x1 : Vec Ideal S1x1x1024x1408 .bf16) (r n : Fin 1024) :
    k0_pay1 x0 x1 (ix2 r n) = ∑ l : Fin 1408, x0 (ix2 r l) * x1 (ix4 0 0 n l) := by
  pointwise [k0_pay1]

/-- What a point adds. -/
def part (t : Fin cfg0.N) (x : S1024x1024.Idx) : EReal := k0_pay1 (iblk m c 0 t) (iblk m c 1 t) x

theorem first (t : Fin cfg0.N) (h0 : t.val % 4 = 0) (x : S1024x1024.Idx) : (outsAt0 m c t.val t.isLt).2 x = 0 + part m c t x := by
  rw [outsAt0_A m c t h0 (by omega) (by omega), eq_ix2 x, zero_add]
  frame_out
  pointwise [k0_pay2]
  rfl

theorem step (t : Fin cfg0.N) (h0 : ¬ t.val % 4 = 0) (x : S1024x1024.Idx) :
    (outsAt0 m c t.val t.isLt).2 x = (outsAt0 m c (t.val - 1) (Nat.lt_of_le_of_lt (Nat.sub_le _ _) t.isLt)).2 x + part m c t x := by
  by_cases h2 : t.val % 4 = 3
  · rw [outsAt0_C m c t h0 (by omega) h2, eq_ix2 x]
    frame_out
    pointwise [k0_pay3]
    rw [read_unread_whole]
    rfl
  · rw [outsAt0_B m c t h0 (by omega) h2, eq_ix2 x]
    frame_out
    pointwise [k0_pay3]
    rw [read_unread_whole]
    rfl

theorem out_last (t : Fin cfg0.N) (h2 : t.val % 4 = 3) (x : S1024x1024.Idx) :
    (outsAt0 m c t.val t.isLt).1 x = (outsAt0 m c t.val t.isLt).2 x := by
  rw [outsAt0_C m c t (by omega) (by omega) h2, eq_ix2 x]
  frame_out

/-- The product, whole. -/
def G (a b : FVec Ideal S8192x2816 .f32) (w : FVec Ideal S1024x5632 .f32) (r : Fin 8192) (n : Fin 1024) : EReal :=
  ∑ p : Fin 5632, cat a b r p * w (ix2 n p)

theorem last (t : Fin cfg0.N) (hf : t.val % 4 = 3) (r n : Fin 1024) :
    (outsAt0 m c t.val t.isLt).1 (ix2 r n) = G (dg m c) (du m c) (wgt m c) ⟨t.val / 4 * 1024 + r.val, by have := lt_N t; omega⟩ n := by
  rw [out_last m c t hf]
  refine (eq_sum_fin_of_reset_step_apply_of_flush (fun n h => (outsAt0 m c n h).2) 4 (fun _ => 0) (part m c)
    (fun t h x => first m c t h x) (fun t h x => step m c t h x) t hf (ix2 r n)).trans ?_
  rw [zero_add]
  refine Eq.trans ?_ (sum_at4 _)
  refine Finset.sum_congr rfl fun s _ => ?_
  unfold part
  rw [pay1_at]
  simp only [blk0, blk1]
  have e1 : (4 * (t.val / 4) + s.val) % 4 = s.val := by omega
  have e2 : (4 * (t.val / 4) + s.val) / 4 = t.val / 4 := by omega
  simp only [e1, e2]

theorem arr2 : (dats m 0 c).arrAt 2 cfg0.N = fun x : S8192x1024.Idx => G (dg m c) (du m c) (wgt m c) (x 0) (x 1) := by
  refine (dats m 0 c).arrAt_eq_of_covers 2 _ (by decide +kernel) fun t hf y => ?_
  have e0 : (((win0_2.blk t).view.emb y) 0).val = t.val / 4 * 1024 + (y 0).val := by
    blk_simp
    rw [idx2 t]
    rfl
  have e1 : (((win0_2.blk t).view.emb y) 1).val = (y 1).val := by
    blk_simp
    rw [idx2 t]
    exact (show 0 * 1024 + (y 1).val = (y 1).val by omega)
  blk_simp
  rw [after0_2]
  refine Eq.trans (congrArg (outsAt0 m c t.val t.isLt).1 (eq_ix2 y)) ((last m c t ((flush0_2 t).mp hf) (y 0) (y 1)).trans ?_)
  exact congrArg₂ (G (dg m c) (du m c) (wgt m c)) (Fin.ext e0.symm) (Fin.ext e1.symm)

end Cert.FfnDh

end
-- ==== Proof.Ffn.DhClaim.lean ====
/- The product with the transposed weights, by the kernel and by the plain line, ends with equal results. -/
module

public import proofs.«01_k».proof.Defs
public import proofs.«01_k».proof.Proof.Gen.Reference6Ideal.Run
public import proofs.«01_k».proof.Proof.Gen.Reference6Ideal.Read
public import proofs.«01_k».proof.Proof.Ffn.Dh

@[expose] public section

set_option maxRecDepth 16384

noncomputable section

namespace Cert.FfnDh

open Idealize.ShloMosaic Idealize.ShloMosaic.TcCoe Idealize.SL Idealize.SL.Sem Idealize.ShloMosaic.Pipeline

section Reference

open Cert.Reference6Ideal Cert.Reference6Ideal.Read Cert.Ffn

variable (a b : FVec Ideal S8192x2816 .f32) (w : FVec Ideal S1024x5632 .f32)

theorem ref_cat (r : Fin 8192) (p : Fin 5632) : val_main_v0 (F := Ideal) a b (ix2 r p) = cat a b r p := by
  pointwise [val_main_v0]
  rfl

theorem ref_at (r : Fin 8192) (n : Fin 1024) : val_main_v2 (F := Ideal) a b w (ix2 r n) = G a b w r n := by
  pointwise [val_main_v2, val_main_v1, ref_cat]
  rfl

end Reference

open Cert.Kernel6Ideal Cert.Kernel6Ideal.Gen

/-- The kernel's run: the product, and the arguments as launched. -/
theorem kernel_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c : Thread nD τ).loc main_v9) = (fun x : S8192x1024.Idx => G (dg m c) (du m c) (wgt m c) (x 0) (x 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run _ _ _).mono (fun r h c => ⟨((h.1 c).1 2).trans (arr2 m c), h.2 c⟩) (θ_run_and (run_main m g) (unchanged m g))

theorem algebraic : Cert.algebraic_Kernel6Ideal_Reference6Ideal (hKernel6Ideal := Cert.Kernel6Ideal.Gen.facts)
    (hReference6Ideal := Cert.Reference6Ideal.Gen.facts) := by
  intro m g m' g' _ hagree
  refine ⟨fun c => fun x : S8192x1024.Idx => G (dg m c) (du m c) (wgt m c) (x 0) (x 1), kernel_run m g, ?_⟩
  refine (θ_run _ _ _).mono (fun r h c => ?_) (Cert.Reference6Ideal.Value.run m' g')
  obtain ⟨h1, h2⟩ := h c
  obtain ⟨e0, e1, e2⟩ := hagree c
  refine ⟨?_, h2⟩
  rw [h1, e0, e1, e2]
  refine (Cert.Reference6Ideal.Read.val_main_v2_eq _ _ _).trans ?_
  funext x
  obtain ⟨i, j, rfl⟩ : ∃ i j, x = ix2 i j := ⟨_, _, eq_ix2 x⟩
  exact ref_at _ _ _ i j

end Cert.FfnDh

end
-- ==== Proof.Ffn.BackPay.lean ====
/- What one grid point of the feed-forward network's gradient computes, read at an index. -/
module

public import proofs.«01_k».proof.Proof.Gen.Kernel3Ideal.Frame
public import Idealize.ShloMosaic.Lib.Pointwise
public import Idealize.ShloMosaic.Lib.KernelVsHost
public import Idealize.ShloMosaic.Lib.ValueIdx
public import Idealize.ShloMosaic.Lib.Pipeline.ValueKit.Point
public import Idealize.ShloMosaic.Lib.Pipeline.ValueKit.Tiles

@[expose] public section

set_option maxRecDepth 16384

noncomputable section

namespace Cert.FfnBack

open Idealize.ShloMosaic Idealize.ShloMosaic.TcCoe
open Cert.Kernel3Ideal Cert.Kernel3Ideal.Gen

/-- The logistic. -/
def sg (g : EReal) : EReal := Ideal.div 1 (1 + Ideal.exp (-g))

/-- The gate's gradient, from the gate, the value and the gated product's gradient. -/
def dgate (a g u : EReal) : EReal := a * u * sg g * (1 + g * (1 - sg g))

/-- The value's gradient. -/
def dvalue (a g : EReal) : EReal := a * g * sg g

section Chains

variable (w : Vec Ideal S1408x1024 .bf16) (x : Vec Ideal S256x1024 .bf16) (a : FVec Ideal S256x1408 .f32) (g u : Vec Ideal S256x1408 .bf16)

theorem pay6_at (r : Fin 256) (l : Fin 1408) : k0_pay6 w x (ix2 r l) = ∑ k : Fin 1024, x (ix2 r k) * w (ix2 l k) := by
  pointwise [k0_pay6, k0_pay5]

theorem pay11_at (r : Fin 256) (l : Fin 1408) : k0_pay11 w x (ix2 r l) = ∑ k : Fin 1024, x (ix2 r k) * w (ix2 l k) := by
  pointwise [k0_pay11, k0_pay5]

theorem pay8_at (r : Fin 256) (l : Fin 1408) : k0_pay8 g (ix2 r l) = sg (g (ix2 r l)) := by
  pointwise [k0_pay8, k0_pay7]
  rw [zero_sub]
  rfl

theorem pay2_at (r : Fin 256) (l : Fin 1408) : k0_pay2 g (ix2 r l) = sg (g (ix2 r l)) := by
  pointwise [k0_pay2, k0_pay1]
  rw [zero_sub]
  rfl

theorem pay9_at (r : Fin 256) (l : Fin 1408) :
    k0_pay9 w x g u (ix2 r l) = dgate (∑ k : Fin 1024, x (ix2 r k) * w (ix2 l k)) (g (ix2 r l)) (u (ix2 r l)) := by
  pointwise [k0_pay9, k0_pay7, pay6_at, pay8_at]
  rfl

theorem pay10_at (r : Fin 256) (l : Fin 1408) :
    k0_pay10 w x g (ix2 r l) = dvalue (∑ k : Fin 1024, x (ix2 r k) * w (ix2 l k)) (g (ix2 r l)) := by
  pointwise [k0_pay10, k0_pay7, pay6_at, pay8_at]
  rfl

theorem pay3_at (r : Fin 256) (l : Fin 1408) : k0_pay3 a g u (ix2 r l) = dgate (a (ix2 r l)) (g (ix2 r l)) (u (ix2 r l)) := by
  pointwise [k0_pay3, k0_pay1, pay2_at]
  rfl

theorem pay4_at (r : Fin 256) (l : Fin 1408) : k0_pay4 a g (ix2 r l) = dvalue (a (ix2 r l)) (g (ix2 r l)) := by
  pointwise [k0_pay4, k0_pay1, pay2_at]
  rfl

end Chains

variable (x0 : Vec Ideal S512x1024 .bf16) (x1 : Vec Ideal S1408x1024 .bf16) (x2 : Vec Ideal S512x2816 .bf16)

/-- The gated product's gradient at a row and a column of the block. -/
def dprod (r : Fin 512) (l : Fin 1408) : EReal := ∑ k : Fin 1024, x0 (ix2 r k) * x1 (ix2 l k)

/-- The block's result: the gate's gradient in the first columns, the value's in the last. -/
def blockOut (r : Fin 512) (f : Fin 2816) : EReal :=
  if h : f.val < 1408 then
    dgate (dprod x0 x1 r ⟨f.val, h⟩) (x2 (ix2 r f)) (x2 (ix2 r ⟨1408 + f.val, by omega⟩))
  else dvalue (dprod x0 x1 r ⟨f.val - 1408, by omega⟩) (x2 (ix2 r ⟨f.val - 1408, by omega⟩))

theorem blockOut_gate (r : Fin 512) (l : Fin 1408) : blockOut x0 x1 x2 r ⟨l.val, by omega⟩
    = dgate (dprod x0 x1 r l) (x2 (ix2 r ⟨l.val, by omega⟩)) (x2 (ix2 r ⟨1408 + l.val, by omega⟩)) := dif_pos l.isLt

theorem blockOut_value (r : Fin 512) (l : Fin 1408) : blockOut x0 x1 x2 r ⟨1408 + l.val, by omega⟩
    = dvalue (dprod x0 x1 r l) (x2 (ix2 r ⟨l.val, by omega⟩)) := by
  unfold blockOut
  rw [dif_neg (by dsimp only; omega)]
  have e : 1408 + l.val - 1408 = l.val := by omega
  simp only [e]

/-- Rows and columns of a load. -/
theorem ld_w : View.ld x1 r0_0 = x1 := View.ld_unit_lit _ x1 (by decide)

theorem ld_top (r : Fin 256) (k : Fin 1024) : View.ld x0 r0_1 (ix2 r k) = x0 (ix2 ⟨r.val, by omega⟩ k) :=
  View.ld_unit_apply_of x0 _ _ _ _ _ (by intro a; fin_cases a <;> simp)

theorem ld_bot (r : Fin 256) (k : Fin 1024) : View.ld x0 r0_4 (ix2 r k) = x0 (ix2 ⟨256 + r.val, by omega⟩ k) :=
  View.ld_unit_apply_of x0 _ _ _ _ _ (by intro a; fin_cases a <;> simp)

theorem ld_g_top (r : Fin 256) (l : Fin 1408) : View.ld x2 r0_2 (ix2 r l) = x2 (ix2 ⟨r.val, by omega⟩ ⟨l.val, by omega⟩) :=
  View.ld_unit_apply_of x2 _ _ _ _ _ (by intro a; fin_cases a <;> simp)

theorem ld_u_top (r : Fin 256) (l : Fin 1408) : View.ld x2 r0_3 (ix2 r l) = x2 (ix2 ⟨r.val, by omega⟩ ⟨1408 + l.val, by omega⟩) :=
  View.ld_unit_apply_of x2 _ _ _ _ _ (by intro a; fin_cases a <;> simp)

theorem ld_g_bot (r : Fin 256) (l : Fin 1408) : View.ld x2 r0_5 (ix2 r l) = x2 (ix2 ⟨256 + r.val, by omega⟩ ⟨l.val, by omega⟩) :=
  View.ld_unit_apply_of x2 _ _ _ _ _ (by intro a; fin_cases a <;> simp)

theorem ld_u_bot (r : Fin 256) (l : Fin 1408) : View.ld x2 r0_6 (ix2 r l) = x2 (ix2 ⟨256 + r.val, by omega⟩ ⟨1408 + l.val, by omega⟩) :=
  View.ld_unit_apply_of x2 _ _ _ _ _ (by intro a; fin_cases a <;> simp)

theorem sum_top (r : Fin 256) (l : Fin 1408) :
    ∑ k : Fin 1024, View.ld x0 r0_1 (ix2 r k) * View.ld x1 r0_0 (ix2 l k) = dprod x0 x1 ⟨r.val, by omega⟩ l :=
  Finset.sum_congr rfl fun k _ => congrArg₂ (fun a b : EReal => a * b) (ld_top x0 r k) (congrFun (ld_w x1) _)

theorem sum_bot (r : Fin 256) (l : Fin 1408) :
    ∑ k : Fin 1024, View.ld x0 r0_4 (ix2 r k) * View.ld x1 r0_0 (ix2 l k) = dprod x0 x1 ⟨256 + r.val, by omega⟩ l :=
  Finset.sum_congr rfl fun k _ => congrArg₂ (fun a b : EReal => a * b) (ld_bot x0 r k) (congrFun (ld_w x1) _)

theorem dgate_congr {a a' g g' u u' : EReal} (ha : a = a') (hg : g = g') (hu : u = u') : dgate a g u = dgate a' g' u' := by
  rw [ha, hg, hu]

/-- The block after the point's four stores. -/
theorem out_at (y : S512x2816.Idx) : out0_3 x0 x1 x2 y = blockOut x0 x1 x2 (y 0) (y 1) := by
  unfold out0_3
  canon_tiles x h using cover0_3 _ _ _ _ y
  all_goals
    obtain ⟨r, l, rfl⟩ : ∃ (r : Fin 256) (l : Fin 1408), x = ix2 r l := ⟨_, _, eq_ix2 x⟩
  · have e0 : y 0 = (⟨256 + r.val, by omega⟩ : Fin 512) := Fin.ext h0
    have e1 : y 1 = (⟨1408 + l.val, by omega⟩ : Fin 2816) := Fin.ext h1
    rw [e0, e1]
    refine (pay4_at _ _ r l).trans (Eq.trans ?_ (blockOut_value x0 x1 x2 _ l).symm)
    exact congrArg₂ dvalue ((pay11_at _ _ r l).trans (sum_bot x0 x1 r l)) (ld_g_bot x2 r l)
  · have e0 : y 0 = (⟨256 + r.val, by omega⟩ : Fin 512) := Fin.ext h0
    have e1 : y 1 = (⟨l.val, by omega⟩ : Fin 2816) := Fin.ext h1
    rw [e0, e1]
    refine (pay3_at _ _ _ r l).trans (Eq.trans ?_ (blockOut_gate x0 x1 x2 _ l).symm)
    exact dgate_congr ((pay11_at _ _ r l).trans (sum_bot x0 x1 r l)) (ld_g_bot x2 r l) (ld_u_bot x2 r l)
  · have e0 : y 0 = (⟨r.val, by omega⟩ : Fin 512) := Fin.ext h0
    have e1 : y 1 = (⟨1408 + l.val, by omega⟩ : Fin 2816) := Fin.ext h1
    rw [e0, e1]
    refine (pay10_at _ _ _ r l).trans (Eq.trans ?_ (blockOut_value x0 x1 x2 _ l).symm)
    exact congrArg₂ dvalue (sum_top x0 x1 r l) (ld_g_top x2 r l)
  · have e0 : y 0 = (⟨r.val, by omega⟩ : Fin 512) := Fin.ext h0
    have e1 : y 1 = (⟨l.val, by omega⟩ : Fin 2816) := Fin.ext h1
    rw [e0, e1]
    refine (pay9_at _ _ _ _ r l).trans (Eq.trans ?_ (blockOut_gate x0 x1 x2 _ l).symm)
    exact dgate_congr (sum_top x0 x1 r l) (ld_g_top x2 r l) (ld_u_top x2 r l)

end Cert.FfnBack

end
-- ==== Proof.Ffn.BackVal.lean ====
/- What the feed-forward network's gradient leaves in its arrays, in terms of the launch's. -/
module

public import proofs.«01_k».proof.Proof.Ffn.BackPay
public import proofs.«01_k».proof.Proof.Ffn.Cat
public import Idealize.ShloMosaic.Lib.Pipeline.ValueKit.Acc

@[expose] public section

set_option maxRecDepth 16384

noncomputable section

namespace Cert.FfnBack

open Idealize.ShloMosaic Idealize.ShloMosaic.TcCoe Idealize.SL Idealize.SL.Sem Idealize.ShloMosaic.Pipeline
open Cert.Kernel3Ideal Cert.Kernel3Ideal.Gen Cert.Ffn

variable (m : (ℓ : Loc nD τ sig) → Buf (Elt Ideal) ℓ) (c : Dev nD)

/-- The launch's gates, values, second weights and cotangent. -/
abbrev gt : FVec Ideal S8192x2816 .f32 := m ((c : Thread nD τ).loc main_arg0)
abbrev vl : FVec Ideal S8192x2816 .f32 := m ((c : Thread nD τ).loc main_arg1)
abbrev wgt : FVec Ideal S2816x1024 .f32 := m ((c : Thread nD τ).loc main_arg2)
abbrev dy : FVec Ideal S8192x1024 .f32 := m ((c : Thread nD τ).loc main_arg3)

theorem V_v0 (r : Fin 8192) (k : Fin 1024) : V m c main_v0 (ix2 r k) = dy m c (ix2 r k) := by
  simp only [V, V0, List.flatten_cons, List.flatten_nil, List.append_nil]
  after_results
  pointwise

theorem V_v1 (f : Fin 2816) (k : Fin 1024) : V m c main_v1 (ix2 f k) = wgt m c (ix2 f k) := by
  simp only [V, V0, List.flatten_cons, List.flatten_nil, List.append_nil]
  after_results
  pointwise

theorem V_v6_eq : V m c main_v6 = truncf .bf16 (shapeCast S8192x5632 (concatenate S8192x2x2x1408 2
      [⟨S8192x2x1x1408, shapeCast S8192x2x1x1408 (gt m c) shapeCasts_S8192x2816_S8192x2x1x1408⟩,
        ⟨S8192x2x1x1408, shapeCast S8192x2x1x1408 (vl m c) shapeCasts_S8192x2816_S8192x2x1x1408⟩]
      concatenates_S8192x2x1x1408_S8192x2x1x1408_S8192x2x2x1408_d2) shapeCasts_S8192x2x2x1408_S8192x5632) bitsLt_bf16_f32 := by
  simp only [V, V0, List.flatten_cons, List.flatten_nil, List.append_nil]
  after_results
  rfl

/-- The interleaved operand at a column of the gates' block `q`, and at one of the values' block `q`. -/
theorem V_v6 (r : Fin 8192) (q : Fin 2) (l : Fin 1408) :
    V m c main_v6 (ix2 r ⟨q.val * 2816 + l.val, by omega⟩) = gt m c (ix2 r ⟨q.val * 1408 + l.val, by omega⟩)
      ∧ V m c main_v6 (ix2 r ⟨q.val * 2816 + (1408 + l.val), by omega⟩) = vl m c (ix2 r ⟨q.val * 1408 + l.val, by omega⟩) := by
  rw [V_v6_eq]
  have hl := l.isLt
  have hq := q.isLt
  constructor
  · pointwise
    split_ifs
    · refine congrArg (fun f : Fin 2816 => gt m c (ix2 r f)) (Fin.ext ?_)
      dsimp only
    · exfalso
      omega
  · pointwise
    split_ifs
    · exfalso
      omega
    · refine congrArg (fun f : Fin 2816 => vl m c (ix2 r f)) (Fin.ext ?_)
      dsimp only

theorem idx0 : ∀ t : Fin cfg0.N, win0_0.index t = ![t.val % 16, 0] := by
  exact (by decide +kernel : ∀ t : Fin grid0.N, win0_0.index t = ![t.val % 16, 0])
theorem idx1 : ∀ t : Fin cfg0.N, win0_1.index t = ![t.val / 16, 0] := by
  exact (by decide +kernel : ∀ t : Fin grid0.N, win0_1.index t = ![t.val / 16, 0])
theorem idx2 : ∀ t : Fin cfg0.N, win0_2.index t = ![t.val % 16, t.val / 16] := by
  exact (by decide +kernel : ∀ t : Fin grid0.N, win0_2.index t = ![t.val % 16, t.val / 16])
theorem idx3 : ∀ t : Fin cfg0.N, win0_3.index t = ![t.val % 16, t.val / 16] := by
  exact (by decide +kernel : ∀ t : Fin grid0.N, win0_3.index t = ![t.val % 16, t.val / 16])

theorem lt_N (t : Fin cfg0.N) : t.val < 32 := Nat.lt_of_lt_of_eq t.isLt N_0

theorem blk0 (t : Fin cfg0.N) (r : Fin 512) (k : Fin 1024) :
    iblk m c 0 t (ix2 r k) = dy m c (ix2 ⟨t.val % 16 * 512 + r.val, by omega⟩ k) := by
  refine Eq.trans ?_ (V_v0 m c ⟨t.val % 16 * 512 + r.val, by omega⟩ k)
  blk_ext [iblk, idx0 t]

theorem blk1 (t : Fin cfg0.N) (l : Fin 1408) (k : Fin 1024) :
    iblk m c 1 t (ix2 l k) = wgt m c (ix2 ⟨t.val / 16 * 1408 + l.val, by have := lt_N t; omega⟩ k) := by
  have ht := lt_N t
  refine Eq.trans ?_ (V_v1 m c ⟨t.val / 16 * 1408 + l.val, by omega⟩ k)
  blk_ext [iblk, idx1 t]

theorem blk2_gate (t : Fin cfg0.N) (r : Fin 512) (l : Fin 1408) : iblk m c 2 t (ix2 r ⟨l.val, by omega⟩)
    = gt m c (ix2 ⟨t.val % 16 * 512 + r.val, by omega⟩ ⟨t.val / 16 * 1408 + l.val, by have := lt_N t; omega⟩) := by
  have ht := lt_N t
  refine Eq.trans ?_ (V_v6 m c ⟨t.val % 16 * 512 + r.val, by omega⟩ ⟨t.val / 16, by omega⟩ l).1
  blk_ext [iblk, idx2 t]

theorem blk2_value (t : Fin cfg0.N) (r : Fin 512) (l : Fin 1408) : iblk m c 2 t (ix2 r ⟨1408 + l.val, by omega⟩)
    = vl m c (ix2 ⟨t.val % 16 * 512 + r.val, by omega⟩ ⟨t.val / 16 * 1408 + l.val, by have := lt_N t; omega⟩) := by
  have ht := lt_N t
  refine Eq.trans ?_ (V_v6 m c ⟨t.val % 16 * 512 + r.val, by omega⟩ ⟨t.val / 16, by omega⟩ l).2
  blk_ext [iblk, idx2 t]

/-- The gradient of the gated product at a token and a column. -/
def da (d : FVec Ideal S8192x1024 .f32) (w : FVec Ideal S2816x1024 .f32) (r : Fin 8192) (f : Fin 2816) : EReal :=
  ∑ k : Fin 1024, d (ix2 r k) * w (ix2 f k)

/-- The gate's gradient, and the value's. -/
def DG (g u : FVec Ideal S8192x2816 .f32) (w : FVec Ideal S2816x1024 .f32) (d : FVec Ideal S8192x1024 .f32) (r : Fin 8192) (f : Fin 2816) : EReal :=
  dgate (da d w r f) (g (ix2 r f)) (u (ix2 r f))
def DU (g : FVec Ideal S8192x2816 .f32) (w : FVec Ideal S2816x1024 .f32) (d : FVec Ideal S8192x1024 .f32) (r : Fin 8192) (f : Fin 2816) : EReal :=
  dvalue (da d w r f) (g (ix2 r f))

/-- The two interleaved. -/
def G3 (g u : FVec Ideal S8192x2816 .f32) (w : FVec Ideal S2816x1024 .f32) (d : FVec Ideal S8192x1024 .f32) (r : Fin 8192) (p : Fin 5632) : EReal :=
  if p.val % 2816 < 1408 then DG g u w d r ⟨p.val / 2816 * 1408 + p.val % 1408, by omega⟩
  else DU g w d r ⟨p.val / 2816 * 1408 + p.val % 1408, by omega⟩

theorem out3 (t : Fin cfg0.N) (r : Fin 512) (f : Fin 2816) :
    blockOut (iblk m c 0 t) (iblk m c 1 t) (iblk m c 2 t) r f
      = G3 (gt m c) (vl m c) (wgt m c) (dy m c) ⟨t.val % 16 * 512 + r.val, by omega⟩ ⟨t.val / 16 * 2816 + f.val, by have := lt_N t; omega⟩ := by
  have ht := lt_N t
  unfold G3
  by_cases hf : f.val < 1408
  · obtain ⟨l, rfl⟩ : ∃ l : Fin 1408, f = ⟨l.val, Nat.lt_trans l.isLt (by decide)⟩ := ⟨⟨f.val, hf⟩, rfl⟩
    rw [blockOut_gate, if_pos (by dsimp only; omega)]
    unfold DG da dprod
    simp only [blk0, blk1, blk2_gate, blk2_value]
    have e : (t.val / 16 * 2816 + l.val) / 2816 * 1408 + (t.val / 16 * 2816 + l.val) % 1408 = t.val / 16 * 1408 + l.val := by omega
    simp only [e]
  · obtain ⟨l, rfl⟩ : ∃ l : Fin 1408, f = ⟨1408 + l.val, Nat.add_lt_add_left l.isLt 1408⟩ :=
      ⟨⟨f.val - 1408, by omega⟩, Fin.ext (by dsimp only; omega)⟩
    rw [blockOut_value, if_neg (by dsimp only; omega)]
    unfold DU da dprod
    simp only [blk0, blk1, blk2_gate]
    have e : (t.val / 16 * 2816 + (1408 + l.val)) / 2816 * 1408 + (t.val / 16 * 2816 + (1408 + l.val)) % 1408
        = t.val / 16 * 1408 + l.val := by omega
    simp only [e]

theorem arr3 : (dats m 0 c).arrAt 3 cfg0.N = fun x : S8192x5632.Idx => G3 (gt m c) (vl m c) (wgt m c) (dy m c) (x 0) (x 1) := by
  refine (dats m 0 c).arrAt_eq_of_covers 3 _ (by decide +kernel) fun t hf y => ?_
  have e0 : (((win0_3.blk t).view.emb y) 0).val = t.val % 16 * 512 + (y 0).val := by
    blk_simp
    rw [idx3 t]
    rfl
  have e1 : (((win0_3.blk t).view.emb y) 1).val = t.val / 16 * 2816 + (y 1).val := by
    blk_simp
    rw [idx3 t]
    rfl
  blk_simp
  rw [after0_3]
  refine (out_at (iblk m c 0 t) (iblk m c 1 t) (iblk m c 2 t) y).trans ((out3 m c t (y 0) (y 1)).trans ?_)
  exact congrArg₂ (G3 (gt m c) (vl m c) (wgt m c) (dy m c)) (Fin.ext e0.symm) (Fin.ext e1.symm)

/-- The contents of the buffer `b` when the program ends. -/
abbrev fin (b : Ref sig .tc) : Buf (Elt Ideal) ((c : Thread nD τ).loc b) :=
  Pipeline.afterTail₀ cfgs (dats m) 0 (V0 m) [hostOps1] c b

/-- The two results at a token and a column. -/
theorem fin_at (r : Fin 8192) (f : Fin 2816) :
    fin m c main_v12 (ix2 r f) = DG (gt m c) (vl m c) (wgt m c) (dy m c) r f
      ∧ fin m c main_v16 (ix2 r f) = DU (gt m c) (wgt m c) (dy m c) r f := by
  have h3 := (dats m 0 c).withArrays_arrAt (by decide +kernel) (V0 m c) (A_eq m c) 3
  simp only [fin, Pipeline.afterTail₀, List.flatten_cons, List.flatten_nil, List.append_nil]
  refine ⟨?_, ?_⟩
  · after_results
    pointwise
    refine (congrFun h3 _).trans ((congrFun (arr3 m c) _).trans ?_)
    unfold G3
    rw [if_pos (by dsimp only [ix2_0, ix2_1]; omega)]
    refine congrArg₂ (DG (gt m c) (vl m c) (wgt m c) (dy m c)) (Fin.ext ?_) (Fin.ext ?_) <;> dsimp only [ix2_0, ix2_1] <;> omega
  · after_results
    pointwise
    refine (congrFun h3 _).trans ((congrFun (arr3 m c) _).trans ?_)
    unfold G3
    rw [if_neg (by dsimp only [ix2_0, ix2_1]; omega)]
    refine congrArg₂ (DU (gt m c) (wgt m c) (dy m c)) (Fin.ext ?_) (Fin.ext ?_) <;> dsimp only [ix2_0, ix2_1] <;> omega

end Cert.FfnBack

end
-- ==== Proof.Ffn.BackMath.lean ====
/- The gradient of a value times its logistic: the factored form and the sum of two products agree where the gradient
   that comes in is real. -/
module

public import proofs.«01_k».proof.Proof.Ffn.BackPay

@[expose] public section

noncomputable section

namespace Cert.FfnBack

open Idealize.ShloMosaic

/-- A value that is no infinity. -/
def IsReal (x : EReal) : Prop := ∃ r : ℝ, x = (r : EReal)

theorem isReal_zero : IsReal 0 := ⟨0, EReal.coe_zero.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem isReal_sum {n : ℕ} (f : Fin n → EReal) (h : ∀ i, IsReal (f i)) : IsReal (∑ i, f i) :=
  Finset.sum_induction f IsReal (fun _ _ => IsReal.add) isReal_zero fun i _ => h i

/-- A value whose magnitude is below the infinity is real. -/
theorem isReal_of_abs_lt {x : EReal} (h : max x (-x) < ⊤) : IsReal x := by
  obtain ⟨h1, h2⟩ := max_lt_iff.mp h
  induction x with
  | bot => exact absurd h2 (by simp)
  | top => exact absurd h1 (lt_irrefl _)
  | coe r => exact ⟨r, rfl⟩

theorem sg_top : sg ⊤ = 1 := by
  unfold sg Ideal.div
  simp

theorem sg_bot : sg ⊥ = 0 := by
  have e : (1 : EReal) + ⊤ = ⊤ := by simpa using EReal.coe_add_top 1
  unfold sg Ideal.div
  simp [e]

theorem sg_real (r : ℝ) : IsReal (sg (r : EReal)) := by
  have h : (1 + Real.exp (-r) : ℝ) ≠ 0 := (add_pos one_pos (Real.exp_pos _)).ne'
  refine ⟨1 / (1 + Real.exp (-r)), ?_⟩
  have e : (1 : EReal) + Ideal.exp (-(r : EReal)) = ((1 + Real.exp (-r) : ℝ) : EReal) := by
    rw [EReal.coe_add, EReal.coe_one, ← EReal.coe_neg, Ideal.exp_coe]
  unfold sg
  rw [e, Ideal.div_coe h, one_mul]

/-- The two forms of the gate's gradient. -/
theorem dgate_eq {a u : EReal} (g : EReal) (hp : IsReal (a * u)) :
    dgate a g u = a * u * sg g + g * (a * u) * (sg g * (1 - sg g)) := by
  unfold dgate
  obtain ⟨p, hp⟩ := hp
  rw [hp]
  have hone : (1 : EReal) - 1 = 0 := by
    rw [← EReal.coe_one, ← EReal.coe_sub, sub_self, EReal.coe_zero]
  induction g with
  | bot => rw [sg_bot]; simp
  | top => rw [sg_top, hone]; simp
  | coe r =>
    obtain ⟨s, hs⟩ := sg_real r
    rw [hs, ← EReal.coe_one]
    norm_cast
    ring

end Cert.FfnBack

end
-- ==== Proof.Ffn.BackClaim.lean ====
/- The feed-forward network's gradient, by the kernel and by differentiating the plain line, ends with equal results. -/
module

public import proofs.«01_k».proof.Defs
public import proofs.«01_k».proof.Proof.Gen.Reference3Ideal.Run
public import proofs.«01_k».proof.Proof.Gen.Reference3Ideal.Read
public import proofs.«01_k».proof.Proof.Ffn.BackVal
public import proofs.«01_k».proof.Proof.Ffn.BackMath

@[expose] public section

set_option maxRecDepth 16384

noncomputable section

namespace Cert.FfnBack

open Idealize.ShloMosaic Idealize.ShloMosaic.TcCoe Idealize.SL Idealize.SL.Sem Idealize.ShloMosaic.Pipeline

section Reference

open Cert.Reference3Ideal Cert.Reference3Ideal.Read

variable (g u : FVec Ideal S8192x2816 .f32) (w : FVec Ideal S2816x1024 .f32) (d : FVec Ideal S8192x1024 .f32)

theorem ref_sg (r : Fin 8192) (f : Fin 2816) : val_main_v0_2 (F := Ideal) g (ix2 r f) = sg (g (ix2 r f)) := by
  pointwise [val_main_v0_2, val_main_call0_v4, val_main_call0_v3, val_main_call0_v2, val_main_call0_v1, val_main_call0_v0, val_main_call0_cst, val_main_call0_cst_0]
  rfl

theorem ref_da (r : Fin 8192) (f : Fin 2816) : val_main_v3 (F := Ideal) w d (ix2 r f) = da d w r f := by
  pointwise [val_main_v3]
  rfl

theorem ref_value (r : Fin 8192) (f : Fin 2816) : val_main_v4 (F := Ideal) g w d (ix2 r f) = DU g w d r f := by
  pointwise [val_main_v4, val_main_v0_0, ref_sg, ref_da]
  unfold DU dvalue
  rw [mul_comm, mul_assoc]

theorem ref_gate (r : Fin 8192) (f : Fin 2816) : val_main_v6 (F := Ideal) g u w d (ix2 r f)
    = da d w r f * u (ix2 r f) * sg (g (ix2 r f)) + g (ix2 r f) * (da d w r f * u (ix2 r f)) * (sg (g (ix2 r f)) * (1 - sg (g (ix2 r f)))) := by
  pointwise [val_main_v6, val_main_call1_v2, val_main_call1_v1, val_main_call1_v0, val_main_v5, val_main_v0_1, val_main_call0_v7, val_main_call0_v6, val_main_call0_cst_1, ref_sg, ref_da]

end Reference

/-- The shape facts that the precondition states. -/
theorem pre_facts : Cert.Pre_finite.Facts := ⟨by decide, by decide, by decide⟩

/-- What the precondition says at an index. -/
theorem isReal_of_cmp {x y : EReal} (h : Ideal.cmp .olt (max x (-x)) y = 1#1) (hy : y = ⊤) : IsReal x := by
  subst hy
  refine isReal_of_abs_lt ?_
  by_contra hn
  unfold Ideal.cmp at h
  simp [hn] at h

theorem isReal_of_pre [Cert.Pre_finite.Facts] (g u : FVec Ideal Cert.Pre_finite.S8192x2816 .f32) (w : FVec Ideal Cert.Pre_finite.S2816x1024 .f32)
    (d : FVec Ideal Cert.Pre_finite.S8192x1024 .f32) (h1 : (Cert.Pre_finite.fn (F := Ideal) g u w d).1 = fun _ => 1#1)
    (h2 : (Cert.Pre_finite.fn (F := Ideal) g u w d).2.1 = fun _ => 1#1) (h3 : (Cert.Pre_finite.fn (F := Ideal) g u w d).2.2 = fun _ => 1#1) :
    (∀ r f, IsReal (u (ix2 r f))) ∧ (∀ f k, IsReal (w (ix2 f k))) ∧ ∀ r k, IsReal (d (ix2 r k)) := by
  have top : Ideal.ofBits .f32 0x7F800000#32 = ⊤ := by simp [Ideal.ofBits, Ideal.ieee]
  exact ⟨fun r f => isReal_of_cmp (congrFun h1 (ix2 r f)) top, fun f k => isReal_of_cmp (congrFun h2 (ix2 f k)) top,
    fun r k => isReal_of_cmp (congrFun h3 (ix2 r k)) top⟩

open Cert.Kernel3Ideal Cert.Kernel3Ideal.Gen

/-- The kernel's run: the two gradients, and the arguments as launched. -/
theorem kernel_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c : Thread nD τ).loc main_v12) = fin m c main_v12 ∧ r.2.mem ((c : Thread nD τ).loc main_v16) = fin m c main_v16
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run _ _ _).mono (fun r h c => ⟨(h.1 c).2 main_v12 (by decide), (h.1 c).2 main_v16 (by decide), h.2 c⟩)
    (θ_run_and (run_main m g) (unchanged m g))

theorem algebraic : Cert.algebraic_Kernel3Ideal_Reference3Ideal_pre_finite (hKernel3Ideal := Cert.Kernel3Ideal.Gen.facts)
    (hReference3Ideal := Cert.Reference3Ideal.Gen.facts) (hPre_finite := pre_facts) := by
  intro m g m' g' hpre hagree
  refine ⟨fun c => fin m c main_v12, fun c => fin m c main_v16, kernel_run m g, ?_⟩
  refine (θ_run _ _ _).mono (fun r h c => ?_) (Cert.Reference3Ideal.Value.run m' g')
  obtain ⟨h1, h2, h3⟩ := h c
  obtain ⟨e0, e1, e2, e3⟩ := hagree c
  obtain ⟨p1, p2, p3⟩ := hpre c
  letI := pre_facts
  obtain ⟨hu, hw, hd⟩ := isReal_of_pre _ _ _ _ p1 p2 p3
  refine ⟨?_, ?_, h3⟩
  · rw [h1, e0, e1, e2, e3]
    refine (Cert.Reference3Ideal.Read.val_main_v6_eq _ _ _ _).trans ?_
    funext x
    obtain ⟨i, j, rfl⟩ : ∃ i j, x = ix2 i j := ⟨_, _, eq_ix2 x⟩
    refine (ref_gate _ _ _ _ i j).trans (Eq.trans ?_ (fin_at m c i j).1.symm)
    exact (dgate_eq _ ((isReal_sum _ fun k => (hd i k).mul (hw j k)).mul (hu i j))).symm
  · rw [h2, e0, e2, e3]
    refine (Cert.Reference3Ideal.Read.val_main_v4_eq _ _ _).trans ?_
    funext x
    obtain ⟨i, j, rfl⟩ : ∃ i j, x = ix2 i j := ⟨_, _, eq_ix2 x⟩
    exact (ref_value _ _ _ i j).trans (fin_at m c i j).2.symm

end Cert.FfnBack

end
-- ==== Proof.Conv.Pay.lean ====
/- What one grid point of the gated convolution's gradient kernel computes, read at an index.

   A point of the grid is a tile of 512 tokens by 256 channels. The lemmas below say what each value of the body is
   in terms of the whole arrays, when the point's blocks are the tile's part of them (`Tile`). -/
module

public import proofs.«01_k».proof.Proof.Gen.KernelIdeal.Skeleton
public import Idealize.ShloMosaic.Lib.Pointwise
public import Idealize.ShloMosaic.Lib.KernelVsHost
public import Idealize.ShloMosaic.Lib.ValueIdx
public import Idealize.ShloMosaic.Lib.Pipeline.ValueKit.Point

@[expose] public section

set_option maxRecDepth 16384

noncomputable section

namespace Cert.GConv

open Idealize.ShloMosaic Idealize.ShloMosaic.TcCoe
open Cert.KernelIdeal Cert.KernelIdeal.Gen

/-- An array of tokens by channels read at natural numbers, zero outside it. -/
def rd (X : Fin 8192 → Fin 1024 → EReal) (r c : ℕ) : EReal :=
  if h : r < 8192 ∧ c < 1024 then X ⟨r, h.1⟩ ⟨c, h.2⟩ else 0

/-- The arrays of one launch: the three gates, the output's cotangent and the convolution's taps. -/
structure Arrs where
  B : ℕ → ℕ → EReal
  C : ℕ → ℕ → EReal
  V : ℕ → ℕ → EReal
  D : ℕ → ℕ → EReal
  W : ℕ → ℕ → EReal
  hD : ∀ r c, 8192 ≤ r → D r c = 0

namespace Arrs

variable (A : Arrs)

/-- The convolution's input, `k` of the three taps behind: zero before the first token. -/
def cvs (k r c : ℕ) : EReal := if r + k < 2 then 0 else A.C (r + k - 2) c * A.V (r + k - 2) c
/-- The convolution's output. -/
def u (r c : ℕ) : EReal := A.W 0 c * A.cvs 0 r c + A.W 1 c * A.cvs 1 r c + A.W 2 c * A.cvs 2 r c
/-- The cotangent of the convolution's output. -/
def du (r c : ℕ) : EReal := A.D r c * A.B r c
/-- The cotangent of the convolution's input. -/
def dcv (r c : ℕ) : EReal := A.W 0 c * A.du (r + 2) c + A.W 1 c * A.du (r + 1) c + A.W 2 c * A.du r c

theorem du_zero (r c : ℕ) (h : 8192 ≤ r) : A.du r c = 0 := by
  unfold du; rw [A.hD r c h, zero_mul]

end Arrs

/-- The blocks a point reads are the tile's part of the whole arrays: tokens from `512 * i`, channels from `c0`. -/
structure Tile (A : Arrs) (i c0 : ℕ) (x0 : Vec Ideal S512x768 .bf16) (x1 x2 : Vec Ideal S8x768 .bf16)
    (x3 : Vec Ideal S512x256 .bf16) (x4 : Vec Ideal S8x256 .bf16) (x5 : Vec Ideal S3x256 .f32) : Prop where
  hi : i < 16
  b : ∀ (r : Fin 512) (l : Fin 256), x0 (ix2 r ⟨l.val, by omega⟩) = A.B (512 * i + r.val) (c0 + l.val)
  c : ∀ (r : Fin 512) (l : Fin 256), x0 (ix2 r ⟨256 + l.val, by omega⟩) = A.C (512 * i + r.val) (c0 + l.val)
  v : ∀ (r : Fin 512) (l : Fin 256), x0 (ix2 r ⟨512 + l.val, by omega⟩) = A.V (512 * i + r.val) (c0 + l.val)
  pc : 0 < i → ∀ (r : Fin 8) (l : Fin 256), x1 (ix2 r ⟨256 + l.val, by omega⟩) = A.C (512 * i + r.val - 8) (c0 + l.val)
  pv : 0 < i → ∀ (r : Fin 8) (l : Fin 256), x1 (ix2 r ⟨512 + l.val, by omega⟩) = A.V (512 * i + r.val - 8) (c0 + l.val)
  nb : i < 15 → ∀ (r : Fin 8) (l : Fin 256), x2 (ix2 r ⟨l.val, by omega⟩) = A.B (512 * i + 512 + r.val) (c0 + l.val)
  d : ∀ (r : Fin 512) (l : Fin 256), x3 (ix2 r l) = A.D (512 * i + r.val) (c0 + l.val)
  nd : i < 15 → ∀ (r : Fin 8) (l : Fin 256), x4 (ix2 r l) = A.D (512 * i + 512 + r.val) (c0 + l.val)
  w : ∀ (k : Fin 3) (l : Fin 256), x5 (ix2 k l) = A.W k.val (c0 + l.val)

variable {A : Arrs} {i : grid0.Coords} {c0 : ℕ} {x0 : Vec Ideal S512x768 .bf16} {x1 x2 : Vec Ideal S8x768 .bf16}
  {x3 : Vec Ideal S512x256 .bf16} {x4 : Vec Ideal S8x256 .bf16} {x5 : Vec Ideal S3x256 .f32}

theorem sel_eq {n m : ℕ} (hn : n < 16) (hm : m < 16) {α : Type} (a b : α) :
    Scalar.select (Scalar.cmpi .eq (BitVec.ofNat 32 n) (BitVec.ofNat 32 m)) a b = if n = m then a else b := by
  have h : (Scalar.cmpi .eq (BitVec.ofNat 32 n) (BitVec.ofNat 32 m) = 1#1) ↔ n = m := by
    interval_cases n <;> interval_cases m <;> decide
  by_cases e : n = m
  · rw [if_pos e]; show (if _ = 1#1 then a else b) = a; rw [if_pos (h.mpr e)]
  · rw [if_neg e]; show (if _ = 1#1 then a else b) = b; rw [if_neg (fun k => e (h.mp k))]

/-- The tile with the eight rows before it: the convolution's input eight rows behind. -/
theorem pay9_at (T : Tile A (i 1).val c0 x0 x1 x2 x3 x4 x5) (r : Fin 520) (l : Fin 256) :
    k0_pay9 i x0 x1 (ix2 r l) = if 512 * (i 1).val + r.val < 8 then 0 else
      A.C (512 * (i 1).val + r.val - 8) (c0 + l.val) * A.V (512 * (i 1).val + r.val - 8) (c0 + l.val) := by
  have hi := T.hi
  pointwise [k0_pay9, k0_pay7, k0_pay8, k0_pay4]
  by_cases h : r.val < 8
  · rw [dif_pos h, sel_eq hi (m := 0) (by decide)]
    by_cases h0 : (i 1).val = 0
    · rw [if_pos h0, if_pos (by omega)]
    · rw [if_neg h0, if_neg (by omega), T.pc (by omega), T.pv (by omega)]
  · have hr : r.val - 8 < 512 := by omega
    have e : 512 * (i 1).val + (r.val - 8) = 512 * (i 1).val + r.val - 8 := by clear T; omega
    have h1 := T.c ⟨r.val - 8, hr⟩ l
    have h2 := T.v ⟨r.val - 8, hr⟩ l
    simp only [e] at h1 h2
    refine (dif_neg h).trans ((congrArg₂ (· * ·) h1 h2).trans (if_neg ?_).symm)
    clear T h1 h2
    omega

theorem pay10_at (T : Tile A (i 1).val c0 x0 x1 x2 x3 x4 x5) (r : Fin 512) (l : Fin 256) :
    k0_pay10 i x0 x1 (ix2 r l) = A.cvs 0 (512 * (i 1).val + r.val) (c0 + l.val) := by
  pointwise [k0_pay10]
  refine Eq.trans (congrArg (fun q : Fin 520 => k0_pay9 i x0 x1 (ix2 q l)) (Fin.ext (?_ : _ = r.val + 6) : _ = (⟨r.val + 6, by omega⟩ : Fin 520)))
    ((pay9_at T _ l).trans ?_)
  · dsimp only
    omega
  · unfold Arrs.cvs
    simp only [show 512 * (i 1).val + (r.val + 6) - 8 = 512 * (i 1).val + r.val + 0 - 2 by omega]
    exact if_congr (by omega) rfl rfl

theorem pay11_at (T : Tile A (i 1).val c0 x0 x1 x2 x3 x4 x5) (r : Fin 512) (l : Fin 256) :
    k0_pay11 i x0 x1 (ix2 r l) = A.cvs 1 (512 * (i 1).val + r.val) (c0 + l.val) := by
  pointwise [k0_pay11]
  refine Eq.trans (congrArg (fun q : Fin 520 => k0_pay9 i x0 x1 (ix2 q l)) (Fin.ext (?_ : _ = r.val + 7) : _ = (⟨r.val + 7, by omega⟩ : Fin 520)))
    ((pay9_at T _ l).trans ?_)
  · dsimp only
    omega
  · unfold Arrs.cvs
    simp only [show 512 * (i 1).val + (r.val + 7) - 8 = 512 * (i 1).val + r.val + 1 - 2 by omega]
    exact if_congr (by omega) rfl rfl

theorem pay12_at (T : Tile A (i 1).val c0 x0 x1 x2 x3 x4 x5) (r : Fin 512) (l : Fin 256) :
    k0_pay12 i x0 x1 (ix2 r l) = A.cvs 2 (512 * (i 1).val + r.val) (c0 + l.val) := by
  pointwise [k0_pay12]
  refine Eq.trans (congrArg (fun q : Fin 520 => k0_pay9 i x0 x1 (ix2 q l)) (Fin.ext (?_ : _ = r.val + 8) : _ = (⟨r.val + 8, by omega⟩ : Fin 520)))
    ((pay9_at T _ l).trans ?_)
  · dsimp only
    omega
  · unfold Arrs.cvs
    simp only [show 512 * (i 1).val + (r.val + 8) - 8 = 512 * (i 1).val + r.val + 2 - 2 by omega]
    exact if_congr (by omega) rfl rfl

theorem pay15_at (T : Tile A (i 1).val c0 x0 x1 x2 x3 x4 x5) (r : Fin 512) (l : Fin 256) :
    k0_pay15 (k0_pay5 x3) (k0_pay6 x0) (ix2 r l) = A.du (512 * (i 1).val + r.val) (c0 + l.val) := by
  pointwise [k0_pay15, k0_pay5, k0_pay6, k0_pay4]
  rw [T.d, T.b]
  rfl

/-- The taps' gradient of one tile: the sum over its tokens. -/
theorem pay16_at (T : Tile A (i 1).val c0 x0 x1 x2 x3 x4 x5) (k : Fin 3) (l : Fin 256) :
    k0_pay16 (k0_pay5 x3) (k0_pay6 x0) (k0_pay10 i x0 x1) (k0_pay11 i x0 x1) (k0_pay12 i x0 x1) (ix2 k l)
      = ∑ r : Fin 512, A.du (512 * (i 1).val + r.val) (c0 + l.val) * A.cvs k.val (512 * (i 1).val + r.val) (c0 + l.val) := by
  pointwise [k0_pay16]
  simp only [pay15_at T, pay10_at T, pay11_at T, pay12_at T]
  fin_cases k <;> rfl

/-- The first gate's gradient. -/
theorem pay17_db (T : Tile A (i 1).val c0 x0 x1 x2 x3 x4 x5) (r : Fin 512) (l : Fin 256) :
    k0_pay17 (BitVec.ofNat 32 (i 1).val) (k0_pay2 x2) (k0_pay3 x4) x5 (k0_pay5 x3) (k0_pay6 x0) (k0_pay7 x0) (k0_pay8 x0)
      (k0_pay12 i x0 x1) (k0_pay13 i x0 x1 x5) (k0_pay14 x5) (ix2 r ⟨l.val, by omega⟩)
      = A.D (512 * (i 1).val + r.val) (c0 + l.val) * A.u (512 * (i 1).val + r.val) (c0 + l.val) := by
  pointwise [k0_pay17, k0_pay13, k0_pay14, k0_pay5, k0_pay3, k0_pay2]
  simp only [pay10_at T, pay11_at T, pay12_at T, T.d, T.w]
  rfl

/-- The cotangent of the convolution's output, past the tile's last token into the next tile's first eight. -/
theorem ext2_at (T : Tile A (i 1).val c0 x0 x1 x2 x3 x4 x5) (l : Fin 256) (q q' : ℕ) (hq : q = q') (hlt : q' < 520) :
    (if h : q < 512 then k0_pay15 (k0_pay5 x3) (k0_pay6 x0) (ix2 ⟨q, h⟩ l) else
      Scalar.select (Scalar.cmpi CmpIPredicate.eq (BitVec.ofNat 32 (i 1).val) 15#32) 0
        (x4 (ix2 ⟨q - 512, by omega⟩ l) * x2 (ix2 ⟨q - 512, by omega⟩ ⟨l.val, by omega⟩)))
      = A.du (512 * (i 1).val + q') (c0 + l.val) := by
  subst hq
  have hi := T.hi
  by_cases h : q < 512
  · rw [dif_pos h, pay15_at T]
  · rw [dif_neg h, sel_eq hi (m := 15) (by decide)]
    by_cases h0 : (i 1).val = 15
    · rw [if_pos h0, A.du_zero _ _ (by clear T; omega)]
    · have e : 512 * (i 1).val + 512 + (q - 512) = 512 * (i 1).val + q := by clear T; omega
      have h1 := T.nd (by clear T; omega) ⟨q - 512, by omega⟩ l
      have h2 := T.nb (by clear T; omega) ⟨q - 512, by omega⟩ l
      simp only [e] at h1 h2
      rw [if_neg h0]
      exact congrArg₂ (· * ·) h1 h2

/-- The second gate's gradient. -/
theorem pay17_dc (T : Tile A (i 1).val c0 x0 x1 x2 x3 x4 x5) (r : Fin 512) (l : Fin 256) :
    k0_pay17 (BitVec.ofNat 32 (i 1).val) (k0_pay2 x2) (k0_pay3 x4) x5 (k0_pay5 x3) (k0_pay6 x0) (k0_pay7 x0) (k0_pay8 x0)
      (k0_pay12 i x0 x1) (k0_pay13 i x0 x1 x5) (k0_pay14 x5) (ix2 r ⟨256 + l.val, by omega⟩)
      = A.dcv (512 * (i 1).val + r.val) (c0 + l.val) * A.V (512 * (i 1).val + r.val) (c0 + l.val) := by
  pointwise [k0_pay17, k0_pay13, k0_pay14, k0_pay3, k0_pay2, k0_pay7, k0_pay8, k0_pay4]
  refine (congrArg₂ (· * ·) (congrArg₂ (· + ·) (congrArg₂ (· + ·)
    (congrArg₂ (· * ·) (T.w 0 l) (ext2_at T l ((r.val + 520 - 518) % 520) (r.val + 2) (by omega) (by omega)))
    (congrArg₂ (· * ·) (T.w 1 l) (ext2_at T l ((r.val + 520 - 519) % 520) (r.val + 1) (by omega) (by omega))))
    (congrArg₂ (· * ·) (T.w 2 l) (pay15_at T r l))) (T.v r l)).trans ?_
  simp only [← Nat.add_assoc]
  rfl

/-- The value's gradient. -/
theorem pay17_dv (T : Tile A (i 1).val c0 x0 x1 x2 x3 x4 x5) (r : Fin 512) (l : Fin 256) :
    k0_pay17 (BitVec.ofNat 32 (i 1).val) (k0_pay2 x2) (k0_pay3 x4) x5 (k0_pay5 x3) (k0_pay6 x0) (k0_pay7 x0) (k0_pay8 x0)
      (k0_pay12 i x0 x1) (k0_pay13 i x0 x1 x5) (k0_pay14 x5) (ix2 r ⟨512 + l.val, by omega⟩)
      = A.dcv (512 * (i 1).val + r.val) (c0 + l.val) * A.C (512 * (i 1).val + r.val) (c0 + l.val) := by
  pointwise [k0_pay17, k0_pay13, k0_pay14, k0_pay3, k0_pay2, k0_pay7, k0_pay8, k0_pay4]
  have hl : 512 + l.val - 256 - 256 < 256 := by omega
  refine (dif_neg (by omega)).trans ((dif_neg (by omega)).trans ?_)
  refine (congrArg₂ (· * ·) (congrArg₂ (· + ·) (congrArg₂ (· + ·)
    (congrArg₂ (· * ·) (T.w 0 ⟨_, hl⟩) (ext2_at T ⟨_, hl⟩ ((r.val + 520 - 518) % 520) (r.val + 2) (by omega) (by omega)))
    (congrArg₂ (· * ·) (T.w 1 ⟨_, hl⟩) (ext2_at T ⟨_, hl⟩ ((r.val + 520 - 519) % 520) (r.val + 1) (by omega) (by omega))))
    (congrArg₂ (· * ·) (T.w 2 ⟨_, hl⟩) (pay15_at T r ⟨_, hl⟩))) (T.c r ⟨_, hl⟩)).trans ?_
  simp only [← Nat.add_assoc, show 512 + l.val - 256 - 256 = l.val by omega]
  rfl

end Cert.GConv

end
-- ==== Proof.Conv.Arr.lean ====
/- Arrays as functions of natural numbers: the specification's operands from the launch's. -/
module

public import proofs.«01_k».proof.Proof.Conv.Pay

@[expose] public section

noncomputable section

namespace Cert.GConv

open Idealize.ShloMosaic

/-- The operands of the specification from the launch's five arrays. -/
def arrsOf (b c v d : Fin 8192 → Fin 1024 → EReal) (w : Fin 3 → Fin 1024 → EReal) : Arrs where
  B := rd b
  C := rd c
  V := rd v
  D := rd d
  W := fun k c' => if h : k < 3 ∧ c' < 1024 then w ⟨k, h.1⟩ ⟨c', h.2⟩ else 0
  hD := fun r c' h => dif_neg (fun k => absurd k.1 (by omega))

theorem rd_of (X : Fin 8192 → Fin 1024 → EReal) (r : Fin 8192) (q : Fin 1024) : rd X r.val q.val = X r q :=
  dif_pos ⟨r.isLt, q.isLt⟩

variable (b c v d : Fin 8192 → Fin 1024 → EReal) (w : Fin 3 → Fin 1024 → EReal)

/-- The convolution's input `k - 2` rows away, zero before the sequence. -/
theorem cvs_read (k : ℕ) (r : ℕ) (q : Fin 1024) (n : ℕ) (hn : n = r + k) (hr : n < 8194) :
    (arrsOf b c v d w).cvs k r q.val = if h : n < 2 then 0 else c ⟨n - 2, by omega⟩ q * v ⟨n - 2, by omega⟩ q := by
  subst hn
  unfold Arrs.cvs
  by_cases h : r + k < 2
  · rw [if_pos h, dif_pos h]
  · rw [if_neg h, dif_neg h]
    exact congrArg₂ (· * ·) (rd_of c ⟨r + k - 2, by omega⟩ q) (rd_of v ⟨r + k - 2, by omega⟩ q)

/-- The cotangent through the gate, zero after the sequence. -/
theorem du_read (n : ℕ) (q : Fin 1024) :
    (arrsOf b c v d w).du n q.val = if h : n < 8192 then d ⟨n, h⟩ q * b ⟨n, h⟩ q else 0 := by
  unfold Arrs.du
  by_cases h : n < 8192
  · rw [dif_pos h]
    exact congrArg₂ (· * ·) (rd_of d ⟨n, h⟩ q) (rd_of b ⟨n, h⟩ q)
  · rw [dif_neg h, (arrsOf b c v d w).hD n q.val (by omega), zero_mul]

theorem w_read (k : Fin 3) (q : Fin 1024) : (arrsOf b c v d w).W k.val q.val = w k q := dif_pos ⟨k.isLt, q.isLt⟩

end Cert.GConv

end
-- ==== Proof.Conv.Entry.lean ====
/- The arrays the gated convolution's gradient kernel finds when it starts, and the blocks its points read of them. -/
module

public import proofs.«01_k».proof.Proof.Gen.KernelIdeal.Frame
public import proofs.«01_k».proof.Proof.Conv.Arr

@[expose] public section

set_option maxRecDepth 16384

noncomputable section

namespace Cert.GConv

open Idealize.ShloMosaic Idealize.ShloMosaic.TcCoe Idealize.SL Idealize.SL.Sem
open Cert.KernelIdeal Cert.KernelIdeal.Gen

variable (m : (ℓ : Loc nD τ sig) → Buf (Elt Ideal) ℓ) (c : Dev nD)

/-- The launch's arrays, as functions of natural numbers. -/
def arrs : Arrs := arrsOf (fun r c' => m ((c : Thread nD τ).loc main_arg0) (ix2 r c')) (fun r c' => m ((c : Thread nD τ).loc main_arg1) (ix2 r c'))
  (fun r c' => m ((c : Thread nD τ).loc main_arg2) (ix2 r c')) (fun r c' => m ((c : Thread nD τ).loc main_arg4) (ix2 r c'))
  (fun k c' => m ((c : Thread nD τ).loc main_arg3) (ix2 k c'))

/-- The cotangent enters as given. -/
theorem V_v9 (r : Fin 8192) (q : Fin 1024) : V m c main_v9 (ix2 r q) = (arrs m c).D r.val q.val := by
  refine Eq.trans ?_ (rd_of (fun r c' => m ((c : Thread nD τ).loc main_arg4) (ix2 r c')) r q).symm
  simp only [V, V0, List.flatten_cons, List.flatten_nil, List.append_nil]
  after_results
  pointwise

/-- One gate's columns as a third axis of extent one. -/
def lay (X : FVec Ideal S8192x1024 .f32) : FVec Ideal S8192x4x1x256 .f32 :=
  broadcastInDim S8192x4x1x256 ![0, 1, 3] bcast_S8192x4x256_S8192x4x1x256_0_1_3 (shapeCast S8192x4x256 X shapeCasts_S8192x1024_S8192x4x256)

/-- The interleaved operand as one term. -/
theorem V_v8_eq : V m c main_v8 = truncf .bf16 (shapeCast S8192x3072 (concatenate S8192x4x3x256 2
      [⟨S8192x4x1x256, lay (m ((c : Thread nD τ).loc main_arg0))⟩, ⟨S8192x4x1x256, lay (m ((c : Thread nD τ).loc main_arg1))⟩,
        ⟨S8192x4x1x256, lay (m ((c : Thread nD τ).loc main_arg2))⟩] concatenates_S8192x4x1x256_S8192x4x1x256_S8192x4x1x256_S8192x4x3x256_d2)
      shapeCasts_S8192x4x3x256_S8192x3072) bitsLt_bf16_f32 := by
  simp only [V, V0, List.flatten_cons, List.flatten_nil, List.append_nil]
  after_results
  rfl

/-- The gate `k` of the arrays: the value gate, the convolution's gate, the convolution's value. -/
def gate (A : Arrs) (k : ℕ) : ℕ → ℕ → EReal := if k < 1 then A.B else if k - 1 < 1 then A.C else A.V

/-- The interleaved operand, read at a channel of the gate `k`. -/
theorem V_v8 (r : Fin 8192) (j : Fin 4) (k : Fin 3) (l : Fin 256) :
    V m c main_v8 (ix2 r ⟨768 * j.val + 256 * k.val + l.val, by omega⟩) = gate (arrs m c) k.val r.val (256 * j.val + l.val) := by
  have e : 256 * j.val + l.val = (⟨j.val * 256 + l.val, by omega⟩ : Fin 1024).val := by
    show 256 * j.val + l.val = j.val * 256 + l.val
    omega
  rw [V_v8_eq]
  pointwise [lay]
  rw [e]
  unfold gate
  split_ifs
  · exact (rd_of (fun r c' => m ((c : Thread nD τ).loc main_arg0) (ix2 r c')) r ⟨j.val * 256 + l.val, by omega⟩).symm
  · exact (rd_of (fun r c' => m ((c : Thread nD τ).loc main_arg1) (ix2 r c')) r ⟨j.val * 256 + l.val, by omega⟩).symm
  · exact (rd_of (fun r c' => m ((c : Thread nD τ).loc main_arg2) (ix2 r c')) r ⟨j.val * 256 + l.val, by omega⟩).symm

theorem idx0 : ∀ t : Fin cfg0.N, win0_0.index t = ![(grid0.coords t 1).val, (grid0.coords t 0).val] := by
  exact (by decide +kernel : ∀ t : Fin grid0.N, win0_0.index t = ![(grid0.coords t 1).val, (grid0.coords t 0).val])
theorem idx1 : ∀ t : Fin cfg0.N, win0_1.index t = ![64 * (grid0.coords t 1).val - 1, (grid0.coords t 0).val] := by
  exact (by decide +kernel : ∀ t : Fin grid0.N, win0_1.index t = ![64 * (grid0.coords t 1).val - 1, (grid0.coords t 0).val])
theorem idx2 : ∀ t : Fin cfg0.N, win0_2.index t = ![min (64 * (grid0.coords t 1).val + 64) 1023, (grid0.coords t 0).val] := by
  exact (by decide +kernel : ∀ t : Fin grid0.N, win0_2.index t = ![min (64 * (grid0.coords t 1).val + 64) 1023, (grid0.coords t 0).val])
theorem idx3 : ∀ t : Fin cfg0.N, win0_3.index t = ![(grid0.coords t 1).val, (grid0.coords t 0).val] := by
  exact (by decide +kernel : ∀ t : Fin grid0.N, win0_3.index t = ![(grid0.coords t 1).val, (grid0.coords t 0).val])
theorem idx4 : ∀ t : Fin cfg0.N, win0_4.index t = ![min (64 * (grid0.coords t 1).val + 64) 1023, (grid0.coords t 0).val] := by
  exact (by decide +kernel : ∀ t : Fin grid0.N, win0_4.index t = ![min (64 * (grid0.coords t 1).val + 64) 1023, (grid0.coords t 0).val])
theorem idx5 : ∀ t : Fin cfg0.N, win0_5.index t = ![0, (grid0.coords t 0).val] := by
  exact (by decide +kernel : ∀ t : Fin grid0.N, win0_5.index t = ![0, (grid0.coords t 0).val])
theorem idx6 : ∀ t : Fin cfg0.N, win0_6.index t = ![(grid0.coords t 1).val, (grid0.coords t 0).val] := by
  exact (by decide +kernel : ∀ t : Fin grid0.N, win0_6.index t = ![(grid0.coords t 1).val, (grid0.coords t 0).val])
theorem idx7 : ∀ t : Fin cfg0.N, win0_7.index t = ![0, (grid0.coords t 0).val] := by
  exact (by decide +kernel : ∀ t : Fin grid0.N, win0_7.index t = ![0, (grid0.coords t 0).val])
theorem crd0 : ∀ t : Fin cfg0.N, (grid0.coords t 0).val = t.val / 16 := by
  exact (by decide +kernel : ∀ t : Fin grid0.N, (grid0.coords t 0).val = t.val / 16)
theorem crd1 : ∀ t : Fin cfg0.N, (grid0.coords t 1).val = t.val % 16 := by
  exact (by decide +kernel : ∀ t : Fin grid0.N, (grid0.coords t 1).val = t.val % 16)

theorem blk0 (t : Fin cfg0.N) (r : Fin 512) (k : Fin 3) (l : Fin 256) :
    iblk m c 0 t (ix2 r ⟨256 * k.val + l.val, by omega⟩)
      = gate (arrs m c) k.val (512 * (grid0.coords t 1).val + r.val) (256 * (grid0.coords t 0).val + l.val) := by
  have h0 := crd0 t
  have h1 := crd1 t
  have ht : t.val < 64 := Nat.lt_of_lt_of_eq t.isLt N_0
  refine Eq.trans ?_ (V_v8 m c ⟨512 * (grid0.coords t 1).val + r.val, by omega⟩ ⟨(grid0.coords t 0).val, by omega⟩ k l)
  blk_ext [iblk, idx0 t]

theorem blk1 (t : Fin cfg0.N) (hi : 0 < (grid0.coords t 1).val) (r : Fin 8) (k : Fin 3) (l : Fin 256) :
    iblk m c 1 t (ix2 r ⟨256 * k.val + l.val, by omega⟩)
      = gate (arrs m c) k.val (512 * (grid0.coords t 1).val + r.val - 8) (256 * (grid0.coords t 0).val + l.val) := by
  have h0 := crd0 t
  have h1 := crd1 t
  have ht : t.val < 64 := Nat.lt_of_lt_of_eq t.isLt N_0
  refine Eq.trans ?_ (V_v8 m c ⟨512 * (grid0.coords t 1).val + r.val - 8, by omega⟩ ⟨(grid0.coords t 0).val, by omega⟩ k l)
  blk_ext [iblk, idx1 t]

theorem blk2 (t : Fin cfg0.N) (hi : (grid0.coords t 1).val < 15) (r : Fin 8) (k : Fin 3) (l : Fin 256) :
    iblk m c 2 t (ix2 r ⟨256 * k.val + l.val, by omega⟩)
      = gate (arrs m c) k.val (512 * (grid0.coords t 1).val + 512 + r.val) (256 * (grid0.coords t 0).val + l.val) := by
  have h0 := crd0 t
  have h1 := crd1 t
  have ht : t.val < 64 := Nat.lt_of_lt_of_eq t.isLt N_0
  refine Eq.trans ?_ (V_v8 m c ⟨512 * (grid0.coords t 1).val + 512 + r.val, by omega⟩ ⟨(grid0.coords t 0).val, by omega⟩ k l)
  blk_ext [iblk, idx2 t]

theorem blk3 (t : Fin cfg0.N) (r : Fin 512) (l : Fin 256) :
    iblk m c 3 t (ix2 r l) = (arrs m c).D (512 * (grid0.coords t 1).val + r.val) (256 * (grid0.coords t 0).val + l.val) := by
  have h0 := crd0 t
  have h1 := crd1 t
  have ht : t.val < 64 := Nat.lt_of_lt_of_eq t.isLt N_0
  refine Eq.trans ?_ (V_v9 m c ⟨512 * (grid0.coords t 1).val + r.val, by omega⟩ ⟨256 * (grid0.coords t 0).val + l.val, by omega⟩)
  blk_ext [iblk, idx3 t]

theorem blk4 (t : Fin cfg0.N) (hi : (grid0.coords t 1).val < 15) (r : Fin 8) (l : Fin 256) :
    iblk m c 4 t (ix2 r l) = (arrs m c).D (512 * (grid0.coords t 1).val + 512 + r.val) (256 * (grid0.coords t 0).val + l.val) := by
  have h0 := crd0 t
  have h1 := crd1 t
  have ht : t.val < 64 := Nat.lt_of_lt_of_eq t.isLt N_0
  refine Eq.trans ?_ (V_v9 m c ⟨512 * (grid0.coords t 1).val + 512 + r.val, by omega⟩ ⟨256 * (grid0.coords t 0).val + l.val, by omega⟩)
  blk_ext [iblk, idx4 t]

theorem blk5 (t : Fin cfg0.N) (k : Fin 3) (l : Fin 256) :
    iblk m c 5 t (ix2 k l) = (arrs m c).W k.val (256 * (grid0.coords t 0).val + l.val) := by
  have h0 := crd0 t
  have ht : t.val < 64 := Nat.lt_of_lt_of_eq t.isLt N_0
  have hl : 256 * (grid0.coords t 0).val + l.val < 1024 := by omega
  refine Eq.trans ?_ (dif_pos (⟨k.isLt, hl⟩ : k.val < 3 ∧ 256 * (grid0.coords t 0).val + l.val < 1024)).symm
  refine Eq.trans ?_ (congrFun (V_main_arg3 m c) (ix2 k ⟨256 * (grid0.coords t 0).val + l.val, hl⟩))
  blk_ext [iblk, idx5 t]

/-- At every grid point the six blocks are the tile of the launch's arrays that the point's coordinates name. -/
theorem tile (t : Fin cfg0.N) : Tile (arrs m c) (grid0.coords t 1).val (256 * (grid0.coords t 0).val)
    (iblk m c 0 t) (iblk m c 1 t) (iblk m c 2 t) (iblk m c 3 t) (iblk m c 4 t) (iblk m c 5 t) where
  hi := by have h1 := crd1 t; omega
  b r l := (congrArg (fun q => iblk m c 0 t (ix2 r q)) (Fin.ext (by show l.val = 256 * 0 + l.val; omega))).trans (blk0 m c t r 0 l)
  c r l := blk0 m c t r 1 l
  v r l := blk0 m c t r 2 l
  pc h r l := blk1 m c t h r 1 l
  pv h r l := blk1 m c t h r 2 l
  nb h r l := (congrArg (fun q => iblk m c 2 t (ix2 r q)) (Fin.ext (by show l.val = 256 * 0 + l.val; omega))).trans (blk2 m c t h r 0 l)
  d r l := blk3 m c t r l
  nd h r l := blk4 m c t h r l
  w k l := blk5 m c t k l

end Cert.GConv

end
-- ==== Proof.Conv.Value.lean ====
/- What the gated convolution's gradient kernel leaves in its two arrays. -/
module

public import proofs.«01_k».proof.Proof.Conv.Entry
public import Idealize.ShloMosaic.Lib.Pipeline.ValueKit.Acc

@[expose] public section

set_option maxRecDepth 16384

noncomputable section

namespace Cert.GConv

open Idealize.ShloMosaic Idealize.ShloMosaic.TcCoe Idealize.SL Idealize.SL.Sem Idealize.ShloMosaic.Pipeline
open Cert.KernelIdeal Cert.KernelIdeal.Gen

variable (m : (ℓ : Loc nD τ sig) → Buf (Elt Ideal) ℓ) (c : Dev nD)

/-- The gradient of the gate `k` at a token and a channel. -/
def dgate (A : Arrs) (k r c : ℕ) : EReal :=
  if k = 0 then A.D r c * A.u r c else if k = 1 then A.dcv r c * A.V r c else A.dcv r c * A.C r c

/-- Every point leaves its tile of the three gates' gradients. -/
theorem out6 (t : Fin cfg0.N) (r : Fin 512) (k : Fin 3) (l : Fin 256) :
    (outsAt0 m c t.val t.isLt).1 (ix2 r ⟨256 * k.val + l.val, by omega⟩)
      = dgate (arrs m c) k.val (512 * (grid0.coords t 1).val + r.val) (256 * (grid0.coords t 0).val + l.val) := by
  have T := tile m c t
  have hD : ∀ x : S512x768.Idx, (outsAt0 m c t.val t.isLt).1 x =
    k0_pay17 (BitVec.ofNat 32 (grid0.coords t 1).val) (k0_pay2 (iblk m c 2 t)) (k0_pay3 (iblk m c 4 t)) (iblk m c 5 t) (k0_pay5 (iblk m c 3 t)) (k0_pay6 (iblk m c 0 t)) (k0_pay7 (iblk m c 0 t)) (k0_pay8 (iblk m c 0 t))
      (k0_pay12 (grid0.coords t) (iblk m c 0 t) (iblk m c 1 t)) (k0_pay13 (grid0.coords t) (iblk m c 0 t) (iblk m c 1 t) (iblk m c 5 t)) (k0_pay14 (iblk m c 5 t)) x := by
    intro x
    by_cases h0 : t.val % 16 = 0
    · rw [outsAt0_A m c t h0 (by omega)]
      frame_out
    · rw [outsAt0_B m c t h0 (by omega)]
      frame_out
  rw [hD]
  fin_cases k
  · exact (congrArg _ (congrArg (ix2 r) (Fin.ext (by show 256 * 0 + l.val = l.val; omega)))).trans (pay17_db T r l)
  · exact pay17_dc T r l
  · exact pay17_dv T r l

/-- What a point adds to the taps' gradient. -/
def dwTile (A : Arrs) (i j : ℕ) (k l : ℕ) : EReal :=
  ∑ r : Fin 512, A.du (512 * i + r.val) (256 * j + l) * A.cvs k (512 * i + r.val) (256 * j + l)

theorem out7_first (t : Fin cfg0.N) (h0 : t.val % 16 = 0) (x : S3x256.Idx) :
    (outsAt0 m c t.val t.isLt).2 x = 0 + dwTile (arrs m c) (grid0.coords t 1).val (grid0.coords t 0).val (x 0).val (x 1).val := by
  have T := tile m c t
  rw [outsAt0_A m c t h0 (by omega), eq_ix2 x, zero_add]
  frame_out
  exact pay16_at T (x 0) (x 1)

theorem out7_step (t : Fin cfg0.N) (h0 : ¬ t.val % 16 = 0) (x : S3x256.Idx) :
    (outsAt0 m c t.val t.isLt).2 x = (outsAt0 m c (t.val - 1) (Nat.lt_of_le_of_lt (Nat.sub_le _ _) t.isLt)).2 x
      + dwTile (arrs m c) (grid0.coords t 1).val (grid0.coords t 0).val (x 0).val (x 1).val := by
  have T := tile m c t
  rw [outsAt0_B m c t h0 (by omega), eq_ix2 x]
  frame_out
  pointwise [k0_pay1]
  have e := pay16_at T (x 0) (x 1)
  rw [ix2_eta] at e
  exact congrArg ((outsAt0 m c (t.val - 1) (Nat.lt_of_le_of_lt (Nat.sub_le _ _) t.isLt)).2 x + ·) e

/-- The point that writes the taps' gradient back holds the sum over all tokens. -/
theorem out7_last (t : Fin cfg0.N) (hf : t.val % 16 = 15) (x : S3x256.Idx) :
    (outsAt0 m c t.val t.isLt).2 x = ∑ r : Fin 8192, (arrs m c).du r.val (256 * (t.val / 16) + (x 1).val)
      * (arrs m c).cvs (x 0).val r.val (256 * (t.val / 16) + (x 1).val) := by
  refine (eq_sum_fin_of_reset_step_apply_of_flush (fun n h => (outsAt0 m c n h).2) 16 (fun _ => 0)
    (fun t x => dwTile (arrs m c) (grid0.coords t 1).val (grid0.coords t 0).val (x 0).val (x 1).val)
    (fun t h x => out7_first m c t h x) (fun t h x => out7_step m c t h x) t hf x).trans ?_
  rw [zero_add]
  refine Eq.trans ?_ (Fin.sum_mul_add_fin 16 512 (fun r : Fin 8192 => (arrs m c).du r.val (256 * (t.val / 16) + (x 1).val)
      * (arrs m c).cvs (x 0).val r.val (256 * (t.val / 16) + (x 1).val)))
  refine Finset.sum_congr rfl fun s _ => ?_
  unfold dwTile
  rw [crd0, crd1]
  refine Finset.sum_congr rfl fun r _ => ?_
  have e1 : 512 * ((16 * (t.val / 16) + s.val) % 16) + r.val = s.val * 512 + r.val := by omega
  have e2 : (16 * (t.val / 16) + s.val) / 16 = t.val / 16 := by omega
  dsimp only
  rw [e1, e2]

/-- The taps' gradient, whole. -/
def G7 (A : Arrs) (x : S3x1024.Idx) : EReal := ∑ r : Fin 8192, A.du r.val (x 1).val * A.cvs (x 0).val r.val (x 1).val

theorem arr7 : (dats m 0 c).arrAt 7 cfg0.N = G7 (arrs m c) := by
  refine (dats m 0 c).arrAt_eq_of_covers 7 _ (by decide +kernel) fun t hf y => ?_
  blk_simp
  rw [after0_7]
  refine (out7_last m c t ((flush0_7 t).mp hf) y).trans ?_
  have h0 := crd0 t
  unfold G7
  blk_simp
  rw [idx7 t]
  have e0 : 0 * 3 + (y 0).val = (y 0).val := by omega
  have e1 : (grid0.coords t 0).val * 256 + (y 1).val = 256 * (t.val / 16) + (y 1).val := by omega
  show _ = ∑ x : Fin 8192, (arrs m c).du x.val ((grid0.coords t 0).val * 256 + (y 1).val)
    * (arrs m c).cvs (0 * 3 + (y 0).val) x.val ((grid0.coords t 0).val * 256 + (y 1).val)
  rw [e0, e1]

/-- The interleaved gradients, whole. -/
def G6 (A : Arrs) (x : S8192x3072.Idx) : EReal :=
  dgate A ((x 1).val % 768 / 256) (x 0).val (256 * ((x 1).val / 768) + (x 1).val % 256)

theorem arr6 : (dats m 0 c).arrAt 6 cfg0.N = G6 (arrs m c) := by
  refine (dats m 0 c).arrAt_eq_of_covers 6 _ (by decide +kernel) fun t hf y => ?_
  blk_simp
  rw [after0_6]
  have h0 := crd0 t
  unfold G6
  blk_simp
  rw [idx6 t]
  have h1 : (y 1).val < 768 := (y 1).isLt
  have h2 : (y 0).val < 512 := (y 0).isLt
  have e := out6 m c t ⟨(y 0).val, h2⟩ ⟨(y 1).val / 256, by omega⟩ ⟨(y 1).val % 256, by omega⟩
  show _ = dgate (arrs m c) (((grid0.coords t 0).val * 768 + (y 1).val) % 768 / 256) ((grid0.coords t 1).val * 512 + (y 0).val)
    (256 * (((grid0.coords t 0).val * 768 + (y 1).val) / 768) + ((grid0.coords t 0).val * 768 + (y 1).val) % 256)
  have f1 : ((grid0.coords t 0).val * 768 + (y 1).val) % 768 / 256 = (y 1).val / 256 := by omega
  have f2 : (grid0.coords t 1).val * 512 + (y 0).val = 512 * (grid0.coords t 1).val + (y 0).val := by omega
  have f3 : 256 * (((grid0.coords t 0).val * 768 + (y 1).val) / 768) + ((grid0.coords t 0).val * 768 + (y 1).val) % 256
      = 256 * (grid0.coords t 0).val + (y 1).val % 256 := by omega
  rw [f1, f2, f3]
  refine Eq.trans (congrArg (outsAt0 m c t.val t.isLt).1 ?_) e
  refine (eq_ix2 y).trans (congrArg₂ ix2 (Fin.ext rfl) (Fin.ext ?_))
  show (y 1).val = 256 * ((y 1).val / 256) + (y 1).val % 256
  omega

/-- The contents of the buffer `b` when the program ends. -/
abbrev fin (b : Ref sig .tc) : Buf (Elt Ideal) ((c : Thread nD τ).loc b) :=
  Pipeline.afterTail₀ cfgs (dats m) 0 (V0 m) [hostOps1] c b

/-- The three gates' gradients at a token and a channel. -/
theorem fin_gate (r : Fin 8192) (q : Fin 1024) :
    fin m c main_v15 (ix2 r q) = dgate (arrs m c) 0 r.val q.val ∧ fin m c main_v18 (ix2 r q) = dgate (arrs m c) 1 r.val q.val
      ∧ fin m c main_v21 (ix2 r q) = dgate (arrs m c) 2 r.val q.val := by
  have h6 := (dats m 0 c).withArrays_arrAt (by decide +kernel) (V0 m c) (A_eq m c) 6
  have hq : q.val < 1024 := q.isLt
  simp only [fin, Pipeline.afterTail₀, List.flatten_cons, List.flatten_nil, List.append_nil]
  refine ⟨?_, ?_, ?_⟩
  · after_results
    pointwise
    refine (congrFun h6 _).trans ((congrFun (arr6 m c) _).trans ?_)
    unfold G6
    dsimp only [ix2_0, ix2_1]
    congr 1 <;> omega
  · after_results
    pointwise
    refine (congrFun h6 _).trans ((congrFun (arr6 m c) _).trans ?_)
    unfold G6
    dsimp only [ix2_0, ix2_1]
    congr 1 <;> omega
  · after_results
    pointwise
    refine (congrFun h6 _).trans ((congrFun (arr6 m c) _).trans ?_)
    unfold G6
    dsimp only [ix2_0, ix2_1]
    congr 1 <;> omega

/-- The taps' gradient. -/
theorem fin_dw : fin m c main_v10_1 = G7 (arrs m c) := by
  simp only [fin, Pipeline.afterTail₀, List.flatten_cons, List.flatten_nil, List.append_nil]
  after_results
  exact ((dats m 0 c).withArrays_arrAt (by decide +kernel) (V0 m c) (A_eq m c) 7).trans (arr7 m c)

end Cert.GConv

end
-- ==== Proof.Conv.Ref.lean ====
/- What the gradient of the plain gated convolution computes, entry by entry. -/
module

public import proofs.«01_k».proof.Proof.Gen.ReferenceIdeal.Read
public import proofs.«01_k».proof.Proof.Conv.Arr

@[expose] public section

set_option maxRecDepth 16384

noncomputable section

namespace Cert.GConv.Ref

open Idealize.ShloMosaic Idealize.ShloMosaic.TcCoe Idealize.SL Idealize.SL.Sem
open Cert.ReferenceIdeal Cert.ReferenceIdeal.Read

variable (b c v d : FVec Ideal S8192x1024 .f32) (w : FVec Ideal S3x1024 .f32)

/-- The operands of the specification from the reference's five arguments. -/
abbrev A : Arrs := arrsOf (fun r q => b (ix2 r q)) (fun r q => c (ix2 r q)) (fun r q => v (ix2 r q)) (fun r q => d (ix2 r q))
  (fun k q => w (ix2 k q))

theorem db_at (r : Fin 8192) (q : Fin 1024) :
    val_main_v26 (F := Ideal) c v w d (ix2 r q) = (A b c v d w).D r.val q.val * (A b c v d w).u r.val q.val := by
  pointwise [val_main_v26, val_main_v23, val_main_v16, val_main_v9, val_main_v2, val_main_v0, val_main_v1, val_main_cst, val_main_v4, val_main_v10,
    val_main_v17, val_main_v22, val_main_v15, val_main_v8, val_main_v7, val_main_v6, val_main_v5, val_main_v14, val_main_v13, val_main_v12,
    val_main_v11, val_main_v21, val_main_v20, val_main_v19, val_main_v18]
  have h0 : (A b c v d w).W 0 q.val = w (ix2 0 q) := w_read _ _ _ _ _ 0 q
  have h1 : (A b c v d w).W 1 q.val = w (ix2 1 q) := w_read _ _ _ _ _ 1 q
  have h2 : (A b c v d w).W 2 q.val = w (ix2 2 q) := w_read _ _ _ _ _ 2 q
  have hd : (A b c v d w).D r.val q.val = d (ix2 r q) := rd_of (fun r q => d (ix2 r q)) r q
  unfold Arrs.u
  rw [h0, h1, h2, hd, cvs_read _ _ _ _ _ 0 r.val q r.val (by omega) (by omega), cvs_read _ _ _ _ _ 1 r.val q (1 + r.val) (by omega) (by omega),
    cvs_read _ _ _ _ _ 2 r.val q (2 + r.val) (by omega) (by omega), mul_comm (w (ix2 0 q)), mul_comm (w (ix2 1 q)), mul_comm (w (ix2 2 q)),
    dif_neg (show ¬2 + r.val < 2 by omega)]
  simp only [Nat.add_sub_cancel_left]

theorem dcv_at (r : Fin 8192) (q : Fin 1024) : val_main_v59 (F := Ideal) b w d (ix2 r q) = (A b c v d w).dcv r.val q.val := by
  pointwise [val_main_v59, val_main_v57, val_main_v46, val_main_v56, val_main_v35, val_main_v45, val_main_v31, val_main_v40, val_main_v51,
    val_main_cst_8, val_main_cst_12, val_main_v25, val_main_v30, val_main_v39, val_main_v50, val_main_v7, val_main_v6, val_main_v5, val_main_v13, val_main_v12,
    val_main_v11, val_main_v20, val_main_v19, val_main_v18]
  have h0 : (A b c v d w).W 0 q.val = w (ix2 0 q) := w_read _ _ _ _ _ 0 q
  have h1 : (A b c v d w).W 1 q.val = w (ix2 1 q) := w_read _ _ _ _ _ 1 q
  have h2 : (A b c v d w).W 2 q.val = w (ix2 2 q) := w_read _ _ _ _ _ 2 q
  unfold Arrs.dcv
  rw [h0, h1, h2, du_read, du_read, du_read, dif_pos r.isLt, add_comm (w (ix2 0 q) * _ + _), add_comm (w (ix2 0 q) * _), ← add_assoc]
  refine congrArg₂ (· + ·) (congrArg₂ (· + ·) ?_ ?_) ?_
  · rw [mul_comm (w _), mul_comm (d _)]
  · by_cases h : r.val + 1 < 8192
    · rw [dif_pos (by omega), dif_pos h, mul_comm (w _), mul_comm (d _)]
      simp only [show 2 + r.val - 1 = r.val + 1 by omega]
    · rw [dif_neg (by omega), dif_neg h, mul_zero]
  · by_cases h : r.val + 2 < 8192
    · rw [dif_pos (by omega), dif_pos h, mul_comm (w _), mul_comm (d _)]
      simp only [show 2 + r.val = r.val + 2 by omega]
    · rw [dif_neg (by omega), dif_neg h, mul_zero]

theorem tap0_at (r : Fin 8192) (q : Fin 1024) :
    val_main_v47 (F := Ideal) b c v d (ix2 r q) = (A b c v d w).du r.val q.val * (A b c v d w).cvs 0 r.val q.val := by
  pointwise [val_main_v47, val_main_v25, val_main_v2, val_main_v0, val_main_v1, val_main_cst, val_main_v4]
  rw [cvs_read _ _ _ _ _ 0 r.val q r.val (by omega) (by omega), du_read, dif_pos r.isLt, mul_comm (d _), mul_comm (b _ * _)]

theorem tap1_at (r : Fin 8192) (q : Fin 1024) :
    val_main_v36 (F := Ideal) b c v d (ix2 r q) = (A b c v d w).du r.val q.val * (A b c v d w).cvs 1 r.val q.val := by
  pointwise [val_main_v36, val_main_v25, val_main_v2, val_main_v0, val_main_v1, val_main_cst, val_main_v10]
  rw [cvs_read _ _ _ _ _ 1 r.val q (1 + r.val) (by omega) (by omega), du_read, dif_pos r.isLt, mul_comm (d _), mul_comm (b _ * _)]

theorem tap2_at (r : Fin 8192) (q : Fin 1024) :
    val_main_v27 (F := Ideal) b c v d (ix2 r q) = (A b c v d w).du r.val q.val * (A b c v d w).cvs 2 r.val q.val := by
  pointwise [val_main_v27, val_main_v25, val_main_v2, val_main_v0, val_main_v1, val_main_cst, val_main_v17]
  rw [cvs_read _ _ _ _ _ 2 r.val q (2 + r.val) (by omega) (by omega), du_read, dif_pos r.isLt, dif_neg (by omega), mul_comm (d _), mul_comm (b _ * _)]
  simp only [Nat.add_sub_cancel_left]

theorem dw_at (k : Fin 3) (q : Fin 1024) : val_main_v55 (F := Ideal) b c v d (ix2 k q)
    = ∑ r : Fin 8192, (A b c v d w).du r.val q.val * (A b c v d w).cvs k.val r.val q.val := by
  pointwise [val_main_v55, val_main_v44, val_main_v34, val_main_v43, val_main_v54, val_main_v33, val_main_v42, val_main_v53, val_main_cst_3, val_main_cst_7, val_main_cst_11,
    val_main_v32, val_main_v29, val_main_v28, val_main_v41, val_main_v38, val_main_v37, val_main_v52, val_main_v49, val_main_v48,
    val_main_cst_1, val_main_cst_2, val_main_cst_5, val_main_cst_6, val_main_cst_9, val_main_cst_10]
  simp only [tap0_at b c v d w, tap1_at b c v d w, tap2_at b c v d w]
  fin_cases k <;> simp

end Cert.GConv.Ref

end
-- ==== Proof.Conv.Claim.lean ====
/- The gated convolution's gradient kernel and the gradient of the plain lines end with equal results. -/
module

public import proofs.«01_k».proof.Defs
public import proofs.«01_k».proof.Proof.Gen.ReferenceIdeal.Run
public import proofs.«01_k».proof.Proof.Conv.Value
public import proofs.«01_k».proof.Proof.Conv.Ref

@[expose] public section

set_option maxRecDepth 16384

noncomputable section

namespace Cert.GConv

open Idealize.ShloMosaic Idealize.ShloMosaic.TcCoe Idealize.SL Idealize.SL.Sem Idealize.ShloMosaic.Pipeline
open Cert.KernelIdeal Cert.KernelIdeal.Gen

/-- The kernel's run: the three gates' gradients, the taps' gradient, and the arguments as launched. -/
theorem kernel_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c : Thread nD τ).loc main_v15) = fin m c main_v15 ∧ r.2.mem ((c : Thread nD τ).loc main_v18) = fin m c main_v18
      ∧ r.2.mem ((c : Thread nD τ).loc main_v21) = fin m c main_v21 ∧ r.2.mem ((c : Thread nD τ).loc main_v10_1) = G7 (arrs m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run _ _ _).mono (fun r h c => ⟨(h.1 c).2 main_v15 (by decide), (h.1 c).2 main_v18 (by decide), (h.1 c).2 main_v21 (by decide),
    ((h.1 c).1 7).trans (arr7 m c), h.2 c⟩) (θ_run_and (run_main m g) (unchanged m g))

theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => fin m c main_v15, fun c => fin m c main_v18, fun c => fin m c main_v21, fun c => G7 (arrs m c), kernel_run m g, ?_⟩
  refine (θ_run _ _ _).mono (fun r h c => ?_) (Cert.ReferenceIdeal.Value.run m' g')
  obtain ⟨h1, h2, h3, h4, h5⟩ := h c
  obtain ⟨e0, e1, e2, e3, e4⟩ := hagree c
  refine ⟨?_, ?_, ?_, ?_, h5⟩
  · rw [h1]
    refine (Cert.ReferenceIdeal.Read.val_main_v26_eq _ _ _ _).trans ?_
    funext x
    obtain ⟨i, j, rfl⟩ : ∃ i j, x = ix2 i j := ⟨_, _, eq_ix2 x⟩
    refine (Ref.db_at (m ((c : Thread nD τ).loc main_arg0)) _ _ _ _ i j).trans ?_
    rw [e1, e2, e3, e4]
    exact (fin_gate m c i j).1.symm
  · rw [h2]
    refine (Cert.ReferenceIdeal.Read.val_main_v61_eq _ _ _ _).trans ?_
    rw [e0, e2, e3, e4]
    funext x
    obtain ⟨i, j, rfl⟩ : ∃ i j, x = ix2 i j := ⟨_, _, eq_ix2 x⟩
    refine Eq.trans (congrArg₂ (· * ·) (Ref.dcv_at _ (m ((c : Thread nD τ).loc main_arg1)) (m ((c : Thread nD τ).loc main_arg2)) _ _ i j) ?_)
      (fin_gate m c i j).2.1.symm
    exact (rd_of (fun r q => m ((c : Thread nD τ).loc main_arg2) (ix2 r q)) i j).symm
  · rw [h3]
    refine (Cert.ReferenceIdeal.Read.val_main_v60_eq _ _ _ _).trans ?_
    rw [e0, e1, e3, e4]
    funext x
    obtain ⟨i, j, rfl⟩ : ∃ i j, x = ix2 i j := ⟨_, _, eq_ix2 x⟩
    refine Eq.trans ?_ (fin_gate m c i j).2.2.symm
    refine Eq.trans (mul_comm _ _) ?_
    refine congrArg₂ (· * ·) (Ref.dcv_at _ (m ((c : Thread nD τ).loc main_arg1)) (m ((c : Thread nD τ).loc main_arg2)) _ _ i j) ?_
    exact (rd_of (fun r q => m ((c : Thread nD τ).loc main_arg1) (ix2 r q)) i j).symm
  · rw [h4]
    refine (Cert.ReferenceIdeal.Read.val_main_v55_eq _ _ _ _).trans ?_
    rw [e0, e1, e2, e4]
    funext x
    obtain ⟨i, j, rfl⟩ : ∃ i j, x = ix2 i j := ⟨_, _, eq_ix2 x⟩
    exact Ref.dw_at _ _ _ _ (m ((c : Thread nD τ).loc main_arg3)) i j

end Cert.GConv

end
-- ==== Proof.Fox.Kit.lean ====
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.PureOps.BitExact

/-! The attention backward's call set up: the host lines around it, its two tables at their literal words, and
    the blocks its windows read. -/

@[expose] public section

set_option maxRecDepth 16384

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ)

/-- The buffers where the call is entered. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

theorem before_fresh : (hostOps0 : List (HloOp τ sig (Elt F))).Forall fun op => op.fresh = ∅ := by
  simp only [List.Forall]; repeat' constructor

theorem after_fresh : (hostOps1 : List (HloOp τ sig (Elt F))).Forall fun op => op.fresh = ∅ := by
  simp only [List.Forall]; repeat' constructor

set_option maxHeartbeats 800000 in
theorem main_around (𝒱₀ : Variants) :
    Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact before_fresh) main_chain

/-- The tables: the query block and the key block of each of the 36 steps. -/
def tab : pre0.Contents (Elt F) := fun
  | 0 => fun i => lit0 (S36.rowMajor i)
  | 1 => fun i => lit1 (S36.rowMajor i)

theorem V_tab (c : Dev nD) (j : Fin 2) : V m c (pre0.ref j) = tab j := by
  fin_cases j
  · simp only [V, V0, List.flatten_cons, List.flatten_nil, List.append_nil]
    after_results
    rfl
  · simp only [V, V0, List.flatten_cons, List.flatten_nil, List.append_nil]
    after_results
    rfl

theorem tab_ok_bits : ok0 (F := Bits) tab := by decide +kernel

theorem tab_ok : ok0 (F := F) tab := tab_ok_bits

abbrev adm : (pcfg0 (F := F)).Adm := ⟨tab, tab_ok⟩
abbrev cfg : Cfg sig Λ₀ := cfg0 (F := F) adm

/-- The query block and the key block of a point, as the body loads them. -/
abbrev wq (t : Fin grid0.N) : BitVec 32 :=
  (tab (F := Bits)).at 0 (Rect.unit (s := S36) (k0_off1 (grid0.coords t)) S1.size (k0_off1_inb (grid0.coords t))) numel1_S1
abbrev wk (t : Fin grid0.N) : BitVec 32 :=
  (tab (F := Bits)).at 1 (Rect.unit (s := S36) (k0_off1 (grid0.coords t)) S1.size (k0_off1_inb (grid0.coords t))) numel1_S1

theorem chk : ∀ t : Fin grid0.N, k0_chk1 (wq t) (wk t) := by decide +kernel

/-- The first step of a pair of heads. -/
abbrev cond1 (i : grid0.Coords) : Prop :=
  Scalar.cmpi .ne (Scalar.extui (Scalar.cmpi .eq (BitVec.ofNat 32 (i 1).val) 0#32)) 0#32 = 1#1

/-- Each table as the body is handed it, and the half of it that the body holds. -/
abbrev tbq : Memref sig .tc .smem S36 .i32 := Memref.whole main_c
abbrev htbq : tbq.IsWhole := Memref.isWhole_whole _
abbrev tbk : Memref sig .tc .smem S36 .i32 := Memref.whole main_c_0
abbrev htbk : tbk.IsWhole := Memref.isWhole_whole _
abbrev tbPt (c : Dev nD) {S : Shape} {e : EltTy} (M : Memref sig .tc .smem S e) (f : Buf (Elt F) (M.view.loc (c : Thread nD τ))) : sProp 𝕄 :=
  M.view.loc (c : Thread nD τ) ↦{fullShare.right} f

/-- The words as the run reads them. -/
abbrev lq (t : Fin grid0.N) : Elt F .i32 :=
  View.readAt (Elt F) tbq.view (Rect.unit (s := S36) (k0_off1 (grid0.coords t)) S1.size (k0_off1_inb (grid0.coords t))).toLoadRect (tab 0)
    (Shape.Idx.first (numel1_S1.symm ▸ Nat.one_pos))
abbrev lk (t : Fin grid0.N) : Elt F .i32 :=
  View.readAt (Elt F) tbk.view (Rect.unit (s := S36) (k0_off1 (grid0.coords t)) S1.size (k0_off1_inb (grid0.coords t))).toLoadRect (tab 1)
    (Shape.Idx.first (numel1_S1.symm ▸ Nat.one_pos))

theorem lq_eq (t : Fin grid0.N) : lq (F := F) t = wq t := rfl
theorem lk_eq (t : Fin grid0.N) : lk (F := F) t = wk t := rfl

theorem chkF (t : Fin grid0.N) : k0_chk1 (lq (F := F) t) (lk (F := F) t) := chk t

end Cert.Fox
end
-- ==== Proof.Fox.Step.lean ====
module

public import proofs.«01_k».proof.Proof.Fox.Kit
public import Idealize.ShloMosaic.Lib.VecWindow

/-! What one step of the call is handed, and what it leaves: the statement every case of the body is run to. -/

@[expose] public section

set_option maxRecDepth 16384

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen

variable {F : FTy → Type} [FloatOps F]

local notation "𝕄" => MT nD τ sig Unit (Elt F) ℕ (UR sig nD τ) ℕ

/-- The buffers of a step. -/
structure Stg where
  a4 : Memref sig .tc .vmem S1024x128 .bf16
  h4 : a4.IsWhole
  a5 : Memref sig .tc .vmem S1024x128 .bf16
  h5 : a5.IsWhole
  a6 : Memref sig .tc .vmem S1024x128 .bf16
  h6 : a6.IsWhole
  a7 : Memref sig .tc .vmem S1024x128 .bf16
  h7 : a7.IsWhole
  a8 : Memref sig .tc .vmem S1024x128 .bf16
  h8 : a8.IsWhole
  a9 : Memref sig .tc .vmem S1x8x1024 .f32
  h9 : a9.IsWhole
  a10 : Memref sig .tc .vmem S1x8x1024 .f32
  h10 : a10.IsWhole
  a11 : Memref sig .tc .vmem S1024x128 .bf16
  h11 : a11.IsWhole
  a12 : Memref sig .tc .vmem S8192x128 .bf16
  h12 : a12.IsWhole
  a13 : Memref sig .tc .vmem S1024x128 .bf16
  h13 : a13.IsWhole
  a14 : Memref sig .tc .vmem S1024x128 .bf16
  h14 : a14.IsWhole
  a15 : Memref sig .tc .vmem S1024x128 .f32
  h15 : a15.IsWhole
  a16 : Memref sig .tc .vmem S1x8x8192 .f32
  h16 : a16.IsWhole
  a17 : Memref sig .tc .vmem S128x8192 .f32
  h17 : a17.IsWhole
  a18 : Memref sig .tc .vmem S8x8192 .f32
  h18 : a18.IsWhole
  a19 : Memref sig .tc .vmem S2x1024x128 .f32
  h19 : a19.IsWhole
  a20 : Memref sig .tc .vmem S2x1024x128 .f32
  h20 : a20.IsWhole
  a21 : Memref sig .tc .vmem S2x1024x1 .f32
  h21 : a21.IsWhole

/-- The blocks it reads. -/
structure Ins (F : FTy → Type) where
  v4 : Vec F S1024x128 .bf16
  v5 : Vec F S1024x128 .bf16
  v6 : Vec F S1024x128 .bf16
  v7 : Vec F S1024x128 .bf16
  v8 : Vec F S1024x128 .bf16
  v9 : Vec F S1x8x1024 .f32
  v10 : Vec F S1x8x1024 .f32
  v11 : Vec F S1024x128 .bf16

/-- The blocks it writes. -/
structure Outs (F : FTy → Type) where
  v12 : Vec F S8192x128 .bf16
  v13 : Vec F S1024x128 .bf16
  v14 : Vec F S1024x128 .bf16
  v15 : Vec F S1024x128 .f32
  v16 : Vec F S1x8x8192 .f32

/-- The scratch it carries. -/
structure Scr (F : FTy → Type) where
  v17 : Vec F S128x8192 .f32
  v18 : Vec F S8x8192 .f32
  v19 : Vec F S2x1024x128 .f32
  v20 : Vec F S2x1024x128 .f32
  v21 : Vec F S2x1024x1 .f32

/-- Its stores into the blocks and into the scratch. -/
structure Pcs (F : FTy → Type) where
  p12 : List (View.Piece (Elt F) S8192x128 .bf16)
  p13 : List (View.Piece (Elt F) S1024x128 .bf16)
  p14 : List (View.Piece (Elt F) S1024x128 .bf16)
  p15 : List (View.Piece (Elt F) S1024x128 .f32)
  p16 : List (View.Piece (Elt F) S1x8x8192 .f32)
  p17 : List (View.Piece (Elt F) S128x8192 .f32)
  p18 : List (View.Piece (Elt F) S8x8192 .f32)
  p19 : List (View.Piece (Elt F) S2x1024x128 .f32)
  p20 : List (View.Piece (Elt F) S2x1024x128 .f32)
  p21 : List (View.Piece (Elt F) S2x1024x1 .f32)

abbrev held (c : Dev nD) {Sh : Shape} {e : EltTy} (M : Memref sig .tc .vmem Sh e) (h : M.IsWhole) (v : Vec F Sh e) : sProp 𝕄 :=
  M.view.loc (c : Thread nD τ) ↦[M.view.set]{fullShare} h.unread v

abbrev wrote (c : Dev nD) {Sh : Shape} {e : EltTy} (M : Memref sig .tc .vmem Sh e) (g : M.view.ty.Contents (Elt F))
    (L : List (View.Piece (Elt F) Sh e)) : sProp 𝕄 :=
  M.view.loc (c : Thread nD τ) ↦[M.view.set]{fullShare} M.view.writes (Elt F) g L

abbrev body (t : Fin grid0.N) (S : Stg) := cc0_fox_bwd (F := F) (grid0.coords t) tbq htbq tbk htbk S.a4 S.h4 S.a5 S.h5 S.a6 S.h6 S.a7 S.h7 S.a8 S.h8 S.a9 S.h9 S.a10 S.h10 S.a11 S.h11 S.a12 S.h12 S.a13 S.h13 S.a14 S.h14 S.a15 S.h15 S.a16 S.h16 S.a17 S.h17 S.a18 S.h18 S.a19 S.h19 S.a20 S.h20 S.a21 S.h21

/-- From the blocks `x` and the scratch `s` the body makes the stores `P`, whatever the outputs hold; those into the
    two accumulators of the query side are on top of `g17` and `g18`. -/
def Runs (c : Dev nD) (t : Fin grid0.N) (S : Stg) (x : Ins F) (s : Scr F) (g17 : S.a17.view.ty.Contents (Elt F)) (g18 : S.a18.view.ty.Contents (Elt F)) (P : Pcs F) : Prop :=
  ∀ (o : Outs F) (E : Set ℕ) (K : PUnit → sProp 𝕄),
    iprop(held c S.a4 S.h4 x.v4 ∗ held c S.a5 S.h5 x.v5 ∗ held c S.a6 S.h6 x.v6 ∗ held c S.a7 S.h7 x.v7 ∗ held c S.a8 S.h8 x.v8 ∗ held c S.a9 S.h9 x.v9 ∗ held c S.a10 S.h10 x.v10 ∗ held c S.a11 S.h11 x.v11 ∗ held c S.a12 S.h12 o.v12 ∗ held c S.a13 S.h13 o.v13 ∗ held c S.a14 S.h14 o.v14 ∗ held c S.a15 S.h15 o.v15 ∗ held c S.a16 S.h16 o.v16 ∗ held c S.a17 S.h17 s.v17 ∗ held c S.a18 S.h18 s.v18 ∗ held c S.a19 S.h19 s.v19 ∗ held c S.a20 S.h20 s.v20 ∗ held c S.a21 S.h21 s.v21 ∗ tbPt c tbq (tab 0) ∗ tbPt c tbk (tab 1)
      ∗ (iprop(held c S.a4 S.h4 x.v4 ∗ held c S.a5 S.h5 x.v5 ∗ held c S.a6 S.h6 x.v6 ∗ held c S.a7 S.h7 x.v7 ∗ held c S.a8 S.h8 x.v8 ∗ held c S.a9 S.h9 x.v9 ∗ held c S.a10 S.h10 x.v10 ∗ held c S.a11 S.h11 x.v11 ∗ wrote c S.a12 (S.h12.unread o.v12) P.p12 ∗ wrote c S.a13 (S.h13.unread o.v13) P.p13 ∗ wrote c S.a14 (S.h14.unread o.v14) P.p14 ∗ wrote c S.a15 (S.h15.unread o.v15) P.p15 ∗ wrote c S.a16 (S.h16.unread o.v16) P.p16 ∗ wrote c S.a17 g17 P.p17 ∗ wrote c S.a18 g18 P.p18 ∗ wrote c S.a19 (S.h19.unread s.v19) P.p19 ∗ wrote c S.a20 (S.h20.unread s.v20) P.p20 ∗ wrote c S.a21 (S.h21.unread s.v21) P.p21 ∗ tbPt c tbq (tab 0) ∗ tbPt c tbk (tab 1)) -∗ K ⟨⟩))
    ⊢ wp frame (wpE (defs₀ (F := F)) Variants.none c none) E (body t S) K

/-- A buffer with stores made in it, read back. -/
abbrev readBack {Sh : Shape} {e : EltTy} (M : Memref sig .tc .vmem Sh e) (g : M.view.ty.Contents (Elt F))
    (L : List (View.Piece (Elt F) Sh e)) : Vec F Sh e :=
  M.view.read (Elt F) (M.view.writes (Elt F) g L)

/-- The scratch and the outputs after the stores. -/
abbrev Scr.after (S : Stg) (g17 : S.a17.view.ty.Contents (Elt F)) (g18 : S.a18.view.ty.Contents (Elt F)) (P : Pcs F) (s : Scr F) : Scr F :=
  ⟨readBack S.a17 g17 P.p17, readBack S.a18 g18 P.p18, readBack S.a19 (S.h19.unread s.v19) P.p19, readBack S.a20 (S.h20.unread s.v20) P.p20, readBack S.a21 (S.h21.unread s.v21) P.p21⟩

abbrev Outs.after (S : Stg) (P : Pcs F) (o : Outs F) : Outs F :=
  ⟨readBack S.a12 (S.h12.unread o.v12) P.p12, readBack S.a13 (S.h13.unread o.v13) P.p13, readBack S.a14 (S.h14.unread o.v14) P.p14, readBack S.a15 (S.h15.unread o.v15) P.p15, readBack S.a16 (S.h16.unread o.v16) P.p16⟩

theorem owns_held (c : Dev nD) {Sh : Shape} {e : EltTy} (M : Memref sig .tc .vmem Sh e) (h : M.IsWhole) (v : Vec F Sh e) :
    (owns (c : Thread nD τ) M fullShare v : sProp 𝕄) ⊢ held c M h v := by
  unfold owns
  iintro ⟨%f, %hf, H⟩
  obtain rfl := h.eq_unread hf
  iexact H

theorem wrote_owns (c : Dev nD) {Sh : Shape} {e : EltTy} (M : Memref sig .tc .vmem Sh e) (g : M.view.ty.Contents (Elt F))
    (L : List (View.Piece (Elt F) Sh e)) : wrote c M g L ⊢ (owns (c : Thread nD τ) M fullShare (readBack M g L) : sProp 𝕄) := by
  unfold owns
  iintro H
  iexists _; isplitr; · ipureintro; rfl
  iexact H

theorem held_owns (c : Dev nD) {Sh : Shape} {e : EltTy} (M : Memref sig .tc .vmem Sh e) (h : M.IsWhole) (v : Vec F Sh e) :
    held c M h v ⊢ (owns (c : Thread nD τ) M fullShare v : sProp 𝕄) := by
  unfold owns
  iintro H
  iexists _; isplitr; · ipureintro; exact h.read_unread v
  iexact H

/-- The blocks, the outputs and the scratch of a step, owned. -/
abbrev ownIns (c : Dev nD) (S : Stg) (x : Ins F) : sProp 𝕄 := iprop(owns (c : Thread nD τ) S.a4 fullShare x.v4 ∗ owns (c : Thread nD τ) S.a5 fullShare x.v5 ∗ owns (c : Thread nD τ) S.a6 fullShare x.v6 ∗ owns (c : Thread nD τ) S.a7 fullShare x.v7 ∗ owns (c : Thread nD τ) S.a8 fullShare x.v8 ∗ owns (c : Thread nD τ) S.a9 fullShare x.v9 ∗ owns (c : Thread nD τ) S.a10 fullShare x.v10 ∗ owns (c : Thread nD τ) S.a11 fullShare x.v11)
abbrev ownOuts (c : Dev nD) (S : Stg) (o : Outs F) : sProp 𝕄 := iprop(owns (c : Thread nD τ) S.a12 fullShare o.v12 ∗ owns (c : Thread nD τ) S.a13 fullShare o.v13 ∗ owns (c : Thread nD τ) S.a14 fullShare o.v14 ∗ owns (c : Thread nD τ) S.a15 fullShare o.v15 ∗ owns (c : Thread nD τ) S.a16 fullShare o.v16)
abbrev ownScr (c : Dev nD) (S : Stg) (s : Scr F) : sProp 𝕄 := iprop(owns (c : Thread nD τ) S.a17 fullShare s.v17 ∗ owns (c : Thread nD τ) S.a18 fullShare s.v18 ∗ owns (c : Thread nD τ) S.a19 fullShare s.v19 ∗ owns (c : Thread nD τ) S.a20 fullShare s.v20 ∗ owns (c : Thread nD τ) S.a21 fullShare s.v21)
abbrev ownTab (c : Dev nD) : sProp 𝕄 := iprop(tbPt c tbq (tab 0) ∗ tbPt c tbk (tab 1))

theorem Runs.owned {c : Dev nD} {t : Fin grid0.N} {S : Stg} {x : Ins F} {s : Scr F} {g17 : S.a17.view.ty.Contents (Elt F)} {g18 : S.a18.view.ty.Contents (Elt F)} {P : Pcs F} (h : Runs c t S x s g17 g18 P)
    (o : Outs F) (E : Set ℕ) (K : PUnit → sProp 𝕄) :
    iprop(ownIns c S x ∗ ownOuts c S o ∗ ownScr c S s ∗ ownTab c
      ∗ (iprop(ownIns c S x ∗ ownOuts c S (o.after S P) ∗ ownScr c S (s.after S g17 g18 P) ∗ ownTab c) -∗ K ⟨⟩))
    ⊢ wp frame (wpE (defs₀ (F := F)) Variants.none c none) E (body t S) K := by
  iintro ⟨⟨H0, H1, H2, H3, H4, H5, H6, H7⟩, ⟨H8, H9, H10, H11, H12⟩, ⟨H13, H14, H15, H16, H17⟩, ⟨HT0, HT1⟩, Hk⟩
  iapply (h o E K)
  isplitl [H0]; · iapply (owns_held c _ _ _); iexact H0
  isplitl [H1]; · iapply (owns_held c _ _ _); iexact H1
  isplitl [H2]; · iapply (owns_held c _ _ _); iexact H2
  isplitl [H3]; · iapply (owns_held c _ _ _); iexact H3
  isplitl [H4]; · iapply (owns_held c _ _ _); iexact H4
  isplitl [H5]; · iapply (owns_held c _ _ _); iexact H5
  isplitl [H6]; · iapply (owns_held c _ _ _); iexact H6
  isplitl [H7]; · iapply (owns_held c _ _ _); iexact H7
  isplitl [H8]; · iapply (owns_held c _ _ _); iexact H8
  isplitl [H9]; · iapply (owns_held c _ _ _); iexact H9
  isplitl [H10]; · iapply (owns_held c _ _ _); iexact H10
  isplitl [H11]; · iapply (owns_held c _ _ _); iexact H11
  isplitl [H12]; · iapply (owns_held c _ _ _); iexact H12
  isplitl [H13]; · iapply (owns_held c _ _ _); iexact H13
  isplitl [H14]; · iapply (owns_held c _ _ _); iexact H14
  isplitl [H15]; · iapply (owns_held c _ _ _); iexact H15
  isplitl [H16]; · iapply (owns_held c _ _ _); iexact H16
  isplitl [H17]; · iapply (owns_held c _ _ _); iexact H17
  isplitl [HT0]; · iexact HT0
  isplitl [HT1]; · iexact HT1
  iintro ⟨H0, H1, H2, H3, H4, H5, H6, H7, H8, H9, H10, H11, H12, H13, H14, H15, H16, H17, HT0, HT1⟩
  iapply Hk
  isplitl [H0 H1 H2 H3 H4 H5 H6 H7]
  · isplitl [H0]; · iapply (held_owns c _ _ _); iexact H0
    isplitl [H1]; · iapply (held_owns c _ _ _); iexact H1
    isplitl [H2]; · iapply (held_owns c _ _ _); iexact H2
    isplitl [H3]; · iapply (held_owns c _ _ _); iexact H3
    isplitl [H4]; · iapply (held_owns c _ _ _); iexact H4
    isplitl [H5]; · iapply (held_owns c _ _ _); iexact H5
    isplitl [H6]; · iapply (held_owns c _ _ _); iexact H6
    iapply (held_owns c _ _ _); iexact H7
  isplitl [H8 H9 H10 H11 H12]
  · isplitl [H8]; · iapply (wrote_owns c _ _ _); iexact H8
    isplitl [H9]; · iapply (wrote_owns c _ _ _); iexact H9
    isplitl [H10]; · iapply (wrote_owns c _ _ _); iexact H10
    isplitl [H11]; · iapply (wrote_owns c _ _ _); iexact H11
    iapply (wrote_owns c _ _ _); iexact H12
  isplitl [H13 H14 H15 H16 H17]
  · isplitl [H13]; · iapply (wrote_owns c _ _ _); iexact H13
    isplitl [H14]; · iapply (wrote_owns c _ _ _); iexact H14
    isplitl [H15]; · iapply (wrote_owns c _ _ _); iexact H15
    isplitl [H16]; · iapply (wrote_owns c _ _ _); iexact H16
    iapply (wrote_owns c _ _ _); iexact H17
  isplitl [HT0]; · iexact HT0
  iexact HT1

end Cert.Fox
end
-- ==== Proof.Fox.RunA.lean ====
module

public import proofs.«01_k».proof.Proof.Fox.Step

/-! The body at the first step of a pair of heads. -/

@[expose] public section

set_option maxRecDepth 16384

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen

variable {F : FTy → Type} [FloatOps F]

local notation "𝕄" => MT nD τ sig Unit (Elt F) ℕ (UR sig nD τ) ℕ

set_option maxHeartbeats 1600000 in
def runA (c : Dev nD) (t : Fin grid0.N) (S : Stg) (hc0 : cond1 (grid0.coords t)) (hc1 : k0_cond2 (lq (F := F) t) (lk (F := F) t) = 1#1) (hc2 : ¬k0_cond3 (lq (F := F) t) (lk (F := F) t) = 1#1) (hc3 : ¬k0_cond4 (lq (F := F) t) = 1#1) (hc4 : ¬k0_cond5 (grid0.coords t) = 1#1)
    (x : Ins F) (s : Scr F) : { P : Pcs F // Runs c t S x s S.a17.view.junk S.a18.view.junk P } := by
  refine ⟨⟨[], [], [], [], [], ?_, ?_, ?_, ?_, ?_⟩, fun o E K => ?run⟩
  case run =>
    simp only [wrote, View.writes_nil]
    simp only [body, cc0_fox_bwd_eq_skeleton]; unfold cc0_fox_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    iintro ⟨H0, H1, H2, H3, H4, H5, H6, H7, H8, H9, H10, H11, H12, H13, H14, H15, H16, H17, HT0, HT1, Hk⟩
    sl_exec (disch := first | sl_exact hc0 | sl_exact hc1 | sl_exact hc2 | sl_exact hc3 | sl_exact hc4 | sl_exact (chkF (F := F) t))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [HT0]; · iexact HT0
    iexact HT1

end Cert.Fox
end
-- ==== Proof.Fox.RunB.lean ====
module

public import proofs.«01_k».proof.Proof.Fox.Step

/-! The body at an off-diagonal step before the last query block. -/

@[expose] public section

set_option maxRecDepth 16384

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen

variable {F : FTy → Type} [FloatOps F]

local notation "𝕄" => MT nD τ sig Unit (Elt F) ℕ (UR sig nD τ) ℕ

set_option maxHeartbeats 1600000 in
def runB (c : Dev nD) (t : Fin grid0.N) (S : Stg) (hc0 : ¬cond1 (grid0.coords t)) (hc1 : ¬k0_cond2 (lq (F := F) t) (lk (F := F) t) = 1#1) (hc2 : k0_cond3 (lq (F := F) t) (lk (F := F) t) = 1#1) (hc3 : ¬k0_cond4 (lq (F := F) t) = 1#1) (hc4 : ¬k0_cond5 (grid0.coords t) = 1#1)
    (x : Ins F) (s : Scr F) : { P : Pcs F // Runs c t S x s (S.h17.unread s.v17) (S.h18.unread s.v18) P } := by
  refine ⟨⟨[], [], [], [], [], ?_, ?_, ?_, ?_, ?_⟩, fun o E K => ?run⟩
  case run =>
    simp only [wrote, View.writes_nil]
    simp only [body, cc0_fox_bwd_eq_skeleton]; unfold cc0_fox_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    iintro ⟨H0, H1, H2, H3, H4, H5, H6, H7, H8, H9, H10, H11, H12, H13, H14, H15, H16, H17, HT0, HT1, Hk⟩
    sl_exec (disch := first | sl_exact hc0 | sl_exact hc1 | sl_exact hc2 | sl_exact hc3 | sl_exact hc4 | sl_exact (chkF (F := F) t))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [HT0]; · iexact HT0
    iexact HT1

end Cert.Fox
end
-- ==== Proof.Fox.RunC.lean ====
module

public import proofs.«01_k».proof.Proof.Fox.Step

/-! The body at an off-diagonal step at the last query block. -/

@[expose] public section

set_option maxRecDepth 16384

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen

variable {F : FTy → Type} [FloatOps F]

local notation "𝕄" => MT nD τ sig Unit (Elt F) ℕ (UR sig nD τ) ℕ

set_option maxHeartbeats 1600000 in
def runC (c : Dev nD) (t : Fin grid0.N) (S : Stg) (hc0 : ¬cond1 (grid0.coords t)) (hc1 : ¬k0_cond2 (lq (F := F) t) (lk (F := F) t) = 1#1) (hc2 : k0_cond3 (lq (F := F) t) (lk (F := F) t) = 1#1) (hc3 : k0_cond4 (lq (F := F) t) = 1#1) (hc4 : ¬k0_cond5 (grid0.coords t) = 1#1)
    (x : Ins F) (s : Scr F) : { P : Pcs F // Runs c t S x s (S.h17.unread s.v17) (S.h18.unread s.v18) P } := by
  refine ⟨⟨[], ?_, ?_, ?_, [], ?_, ?_, ?_, ?_, ?_⟩, fun o E K => ?run⟩
  case run =>
    simp only [wrote, View.writes_nil]
    simp only [body, cc0_fox_bwd_eq_skeleton]; unfold cc0_fox_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    iintro ⟨H0, H1, H2, H3, H4, H5, H6, H7, H8, H9, H10, H11, H12, H13, H14, H15, H16, H17, HT0, HT1, Hk⟩
    sl_exec (disch := first | sl_exact hc0 | sl_exact hc1 | sl_exact hc2 | sl_exact hc3 | sl_exact hc4 | sl_exact (chkF (F := F) t))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [HT0]; · iexact HT0
    iexact HT1

end Cert.Fox
end
-- ==== Proof.Fox.RunD.lean ====
module

public import proofs.«01_k».proof.Proof.Fox.Step

/-! The body at a diagonal step inside. -/

@[expose] public section

set_option maxRecDepth 16384

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen

variable {F : FTy → Type} [FloatOps F]

local notation "𝕄" => MT nD τ sig Unit (Elt F) ℕ (UR sig nD τ) ℕ

set_option maxHeartbeats 1600000 in
def runD (c : Dev nD) (t : Fin grid0.N) (S : Stg) (hc0 : ¬cond1 (grid0.coords t)) (hc1 : k0_cond2 (lq (F := F) t) (lk (F := F) t) = 1#1) (hc2 : ¬k0_cond3 (lq (F := F) t) (lk (F := F) t) = 1#1) (hc3 : ¬k0_cond4 (lq (F := F) t) = 1#1) (hc4 : ¬k0_cond5 (grid0.coords t) = 1#1)
    (x : Ins F) (s : Scr F) : { P : Pcs F // Runs c t S x s (S.h17.unread s.v17) (S.h18.unread s.v18) P } := by
  refine ⟨⟨[], [], [], [], [], ?_, ?_, ?_, ?_, ?_⟩, fun o E K => ?run⟩
  case run =>
    simp only [wrote, View.writes_nil]
    simp only [body, cc0_fox_bwd_eq_skeleton]; unfold cc0_fox_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    iintro ⟨H0, H1, H2, H3, H4, H5, H6, H7, H8, H9, H10, H11, H12, H13, H14, H15, H16, H17, HT0, HT1, Hk⟩
    sl_exec (disch := first | sl_exact hc0 | sl_exact hc1 | sl_exact hc2 | sl_exact hc3 | sl_exact hc4 | sl_exact (chkF (F := F) t))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [HT0]; · iexact HT0
    iexact HT1

end Cert.Fox
end
-- ==== Proof.Fox.RunE.lean ====
module

public import proofs.«01_k».proof.Proof.Fox.Step

/-! The body at the last step of a pair of heads. -/

@[expose] public section

set_option maxRecDepth 16384

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen

variable {F : FTy → Type} [FloatOps F]

local notation "𝕄" => MT nD τ sig Unit (Elt F) ℕ (UR sig nD τ) ℕ

set_option maxHeartbeats 1600000 in
def runE (c : Dev nD) (t : Fin grid0.N) (S : Stg) (hc0 : ¬cond1 (grid0.coords t)) (hc1 : k0_cond2 (lq (F := F) t) (lk (F := F) t) = 1#1) (hc2 : ¬k0_cond3 (lq (F := F) t) (lk (F := F) t) = 1#1) (hc3 : k0_cond4 (lq (F := F) t) = 1#1) (hc4 : k0_cond5 (grid0.coords t) = 1#1)
    (x : Ins F) (s : Scr F) : { P : Pcs F // Runs c t S x s (S.h17.unread s.v17) (S.h18.unread s.v18) P } := by
  refine ⟨⟨?_, ?_, ?_, ?_, ?_, ?_, ?_, ?_, ?_, ?_⟩, fun o E K => ?run⟩
  case run =>
    simp only [wrote]
    simp only [body, cc0_fox_bwd_eq_skeleton]; unfold cc0_fox_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    iintro ⟨H0, H1, H2, H3, H4, H5, H6, H7, H8, H9, H10, H11, H12, H13, H14, H15, H16, H17, HT0, HT1, Hk⟩
    sl_exec (disch := first | sl_exact hc0 | sl_exact hc1 | sl_exact hc2 | sl_exact hc3 | sl_exact hc4 | sl_exact (chkF (F := F) t))
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [HT0]; · iexact HT0
    iexact HT1

end Cert.Fox
end
-- ==== Proof.Fox.Case.lean ====
module

public import proofs.«01_k».proof.Proof.Fox.RunA
public import proofs.«01_k».proof.Proof.Fox.RunB
public import proofs.«01_k».proof.Proof.Fox.RunC
public import proofs.«01_k».proof.Proof.Fox.RunD
public import proofs.«01_k».proof.Proof.Fox.RunE

/-! The body at any step: which of the five cases a step is, and what its stores cover. -/

@[expose] public section

set_option maxRecDepth 16384

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen

variable {F : FTy → Type} [FloatOps F]

/-- The stores reach every element. -/
abbrev Cov {Sh : Shape} {e : EltTy} (L : List (View.Piece (Elt F) Sh e)) : Prop := ∀ y, ∃ p ∈ L, y ∈ p.1.set

/-- A block's stores at a step: all of it where the step writes it back, none elsewhere. -/
abbrev Full {Sh : Shape} {e : EltTy} (p : Prop) (L : List (View.Piece (Elt F) Sh e)) : Prop := (p → Cov L) ∧ (¬p → L = [])

/-- A run of the body, with what its stores into the outputs cover. -/
structure Ran (c : Dev nD) (t : Fin grid0.N) (S : Stg) (x : Ins F) (s : Scr F) where
  g17 : S.a17.view.ty.Contents (Elt F)
  g18 : S.a18.view.ty.Contents (Elt F)
  P : Pcs F
  runs : Runs c t S x s g17 g18 P
  q12 : Full (k0_cond5 (grid0.coords t) = 1#1) P.p12
  q13 : Full (k0_cond4 (lq (F := F) t) = 1#1) P.p13
  q14 : Full (k0_cond4 (lq (F := F) t) = 1#1) P.p14
  q15 : Full (k0_cond4 (lq (F := F) t) = 1#1) P.p15
  q16 : Full (k0_cond5 (grid0.coords t) = 1#1) P.p16

theorem first_word : ∀ t : Fin grid0.N, cond1 (grid0.coords t) →
    k0_cond2 (wq t) (wk t) = 1#1 ∧ ¬k0_cond3 (wq t) (wk t) = 1#1 ∧ ¬k0_cond4 (wq t) = 1#1 ∧ ¬k0_cond5 (grid0.coords t) = 1#1 := by
  decide +kernel

theorem diag_word : ∀ t : Fin grid0.N, k0_cond2 (wq t) (wk t) = 1#1 →
    ¬k0_cond3 (wq t) (wk t) = 1#1 ∧ (k0_cond4 (wq t) = 1#1 ↔ k0_cond5 (grid0.coords t) = 1#1) := by decide +kernel

theorem off_word : ∀ t : Fin grid0.N, ¬k0_cond2 (wq t) (wk t) = 1#1 →
    k0_cond3 (wq t) (wk t) = 1#1 ∧ ¬k0_cond5 (grid0.coords t) = 1#1 := by decide +kernel

theorem first_lq (t : Fin grid0.N) (h : cond1 (grid0.coords t)) :
    k0_cond2 (lq (F := F) t) (lk (F := F) t) = 1#1 ∧ ¬k0_cond3 (lq (F := F) t) (lk (F := F) t) = 1#1 ∧ ¬k0_cond4 (lq (F := F) t) = 1#1 ∧ ¬k0_cond5 (grid0.coords t) = 1#1 := first_word t h

theorem diag_lq (t : Fin grid0.N) (h : k0_cond2 (lq (F := F) t) (lk (F := F) t) = 1#1) :
    ¬k0_cond3 (lq (F := F) t) (lk (F := F) t) = 1#1 ∧ (k0_cond4 (lq (F := F) t) = 1#1 ↔ k0_cond5 (grid0.coords t) = 1#1) := diag_word t h

theorem off_lq (t : Fin grid0.N) (h : ¬k0_cond2 (lq (F := F) t) (lk (F := F) t) = 1#1) :
    k0_cond3 (lq (F := F) t) (lk (F := F) t) = 1#1 ∧ ¬k0_cond5 (grid0.coords t) = 1#1 := off_word t h

theorem full_idle_of {Sh : Shape} {e : EltTy} {p : Prop} {L : List (View.Piece (Elt F) Sh e)} (h : ¬p) (k : L = []) : Full p L :=
  ⟨fun n => absurd n h, fun _ => k⟩

theorem full_of {Sh : Shape} {e : EltTy} {p : Prop} {L : List (View.Piece (Elt F) Sh e)} (h : p) (k : Cov L) : Full p L := ⟨fun _ => k, fun n => absurd h n⟩

def ranA (c : Dev nD) (t : Fin grid0.N) (S : Stg) (hc0 : cond1 (grid0.coords t)) (hc1 : k0_cond2 (lq (F := F) t) (lk (F := F) t) = 1#1) (hc2 : ¬k0_cond3 (lq (F := F) t) (lk (F := F) t) = 1#1) (hc3 : ¬k0_cond4 (lq (F := F) t) = 1#1) (hc4 : ¬k0_cond5 (grid0.coords t) = 1#1)
    (x : Ins F) (s : Scr F) : Ran c t S x s where
  g17 := S.a17.view.junk
  g18 := S.a18.view.junk
  P := (runA c t S hc0 hc1 hc2 hc3 hc4 x s).1
  runs := (runA c t S hc0 hc1 hc2 hc3 hc4 x s).2
  q12 := full_idle_of hc4 rfl
  q13 := full_idle_of hc3 rfl
  q14 := full_idle_of hc3 rfl
  q15 := full_idle_of hc3 rfl
  q16 := full_idle_of hc4 rfl

def ranB (c : Dev nD) (t : Fin grid0.N) (S : Stg) (hc0 : ¬cond1 (grid0.coords t)) (hc1 : ¬k0_cond2 (lq (F := F) t) (lk (F := F) t) = 1#1) (hc2 : k0_cond3 (lq (F := F) t) (lk (F := F) t) = 1#1) (hc3 : ¬k0_cond4 (lq (F := F) t) = 1#1) (hc4 : ¬k0_cond5 (grid0.coords t) = 1#1)
    (x : Ins F) (s : Scr F) : Ran c t S x s where
  g17 := S.h17.unread s.v17
  g18 := S.h18.unread s.v18
  P := (runB c t S hc0 hc1 hc2 hc3 hc4 x s).1
  runs := (runB c t S hc0 hc1 hc2 hc3 hc4 x s).2
  q12 := full_idle_of hc4 rfl
  q13 := full_idle_of hc3 rfl
  q14 := full_idle_of hc3 rfl
  q15 := full_idle_of hc3 rfl
  q16 := full_idle_of hc4 rfl

def ranC (c : Dev nD) (t : Fin grid0.N) (S : Stg) (hc0 : ¬cond1 (grid0.coords t)) (hc1 : ¬k0_cond2 (lq (F := F) t) (lk (F := F) t) = 1#1) (hc2 : k0_cond3 (lq (F := F) t) (lk (F := F) t) = 1#1) (hc3 : k0_cond4 (lq (F := F) t) = 1#1) (hc4 : ¬k0_cond5 (grid0.coords t) = 1#1)
    (x : Ins F) (s : Scr F) : Ran c t S x s where
  g17 := S.h17.unread s.v17
  g18 := S.h18.unread s.v18
  P := (runC c t S hc0 hc1 hc2 hc3 hc4 x s).1
  runs := (runC c t S hc0 hc1 hc2 hc3 hc4 x s).2
  q12 := full_idle_of hc4 rfl
  q13 := full_of hc3 (View.cover_of_wholeMem _ (by sl_whole_mem))
  q14 := full_of hc3 (View.cover_of_wholeMem _ (by sl_whole_mem))
  q15 := full_of hc3 (View.cover_of_wholeMem _ (by sl_whole_mem))
  q16 := full_idle_of hc4 rfl

def ranD (c : Dev nD) (t : Fin grid0.N) (S : Stg) (hc0 : ¬cond1 (grid0.coords t)) (hc1 : k0_cond2 (lq (F := F) t) (lk (F := F) t) = 1#1) (hc2 : ¬k0_cond3 (lq (F := F) t) (lk (F := F) t) = 1#1) (hc3 : ¬k0_cond4 (lq (F := F) t) = 1#1) (hc4 : ¬k0_cond5 (grid0.coords t) = 1#1)
    (x : Ins F) (s : Scr F) : Ran c t S x s where
  g17 := S.h17.unread s.v17
  g18 := S.h18.unread s.v18
  P := (runD c t S hc0 hc1 hc2 hc3 hc4 x s).1
  runs := (runD c t S hc0 hc1 hc2 hc3 hc4 x s).2
  q12 := full_idle_of hc4 rfl
  q13 := full_idle_of hc3 rfl
  q14 := full_idle_of hc3 rfl
  q15 := full_idle_of hc3 rfl
  q16 := full_idle_of hc4 rfl

def ranE (c : Dev nD) (t : Fin grid0.N) (S : Stg) (hc0 : ¬cond1 (grid0.coords t)) (hc1 : k0_cond2 (lq (F := F) t) (lk (F := F) t) = 1#1) (hc2 : ¬k0_cond3 (lq (F := F) t) (lk (F := F) t) = 1#1) (hc3 : k0_cond4 (lq (F := F) t) = 1#1) (hc4 : k0_cond5 (grid0.coords t) = 1#1)
    (x : Ins F) (s : Scr F) : Ran c t S x s where
  g17 := S.h17.unread s.v17
  g18 := S.h18.unread s.v18
  P := (runE c t S hc0 hc1 hc2 hc3 hc4 x s).1
  runs := (runE c t S hc0 hc1 hc2 hc3 hc4 x s).2
  q12 := full_of hc4 (View.cover_of_tiledL _ S1024x128.size (by sl_kernel_rfl))
  q13 := full_of hc3 (View.cover_of_wholeMem _ (by sl_whole_mem))
  q14 := full_of hc3 (View.cover_of_wholeMem _ (by sl_whole_mem))
  q15 := full_of hc3 (View.cover_of_wholeMem _ (by sl_whole_mem))
  q16 := full_of hc4 (View.cover_of_wholeMem _ (by sl_whole_mem))

/-- The body at a step, whichever it is. -/
def ran (c : Dev nD) (t : Fin grid0.N) (S : Stg) (x : Ins F) (s : Scr F) : Ran c t S x s :=
  if h0 : cond1 (grid0.coords t) then
    ranA c t S h0 (first_lq (F := F) t h0).1 (first_lq (F := F) t h0).2.1 (first_lq (F := F) t h0).2.2.1 (first_lq (F := F) t h0).2.2.2 x s
  else if h1 : k0_cond2 (lq (F := F) t) (lk (F := F) t) = 1#1 then
    if h3 : k0_cond4 (lq (F := F) t) = 1#1 then ranE c t S h0 h1 (diag_lq (F := F) t h1).1 h3 ((diag_lq (F := F) t h1).2.1 h3) x s
    else ranD c t S h0 h1 (diag_lq (F := F) t h1).1 h3 (fun k => h3 ((diag_lq (F := F) t h1).2.2 k)) x s
  else
    if h3 : k0_cond4 (lq (F := F) t) = 1#1 then ranC c t S h0 h1 (off_lq (F := F) t h1).1 h3 (off_lq (F := F) t h1).2 x s
    else ranB c t S h0 h1 (off_lq (F := F) t h1).1 h3 (off_lq (F := F) t h1).2 x s

/-- The scratch and the outputs a step leaves. -/
abbrev Ran.scr {c : Dev nD} {t : Fin grid0.N} {S : Stg} {x : Ins F} {s : Scr F} (R : Ran c t S x s) : Scr F := s.after S R.g17 R.g18 R.P

theorem ran_first (c : Dev nD) (t : Fin grid0.N) (S : Stg) (x : Ins F) (s s' : Scr F) (h0 : cond1 (grid0.coords t)) :
    (ran c t S x s).scr = (ran c t S x s').scr := by
  simp only [ran, dif_pos h0]
  refine congr (congr (congr (congr (congrArg Scr.mk ?_) ?_) ?_) ?_) ?_
  · rfl
  · rfl
  · exact View.read_writes_of_cover _ _ _ _ _ (View.cover_of_wholeMem (runA c t S h0 (first_lq (F := F) t h0).1 (first_lq (F := F) t h0).2.1 (first_lq (F := F) t h0).2.2.1 (first_lq (F := F) t h0).2.2.2 x s).1.p19 (by sl_whole_mem))
  · exact View.read_writes_of_cover _ _ _ _ _ (View.cover_of_wholeMem (runA c t S h0 (first_lq (F := F) t h0).1 (first_lq (F := F) t h0).2.1 (first_lq (F := F) t h0).2.2.1 (first_lq (F := F) t h0).2.2.2 x s).1.p20 (by sl_whole_mem))
  · exact View.read_writes_of_cover _ _ _ _ _ (View.cover_of_wholeMem (runA c t S h0 (first_lq (F := F) t h0).1 (first_lq (F := F) t h0).2.1 (first_lq (F := F) t h0).2.2.1 (first_lq (F := F) t h0).2.2.2 x s).1.p21 (by sl_whole_mem))

end Cert.Fox
end
-- ==== Proof.Fox.Frame.lean ====
module

public import proofs.«01_k».proof.Proof.Fox.Case
public import Idealize.ShloMosaic.Lib.Claim

/-! The call's frame: its steps in order, the launch, and the buffers it leaves alone. -/

@[expose] public section

set_option maxRecDepth 16384

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the call -/

theorem after_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  subst hops
  refine Pipeline.sub_tailRefs pre0 spec0 op ((List.forall_iff_forall_mem.mp hostOps1_sub) op hop) ?_
  simp only [hostOps1, List.mem_cons, List.mem_nil_iff, or_false] at hop
  rcases hop with rfl | rfl | rfl | rfl | rfl | rfl | rfl | rfl | rfl | rfl | rfl
  all_goals intro j; fin_cases j <;> simp only [StableHlo.nullary_bufs, StableHlo.unary_bufs, StableHlo.binary_bufs, StableHlo.reshape_bufs, Finset.mem_insert, Finset.mem_singleton, not_or] <;> and_intros <;> exact StableHlo.devRef_ne_of_ne (by decide)

theorem after_allocs : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp after_fresh) op hop

theorem after_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  rcases hop with rfl | rfl | rfl | rfl | rfl | rfl | rfl | rfl | rfl | rfl | rfl
  all_goals intro w; fin_cases w <;> simp only [StableHlo.nullary_writes, StableHlo.unary_writes, StableHlo.binary_writes, StableHlo.reshape_writes, Finset.mem_singleton] <;> exact StableHlo.devRef_ne_of_ne (by decide)

/-- The argument buffers. -/
abbrev args : List (Ref sig .tc) := [main_arg0, main_arg1, main_arg2, main_arg3, main_arg4]

set_option maxHeartbeats 4000000 in
/-- The lines before the call write no argument, -/
theorem V_args (c : Dev nD) : ∀ b ∈ args, V m c b = m ((c : Thread nD τ).loc b) := by
  intro b hb
  refine StableHlo.after_of_forall_not_mem (b := Proc.devRef .tc b) _ _ (List.forall_iff_forall_mem.mp ?_)
  simp only [hostOps0, List.flatten_cons, List.flatten_nil, List.append_nil, List.Forall, StableHlo.nullary_writes, StableHlo.unary_writes, StableHlo.binary_writes, StableHlo.ternary_writes, StableHlo.reshape_writes, Finset.mem_singleton]
  repeat' apply And.intro
  all_goals exact StableHlo.devRef_ne_of_ne (by revert b hb; decide)

theorem args_arr : ∀ b ∈ args, ∀ w, Pipeline.arrRef spec0 w ≠ b := by decide

/-- nor do those after it, -/
theorem W_args (dats : (p : Fin _) → (c : Dev nD) → Dat τ (Elt F) Unit ℕ (UR sig nD τ) ℕ ((Pipeline.pin pcfgs fun _ => adm) p) c) (c : Dev nD) :
    ∀ b ∈ args, Pipeline.afterTail pcfgs (fun _ => adm) dats 0 (V0 m) [hostOps1] c b = m ((c : Thread nD τ).loc b) := by
  intro b hb
  unfold Pipeline.afterTail
  rw [StableHlo.after_of_forall_not_mem (b := Proc.devRef .tc b) _ _ (List.forall_iff_forall_mem.mp (by
      simp only [hostOps1, List.flatten_cons, List.flatten_nil, List.append_nil, List.Forall, StableHlo.nullary_writes, StableHlo.unary_writes, StableHlo.binary_writes, StableHlo.reshape_writes, Finset.mem_singleton]
      repeat' apply And.intro
      all_goals exact StableHlo.devRef_ne_of_ne (by revert b hb; decide))),
    Pipeline.withArrays_of_ne _ c (V0 m c) _ b (by exact args_arr b hb)]
  exact V_args m c b hb

theorem args_rest : ∀ b ∈ args, b ∈ Pipeline.restRefs sig spec0 := by decide

/-! ## The steps -/

abbrev iblk (c : Dev nD) (w : Fin (cfg (F := F)).W) (t : Fin (cfg (F := F)).N) :
    (((cfg (F := F)).win w).xblock ((cfg (F := F)).grid.coords t)).Idx → Elt F ((cfg (F := F)).win w).elt :=
  (((cfg (F := F)).win w).blk t).view.read (Elt F) (V m c (Pipeline.arrRef spec0 w))

/-- The buffers of a step. -/
abbrev stg (F : FTy → Type) [FloatOps F] (t : Fin (cfg (F := F)).N) : Stg where
  a4 := spec0_0.stage ((cfg (F := F)).slots t 0)
  h4 := hstage0_0 (((cfg (F := F)).slots t 0).cast nbuf0_0)
  a5 := spec0_1.stage ((cfg (F := F)).slots t 1)
  h5 := hstage0_1 (((cfg (F := F)).slots t 1).cast nbuf0_1)
  a6 := spec0_2.stage ((cfg (F := F)).slots t 2)
  h6 := hstage0_2 (((cfg (F := F)).slots t 2).cast nbuf0_2)
  a7 := spec0_3.stage ((cfg (F := F)).slots t 3)
  h7 := hstage0_3 (((cfg (F := F)).slots t 3).cast nbuf0_3)
  a8 := spec0_4.stage ((cfg (F := F)).slots t 4)
  h8 := hstage0_4 (((cfg (F := F)).slots t 4).cast nbuf0_4)
  a9 := spec0_5.stage ((cfg (F := F)).slots t 5)
  h9 := hstage0_5 (((cfg (F := F)).slots t 5).cast nbuf0_5)
  a10 := spec0_6.stage ((cfg (F := F)).slots t 6)
  h10 := hstage0_6 (((cfg (F := F)).slots t 6).cast nbuf0_6)
  a11 := spec0_7.stage ((cfg (F := F)).slots t 7)
  h11 := hstage0_7 (((cfg (F := F)).slots t 7).cast nbuf0_7)
  a12 := spec0_8.stage ((cfg (F := F)).slots t 8)
  h12 := hstage0_8 (((cfg (F := F)).slots t 8).cast nbuf0_8)
  a13 := spec0_9.stage ((cfg (F := F)).slots t 9)
  h13 := hstage0_9 (((cfg (F := F)).slots t 9).cast nbuf0_9)
  a14 := spec0_10.stage ((cfg (F := F)).slots t 10)
  h14 := hstage0_10 (((cfg (F := F)).slots t 10).cast nbuf0_10)
  a15 := spec0_11.stage ((cfg (F := F)).slots t 11)
  h15 := hstage0_11 (((cfg (F := F)).slots t 11).cast nbuf0_11)
  a16 := spec0_12.stage ((cfg (F := F)).slots t 12)
  h16 := hstage0_12 (((cfg (F := F)).slots t 12).cast nbuf0_12)
  a17 := Memref.whole cc0_scratch0
  h17 := Memref.isWhole_whole _
  a18 := Memref.whole cc0_scratch1
  h18 := Memref.isWhole_whole _
  a19 := Memref.whole cc0_scratch2
  h19 := Memref.isWhole_whole _
  a20 := Memref.whole cc0_scratch3
  h20 := Memref.isWhole_whole _
  a21 := Memref.whole cc0_scratch4
  h21 := Memref.isWhole_whole _

/-- The blocks it reads. -/
abbrev ins (c : Dev nD) (t : Fin (cfg (F := F)).N) : Ins F :=
  ⟨iblk m c 0 t, iblk m c 1 t, iblk m c 2 t, iblk m c 3 t, iblk m c 4 t, iblk m c 5 t, iblk m c 6 t, iblk m c 7 t⟩

/-- A step from the scratch `s`. -/
abbrev stp (c : Dev nD) (t : Fin (cfg (F := F)).N) (s : Scr F) : Ran c t (stg F t) (ins m c t) s := ran c t (stg F t) (ins m c t) s

/-- Contents no step reads. -/
abbrev anyScr : Scr F :=
  ⟨(Memref.whole cc0_scratch0).view.read (Elt F) (View.junk _), (Memref.whole cc0_scratch1).view.read (Elt F) (View.junk _), (Memref.whole cc0_scratch2).view.read (Elt F) (View.junk _), (Memref.whole cc0_scratch3).view.read (Elt F) (View.junk _), (Memref.whole cc0_scratch4).view.read (Elt F) (View.junk _)⟩

/-- The scratch after `n` steps. -/
def st (c : Dev nD) : ℕ → Scr F
  | 0 => anyScr
  | n + 1 => if h : n < (cfg (F := F)).N then (stp m c ⟨n, h⟩ (st c n)).scr else st c n

theorem st_succ (c : Dev nD) (t : Fin (cfg (F := F)).N) : st m c (t.val + 1) = (stp m c t (st m c t.val)).scr := by
  rw [st, dif_pos t.isLt]

theorem first_zero : ∀ t : Fin grid0.N, t.val = 0 → cond1 (grid0.coords t) := by decide +kernel

/-- The first step takes any scratch. -/
theorem st_first (c : Dev nD) (t : Fin (cfg (F := F)).N) (h : t.val = 0) (s : Scr F) : (stp m c t s).scr = st m c (t.val + 1) := by
  rw [st_succ]; exact ran_first c t _ _ _ _ (first_zero t h)

/-- The blocks a step writes, over contents nothing reads. -/
abbrev stores (c : Dev nD) (t : Fin (cfg (F := F)).N) : Pcs F := (stp m c t (st m c t.val)).P

abbrev left {Sh : Shape} {e : EltTy} (M : Memref sig .tc .vmem Sh e) (L : List (View.Piece (Elt F) Sh e)) : Vec F Sh e :=
  readBack M M.view.junk L

/-! ## The launch -/

/-- The scratch as the steps hand it on. -/
def Φs (c : Dev nD) (n : ℕ) : sProp 𝕄 :=
  iprop((ownScr c (stg F ⟨0, (by decide : 0 < grid0.N)⟩) (st m c n) ∗ (∃ r, prngReg c r)) ∗ ownTab c)

def Φ (c : Dev nD) : ℕ → sProp 𝕄
  | 0 => iprop(Pipeline.ΦA spec0 c ∗ Pipeline.ΦT pre0 tab c)
  | n + 1 => Φs m c (n + 1)

def dats (_ : Fin 1) (c : Dev nD) : Dat τ (Elt F) Unit ℕ (UR sig nD τ) ℕ (cfg (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => left (stg F t).a12 (stores m c t).p12
    | ⟨9, _⟩ => left (stg F t).a13 (stores m c t).p13
    | ⟨10, _⟩ => left (stg F t).a14 (stores m c t).p14
    | ⟨11, _⟩ => left (stg F t).a15 (stores m c t).p15
    | ⟨12, _⟩ => left (stg F t).a16 (stores m c t).p16
  Φ t := Φ m c t.val
  q _ := fullShare
  owed _ := 0

theorem A_eq (c : Dev nD) (w : Fin (cfg (F := F)).W) : (dats m 0 c).A w = V m c (Pipeline.arrRef spec0 w) := by
  dsimp only [dats]

theorem after_0 (c : Dev nD) (t : Fin (cfg (F := F)).N) : (dats m 0 c).after 0 t = iblk m c 0 t := by dsimp only [dats]; rfl
theorem after_1 (c : Dev nD) (t : Fin (cfg (F := F)).N) : (dats m 0 c).after 1 t = iblk m c 1 t := by dsimp only [dats]; rfl
theorem after_2 (c : Dev nD) (t : Fin (cfg (F := F)).N) : (dats m 0 c).after 2 t = iblk m c 2 t := by dsimp only [dats]; rfl
theorem after_3 (c : Dev nD) (t : Fin (cfg (F := F)).N) : (dats m 0 c).after 3 t = iblk m c 3 t := by dsimp only [dats]; rfl
theorem after_4 (c : Dev nD) (t : Fin (cfg (F := F)).N) : (dats m 0 c).after 4 t = iblk m c 4 t := by dsimp only [dats]; rfl
theorem after_5 (c : Dev nD) (t : Fin (cfg (F := F)).N) : (dats m 0 c).after 5 t = iblk m c 5 t := by dsimp only [dats]; rfl
theorem after_6 (c : Dev nD) (t : Fin (cfg (F := F)).N) : (dats m 0 c).after 6 t = iblk m c 6 t := by dsimp only [dats]; rfl
theorem after_7 (c : Dev nD) (t : Fin (cfg (F := F)).N) : (dats m 0 c).after 7 t = iblk m c 7 t := by dsimp only [dats]; rfl
theorem after_8 (c : Dev nD) (t : Fin (cfg (F := F)).N) : (dats m 0 c).after 8 t = left (stg F t).a12 (stores m c t).p12 := by dsimp only [dats]; rfl
theorem after_9 (c : Dev nD) (t : Fin (cfg (F := F)).N) : (dats m 0 c).after 9 t = left (stg F t).a13 (stores m c t).p13 := by dsimp only [dats]; rfl
theorem after_10 (c : Dev nD) (t : Fin (cfg (F := F)).N) : (dats m 0 c).after 10 t = left (stg F t).a14 (stores m c t).p14 := by dsimp only [dats]; rfl
theorem after_11 (c : Dev nD) (t : Fin (cfg (F := F)).N) : (dats m 0 c).after 11 t = left (stg F t).a15 (stores m c t).p15 := by dsimp only [dats]; rfl
theorem after_12 (c : Dev nD) (t : Fin (cfg (F := F)).N) : (dats m 0 c).after 12 t = left (stg F t).a16 (stores m c t).p16 := by dsimp only [dats]; rfl

theorem before_0 (c : Dev nD) (t : Fin (cfg (F := F)).N) (d) : (dats m 0 c).before 0 t d = iblk m c 0 t :=
  ((dats m 0 c).before_in_eq_fetched 0 rfl (fun _ => rfl) (fun _ _ _ => rfl) (fun t => by rw [after_0]; unfold Dat.blockOf; rw [A_eq]) t d).trans
    (by unfold Dat.fetched Dat.blockOf; rw [A_eq]; rfl)

theorem before_1 (c : Dev nD) (t : Fin (cfg (F := F)).N) (d) : (dats m 0 c).before 1 t d = iblk m c 1 t :=
  ((dats m 0 c).before_in_eq_fetched 1 rfl (fun _ => rfl) (fun _ _ _ => rfl) (fun t => by rw [after_1]; unfold Dat.blockOf; rw [A_eq]) t d).trans
    (by unfold Dat.fetched Dat.blockOf; rw [A_eq]; rfl)

theorem before_2 (c : Dev nD) (t : Fin (cfg (F := F)).N) (d) : (dats m 0 c).before 2 t d = iblk m c 2 t :=
  ((dats m 0 c).before_in_eq_fetched 2 rfl (fun _ => rfl) (fun _ _ _ => rfl) (fun t => by rw [after_2]; unfold Dat.blockOf; rw [A_eq]) t d).trans
    (by unfold Dat.fetched Dat.blockOf; rw [A_eq]; rfl)

theorem before_3 (c : Dev nD) (t : Fin (cfg (F := F)).N) (d) : (dats m 0 c).before 3 t d = iblk m c 3 t :=
  ((dats m 0 c).before_in_eq_fetched 3 rfl (fun _ => rfl) (fun _ _ _ => rfl) (fun t => by rw [after_3]; unfold Dat.blockOf; rw [A_eq]) t d).trans
    (by unfold Dat.fetched Dat.blockOf; rw [A_eq]; rfl)

theorem before_4 (c : Dev nD) (t : Fin (cfg (F := F)).N) (d) : (dats m 0 c).before 4 t d = iblk m c 4 t :=
  ((dats m 0 c).before_in_eq_fetched 4 rfl (fun _ => rfl) (fun _ _ _ => rfl) (fun t => by rw [after_4]; unfold Dat.blockOf; rw [A_eq]) t d).trans
    (by unfold Dat.fetched Dat.blockOf; rw [A_eq]; rfl)

theorem before_5 (c : Dev nD) (t : Fin (cfg (F := F)).N) (d) : (dats m 0 c).before 5 t d = iblk m c 5 t :=
  ((dats m 0 c).before_in_eq_fetched 5 rfl (fun _ => rfl) (fun _ _ _ => rfl) (fun t => by rw [after_5]; unfold Dat.blockOf; rw [A_eq]) t d).trans
    (by unfold Dat.fetched Dat.blockOf; rw [A_eq]; rfl)

theorem before_6 (c : Dev nD) (t : Fin (cfg (F := F)).N) (d) : (dats m 0 c).before 6 t d = iblk m c 6 t :=
  ((dats m 0 c).before_in_eq_fetched 6 rfl (fun _ => rfl) (fun _ _ _ => rfl) (fun t => by rw [after_6]; unfold Dat.blockOf; rw [A_eq]) t d).trans
    (by unfold Dat.fetched Dat.blockOf; rw [A_eq]; rfl)

theorem before_7 (c : Dev nD) (t : Fin (cfg (F := F)).N) (d) : (dats m 0 c).before 7 t d = iblk m c 7 t :=
  ((dats m 0 c).before_in_eq_fetched 7 rfl (fun _ => rfl) (fun _ _ _ => rfl) (fun t => by rw [after_7]; unfold Dat.blockOf; rw [A_eq]) t d).trans
    (by unfold Dat.fetched Dat.blockOf; rw [A_eq]; rfl)

/-! ## The step's obligation -/

theorem word_tab : ∀ t : Fin grid0.N, (tab (F := Bits)).atD 0 (k0_off1 (grid0.coords t)) = wq t := by decide +kernel

theorem idle_row (t : Fin (cfg (F := F)).N) (w : Fin 13) (hw : w = 8 ∨ w = 12) :
    (cfg (F := F)).idle w ((cfg (F := F)).grid.coords t) = !(k0_cond5 (grid0.coords t) == 1#1) := by
  rcases hw with rfl | rfl <;> rfl

theorem idle_col (t : Fin (cfg (F := F)).N) (w : Fin 13) (hw : w = 9 ∨ w = 10 ∨ w = 11) :
    (cfg (F := F)).idle w ((cfg (F := F)).grid.coords t) = !(k0_cond4 (lq (F := F) t) == 1#1) := by
  have e : (tab (F := F)).atD 0 (k0_off1 (grid0.coords t)) = lq (F := F) t := word_tab t
  rcases hw with rfl | rfl | rfl <;> exact congrArg (fun z => !(k0_cond4 z == 1#1)) e

theorem kept_row : ∀ t : Fin grid0.N, ¬k0_cond5 (grid0.coords t) = 1#1 →
    ((cfg (F := Bits)).win 8).flush t = false ∧ ((cfg (F := Bits)).win 12).flush t = false := by decide +kernel

theorem kept_col : ∀ t : Fin grid0.N, ¬k0_cond4 (wq t) = 1#1 →
    ((cfg (F := Bits)).win 9).flush t = false ∧ ((cfg (F := Bits)).win 10).flush t = false ∧ ((cfg (F := Bits)).win 11).flush t = false := by
  decide +kernel

/-- An output's buffer as the step's obligation takes it back: at its stores where it is written back, as found elsewhere. -/
theorem leaves_of (c : Dev nD) (w : Fin (cfg (F := F)).W) (t : Fin (cfg (F := F)).N) (p : Bool)
    (hi : (cfg (F := F)).idle w ((cfg (F := F)).grid.coords t) = !p)
    (hf : ¬p = true → ((cfg (F := F)).win w).flush t = false)
    (h : (((cfg (F := F)).win w).stage ((cfg (F := F)).slots t w)).IsWhole)
    (L : List (View.Piece (Elt F) ((cfg (F := F)).win w).block ((cfg (F := F)).win w).elt)) (hL : Full (p = true) L)
    (he : (dats m 0 c).after w t = (((cfg (F := F)).win w).stage ((cfg (F := F)).slots t w)).view.read (Elt F) ((((cfg (F := F)).win w).stage ((cfg (F := F)).slots t w)).view.writes (Elt F) (((cfg (F := F)).win w).stage ((cfg (F := F)).slots t w)).view.junk L)) (d) :
    owns (c : Thread nD τ) (((cfg (F := F)).win w).stage ((cfg (F := F)).slots t w)) fullShare
        ((((cfg (F := F)).win w).stage ((cfg (F := F)).slots t w)).view.read (Elt F) ((((cfg (F := F)).win w).stage ((cfg (F := F)).slots t w)).view.writes (Elt F) (h.unread ((dats m 0 c).before w t d)) L))
      ⊢ (dats m 0 c).leavesExact w t := by
  cases p with
  | true =>
    rw [show (dats m 0 c).leavesExact w t = owns (c : Thread nD τ) (((cfg (F := F)).win w).stage ((cfg (F := F)).slots t w)) fullShare ((dats m 0 c).after w t) from by
      unfold Dat.leavesExact; rw [hi]; rfl, he]
    rw [show (((cfg (F := F)).win w).stage ((cfg (F := F)).slots t w)).view.read (Elt F) ((((cfg (F := F)).win w).stage ((cfg (F := F)).slots t w)).view.writes (Elt F) (h.unread ((dats m 0 c).before w t d)) L) = (((cfg (F := F)).win w).stage ((cfg (F := F)).slots t w)).view.read (Elt F) ((((cfg (F := F)).win w).stage ((cfg (F := F)).slots t w)).view.writes (Elt F) (((cfg (F := F)).win w).stage ((cfg (F := F)).slots t w)).view.junk L) from
      View.read_writes_of_cover _ _ _ _ _ (hL.1 rfl)]
  | false =>
    rw [Dat.leavesExact_idle (dats m 0 c) w t hi (hf (by decide)), hL.2 (by decide)]
    simp only [View.writes_nil, Memref.IsWhole.read_unread]
    iintro H
    iexists d
    iexact H

theorem full_beq {Sh : Shape} {e : EltTy} {x : BitVec 1} {L : List (View.Piece (Elt F) Sh e)} (h : Full (x = 1#1) L) : Full ((x == 1#1) = true) L :=
  ⟨fun k => h.1 (beq_iff_eq.mp k), fun k => h.2 fun n => k (beq_iff_eq.mpr n)⟩

theorem leaves_8 (c : Dev nD) (t : Fin (cfg (F := F)).N) (L : List (View.Piece (Elt F) _ _)) (hL : L = (stores m c t).p12) (d) :
    owns (c : Thread nD τ) (stg F t).a12 fullShare (readBack (stg F t).a12 ((stg F t).h12.unread ((dats m 0 c).before 8 t d)) L)
      ⊢ (dats m 0 c).leavesExact 8 t := by
  subst hL
  exact leaves_of m c 8 t (k0_cond5 (grid0.coords t) == 1#1) (idle_row t 8 (by decide)) (fun h => (kept_row t (fun n => h (beq_iff_eq.mpr n))).1) (stg F t).h12 _ (full_beq (stp m c t (st m c t.val)).q12) (after_8 m c t) d

theorem leaves_9 (c : Dev nD) (t : Fin (cfg (F := F)).N) (L : List (View.Piece (Elt F) _ _)) (hL : L = (stores m c t).p13) (d) :
    owns (c : Thread nD τ) (stg F t).a13 fullShare (readBack (stg F t).a13 ((stg F t).h13.unread ((dats m 0 c).before 9 t d)) L)
      ⊢ (dats m 0 c).leavesExact 9 t := by
  subst hL
  exact leaves_of m c 9 t (k0_cond4 (lq (F := F) t) == 1#1) (idle_col t 9 (by decide)) (fun h => (kept_col t (fun n => h (beq_iff_eq.mpr n))).1) (stg F t).h13 _ (full_beq (stp m c t (st m c t.val)).q13) (after_9 m c t) d

theorem leaves_10 (c : Dev nD) (t : Fin (cfg (F := F)).N) (L : List (View.Piece (Elt F) _ _)) (hL : L = (stores m c t).p14) (d) :
    owns (c : Thread nD τ) (stg F t).a14 fullShare (readBack (stg F t).a14 ((stg F t).h14.unread ((dats m 0 c).before 10 t d)) L)
      ⊢ (dats m 0 c).leavesExact 10 t := by
  subst hL
  exact leaves_of m c 10 t (k0_cond4 (lq (F := F) t) == 1#1) (idle_col t 10 (by decide)) (fun h => (kept_col t (fun n => h (beq_iff_eq.mpr n))).2.1) (stg F t).h14 _ (full_beq (stp m c t (st m c t.val)).q14) (after_10 m c t) d

theorem leaves_11 (c : Dev nD) (t : Fin (cfg (F := F)).N) (L : List (View.Piece (Elt F) _ _)) (hL : L = (stores m c t).p15) (d) :
    owns (c : Thread nD τ) (stg F t).a15 fullShare (readBack (stg F t).a15 ((stg F t).h15.unread ((dats m 0 c).before 11 t d)) L)
      ⊢ (dats m 0 c).leavesExact 11 t := by
  subst hL
  exact leaves_of m c 11 t (k0_cond4 (lq (F := F) t) == 1#1) (idle_col t 11 (by decide)) (fun h => (kept_col t (fun n => h (beq_iff_eq.mpr n))).2.2) (stg F t).h15 _ (full_beq (stp m c t (st m c t.val)).q15) (after_11 m c t) d

theorem leaves_12 (c : Dev nD) (t : Fin (cfg (F := F)).N) (L : List (View.Piece (Elt F) _ _)) (hL : L = (stores m c t).p16) (d) :
    owns (c : Thread nD τ) (stg F t).a16 fullShare (readBack (stg F t).a16 ((stg F t).h16.unread ((dats m 0 c).before 12 t d)) L)
      ⊢ (dats m 0 c).leavesExact 12 t := by
  subst hL
  exact leaves_of m c 12 t (k0_cond5 (grid0.coords t) == 1#1) (idle_row t 12 (by decide)) (fun h => (kept_row t (fun n => h (beq_iff_eq.mpr n))).2) (stg F t).h16 _ (full_beq (stp m c t (st m c t.val)).q16) (after_12 m c t) d

end Cert.Fox
end
-- ==== Proof.Fox.Launch.lean ====
module

public import proofs.«01_k».proof.Proof.Fox.Frame

/-! The step's obligation, the launch and the frame. -/

@[expose] public section

set_option maxRecDepth 16384

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem keeps_0 (c : Dev nD) (t : Fin (cfg (F := F)).N) :
    owns (c : Thread nD τ) (stg F t).a4 fullShare (iblk m c 0 t) ⊢ (dats m 0 c).leavesExact 0 t := by
  rw [show (dats m 0 c).leavesExact 0 t = owns (c : Thread nD τ) (stg F t).a4 fullShare ((dats m 0 c).after 0 t) from by
    unfold Dat.leavesExact; rw [show (cfg (F := F)).idle 0 ((cfg (F := F)).grid.coords t) = false from rfl]; rfl, after_0]

theorem keeps_1 (c : Dev nD) (t : Fin (cfg (F := F)).N) :
    owns (c : Thread nD τ) (stg F t).a5 fullShare (iblk m c 1 t) ⊢ (dats m 0 c).leavesExact 1 t := by
  rw [show (dats m 0 c).leavesExact 1 t = owns (c : Thread nD τ) (stg F t).a5 fullShare ((dats m 0 c).after 1 t) from by
    unfold Dat.leavesExact; rw [show (cfg (F := F)).idle 1 ((cfg (F := F)).grid.coords t) = false from rfl]; rfl, after_1]

theorem keeps_2 (c : Dev nD) (t : Fin (cfg (F := F)).N) :
    owns (c : Thread nD τ) (stg F t).a6 fullShare (iblk m c 2 t) ⊢ (dats m 0 c).leavesExact 2 t := by
  rw [show (dats m 0 c).leavesExact 2 t = owns (c : Thread nD τ) (stg F t).a6 fullShare ((dats m 0 c).after 2 t) from by
    unfold Dat.leavesExact; rw [show (cfg (F := F)).idle 2 ((cfg (F := F)).grid.coords t) = false from rfl]; rfl, after_2]

theorem keeps_3 (c : Dev nD) (t : Fin (cfg (F := F)).N) :
    owns (c : Thread nD τ) (stg F t).a7 fullShare (iblk m c 3 t) ⊢ (dats m 0 c).leavesExact 3 t := by
  rw [show (dats m 0 c).leavesExact 3 t = owns (c : Thread nD τ) (stg F t).a7 fullShare ((dats m 0 c).after 3 t) from by
    unfold Dat.leavesExact; rw [show (cfg (F := F)).idle 3 ((cfg (F := F)).grid.coords t) = false from rfl]; rfl, after_3]

theorem keeps_4 (c : Dev nD) (t : Fin (cfg (F := F)).N) :
    owns (c : Thread nD τ) (stg F t).a8 fullShare (iblk m c 4 t) ⊢ (dats m 0 c).leavesExact 4 t := by
  rw [show (dats m 0 c).leavesExact 4 t = owns (c : Thread nD τ) (stg F t).a8 fullShare ((dats m 0 c).after 4 t) from by
    unfold Dat.leavesExact; rw [show (cfg (F := F)).idle 4 ((cfg (F := F)).grid.coords t) = false from rfl]; rfl, after_4]

theorem keeps_5 (c : Dev nD) (t : Fin (cfg (F := F)).N) :
    owns (c : Thread nD τ) (stg F t).a9 fullShare (iblk m c 5 t) ⊢ (dats m 0 c).leavesExact 5 t := by
  rw [show (dats m 0 c).leavesExact 5 t = owns (c : Thread nD τ) (stg F t).a9 fullShare ((dats m 0 c).after 5 t) from by
    unfold Dat.leavesExact; rw [show (cfg (F := F)).idle 5 ((cfg (F := F)).grid.coords t) = false from rfl]; rfl, after_5]

theorem keeps_6 (c : Dev nD) (t : Fin (cfg (F := F)).N) :
    owns (c : Thread nD τ) (stg F t).a10 fullShare (iblk m c 6 t) ⊢ (dats m 0 c).leavesExact 6 t := by
  rw [show (dats m 0 c).leavesExact 6 t = owns (c : Thread nD τ) (stg F t).a10 fullShare ((dats m 0 c).after 6 t) from by
    unfold Dat.leavesExact; rw [show (cfg (F := F)).idle 6 ((cfg (F := F)).grid.coords t) = false from rfl]; rfl, after_6]

theorem keeps_7 (c : Dev nD) (t : Fin (cfg (F := F)).N) :
    owns (c : Thread nD τ) (stg F t).a11 fullShare (iblk m c 7 t) ⊢ (dats m 0 c).leavesExact 7 t := by
  rw [show (dats m 0 c).leavesExact 7 t = owns (c : Thread nD τ) (stg F t).a11 fullShare ((dats m 0 c).after 7 t) from by
    unfold Dat.leavesExact; rw [show (cfg (F := F)).idle 7 ((cfg (F := F)).grid.coords t) = false from rfl]; rfl, after_7]

/-- What a step finds in the windows' buffers, and what it leaves there. -/
def finds (c : Dev nD) (t : Fin (cfg (F := F)).N) (G : sProp 𝕄) : sProp 𝕄 :=
  iprop(G
    ∗ (∃ d, owns (c : Thread nD τ) (stg F t).a4 fullShare ((dats m 0 c).before 0 t d))
    ∗ (∃ d, owns (c : Thread nD τ) (stg F t).a5 fullShare ((dats m 0 c).before 1 t d))
    ∗ (∃ d, owns (c : Thread nD τ) (stg F t).a6 fullShare ((dats m 0 c).before 2 t d))
    ∗ (∃ d, owns (c : Thread nD τ) (stg F t).a7 fullShare ((dats m 0 c).before 3 t d))
    ∗ (∃ d, owns (c : Thread nD τ) (stg F t).a8 fullShare ((dats m 0 c).before 4 t d))
    ∗ (∃ d, owns (c : Thread nD τ) (stg F t).a9 fullShare ((dats m 0 c).before 5 t d))
    ∗ (∃ d, owns (c : Thread nD τ) (stg F t).a10 fullShare ((dats m 0 c).before 6 t d))
    ∗ (∃ d, owns (c : Thread nD τ) (stg F t).a11 fullShare ((dats m 0 c).before 7 t d))
    ∗ (∃ d, owns (c : Thread nD τ) (stg F t).a12 fullShare ((dats m 0 c).before 8 t d))
    ∗ (∃ d, owns (c : Thread nD τ) (stg F t).a13 fullShare ((dats m 0 c).before 9 t d))
    ∗ (∃ d, owns (c : Thread nD τ) (stg F t).a14 fullShare ((dats m 0 c).before 10 t d))
    ∗ (∃ d, owns (c : Thread nD τ) (stg F t).a15 fullShare ((dats m 0 c).before 11 t d))
    ∗ (∃ d, owns (c : Thread nD τ) (stg F t).a16 fullShare ((dats m 0 c).before 12 t d)))

def hands (c : Dev nD) (t : Fin (cfg (F := F)).N) (G : sProp 𝕄) : sProp 𝕄 :=
  iprop(G
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

theorem step_at (c : Dev nD) (t : Fin (cfg (F := F)).N) (s : Scr F) (hs : (stp m c t s).scr = st m c (t.val + 1))
    (h12 : (stp m c t s).P.p12 = (stores m c t).p12) (h13 : (stp m c t s).P.p13 = (stores m c t).p13)
    (h14 : (stp m c t s).P.p14 = (stores m c t).p14) (h15 : (stp m c t s).P.p15 = (stores m c t).p15)
    (h16 : (stp m c t s).P.p16 = (stores m c t).p16) (G O : sProp 𝕄) :
    iprop(((ownScr c (stg F t) s ∗ G) ∗ ownTab c) ∗ finds m c t O)
    ⊢ wp frame (wpE (defs₀ (F := F)) Variants.none c none) Set.univ (body t (stg F t))
        (fun _ => iprop(((ownScr c (stg F t) (st m c (t.val + 1)) ∗ G) ∗ ownTab c) ∗ hands m c t O)) := by
  unfold finds hands
  simp only [before_0, before_1, before_2, before_3, before_4, before_5, before_6, before_7]
  iintro ⟨⟨⟨HS, HG⟩, HT⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((stp m c t s).runs.owned ⟨(dats m 0 c).before 8 t d8, (dats m 0 c).before 9 t d9, (dats m 0 c).before 10 t d10, (dats m 0 c).before 11 t d11, (dats m 0 c).before 12 t d12⟩ _ _)
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8 H9 H10 H11 H12]
  · isplitl [H8]; · iexact H8
    isplitl [H9]; · iexact H9
    isplitl [H10]; · iexact H10
    isplitl [H11]; · iexact H11
    iexact H12
  isplitl [HS]; · iexact HS
  isplitl [HT]; · iexact HT
  iintro ⟨⟨H0, H1, H2, H3, H4, H5, H6, H7⟩, ⟨H8, H9, H10, H11, H12⟩, HS, HT⟩
  isplitl [HS HG HT]
  · isplitl [HS HG]
    · isplitl [HS]
      · iapply (Entails.of_eq (congrArg (ownScr c (stg F t)) hs)); iexact HS
      iexact HG
    iexact HT
  isplitl [HO]; · iexact HO
  isplitl [H0]; · iapply (keeps_0 m c t); iexact H0
  isplitl [H1]; · iapply (keeps_1 m c t); iexact H1
  isplitl [H2]; · iapply (keeps_2 m c t); iexact H2
  isplitl [H3]; · iapply (keeps_3 m c t); iexact H3
  isplitl [H4]; · iapply (keeps_4 m c t); iexact H4
  isplitl [H5]; · iapply (keeps_5 m c t); iexact H5
  isplitl [H6]; · iapply (keeps_6 m c t); iexact H6
  isplitl [H7]; · iapply (keeps_7 m c t); iexact H7
  isplitl [H8]; · iapply (leaves_8 m c t _ h12 d8); iexact H8
  isplitl [H9]; · iapply (leaves_9 m c t _ h13 d9); iexact H9
  isplitl [H10]; · iapply (leaves_10 m c t _ h14 d10); iexact H10
  isplitl [H11]; · iapply (leaves_11 m c t _ h15 d11); iexact H11
  iapply (leaves_12 m c t _ h16 d12); iexact H12

theorem ΦT_eq (c : Dev nD) : (Pipeline.ΦT pre0 tab c : sProp 𝕄) = ownTab c := by
  unfold Pipeline.ΦT Pipeline.prefHeld
  rw [show (Finset.univ : Finset (Fin 2)) = insert (0 : Fin 2) {(1 : Fin 2)} from by decide,
    bigSep_insert (by decide), bigSep_singleton]
  rfl

theorem ΦA_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA; rw [scopedRest0_eq]; simp only [owns_whole]

theorem step_zero (c : Dev nD) (t : Fin (cfg (F := F)).N) (h : t.val = 0) (O : sProp 𝕄) :
    iprop(Φ m c 0 ∗ finds m c t O)
    ⊢ wp frame (wpE (defs₀ (F := F)) Variants.none c none) Set.univ (body t (stg F t))
        (fun _ => iprop(Φs m c (t.val + 1) ∗ hands m c t O)) := by
  have hw := first_lq (F := F) t (first_zero t h)
  simp only [Φ, ΦT_eq, ΦA_eq]
  iintro ⟨⟨⟨⟨⟨%s0, HS0⟩, ⟨%s1, HS1⟩, ⟨%s2, HS2⟩, ⟨%s3, HS3⟩, ⟨%s4, HS4⟩⟩, HG⟩, HT⟩, HW⟩
  iapply (step_at m c t ⟨s0, s1, s2, s3, s4⟩ (st_first m c t h _)
    (((stp m c t _).q12.2 hw.2.2.2).trans ((stp m c t _).q12.2 hw.2.2.2).symm)
    (((stp m c t _).q13.2 hw.2.2.1).trans ((stp m c t _).q13.2 hw.2.2.1).symm)
    (((stp m c t _).q14.2 hw.2.2.1).trans ((stp m c t _).q14.2 hw.2.2.1).symm)
    (((stp m c t _).q15.2 hw.2.2.1).trans ((stp m c t _).q15.2 hw.2.2.1).symm)
    (((stp m c t _).q16.2 hw.2.2.2).trans ((stp m c t _).q16.2 hw.2.2.2).symm) _ O)
  isplitr [HW]
  · isplitl [HS0 HS1 HS2 HS3 HS4 HG]
    · isplitl [HS0 HS1 HS2 HS3 HS4]
      · isplitl [HS0]; · iexact HS0
        isplitl [HS1]; · iexact HS1
        isplitl [HS2]; · iexact HS2
        isplitl [HS3]; · iexact HS3
        iexact HS4
      iexact HG
    iapply (Entails.of_eq (ΦT_eq c)); iexact HT
  iexact HW

theorem step_any (c : Dev nD) (t : Fin (cfg (F := F)).N) (O : sProp 𝕄) :
    iprop(Φ m c t.val ∗ finds m c t O)
    ⊢ wp frame (wpE (defs₀ (F := F)) Variants.none c none) Set.univ (body t (stg F t))
        (fun _ => iprop(Φs m c (t.val + 1) ∗ hands m c t O)) := by
  by_cases h : t.val = 0
  · rw [h]
    have e := step_zero m c t h O
    rw [h] at e
    exact e
  · obtain ⟨n, hn⟩ := Nat.exists_eq_succ_of_ne_zero h
    rw [show Φ m c t.val = Φs m c t.val from by rw [hn]; rfl]
    exact step_at m c t (st m c t.val) (st_succ m c t).symm rfl rfl rfl rfl rfl _ O

theorem dats_Φ (c : Dev nD) (u : Fin ((cfg (F := F)).N + 1)) : (dats m 0 c).Φ u = Φ m c u.val := by dsimp only [dats]

theorem Φ_succ (c : Dev nD) (n : ℕ) : Φ m c (n + 1) = Φs m c (n + 1) := rfl

theorem row (t : Fin (cfg (F := F)).N) :
    defs₀ (F := F) .tc (cfg (F := F)).body ((cfg (F := F)).bodyArgs t ((cfg (F := F)).slots t)) = body t (stg F t) := by
  unfold defs₀; rw [Defs.onTc_tc]

theorem obligation (c : Dev nD) : BodyObligation (dats (F := F) m 0 c) (defs₀ (F := F)) Variants.none () Set.univ := fun t => by
  rw [bigSep_W0, bigSep_W0, row]
  have h1 : (dats m 0 c).Φ t.castSucc = Φ m c t.val := by rw [dats_Φ]; exact congrArg (Φ m c) (Fin.val_castSucc t)
  have h2 : (dats m 0 c).Φ t.succ = Φs m c (t.val + 1) := by
    rw [dats_Φ]; exact (congrArg (Φ m c) (Fin.val_succ t)).trans (Φ_succ m c t.val)
  have h3 : (dats m 0 c).owesAt () t.succ = (dats m 0 c).owesAt () t.castSucc := rfl
  rw [h1, h2, h3]
  have e := step_any m c t ((dats m 0 c).owesAt () t.castSucc)
  unfold finds hands at e
  exact triple_restated e rfl .rfl fun _ => .rfl

theorem leave (c : Dev nD) : (dats m 0 c).Φ (Fin.last (cfg (F := F)).N) ⊢ (Pipeline.ΦA spec0 c : sProp 𝕄) := by
  have e : (dats m 0 c).Φ (Fin.last (cfg (F := F)).N) = Φs m c 288 := by
    rw [show (dats m 0 c).Φ (Fin.last (cfg (F := F)).N) = Φ m c grid0.N from rfl, N_0]; rfl
  rw [e, ΦA_eq]
  unfold Φs
  iintro ⟨⟨⟨HS0, HS1, HS2, HS3, HS4⟩, HG⟩, -⟩
  isplitr [HG]
  · isplitl [HS0]; · iexists _; iexact HS0
    isplitl [HS1]; · iexists _; iexact HS1
    isplitl [HS2]; · iexists _; iexact HS2
    isplitl [HS3]; · iexists _; iexact HS3
    iexists _; iexact HS4
  iexact HG

set_option backward.isDefEq.respectTransparency.types false in
set_option maxHeartbeats 800000 in
/-- Every run of the program ends, with the arrays at what the steps leave in them and every other buffer at what
    the host lines make of it, and all counters at zero. -/
theorem launched : θ_run defs (onTc (τ := τ) (main (F := F))) (s₀ m ρ) (fun r => (Pipeline.FramePost (Pipeline.pin pcfgs fun _ => adm) (dats m) 0 (Pipeline.afterTail pcfgs (fun _ => adm) (dats m) 0 (V0 m) [hostOps1])) r ∧ r.2.sem = fun _ => 0) :=
  Pipeline.θ_run_frameP_around_track (Q' := _) pcfgs (fun _ => adm) (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := after_sub) (hfresh := after_allocs) (hkeep := after_keeps)
    (hmain := main_around m Variants.none) (hA := A_eq m) (hpf := V_tab m) (hin := fun _ => Entails.refl _) (hout := leave m)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => by
    have k : ∀ b ∈ args, r.2.mem ((c.tc : Thread nD τ).loc b) = m ((c.tc : Thread nD τ).loc b) := fun b hb =>
      ((h.1 c).2 b (args_rest b hb)).trans (W_args m (dats m) c b hb)
    exact ⟨k _ (by decide), k _ (by decide), k _ (by decide), k _ (by decide), k _ (by decide)⟩, h.2⟩) (launched m ρ)

end Cert.Fox
end
-- ==== Proof.Fox.Frames.lean ====
module

public import proofs.«01_k».proof.Defs
public import proofs.«01_k».proof.Proof.Gen.Kernel2
public import proofs.«01_k».proof.Proof.Gen.Reference2Ideal
public import proofs.«01_k».proof.Proof.Gen.Reference2Ideal.Run
public import proofs.«01_k».proof.Proof.Fox.Launch
public import Idealize.ShloMosaic.Lib.Quiescent

/-! The frames of the kernel, of its idealization and of the reference. -/

@[expose] public section

set_option maxRecDepth 65536

noncomputable section

namespace Cert.Fox

open Idealize.ShloMosaic Idealize.SL.Sem

open Cert.Kernel2Ideal in
/-- What `frame` says at the machine's floats. -/
def framed : Prop := ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

/-- The two programs have the same text. -/
theorem framed_eq : Cert.quiescent_Kernel2 (hKernel2 := Cert.Kernel2.Gen.facts) = framed := by sl_kernel_rfl

theorem frame_kernel : Cert.quiescent_Kernel2 (hKernel2 := Cert.Kernel2.Gen.facts) :=
  framed_eq.mpr fun m ρ _ => frame m ρ

theorem frame_ideal : Cert.quiescent_Kernel2Ideal (hKernel2Ideal := Cert.Kernel2Ideal.Gen.facts) := fun m ρ _ => frame m ρ

theorem frame_reference : Cert.quiescent_Reference2Ideal (hReference2Ideal := Cert.Reference2Ideal.Gen.facts) := fun m ρ _ =>
  (θ_run Cert.Reference2Ideal.defs _ _).mono (fun r h => ⟨fun c => (h c).2.2.2.2, sem_eq_zero_of_no_sems (by decide) r.2⟩)
    (Cert.Reference2Ideal.Value.run m ρ)

end Cert.Fox
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Reference14Ideal.Read
public import proofs.«01_k».proof.Proof.Prod.DownGrad
public import proofs.«01_k».proof.Proof.Prod.Down
public import proofs.«01_k».proof.Proof.Prod.MixBack
public import proofs.«01_k».proof.Proof.Prod.MixGrad
public import proofs.«01_k».proof.Proof.Prod.ConvGrad
public import proofs.«01_k».proof.Proof.Prod.ConvBack
public import proofs.«01_k».proof.Proof.Prod.MixOut
public import proofs.«01_k».proof.Proof.Prod.ConvIn
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Reference25Ideal
public import proofs.«01_k».proof.Proof.Gen.Reference25Ideal.Run
public import proofs.«01_k».proof.Proof.Gen.Reference25Ideal.Read
public import proofs.«01_k».proof.Proof.Prod.ProjIn
public import proofs.«01_k».proof.Proof.Prod.ProjGrad
public import proofs.«01_k».proof.Proof.Prod.ProjBack
public import proofs.«01_k».proof.Proof.Prod.ProjAdd
public import proofs.«01_k».proof.Proof.Prod.WideIn
public import proofs.«01_k».proof.Proof.Prod.WideGrad
public import proofs.«01_k».proof.Proof.Prod.WideBack
public import proofs.«01_k».proof.Proof.Prod.WideAdd
public import proofs.«01_k».proof.Proof.Prod.ScanOut
public import proofs.«01_k».proof.Proof.Prod.ScanGrad
public import proofs.«01_k».proof.Proof.Prod.ScanBack
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Reference27Ideal
public import proofs.«01_k».proof.Proof.Gen.Reference27Ideal.Run
public import proofs.«01_k».proof.Proof.Gen.Reference27Ideal.Read
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Reference28Ideal
public import proofs.«01_k».proof.Proof.Gen.Reference28Ideal.Run
public import proofs.«01_k».proof.Proof.Gen.Reference28Ideal.Read
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Reference29Ideal
public import proofs.«01_k».proof.Proof.Gen.Reference29Ideal.Run
public import proofs.«01_k».proof.Proof.Gen.Reference29Ideal.Read
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Reference30Ideal
public import proofs.«01_k».proof.Proof.Gen.Reference30Ideal.Run
public import proofs.«01_k».proof.Proof.Gen.Reference30Ideal.Read
public import proofs.«01_k».proof.Proof.Gen.Kernel31
public import proofs.«01_k».proof.Proof.Gen.Kernel31.Skeleton
public import proofs.«01_k».proof.Proof.Gen.Kernel31.Launch
public import proofs.«01_k».proof.Proof.Gen.Kernel31.Points
public import proofs.«01_k».proof.Proof.Gen.Kernel31.Frame
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Reference31Ideal
public import proofs.«01_k».proof.Proof.Gen.Reference31Ideal.Run
public import proofs.«01_k».proof.Proof.Gen.Reference31Ideal.Read
public import proofs.«01_k».proof.Proof.Gen.Kernel32
public import proofs.«01_k».proof.Proof.Gen.Kernel32.Skeleton
public import proofs.«01_k».proof.Proof.Gen.Kernel32.Launch
public import proofs.«01_k».proof.Proof.Gen.Kernel32.Points
public import proofs.«01_k».proof.Proof.Gen.Kernel32.Frame
public import proofs.«01_k».proof.Proof.Gen.Kernel32Ideal
public import proofs.«01_k».proof.Proof.Gen.Kernel32Ideal.Skeleton
public import proofs.«01_k».proof.Proof.Gen.Kernel32Ideal.Launch
public import proofs.«01_k».proof.Proof.Gen.Kernel32Ideal.Points
public import proofs.«01_k».proof.Proof.Gen.Kernel32Ideal.Frame
public import proofs.«01_k».proof.Proof.Gen.Reference32Ideal
public import proofs.«01_k».proof.Proof.Gen.Reference32Ideal.Run
public import proofs.«01_k».proof.Proof.Gen.Reference32Ideal.Read
public import proofs.«01_k».proof.Proof.Gen.Kernel33
public import proofs.«01_k».proof.Proof.Gen.Kernel33.Skeleton
public import proofs.«01_k».proof.Proof.Gen.Kernel33.Launch
public import proofs.«01_k».proof.Proof.Gen.Kernel33.Points
public import proofs.«01_k».proof.Proof.Gen.Kernel33.Frame
public import proofs.«01_k».proof.Proof.Gen.Kernel33Ideal
public import proofs.«01_k».proof.Proof.Gen.Kernel33Ideal.Skeleton
public import proofs.«01_k».proof.Proof.Gen.Kernel33Ideal.Launch
public import proofs.«01_k».proof.Proof.Gen.Kernel33Ideal.Points
public import proofs.«01_k».proof.Proof.Gen.Kernel33Ideal.Frame
public import proofs.«01_k».proof.Proof.Gen.Reference33Ideal
public import proofs.«01_k».proof.Proof.Gen.Reference33Ideal.Run
public import proofs.«01_k».proof.Proof.Gen.Reference33Ideal.Read
public import proofs.«01_k».proof.Proof.Gen.Kernel34
public import proofs.«01_k».proof.Proof.Gen.Kernel34.Skeleton
public import proofs.«01_k».proof.Proof.Gen.Kernel34.Launch
public import proofs.«01_k».proof.Proof.Gen.Kernel34.Points
public import proofs.«01_k».proof.Proof.Gen.Kernel34.Frame
public import proofs.«01_k».proof.Proof.Gen.Kernel34Ideal
public import proofs.«01_k».proof.Proof.Gen.Kernel34Ideal.Skeleton
public import proofs.«01_k».proof.Proof.Gen.Kernel34Ideal.Launch
public import proofs.«01_k».proof.Proof.Gen.Kernel34Ideal.Points
public import proofs.«01_k».proof.Proof.Gen.Kernel34Ideal.Frame
public import proofs.«01_k».proof.Proof.Gen.Reference34Ideal
public import proofs.«01_k».proof.Proof.Gen.Reference34Ideal.Run
public import proofs.«01_k».proof.Proof.Gen.Reference34Ideal.Read
public import proofs.«01_k».proof.Proof.Gen.Kernel35
public import proofs.«01_k».proof.Proof.Gen.Kernel35.Skeleton
public import proofs.«01_k».proof.Proof.Gen.Kernel35.Launch
public import proofs.«01_k».proof.Proof.Gen.Kernel35.Points
public import proofs.«01_k».proof.Proof.Gen.Kernel35.Frame
public import proofs.«01_k».proof.Proof.Gen.Kernel35Ideal
public import proofs.«01_k».proof.Proof.Gen.Kernel35Ideal.Skeleton
public import proofs.«01_k».proof.Proof.Gen.Kernel35Ideal.Launch
public import proofs.«01_k».proof.Proof.Gen.Kernel35Ideal.Points
public import proofs.«01_k».proof.Proof.Gen.Kernel35Ideal.Frame
public import proofs.«01_k».proof.Proof.Gen.Reference35Ideal
public import proofs.«01_k».proof.Proof.Gen.Reference35Ideal.Run
public import proofs.«01_k».proof.Proof.Gen.Reference35Ideal.Read
public import proofs.«01_k».proof.Proof.Gen.Kernel36
public import proofs.«01_k».proof.Proof.Gen.Kernel36.Skeleton
public import proofs.«01_k».proof.Proof.Gen.Kernel36.Launch
public import proofs.«01_k».proof.Proof.Gen.Kernel36.Points
public import proofs.«01_k».proof.Proof.Gen.Kernel36.Frame
public import proofs.«01_k».proof.Proof.Gen.Kernel36Ideal
public import proofs.«01_k».proof.Proof.Gen.Kernel36Ideal.Skeleton
public import proofs.«01_k».proof.Proof.Gen.Kernel36Ideal.Launch
public import proofs.«01_k».proof.Proof.Gen.Kernel36Ideal.Points
public import proofs.«01_k».proof.Proof.Gen.Kernel36Ideal.Frame
public import proofs.«01_k».proof.Proof.Gen.Reference36Ideal
public import proofs.«01_k».proof.Proof.Gen.Reference36Ideal.Run
public import proofs.«01_k».proof.Proof.Gen.Reference36Ideal.Read
public import proofs.«01_k».proof.Proof.Prod.Gates
public import proofs.«01_k».proof.Proof.Prod.GatesGrad
public import proofs.«01_k».proof.Proof.Prod.GatesAdd
public import proofs.«01_k».proof.Proof.Prod.Norm
public import proofs.«01_k».proof.Proof.Prod.Adam
public import proofs.«01_k».proof.Proof.Prod.ConvOut
public import proofs.«01_k».proof.Proof.Prod.Loss
public import proofs.«01_k».proof.Proof.Prod.ShortConv
public import proofs.«01_k».proof.Proof.Prod.GroupNorm
public import proofs.«01_k».proof.Proof.Prod.AdamNorm
public import proofs.«01_k».proof.Proof.Prod.AdamDown
public import proofs.«01_k».proof.Proof.Ffn.UpClaim
public import proofs.«01_k».proof.Proof.Ffn.DwClaim
public import proofs.«01_k».proof.Proof.Ffn.DhClaim
public import proofs.«01_k».proof.Proof.Ffn.BackClaim
public import proofs.«01_k».proof.Proof.Conv.Claim
public import proofs.«01_k».proof.Proof.Fox.Frames
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts, Cert.Reference32Ideal.Gen.facts,
  Cert.Kernel33.Gen.facts, Cert.Kernel33Ideal.Gen.facts, Cert.Reference33Ideal.Gen.facts,
  Cert.Kernel34.Gen.facts, Cert.Kernel34Ideal.Gen.facts, Cert.Reference34Ideal.Gen.facts,
  Cert.Kernel35.Gen.facts, Cert.Kernel35Ideal.Gen.facts, Cert.Reference35Ideal.Gen.facts,
  Cert.Kernel36.Gen.facts, Cert.Kernel36Ideal.Gen.facts, Cert.Reference36Ideal.Gen.facts,
  Cert.FfnBack.pre_facts,
  fun m ρ _ => Cert.Kernel.Gen.frame m ρ, fun m ρ _ => Cert.KernelIdeal.Gen.frame m ρ,
  fun m ρ _ => (θ_run Cert.ReferenceIdeal.defs _ _).mono (fun r h => ⟨fun c => (h c).2.2.2.2, sem_eq_zero_of_no_sems (by decide) r.2⟩)
    (Cert.ReferenceIdeal.Value.run m ρ),
  Cert.Fox.frame_kernel, Cert.Fox.frame_ideal, Cert.Fox.frame_reference,
  fun m ρ _ => Cert.Kernel3.Gen.frame m ρ, fun m ρ _ => Cert.Kernel3Ideal.Gen.frame m ρ, fun m ρ _ => Cert.Kernel3Ideal.Gen.frame m ρ,
  fun m ρ _ => (θ_run Cert.Reference3Ideal.defs _ _).mono (fun r h => ⟨fun c => (h c).2.2, sem_eq_zero_of_no_sems (by decide) r.2⟩)
    (Cert.Reference3Ideal.Value.run m ρ),
  fun m ρ _ => (θ_run Cert.Reference3Ideal.defs _ _).mono (fun r h => ⟨fun c => (h c).2.2, sem_eq_zero_of_no_sems (by decide) r.2⟩)
    (Cert.Reference3Ideal.Value.run m ρ),
  fun m ρ _ => Cert.Kernel4.Gen.frame m ρ, fun m ρ _ => Cert.Kernel4Ideal.Gen.frame m ρ,
  fun m ρ _ => (θ_run Cert.Reference4Ideal.defs _ _).mono (fun r h => ⟨fun c => (h c).2.2.2, sem_eq_zero_of_no_sems (by decide) r.2⟩)
    (Cert.Reference4Ideal.Value.run m ρ),
  fun m ρ _ => Cert.Kernel5.Gen.frame m ρ, fun m ρ _ => Cert.Kernel5Ideal.Gen.frame m ρ,
  fun m ρ _ => (θ_run Cert.Reference5Ideal.defs _ _).mono (fun r h => ⟨fun c => (h c).2, sem_eq_zero_of_no_sems (by decide) r.2⟩)
    (Cert.Reference5Ideal.Value.run m ρ),
  fun m ρ _ => Cert.Kernel6.Gen.frame m ρ, fun m ρ _ => Cert.Kernel6Ideal.Gen.frame m ρ,
  fun m ρ _ => (θ_run Cert.Reference6Ideal.defs _ _).mono (fun r h => ⟨fun c => (h c).2, sem_eq_zero_of_no_sems (by decide) r.2⟩)
    (Cert.Reference6Ideal.Value.run m ρ),
  fun m ρ _ => Cert.Kernel7.Gen.frame m ρ, fun m ρ _ => Cert.Kernel7Ideal.Gen.frame m ρ,
  fun m ρ _ => (θ_run Cert.Reference7Ideal.defs _ _).mono (fun r h => ⟨fun c => (h c).2, sem_eq_zero_of_no_sems (by decide) r.2⟩)
    (Cert.Reference7Ideal.Value.run m ρ),
  fun m ρ _ => Cert.Kernel8.Gen.frame m ρ, fun m ρ _ => Cert.Kernel8Ideal.Gen.frame m ρ,
  fun m ρ _ => (θ_run Cert.Reference8Ideal.defs _ _).mono (fun r h => ⟨fun c => (h c).2, sem_eq_zero_of_no_sems (by decide) r.2⟩)
    (Cert.Reference8Ideal.Value.run m ρ),
  fun m ρ _ => Cert.Kernel9.Gen.frame m ρ, fun m ρ _ => Cert.Kernel9Ideal.Gen.frame m ρ,
  fun m ρ _ => (θ_run Cert.Reference9Ideal.defs _ _).mono (fun r h => ⟨fun c => (h c).2, sem_eq_zero_of_no_sems (by decide) r.2⟩)
    (Cert.Reference9Ideal.Value.run m ρ),
  fun m ρ _ => Cert.Kernel10.Gen.frame m ρ, fun m ρ _ => Cert.Kernel10Ideal.Gen.frame m ρ,
  fun m ρ _ => (θ_run Cert.Reference10Ideal.defs _ _).mono (fun r h => ⟨fun c => (h c).2, sem_eq_zero_of_no_sems (by decide) r.2⟩)
    (Cert.Reference10Ideal.Value.run m ρ),
  fun m ρ _ => Cert.Kernel11.Gen.frame m ρ, fun m ρ _ => Cert.Kernel11Ideal.Gen.frame m ρ,
  fun m ρ _ => (θ_run Cert.Reference11Ideal.defs _ _).mono (fun r h => ⟨fun c => (h c).2, sem_eq_zero_of_no_sems (by decide) r.2⟩)
    (Cert.Reference11Ideal.Value.run m ρ),
  fun m ρ _ => Cert.Kernel12.Gen.frame m ρ, fun m ρ _ => Cert.Kernel12Ideal.Gen.frame m ρ,
  fun m ρ _ => (θ_run Cert.Reference12Ideal.defs _ _).mono (fun r h => ⟨fun c => (h c).2, sem_eq_zero_of_no_sems (by decide) r.2⟩)
    (Cert.Reference12Ideal.Value.run m ρ),
  fun m ρ _ => Cert.Kernel13.Gen.frame m ρ, fun m ρ _ => Cert.Kernel13Ideal.Gen.frame m ρ,
  fun m ρ _ => (θ_run Cert.Reference13Ideal.defs _ _).mono (fun r h => ⟨fun c => (h c).2, sem_eq_zero_of_no_sems (by decide) r.2⟩)
    (Cert.Reference13Ideal.Value.run m ρ),
  fun m ρ _ => Cert.Kernel14.Gen.frame m ρ, fun m ρ _ => Cert.Kernel14Ideal.Gen.frame m ρ,
  fun m ρ _ => (θ_run Cert.Reference14Ideal.defs _ _).mono (fun r h => ⟨fun c => (h c).2.2.2, sem_eq_zero_of_no_sems (by decide) r.2⟩)
    (Cert.Reference14Ideal.Value.run m ρ),
  fun m ρ _ => Cert.Kernel15.Gen.frame m ρ, fun m ρ _ => Cert.Kernel15Ideal.Gen.frame m ρ,
  fun m ρ _ => (θ_run Cert.Reference15Ideal.defs _ _).mono (fun r h => ⟨fun c => (h c).2, sem_eq_zero_of_no_sems (by decide) r.2⟩)
    (Cert.Reference15Ideal.Value.run m ρ),
  fun m ρ _ => Cert.Kernel16.Gen.frame m ρ, fun m ρ _ => Cert.Kernel16Ideal.Gen.frame m ρ,
  fun m ρ _ => (θ_run Cert.Reference16Ideal.defs _ _).mono (fun r h => ⟨fun c => (h c).2, sem_eq_zero_of_no_sems (by decide) r.2⟩)
    (Cert.Reference16Ideal.Value.run m ρ),
  fun m ρ _ => Cert.Kernel17.Gen.frame m ρ, fun m ρ _ => Cert.Kernel17Ideal.Gen.frame m ρ,
  fun m ρ _ => (θ_run Cert.Reference17Ideal.defs _ _).mono (fun r h => ⟨fun c => (h c).2, sem_eq_zero_of_no_sems (by decide) r.2⟩)
    (Cert.Reference17Ideal.Value.run m ρ),
  fun m ρ _ => Cert.Kernel18.Gen.frame m ρ, fun m ρ _ => Cert.Kernel18Ideal.Gen.frame m ρ,
  fun m ρ _ => (θ_run Cert.Reference18Ideal.defs _ _).mono (fun r h => ⟨fun c => (h c).2, sem_eq_zero_of_no_sems (by decide) r.2⟩)
    (Cert.Reference18Ideal.Value.run m ρ),
  fun m ρ _ => Cert.Kernel19.Gen.frame m ρ, fun m ρ _ => Cert.Kernel19Ideal.Gen.frame m ρ,
  fun m ρ _ => (θ_run Cert.Reference19Ideal.defs _ _).mono (fun r h => ⟨fun c => (h c).2, sem_eq_zero_of_no_sems (by decide) r.2⟩)
    (Cert.Reference19Ideal.Value.run m ρ),
  fun m ρ _ => Cert.Kernel20.Gen.frame m ρ, fun m ρ _ => Cert.Kernel20Ideal.Gen.frame m ρ,
  fun m ρ _ => (θ_run Cert.Reference20Ideal.defs _ _).mono (fun r h => ⟨fun c => (h c).2, sem_eq_zero_of_no_sems (by decide) r.2⟩)
    (Cert.Reference20Ideal.Value.run m ρ),
  fun m ρ _ => Cert.Kernel21.Gen.frame m ρ, fun m ρ _ => Cert.Kernel21Ideal.Gen.frame m ρ,
  fun m ρ _ => (θ_run Cert.Reference21Ideal.defs _ _).mono (fun r h => ⟨fun c => (h c).2, sem_eq_zero_of_no_sems (by decide) r.2⟩)
    (Cert.Reference21Ideal.Value.run m ρ),
  fun m ρ _ => Cert.Kernel22.Gen.frame m ρ, fun m ρ _ => Cert.Kernel22Ideal.Gen.frame m ρ,
  fun m ρ _ => (θ_run Cert.Reference22Ideal.defs _ _).mono (fun r h => ⟨fun c => (h c).2, sem_eq_zero_of_no_sems (by decide) r.2⟩)
    (Cert.Reference22Ideal.Value.run m ρ),
  fun m ρ _ => Cert.Kernel23.Gen.frame m ρ, fun m ρ _ => Cert.Kernel23Ideal.Gen.frame m ρ,
  fun m ρ _ => (θ_run Cert.Reference23Ideal.defs _ _).mono (fun r h => ⟨fun c => (h c).2, sem_eq_zero_of_no_sems (by decide) r.2⟩)
    (Cert.Reference23Ideal.Value.run m ρ),
  fun m ρ _ => Cert.Kernel24.Gen.frame m ρ, fun m ρ _ => Cert.Kernel24Ideal.Gen.frame m ρ,
  fun m ρ _ => (θ_run Cert.Reference24Ideal.defs _ _).mono (fun r h => ⟨fun c => (h c).2, sem_eq_zero_of_no_sems (by decide) r.2⟩)
    (Cert.Reference24Ideal.Value.run m ρ),
  fun m ρ _ => Cert.Kernel25.Gen.frame m ρ, fun m ρ _ => Cert.Kernel25Ideal.Gen.frame m ρ,
  fun m ρ _ => (θ_run Cert.Reference25Ideal.defs _ _).mono (fun r h => ⟨fun c => (h c).2, sem_eq_zero_of_no_sems (by decide) r.2⟩)
    (Cert.Reference25Ideal.Value.run m ρ),
  fun m ρ _ => Cert.Kernel26.Gen.frame m ρ, fun m ρ _ => Cert.Kernel26Ideal.Gen.frame m ρ,
  fun m ρ _ => (θ_run Cert.Reference26Ideal.defs _ _).mono (fun r h => ⟨fun c => (h c).2, sem_eq_zero_of_no_sems (by decide) r.2⟩)
    (Cert.Reference26Ideal.Value.run m ρ),
  fun m ρ _ => Cert.Kernel27.Gen.frame m ρ, fun m ρ _ => Cert.Kernel27Ideal.Gen.frame m ρ,
  fun m ρ _ => (θ_run Cert.Reference27Ideal.defs _ _).mono (fun r h => ⟨fun c => (h c).2, sem_eq_zero_of_no_sems (by decide) r.2⟩)
    (Cert.Reference27Ideal.Value.run m ρ),
  fun m ρ _ => Cert.Kernel28.Gen.frame m ρ, fun m ρ _ => Cert.Kernel28Ideal.Gen.frame m ρ,
  fun m ρ _ => (θ_run Cert.Reference28Ideal.defs _ _).mono (fun r h => ⟨fun c => (h c).2, sem_eq_zero_of_no_sems (by decide) r.2⟩)
    (Cert.Reference28Ideal.Value.run m ρ),
  fun m ρ _ => Cert.Kernel29.Gen.frame m ρ, fun m ρ _ => Cert.Kernel29Ideal.Gen.frame m ρ,
  fun m ρ _ => (θ_run Cert.Reference29Ideal.defs _ _).mono (fun r h => ⟨fun c => (h c).2, sem_eq_zero_of_no_sems (by decide) r.2⟩)
    (Cert.Reference29Ideal.Value.run m ρ),
  fun m ρ _ => Cert.Kernel30.Gen.frame m ρ, fun m ρ _ => Cert.Kernel30Ideal.Gen.frame m ρ,
  fun m ρ _ => (θ_run Cert.Reference30Ideal.defs _ _).mono (fun r h => ⟨fun c => (h c).2.2.2, sem_eq_zero_of_no_sems (by decide) r.2⟩)
    (Cert.Reference30Ideal.Value.run m ρ),
  fun m ρ _ => Cert.Kernel31.Gen.frame m ρ, fun m ρ _ => Cert.Kernel31Ideal.Gen.frame m ρ,
  fun m ρ _ => (θ_run Cert.Reference31Ideal.defs _ _).mono (fun r h => ⟨fun c => (h c).2, sem_eq_zero_of_no_sems (by decide) r.2⟩)
    (Cert.Reference31Ideal.Value.run m ρ),
  fun m ρ _ => Cert.Kernel32.Gen.frame m ρ, fun m ρ _ => Cert.Kernel32Ideal.Gen.frame m ρ,
  fun m ρ _ => (θ_run Cert.Reference32Ideal.defs _ _).mono (fun r h => ⟨fun c => (h c).2.2, sem_eq_zero_of_no_sems (by decide) r.2⟩)
    (Cert.Reference32Ideal.Value.run m ρ),
  fun m ρ _ => Cert.Kernel33.Gen.frame m ρ, fun m ρ _ => Cert.Kernel33Ideal.Gen.frame m ρ,
  fun m ρ _ => (θ_run Cert.Reference33Ideal.defs _ _).mono (fun r h => ⟨fun c => (h c).2, sem_eq_zero_of_no_sems (by decide) r.2⟩)
    (Cert.Reference33Ideal.Value.run m ρ),
  fun m ρ _ => Cert.Kernel34.Gen.frame m ρ, fun m ρ _ => Cert.Kernel34Ideal.Gen.frame m ρ,
  fun m ρ _ => (θ_run Cert.Reference34Ideal.defs _ _).mono (fun r h => ⟨fun c => (h c).2, sem_eq_zero_of_no_sems (by decide) r.2⟩)
    (Cert.Reference34Ideal.Value.run m ρ),
  fun m ρ _ => Cert.Kernel35.Gen.frame m ρ, fun m ρ _ => Cert.Kernel35Ideal.Gen.frame m ρ,
  fun m ρ _ => (θ_run Cert.Reference35Ideal.defs _ _).mono (fun r h => ⟨fun c => (h c).2.2.2, sem_eq_zero_of_no_sems (by decide) r.2⟩)
    (Cert.Reference35Ideal.Value.run m ρ),
  fun m ρ _ => Cert.Kernel36.Gen.frame m ρ, fun m ρ _ => Cert.Kernel36Ideal.Gen.frame m ρ,
  fun m ρ _ => (θ_run Cert.Reference36Ideal.defs _ _).mono (fun r h => ⟨fun c => (h c).2.2.2, sem_eq_zero_of_no_sems (by decide) r.2⟩)
    (Cert.Reference36Ideal.Value.run m ρ),
  trivial, Cert.GConv.algebraic, trivial,
  trivial, Cert.FfnBack.algebraic, trivial, Cert.FfnUp.algebraic, trivial, Cert.FfnDw.algebraic, trivial, Cert.FfnDh.algebraic,
  trivial, Cert.DownGrad.algebraic, trivial, Cert.Down.algebraic, trivial, Cert.MixBack.algebraic, trivial, Cert.MixGrad.algebraic, trivial, Cert.ConvGrad.algebraic, trivial, Cert.ConvBack.algebraic, trivial, Cert.MixOut.algebraic, trivial, Cert.ConvIn.algebraic,
  trivial, Cert.ProjIn.algebraic, trivial, Cert.ProjGrad.algebraic, trivial, Cert.ProjBack.algebraic, trivial, Cert.ProjAdd.algebraic, trivial, Cert.WideIn.algebraic, trivial, Cert.WideGrad.algebraic, trivial, Cert.WideBack.algebraic, trivial, Cert.WideAdd.algebraic, trivial, Cert.ScanOut.algebraic, trivial, Cert.ScanGrad.algebraic, trivial, Cert.ScanBack.algebraic,
  trivial, Cert.Gates.algebraic, trivial, Cert.GatesGrad.algebraic, trivial, Cert.GatesAdd.algebraic, trivial, Cert.Norm.algebraic, trivial, Cert.Adam.algebraic, trivial, Cert.ConvOut.algebraic, trivial, Cert.Loss.algebraic, trivial, Cert.ShortConv.algebraic, trivial, Cert.GroupNorm.algebraic, trivial, Cert.AdamNorm.algebraic, trivial, Cert.AdamDown.algebraic⟩

end Cert.Proof

end
